-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).2.2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).2.2.2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).2.2.2.2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).2.2.2.2.2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).2.2.2.2.2.2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).2.2.2.2.2.2.2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).2.2.2.2.2.2.2.2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).2.2.2.2.2.2.2.2.2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).2.2.2.2.2.2.2.2.2.2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11)) (m ((c.tc : Thread Cert.MixKernelIdeal.nD Cert.MixKernelIdeal.τ).loc Cert.MixKernelIdeal.main_arg12)) (m ((c.tc : Thread Cert.MixKernelIdeal.nD Cert.MixKernelIdeal.τ).loc Cert.MixKernelIdeal.main_arg13))).2.2.2.2.2.2.2.2.2.2.2.2.2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).2.2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).2.2.2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).2.2.2.2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).2.2.2.2.2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10)
      ∧ r.2.mem ((c.tc : Thread Cert.MixKernel.nD Cert.MixKernel.τ).loc Cert.MixKernel.main_arg11) = m ((c.tc : Thread Cert.MixKernel.nD Cert.MixKernel.τ).loc Cert.MixKernel.main_arg11)
      ∧ r.2.mem ((c.tc : Thread Cert.MixKernel.nD Cert.MixKernel.τ).loc Cert.MixKernel.main_arg12) = m ((c.tc : Thread Cert.MixKernel.nD Cert.MixKernel.τ).loc Cert.MixKernel.main_arg12)
      ∧ r.2.mem ((c.tc : Thread Cert.MixKernel.nD Cert.MixKernel.τ).loc Cert.MixKernel.main_arg13) = m ((c.tc : Thread Cert.MixKernel.nD Cert.MixKernel.τ).loc Cert.MixKernel.main_arg13))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
      ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
      ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
      ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
      ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v130) = v3 c
          ∧ r.2.mem ((c.tc : Thread Cert.ReferenceIdeal.nD Cert.ReferenceIdeal.τ).loc Cert.ReferenceIdeal.main_v133) = v4 c
          ∧ r.2.mem ((c.tc : Thread Cert.ReferenceIdeal.nD Cert.ReferenceIdeal.τ).loc Cert.ReferenceIdeal.main_v134) = v5 c
          ∧ r.2.mem ((c.tc : Thread Cert.ReferenceIdeal.nD Cert.ReferenceIdeal.τ).loc Cert.ReferenceIdeal.main_v135) = v6 c
          ∧ r.2.mem ((c.tc : Thread Cert.ReferenceIdeal.nD Cert.ReferenceIdeal.τ).loc Cert.ReferenceIdeal.main_v94) = v7 c
          ∧ r.2.mem ((c.tc : Thread Cert.ReferenceIdeal.nD Cert.ReferenceIdeal.τ).loc Cert.ReferenceIdeal.main_v122) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_MixKernel_MixKernelIdeal : Prop :=
  True

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)
      ∧ m' ((c.tc : Thread Cert.MixReferenceIdeal.nD Cert.MixReferenceIdeal.τ).loc Cert.MixReferenceIdeal.main_arg11) = m ((c.tc : Thread Cert.MixKernelIdeal.nD Cert.MixKernelIdeal.τ).loc Cert.MixKernelIdeal.main_arg11)
      ∧ m' ((c.tc : Thread Cert.MixReferenceIdeal.nD Cert.MixReferenceIdeal.τ).loc Cert.MixReferenceIdeal.main_arg12) = m ((c.tc : Thread Cert.MixKernelIdeal.nD Cert.MixKernelIdeal.τ).loc Cert.MixKernelIdeal.main_arg12)
      ∧ m' ((c.tc : Thread Cert.MixReferenceIdeal.nD Cert.MixReferenceIdeal.τ).loc Cert.MixReferenceIdeal.main_arg13) = m ((c.tc : Thread Cert.MixKernelIdeal.nD Cert.MixKernelIdeal.τ).loc Cert.MixKernelIdeal.main_arg13)) →
    ∃ (v0 : (c : Dev Cert.MixKernelIdeal.nD) → Buf (Elt Ideal) ((c.tc : Thread Cert.MixKernelIdeal.nD Cert.MixKernelIdeal.τ).loc Cert.MixKernelIdeal.main_v0_0)) (v1 : (c : Dev Cert.MixKernelIdeal.nD) → Buf (Elt Ideal) ((c.tc : Thread Cert.MixKernelIdeal.nD Cert.MixKernelIdeal.τ).loc Cert.MixKernelIdeal.main_v0_1)) (v2 : (c : Dev Cert.MixKernelIdeal.nD) → Buf (Elt Ideal) ((c.tc : Thread Cert.MixKernelIdeal.nD Cert.MixKernelIdeal.τ).loc Cert.MixKernelIdeal.main_v0_2)) (v3 : (c : Dev Cert.MixKernelIdeal.nD) → Buf (Elt Ideal) ((c.tc : Thread Cert.MixKernelIdeal.nD Cert.MixKernelIdeal.τ).loc Cert.MixKernelIdeal.main_v0_3)) (v4 : (c : Dev Cert.MixKernelIdeal.nD) → Buf (Elt Ideal) ((c.tc : Thread Cert.MixKernelIdeal.nD Cert.MixKernelIdeal.τ).loc Cert.MixKernelIdeal.main_v0_4)) (v5 : (c : Dev Cert.MixKernelIdeal.nD) → Buf (Elt Ideal) ((c.tc : Thread Cert.MixKernelIdeal.nD Cert.MixKernelIdeal.τ).loc Cert.MixKernelIdeal.main_v0_5)) (v6 : (c : Dev Cert.MixKernelIdeal.nD) → Buf (Elt Ideal) ((c.tc : Thread Cert.MixKernelIdeal.nD Cert.MixKernelIdeal.τ).loc Cert.MixKernelIdeal.main_v0_6)) (v7 : (c : Dev Cert.MixKernelIdeal.nD) → Buf (Elt Ideal) ((c.tc : Thread Cert.MixKernelIdeal.nD Cert.MixKernelIdeal.τ).loc Cert.MixKernelIdeal.main_v0_7)) (v8 : (c : Dev Cert.MixKernelIdeal.nD) → Buf (Elt Ideal) ((c.tc : Thread Cert.MixKernelIdeal.nD Cert.MixKernelIdeal.τ).loc Cert.MixKernelIdeal.main_v0_8)) (v9 : (c : Dev Cert.MixKernelIdeal.nD) → Buf (Elt Ideal) ((c.tc : Thread Cert.MixKernelIdeal.nD Cert.MixKernelIdeal.τ).loc Cert.MixKernelIdeal.main_v0_9)) (v10 : (c : Dev Cert.MixKernelIdeal.nD) → Buf (Elt Ideal) ((c.tc : Thread Cert.MixKernelIdeal.nD Cert.MixKernelIdeal.τ).loc Cert.MixKernelIdeal.main_v0_10)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v0_0) = v0 c
          ∧ r.2.mem ((c.tc : Thread Cert.MixKernelIdeal.nD Cert.MixKernelIdeal.τ).loc Cert.MixKernelIdeal.main_v0_1) = v1 c
          ∧ r.2.mem ((c.tc : Thread Cert.MixKernelIdeal.nD Cert.MixKernelIdeal.τ).loc Cert.MixKernelIdeal.main_v0_2) = v2 c
          ∧ r.2.mem ((c.tc : Thread Cert.MixKernelIdeal.nD Cert.MixKernelIdeal.τ).loc Cert.MixKernelIdeal.main_v0_3) = v3 c
          ∧ r.2.mem ((c.tc : Thread Cert.MixKernelIdeal.nD Cert.MixKernelIdeal.τ).loc Cert.MixKernelIdeal.main_v0_4) = v4 c
          ∧ r.2.mem ((c.tc : Thread Cert.MixKernelIdeal.nD Cert.MixKernelIdeal.τ).loc Cert.MixKernelIdeal.main_v0_5) = v5 c
          ∧ r.2.mem ((c.tc : Thread Cert.MixKernelIdeal.nD Cert.MixKernelIdeal.τ).loc Cert.MixKernelIdeal.main_v0_6) = v6 c
          ∧ r.2.mem ((c.tc : Thread Cert.MixKernelIdeal.nD Cert.MixKernelIdeal.τ).loc Cert.MixKernelIdeal.main_v0_7) = v7 c
          ∧ r.2.mem ((c.tc : Thread Cert.MixKernelIdeal.nD Cert.MixKernelIdeal.τ).loc Cert.MixKernelIdeal.main_v0_8) = v8 c
          ∧ r.2.mem ((c.tc : Thread Cert.MixKernelIdeal.nD Cert.MixKernelIdeal.τ).loc Cert.MixKernelIdeal.main_v0_9) = v9 c
          ∧ r.2.mem ((c.tc : Thread Cert.MixKernelIdeal.nD Cert.MixKernelIdeal.τ).loc Cert.MixKernelIdeal.main_v0_10) = v10 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
          ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
          ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
          ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v383) = v0 c
          ∧ r.2.mem ((c.tc : Thread Cert.MixReferenceIdeal.nD Cert.MixReferenceIdeal.τ).loc Cert.MixReferenceIdeal.main_v384) = v1 c
          ∧ r.2.mem ((c.tc : Thread Cert.MixReferenceIdeal.nD Cert.MixReferenceIdeal.τ).loc Cert.MixReferenceIdeal.main_v385) = v2 c
          ∧ r.2.mem ((c.tc : Thread Cert.MixReferenceIdeal.nD Cert.MixReferenceIdeal.τ).loc Cert.MixReferenceIdeal.main_v382) = v3 c
          ∧ r.2.mem ((c.tc : Thread Cert.MixReferenceIdeal.nD Cert.MixReferenceIdeal.τ).loc Cert.MixReferenceIdeal.main_v360) = v4 c
          ∧ r.2.mem ((c.tc : Thread Cert.MixReferenceIdeal.nD Cert.MixReferenceIdeal.τ).loc Cert.MixReferenceIdeal.main_v275) = v5 c
          ∧ r.2.mem ((c.tc : Thread Cert.MixReferenceIdeal.nD Cert.MixReferenceIdeal.τ).loc Cert.MixReferenceIdeal.main_v265) = v6 c
          ∧ r.2.mem ((c.tc : Thread Cert.MixReferenceIdeal.nD Cert.MixReferenceIdeal.τ).loc Cert.MixReferenceIdeal.main_v261) = v7 c
          ∧ r.2.mem ((c.tc : Thread Cert.MixReferenceIdeal.nD Cert.MixReferenceIdeal.τ).loc Cert.MixReferenceIdeal.main_v260) = v8 c
          ∧ r.2.mem ((c.tc : Thread Cert.MixReferenceIdeal.nD Cert.MixReferenceIdeal.τ).loc Cert.MixReferenceIdeal.main_v318) = v9 c
          ∧ r.2.mem ((c.tc : Thread Cert.MixReferenceIdeal.nD Cert.MixReferenceIdeal.τ).loc Cert.MixReferenceIdeal.main_v286) = v10 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13))

def Claim : Prop :=
  ∃ (hKernel : Cert.Kernel.Facts) (hKernelIdeal : Cert.KernelIdeal.Facts) (hReferenceIdeal : Cert.ReferenceIdeal.Facts) (hMixKernel : Cert.MixKernel.Facts) (hMixKernelIdeal : Cert.MixKernelIdeal.Facts) (hMixReferenceIdeal : Cert.MixReferenceIdeal.Facts) (hPre_finite : Cert.Pre_finite.Facts) (hPre_mix_finite : Cert.Pre_mix_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
-- ==== Pre_finite.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bitsLt_bf16_f32 : FTy.bits .bf16 < FTy.bits .f32
  bcast_S_S2816x1024 : S_.BroadcastsInDim S2816x1024 (![] : Fin 0 → Fin S2816x1024.rank)

variable [Facts]

def fn_part1 {F : FTy → Type} [FloatOps F] (main_arg6 : FVec F S2816x1024 .bf16) (main_v2 : IVec S4096x1024 1) (main_v5 : IVec S4096x1024 1) (main_v8 : IVec S1x1024 1) (main_v11 : IVec S1x1024 1) (main_v15 : IVec S2816x1024 1) (main_v17 : FVec F S2816x1024 .f32) (main_cst_4 : FVec F S_ .f32) : IVec S4096x1024 1 × IVec S4096x1024 1 × IVec S1x1024 1 × IVec S1x1024 1 × IVec S2816x1024 1 × IVec S2816x1024 1 × IVec S2816x1024 1 :=
  let main_v18 : FVec F S2816x1024 .f32 := broadcastInDim S2816x1024 ![] bcast_S_S2816x1024 main_cst_4
  let main_v19 : IVec S2816x1024 1 := cmpf .olt main_v17 main_v18
  let main_v20 : FVec F S2816x1024 .f32 := (extf .f32 · bitsLt_bf16_f32) main_arg6
  let main_v21 : FVec F S2816x1024 .f32 := Host.absf main_v20
  let main_cst_5 : FVec F S_ .f32 := constant S_ .f32 0x7F800000#32
  let main_v22 : FVec F S2816x1024 .f32 := broadcastInDim S2816x1024 ![] bcast_S_S2816x1024 main_cst_5
  let main_v23 : IVec S2816x1024 1 := cmpf .olt main_v21 main_v22
  (main_v2, main_v5, main_v8, main_v11, main_v15, main_v19, main_v23)

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S2816x1024 .bf16) (main_arg5 : FVec F S2816x1024 .bf16) (main_arg6 : FVec F S2816x1024 .bf16) : IVec S4096x1024 1 × IVec S4096x1024 1 × IVec S1x1024 1 × IVec S1x1024 1 × IVec S2816x1024 1 × IVec S2816x1024 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S2816x1024 .f32 := (extf .f32 · bitsLt_bf16_f32) main_arg4
  let main_v13 : FVec F S2816x1024 .f32 := Host.absf main_v12
  let main_cst_3 : FVec F S_ .f32 := constant S_ .f32 0x7F800000#32
  let main_v14 : FVec F S2816x1024 .f32 := broadcastInDim S2816x1024 ![] bcast_S_S2816x1024 main_cst_3
  let main_v15 : IVec S2816x1024 1 := cmpf .olt main_v13 main_v14
  let main_v16 : FVec F S2816x1024 .f32 := (extf .f32 · bitsLt_bf16_f32) main_arg5
  let main_v17 : FVec F S2816x1024 .f32 := Host.absf main_v16
  let main_cst_4 : FVec F S_ .f32 := constant S_ .f32 0x7F800000#32
  fn_part1 (F := F) main_arg6 main_v2 main_v5 main_v8 main_v11 main_v15 main_v17 main_cst_4
-- ==== Pre_mix_finite.lean ====
abbrev S4096x1024 : Shape := ⟨2, ![4096, 1024]⟩
abbrev S4096x512 : Shape := ⟨2, ![4096, 512]⟩
abbrev S1x1024 : Shape := ⟨2, ![1, 1024]⟩
abbrev S1536x1024 : Shape := ⟨2, ![1536, 1024]⟩
abbrev S32x512 : Shape := ⟨2, ![32, 512]⟩
abbrev S1x512 : Shape := ⟨2, ![1, 512]⟩
abbrev S4x128x128 : Shape := ⟨3, ![4, 128, 128]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bitsLt_bf16_f32 : FTy.bits .bf16 < FTy.bits .f32
  bcast_S_S1x1024 : S_.BroadcastsInDim S1x1024 (![] : Fin 0 → Fin S1x1024.rank)
  bcast_S_S1536x1024 : S_.BroadcastsInDim S1536x1024 (![] : Fin 0 → Fin S1536x1024.rank)
  bcast_S_S32x512 : S_.BroadcastsInDim S32x512 (![] : Fin 0 → Fin S32x512.rank)
  bcast_S_S1x512 : S_.BroadcastsInDim S1x512 (![] : Fin 0 → Fin S1x512.rank)
  bcast_S_S4x128x128 : S_.BroadcastsInDim S4x128x128 (![] : Fin 0 → Fin S4x128x128.rank)
  bcast_S_S1024x1024 : S_.BroadcastsInDim S1024x1024 (![] : Fin 0 → Fin S1024x1024.rank)

variable [Facts]

def fn_part2 {F : FTy → Type} [FloatOps F] (main_arg12 : FVec F S1x512 .f32) (main_arg13 : FVec F S1024x1024 .bf16) (main_v2 : IVec S4096x1024 1) (main_v5 : IVec S4096x1024 1) (main_v8 : IVec S4096x512 1) (main_v11 : IVec S4096x512 1) (main_v14 : IVec S4096x512 1) (main_v18 : IVec S4096x512 1) (main_v21 : IVec S1x1024 1) (main_v25 : IVec S1536x1024 1) (main_v28 : IVec S32x512 1) (main_v31 : IVec S1x512 1) (main_v34 : IVec S1x512 1) (main_v36 : FVec F S4x128x128 .f32) : IVec S4096x1024 1 × IVec S4096x1024 1 × IVec S4096x512 1 × IVec S4096x512 1 × IVec S4096x512 1 × IVec S4096x512 1 × IVec S1x1024 1 × IVec S1536x1024 1 × IVec S32x512 1 × IVec S1x512 1 × IVec S1x512 1 × IVec S4x128x128 1 × IVec S1x512 1 × IVec S1024x1024 1 :=
  let main_cst_10 : FVec F S_ .f32 := constant S_ .f32 0x7F800000#32
  let main_v37 : FVec F S4x128x128 .f32 := broadcastInDim S4x128x128 ![] bcast_S_S4x128x128 main_cst_10
  let main_v38 : IVec S4x128x128 1 := cmpf .olt main_v36 main_v37
  let main_v39 : FVec F S1x512 .f32 := Host.absf main_arg12
  let main_cst_11 : FVec F S_ .f32 := constant S_ .f32 0x7F800000#32
  let main_v40 : FVec F S1x512 .f32 := broadcastInDim S1x512 ![] bcast_S_S1x512 main_cst_11
  let main_v41 : IVec S1x512 1 := cmpf .olt main_v39 main_v40
  let main_v42 : FVec F S1024x1024 .f32 := (extf .f32 · bitsLt_bf16_f32) main_arg13
  let main_v43 : FVec F S1024x1024 .f32 := Host.absf main_v42
  let main_cst_12 : FVec F S_ .f32 := constant S_ .f32 0x7F800000#32
  let main_v44 : FVec F S1024x1024 .f32 := broadcastInDim S1024x1024 ![] bcast_S_S1024x1024 main_cst_12
  let main_v45 : IVec S1024x1024 1 := cmpf .olt main_v43 main_v44
  (main_v2, main_v5, main_v8, main_v11, main_v14, main_v18, main_v21, main_v25, main_v28, main_v31, main_v34, main_v38, main_v41, main_v45)

def fn_part1 {F : FTy → Type} [FloatOps F] (main_arg6 : FVec F S1x1024 .f32) (main_arg7 : FVec F S1536x1024 .bf16) (main_arg8 : FVec F S32x512 .f32) (main_arg9 : FVec F S1x512 .f32) (main_arg10 : FVec F S1x512 .f32) (main_arg11 : FVec F S4x128x128 .bf16) (main_arg12 : FVec F S1x512 .f32) (main_arg13 : FVec F S1024x1024 .bf16) (main_v2 : IVec S4096x1024 1) (main_v5 : IVec S4096x1024 1) (main_v8 : IVec S4096x512 1) (main_v11 : IVec S4096x512 1) (main_v14 : IVec S4096x512 1) (main_v16 : FVec F S4096x512 .f32) (main_v17 : FVec F S4096x512 .f32) : IVec S4096x1024 1 × IVec S4096x1024 1 × IVec S4096x512 1 × IVec S4096x512 1 × IVec S4096x512 1 × IVec S4096x512 1 × IVec S1x1024 1 × IVec S1536x1024 1 × IVec S32x512 1 × IVec S1x512 1 × IVec S1x512 1 × IVec S4x128x128 1 × IVec S1x512 1 × IVec S1024x1024 1 :=
  let main_v18 : IVec S4096x512 1 := cmpf .olt main_v16 main_v17
  let main_v19 : FVec F S1x1024 .f32 := Host.absf main_arg6
  let main_cst_5 : FVec F S_ .f32 := constant S_ .f32 0x7F800000#32
  let main_v20 : FVec F S1x1024 .f32 := broadcastInDim S1x1024 ![] bcast_S_S1x1024 main_cst_5
  let main_v21 : IVec S1x1024 1 := cmpf .olt main_v19 main_v20
  let main_v22 : FVec F S1536x1024 .f32 := (extf .f32 · bitsLt_bf16_f32) main_arg7
  let main_v23 : FVec F S1536x1024 .f32 := Host.absf main_v22
  let main_cst_6 : FVec F S_ .f32 := constant S_ .f32 0x7F800000#32
  let main_v24 : FVec F S1536x1024 .f32 := broadcastInDim S1536x1024 ![] bcast_S_S1536x1024 main_cst_6
  let main_v25 : IVec S1536x1024 1 := cmpf .olt main_v23 main_v24
  let main_v26 : FVec F S32x512 .f32 := Host.absf main_arg8
  let main_cst_7 : FVec F S_ .f32 := constant S_ .f32 0x7F800000#32
  let main_v27 : FVec F S32x512 .f32 := broadcastInDim S32x512 ![] bcast_S_S32x512 main_cst_7
  let main_v28 : IVec S32x512 1 := cmpf .olt main_v26 main_v27
  let main_v29 : FVec F S1x512 .f32 := Host.absf main_arg9
  let main_cst_8 : FVec F S_ .f32 := constant S_ .f32 0x7F800000#32
  let main_v30 : FVec F S1x512 .f32 := broadcastInDim S1x512 ![] bcast_S_S1x512 main_cst_8
  let main_v31 : IVec S1x512 1 := cmpf .olt main_v29 main_v30
  let main_v32 : FVec F S1x512 .f32 := Host.absf main_arg10
  let main_cst_9 : FVec F S_ .f32 := constant S_ .f32 0x7F800000#32
  let main_v33 : FVec F S1x512 .f32 := broadcastInDim S1x512 ![] bcast_S_S1x512 main_cst_9
  let main_v34 : IVec S1x512 1 := cmpf .olt main_v32 main_v33
  let main_v35 : FVec F S4x128x128 .f32 := (extf .f32 · bitsLt_bf16_f32) main_arg11
  let main_v36 : FVec F S4x128x128 .f32 := Host.absf main_v35
  fn_part2 (F := F) main_arg12 main_arg13 main_v2 main_v5 main_v8 main_v11 main_v14 main_v18 main_v21 main_v25 main_v28 main_v31 main_v34 main_v36

def fn {F : FTy → Type} [FloatOps F] (main_arg0 : FVec F S4096x1024 .f32) (main_arg1 : FVec F S4096x1024 .f32) (main_arg2 : FVec F S4096x512 .f32) (main_arg3 : FVec F S4096x512 .f32) (main_arg4 : FVec F S4096x512 .f32) (main_arg5 : FVec F S4096x512 .bf16) (main_arg6 : FVec F S1x1024 .f32) (main_arg7 : FVec F S1536x1024 .bf16) (main_arg8 : FVec F S32x512 .f32) (main_arg9 : FVec F S1x512 .f32) (main_arg10 : FVec F S1x512 .f32) (main_arg11 : FVec F S4x128x128 .bf16) (main_arg12 : FVec F S1x512 .f32) (main_arg13 : FVec F S1024x1024 .bf16) : IVec S4096x1024 1 × IVec S4096x1024 1 × IVec S4096x512 1 × IVec S4096x512 1 × IVec S4096x512 1 × IVec S4096x512 1 × IVec S1x1024 1 × IVec S1536x1024 1 × IVec S32x512 1 × IVec S1x512 1 × IVec S1x512 1 × IVec S4x128x128 1 × IVec S1x512 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S4096x512 .f32 := (extf .f32 · bitsLt_bf16_f32) main_arg5
  let main_v16 : FVec F S4096x512 .f32 := Host.absf main_v15
  let main_cst_4 : FVec F S_ .f32 := constant S_ .f32 0x7F800000#32
  let main_v17 : FVec F S4096x512 .f32 := broadcastInDim S4096x512 ![] bcast_S_S4096x512 main_cst_4
  fn_part1 (F := F) main_arg6 main_arg7 main_arg8 main_arg9 main_arg10 main_arg11 main_arg12 main_arg13 main_v2 main_v5 main_v8 main_v11 main_v14 main_v16 main_v17
-- ==== Kernel.lean ====
abbrev S4096x1024 : Shape := ⟨2, ![4096, 1024]⟩
abbrev S1x1024 : Shape := ⟨2, ![1, 1024]⟩
abbrev S2816x1024 : Shape := ⟨2, ![2816, 1024]⟩
abbrev S11x4096x256 : Shape := ⟨3, ![11, 4096, 256]⟩
abbrev S1x128 : Shape := ⟨2, ![1, 128]⟩
abbrev S256x1024 : Shape := ⟨2, ![256, 1024]⟩
abbrev S11x256x256 : Shape := ⟨3, ![11, 256, 256]⟩
abbrev S256x2816 : Shape := ⟨2, ![256, 2816]⟩
abbrev S256 : Shape := ⟨1, ![256]⟩
abbrev S256x1 : Shape := ⟨2, ![256, 1]⟩
abbrev S1024x1024 : Shape := ⟨2, ![1024, 1024]⟩
abbrev S256x256 : Shape := ⟨2, ![256, 256]⟩
abbrev S1x256x256 : Shape := ⟨3, ![1, 256, 256]⟩
abbrev S768x1024 : Shape := ⟨2, ![768, 1024]⟩
abbrev S256x768 : Shape := ⟨2, ![256, 768]⟩
abbrev S1 : Shape := ⟨1, ![1]⟩
abbrev S1x1 : Shape := ⟨2, ![1, 1]⟩
abbrev S1024 : Shape := ⟨1, ![1024]⟩

abbrev nBuf : Space → Nat
  | .hbm => 16
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2816x1024, .bf16⟩
  | .hbm, ⟨5, _⟩ => ⟨S2816x1024, .bf16⟩
  | .hbm, ⟨6, _⟩ => ⟨S2816x1024, .bf16⟩
  | .hbm, ⟨7, _⟩ => ⟨S4096x1024, .f32⟩
  | .hbm, ⟨8, _⟩ => ⟨S4096x1024, .bf16⟩
  | .hbm, ⟨9, _⟩ => ⟨S11x4096x256, .bf16⟩
  | .hbm, ⟨10, _⟩ => ⟨S11x4096x256, .bf16⟩
  | .hbm, ⟨11, _⟩ => ⟨S11x4096x256, .bf16⟩
  | .hbm, ⟨12, _⟩ => ⟨S4096x1024, .bf16⟩
  | .hbm, ⟨13, _⟩ => ⟨S1x128, .f32⟩
  | .hbm, ⟨14, _⟩ => ⟨S1x1024, .f32⟩
  | .hbm, ⟨15, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S11x256x256, .bf16⟩
  | .local _ .vmem, ⟨14, _⟩ => ⟨S11x256x256, .bf16⟩
  | .local _ .vmem, ⟨15, _⟩ => ⟨S11x256x256, .bf16⟩
  | .local _ .vmem, ⟨16, _⟩ => ⟨S11x256x256, .bf16⟩
  | .local _ .vmem, ⟨17, _⟩ => ⟨S11x256x256, .bf16⟩
  | .local _ .vmem, ⟨18, _⟩ => ⟨S11x256x256, .bf16⟩
  | .local _ .vmem, ⟨19, _⟩ => ⟨S256x1024, .bf16⟩
  | .local _ .vmem, ⟨20, _⟩ => ⟨S256x1024, .bf16⟩
  | .local _ .vmem, ⟨21, _⟩ => ⟨S1x128, .f32⟩
  | .local _ .vmem, ⟨22, _⟩ => ⟨S1x1024, .f32⟩
  | .local _ .vmem, ⟨23, _⟩ => ⟨S1x1024, .f32⟩
  | .local _ .vmem, ⟨24, _⟩ => ⟨S256x2816, .f32⟩
  | .local _ .vmem, ⟨25, _⟩ => ⟨S256x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S11x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S11x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S11x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S4096x1024 : Shape := ⟨2, ![4096, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S4096x11x256 : Shape := ⟨3, ![4096, 11, 256]⟩
abbrev S11x4096x256 : Shape := ⟨3, ![11, 4096, 256]⟩
abbrev S1x128 : Shape := ⟨2, ![1, 128]⟩

abbrev nBuf : Space → Nat
  | .hbm => 187
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024, .f32⟩
  | 4 => ⟨S2816x1024, .bf16⟩
  | 5 => ⟨S2816x1024, .bf16⟩
  | 6 => ⟨S2816x1024, .bf16⟩
  | 7 => ⟨S2816x1024, .f32⟩
  | 8 => ⟨S2816x1024, .f32⟩
  | 9 => ⟨S2816x1024, .f32⟩
  | 10 => ⟨S1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S1024, .f32⟩
  | 28 => ⟨S4096x1024, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x1024, .f32⟩
  | 44 => ⟨S4096x1024, .f32⟩
  | 45 => ⟨S1x1024, .f32⟩
  | 46 => ⟨S4096x1024, .f32⟩
  | 47 => ⟨S4096x1024, .f32⟩
  | 48 => ⟨S1024x2816, .f32⟩
  | 49 => ⟨S4096x2816, .f32⟩
  | 50 => ⟨S1024x2816, .f32⟩
  | 51 => ⟨S4096x2816, .f32⟩
  | 52 => ⟨S4096x2816, .f32⟩
  | 53 => ⟨S4096x2816, .f32⟩
  | 54 => ⟨S_, .f32⟩
  | 55 => ⟨S4096x2816, .f32⟩
  | 56 => ⟨S4096x2816, .f32⟩
  | 57 => ⟨S_, .f32⟩
  | 58 => ⟨S4096x2816, .f32⟩
  | 59 => ⟨S4096x2816, .f32⟩
  | 60 => ⟨S_, .f32⟩
  | 61 => ⟨S4096x2816, .f32⟩
  | 62 => ⟨S4096x2816, .f32⟩
  | 63 => ⟨S4096x2816, .f32⟩
  | 64 => ⟨S4096x2816, .f32⟩
  | 65 => ⟨S4096x2816, .f32⟩
  | 66 => ⟨S4096x1024, .f32⟩
  | 67 => ⟨S4096x1024, .f32⟩
  | 68 => ⟨S1024, .f32⟩
  | 69 => ⟨S4096x1024, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S_, .f32⟩
  | 77 => ⟨S4096x1, .f32⟩
  | 78 => ⟨S4096x1, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1024, .f32⟩
  | 85 => ⟨S4096x1024, .f32⟩
  | 86 => ⟨S1x1024, .f32⟩
  | 87 => ⟨S4096x1024, .f32⟩
  | 88 => ⟨S4096x1024, .f32⟩
  | 89 => ⟨S4096x1024, .f32⟩
  | 90 => ⟨S4096x1024, .f32⟩
  | 91 => ⟨S_, .f32⟩
  | 92 => ⟨S4096x1024, .f32⟩
  | 93 => ⟨S4096x1024, .f32⟩
  | 94 => ⟨S_, .f32⟩
  | 95 => ⟨S4096, .f32⟩
  | 96 => ⟨S_, .f32⟩
  | 97 => ⟨S4096, .f32⟩
  | 98 => ⟨S4096, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S4096, .f32⟩
  | 107 => ⟨S_, .f32⟩
  | 108 => ⟨S4096, .f32⟩
  | 109 => ⟨S4096, .f32⟩
  | 110 => ⟨S4096x1024, .f32⟩
  | 111 => ⟨S4096x1024, .f32⟩
  | 112 => ⟨S4096x1024, .f32⟩
  | 113 => ⟨S_, .f32⟩
  | 114 => ⟨S1024, .f32⟩
  | 115 => ⟨S1x1024, .f32⟩
  | 116 => ⟨S4096x1024, .f32⟩
  | 117 => ⟨S4096x1024, .f32⟩
  | 118 => ⟨S_, .f32⟩
  | 119 => ⟨S1024, .f32⟩
  | 120 => ⟨S4096x1024, .f32⟩
  | 121 => ⟨S_, .f32⟩
  | 122 => ⟨S4096, .f32⟩
  | 123 => ⟨S4096x1, .f32⟩
  | 124 => ⟨S4096x1024, .f32⟩
  | 125 => ⟨S4096x1024, .f32⟩
  | 126 => ⟨S4096x1, .f32⟩
  | 127 => ⟨S_, .f32⟩
  | _ => ⟨S4096x1024, .f32⟩

abbrev hbmTy0_1 (i : Nat) : BufTy := match i % 128 with
  | 0 => ⟨S4096x1, .f32⟩
  | 1 => ⟨S4096x1, .f32⟩
  | 2 => ⟨S_, .f32⟩
  | 3 => ⟨S4096, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S1x1024, .f32⟩
  | 10 => ⟨S4096x2816, .f32⟩
  | 11 => ⟨S4096x2816, .f32⟩
  | 12 => ⟨S4096x2816, .f32⟩
  | 13 => ⟨S4096x2816, .f32⟩
  | 14 => ⟨S4096x2816, .f32⟩
  | 15 => ⟨S4096x2816, .f32⟩
  | 16 => ⟨S4096x2816, .f32⟩
  | 17 => ⟨S4096x1024, .f32⟩
  | 18 => ⟨S4096x1024, .f32⟩
  | 19 => ⟨S4096x1024, .f32⟩
  | 20 => ⟨S4096x1024, .f32⟩
  | 21 => ⟨S_, .f32⟩
  | 22 => ⟨S1024, .f32⟩
  | 23 => ⟨S1x1024, .f32⟩
  | 24 => ⟨S4096x1024, .f32⟩
  | 25 => ⟨S4096x1024, .f32⟩
  | 26 => ⟨S_, .f32⟩
  | 27 => ⟨S1024, .f32⟩
  | 28 => ⟨S4096x1024, .f32⟩
  | 29 => ⟨S_, .f32⟩
  | 30 => ⟨S4096, .f32⟩
  | 31 => ⟨S4096x1, .f32⟩
  | 32 => ⟨S4096x1024, .f32⟩
  | 33 => ⟨S4096x1024, .f32⟩
  | 34 => ⟨S4096x1, .f32⟩
  | 35 => ⟨S_, .f32⟩
  | 36 => ⟨S4096x1, .f32⟩
  | 37 => ⟨S4096x1, .f32⟩
  | 38 => ⟨S_, .f32⟩
  | 39 => ⟨S4096, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S1x1024, .f32⟩
  | 46 => ⟨S4096x1024, .f32⟩
  | 47 => ⟨S4096x1024, .bf16⟩
  | 48 => ⟨S4096x11x256, .f32⟩
  | 49 => ⟨S11x4096x256, .f32⟩
  | 50 => ⟨S11x4096x256, .bf16⟩
  | 51 => ⟨S4096x11x256, .f32⟩
  | 52 => ⟨S11x4096x256, .f32⟩
  | 53 => ⟨S11x4096x256, .bf16⟩
  | 54 => ⟨S4096x11x256, .f32⟩
  | 55 => ⟨S11x4096x256, .f32⟩
  | 56 => ⟨S11x4096x256, .bf16⟩
  | 57 => ⟨S4096x1024, .bf16⟩
  | 58 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v38_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v38_1 : Ref sig .tc := ⟨.hbm, 63, rfl⟩
abbrev main_v38_0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_cst_15 : Ref sig .tc := ⟨.hbm, 103, rfl⟩
abbrev main_cst_16 : Ref sig .tc := ⟨.hbm, 104, rfl⟩
abbrev main_v68 : Ref sig .tc := ⟨.hbm, 105, rfl⟩
abbrev main_v69 : Ref sig .tc := ⟨.hbm, 106, rfl⟩
abbrev main_cst_17 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_18 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_19 : Ref sig .tc := ⟨.hbm, 118, rfl⟩
abbrev main_v79 : Ref sig .tc := ⟨.hbm, 119, rfl⟩
abbrev main_v80 : Ref sig .tc := ⟨.hbm, 120, rfl⟩
abbrev main_cst_20 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_21 : Ref sig .tc := ⟨.hbm, 127, rfl⟩
abbrev main_v86 : Ref sig .tc := ⟨.hbm, 128, rfl⟩
abbrev main_v87 : Ref sig .tc := ⟨.hbm, 129, rfl⟩
abbrev main_cst_22 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_call1_v0 : Ref sig .tc := ⟨.hbm, 141, rfl⟩
abbrev main_call1_v1 : Ref sig .tc := ⟨.hbm, 142, rfl⟩
abbrev main_call1_v2 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_23 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_24 : Ref sig .tc := ⟨.hbm, 154, rfl⟩
abbrev main_v107 : Ref sig .tc := ⟨.hbm, 155, rfl⟩
abbrev main_v108 : Ref sig .tc := ⟨.hbm, 156, rfl⟩
abbrev main_cst_25 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_26 : Ref sig .tc := ⟨.hbm, 163, rfl⟩
abbrev main_v114 : Ref sig .tc := ⟨.hbm, 164, rfl⟩
abbrev main_v115 : Ref sig .tc := ⟨.hbm, 165, rfl⟩
abbrev main_cst_27 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩

abbrev nD : Nat := 1
abbrev τ : Topo := Topo.v7x

variable {F : FTy → Type} [FloatOps F]
-- ==== MixKernel.lean ====
abbrev S4096x1024 : Shape := ⟨2, ![4096, 1024]⟩
abbrev S4096x512 : Shape := ⟨2, ![4096, 512]⟩
abbrev S1x1024 : Shape := ⟨2, ![1, 1024]⟩
abbrev S1536x1024 : Shape := ⟨2, ![1536, 1024]⟩
abbrev S32x512 : Shape := ⟨2, ![32, 512]⟩
abbrev S1x512 : Shape := ⟨2, ![1, 512]⟩
abbrev S4x128x128 : Shape := ⟨3, ![4, 128, 128]⟩
abbrev S1024x1024 : Shape := ⟨2, ![1024, 1024]⟩
abbrev S4096x1536 : Shape := ⟨2, ![4096, 1536]⟩
abbrev S1x1536 : Shape := ⟨2, ![1, 1536]⟩
abbrev S512x1024 : Shape := ⟨2, ![512, 1024]⟩
abbrev S512x512 : Shape := ⟨2, ![512, 512]⟩
abbrev S512x1536 : Shape := ⟨2, ![512, 1536]⟩
abbrev S8x544x512 : Shape := ⟨3, ![8, 544, 512]⟩
abbrev S544x512 : Shape := ⟨2, ![544, 512]⟩
abbrev S512 : Shape := ⟨1, ![512]⟩
abbrev S512x1 : Shape := ⟨2, ![512, 1]⟩
abbrev S1x512x512 : Shape := ⟨3, ![1, 512, 512]⟩
abbrev S1x536x512 : Shape := ⟨3, ![1, 536, 512]⟩
abbrev S536x512 : Shape := ⟨2, ![536, 512]⟩
abbrev S64x512 : Shape := ⟨2, ![64, 512]⟩
abbrev S1x64x512 : Shape := ⟨3, ![1, 64, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S528x384 : Shape := ⟨2, ![528, 384]⟩
abbrev S520x256 : Shape := ⟨2, ![520, 256]⟩
abbrev S1024 : Shape := ⟨1, ![1024]⟩
abbrev S1x32x512 : Shape := ⟨3, ![1, 32, 512]⟩

abbrev nBuf : Space → Nat
  | .hbm => 25
  | .vmem => 40
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .bf16⟩
  | .hbm, ⟨6, _⟩ => ⟨S1x1024, .f32⟩
  | .hbm, ⟨7, _⟩ => ⟨S1536x1024, .bf16⟩
  | .hbm, ⟨8, _⟩ => ⟨S32x512, .f32⟩
  | .hbm, ⟨9, _⟩ => ⟨S1x512, .f32⟩
  | .hbm, ⟨10, _⟩ => ⟨S1x512, .f32⟩
  | .hbm, ⟨11, _⟩ => ⟨S4x128x128, .bf16⟩
  | .hbm, ⟨12, _⟩ => ⟨S1x512, .f32⟩
  | .hbm, ⟨13, _⟩ => ⟨S1024x1024, .bf16⟩
  | .hbm, ⟨14, _⟩ => ⟨S4096x1024, .f32⟩
  | .hbm, ⟨15, _⟩ => ⟨S4096x1536, .bf16⟩
  | .hbm, ⟨16, _⟩ => ⟨S4096x1024, .bf16⟩
  | .hbm, ⟨17, _⟩ => ⟨S1x1024, .f32⟩
  | .hbm, ⟨18, _⟩ => ⟨S1x1536, .f32⟩
  | .hbm, ⟨19, _⟩ => ⟨S32x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S4x128x128, .f32⟩
  | .hbm, ⟨24, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x1024, .f32⟩
  | .local _ .vmem, ⟨13, _⟩ => ⟨S1536x1024, .bf16⟩
  | .local _ .vmem, ⟨14, _⟩ => ⟨S32x512, .f32⟩
  | .local _ .vmem, ⟨15, _⟩ => ⟨S1x512, .f32⟩
  | .local _ .vmem, ⟨16, _⟩ => ⟨S1x512, .f32⟩
  | .local _ .vmem, ⟨17, _⟩ => ⟨S4x128x128, .bf16⟩
  | .local _ .vmem, ⟨18, _⟩ => ⟨S1x512, .f32⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S512x1536, .bf16⟩
  | .local _ .vmem, ⟨23, _⟩ => ⟨S512x1536, .bf16⟩
  | .local _ .vmem, ⟨24, _⟩ => ⟨S512x1024, .bf16⟩
  | .local _ .vmem, ⟨25, _⟩ => ⟨S512x1024, .bf16⟩
  | .local _ .vmem, ⟨26, _⟩ => ⟨S1x1024, .f32⟩
  | .local _ .vmem, ⟨27, _⟩ => ⟨S1x1536, .f32⟩
  | .local _ .vmem, ⟨28, _⟩ => ⟨S32x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S4x128x128, .f32⟩
  | .local _ .vmem, ⟨33, _⟩ => ⟨S1x512, .f32⟩
  | .local _ .vmem, ⟨34, _⟩ => ⟨S8x544x512, .f32⟩
  | .local _ .vmem, ⟨35, _⟩ => ⟨S544x512, .f32⟩
  | .local _ .vmem, ⟨36, _⟩ => ⟨S544x512, .f32⟩
  | .local _ .vmem, ⟨37, _⟩ => ⟨S544x512, .f32⟩
  | .local _ .vmem, ⟨38, _⟩ => ⟨S512x512, .f32⟩
  | .local _ .vmem, ⟨39, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_scratch5 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_76 : BitVec 32 := 0#32
  let c8_i32 : BitVec 32 := 8#32
  let v116 : BitVec 32 := Scalar.addi c0_i32_76 c8_i32
  let c1_i32 : BitVec 32 := 1#32
  ⟨c0_i32_76, v116, c1_i32⟩
def k0_mult1 (k0_t1 : Fin k0_t1_loop.trips) : BitVec 32 :=
  let c0_i32_76 : BitVec 32 := 0#32
  let c1_i32 : BitVec 32 := 1#32
  let arg32 : BitVec 32 := Scf.iv c0_i32_76 c1_i32 k0_t1
  let c64_i32 : BitVec 32 := 64#32
  let v697 : BitVec 32 := Scalar.muli arg32 c64_i32
  v697
def k0_off1 (k0_t1 : Fin k0_t1_loop.trips) (c24_i32 : BitVec 32) : Fin 3 → Nat :=
  let c6_535 : Index := 6#32
  let c0_i32_76 : BitVec 32 := 0#32
  let c1_i32 : BitVec 32 := 1#32
  let arg32 : BitVec 32 := Scf.iv c0_i32_76 c1_i32 k0_t1
  let c64_i32 : BitVec 32 := 64#32
  let v697 : BitVec 32 := Scalar.muli arg32 c64_i32
  let v698 : BitVec 32 := v697
  let v701 : BitVec 32 := Scalar.addi v698 c24_i32
  let v702 : Index := Scalar.indexCast v701
  let c0_536 : Index := 0#32
  ![6, v702.toNat, 0]
def k0_off2 (k0_t1 : Fin k0_t1_loop.trips) (c24_i32_539 : BitVec 32) : Fin 3 → Nat :=
  let c5_540 : Index := 5#32
  let c0_i32_76 : BitVec 32 := 0#32
  let c1_i32 : BitVec 32 := 1#32
  let arg32 : BitVec 32 := Scf.iv c0_i32_76 c1_i32 k0_t1
  let c64_i32 : BitVec 32 := 64#32
  let v697 : BitVec 32 := Scalar.muli arg32 c64_i32
  let v698 : BitVec 32 := v697
  let v709 : BitVec 32 := Scalar.addi v698 c24_i32_539
  let v710 : Index := Scalar.indexCast v709
  let c0_541 : Index := 0#32
  ![5, v710.toNat, 0]
def k0_off3 (k0_t1 : Fin k0_t1_loop.trips) (c24_i32_544 : BitVec 32) : Fin 3 → Nat :=
  let c4_545 : Index := 4#32
  let c0_i32_76 : BitVec 32 := 0#32
  let c1_i32 : BitVec 32 := 1#32
  let arg32 : BitVec 32 := Scf.iv c0_i32_76 c1_i32 k0_t1
  let c64_i32 : BitVec 32 := 64#32
  let v697 : BitVec 32 := Scalar.muli arg32 c64_i32
  let v698 : BitVec 32 := v697
  let v717 : BitVec 32 := Scalar.addi v698 c24_i32_544
  let v718 : Index := Scalar.indexCast v717
  let c0_546 : Index := 0#32
  ![4, v718.toNat, 0]
def k0_off4 (k0_t1 : Fin k0_t1_loop.trips) (c24_i32_549 : BitVec 32) : Fin 3 → Nat :=
  let c3_550 : Index := 3#32
  let c0_i32_76 : BitVec 32 := 0#32
  let c1_i32 : BitVec 32 := 1#32
  let arg32 : BitVec 32 := Scf.iv c0_i32_76 c1_i32 k0_t1
  let c64_i32 : BitVec 32 := 64#32
  let v697 : BitVec 32 := Scalar.muli arg32 c64_i32
  let v698 : BitVec 32 := v697
  let v725 : BitVec 32 := Scalar.addi v698 c24_i32_549
  let v726 : Index := Scalar.indexCast v725
  let c0_551 : Index := 0#32
  ![3, v726.toNat, 0]
def k0_off5 (k0_t1 : Fin k0_t1_loop.trips) (c24_i32_554 : BitVec 32) : Fin 3 → Nat :=
  let c2_555 : Index := 2#32
  let c0_i32_76 : BitVec 32 := 0#32
  let c1_i32 : BitVec 32 := 1#32
  let arg32 : BitVec 32 := Scf.iv c0_i32_76 c1_i32 k0_t1
  let c64_i32 : BitVec 32 := 64#32
  let v697 : BitVec 32 := Scalar.muli arg32 c64_i32
  let v698 : BitVec 32 := v697
  let v733 : BitVec 32 := Scalar.addi v698 c24_i32_554
  let v734 : Index := Scalar.indexCast v733
  let c0_556 : Index := 0#32
  ![2, v734.toNat, 0]
def k0_off6 (k0_t1 : Fin k0_t1_loop.trips) (c24_i32_559 : BitVec 32) : Fin 3 → Nat :=
  let c1_560 : Index := 1#32
  let c0_i32_76 : BitVec 32 := 0#32
  let c1_i32 : BitVec 32 := 1#32
  let arg32 : BitVec 32 := Scf.iv c0_i32_76 c1_i32 k0_t1
  let c64_i32 : BitVec 32 := 64#32
  let v697 : BitVec 32 := Scalar.muli arg32 c64_i32
  let v698 : BitVec 32 := v697
  let v741 : BitVec 32 := Scalar.addi v698 c24_i32_559
  let v742 : Index := Scalar.indexCast v741
  let c0_561 : Index := 0#32
  ![1, v742.toNat, 0]
def k0_off7 (k0_t1 : Fin k0_t1_loop.trips) (c24_i32_564 : BitVec 32) : Fin 3 → Nat :=
  let c0_565 : Index := 0#32
  let c0_i32_76 : BitVec 32 := 0#32
  let c1_i32 : BitVec 32 := 1#32
  let arg32 : BitVec 32 := Scf.iv c0_i32_76 c1_i32 k0_t1
  let c64_i32 : BitVec 32 := 64#32
  let v697 : BitVec 32 := Scalar.muli arg32 c64_i32
  let v698 : BitVec 32 := v697
  let v749 : BitVec 32 := Scalar.addi v698 c24_i32_564
  let v750 : Index := Scalar.indexCast v749
  let c0_566 : Index := 0#32
  ![0, v750.toNat, 0]
def k0_off8 (k0_t1 : Fin k0_t1_loop.trips) (c16_i32_569 : BitVec 32) : Fin 3 → Nat :=
  let c7_570 : Index := 7#32
  let c0_i32_76 : BitVec 32 := 0#32
  let c1_i32 : BitVec 32 := 1#32
  let arg32 : BitVec 32 := Scf.iv c0_i32_76 c1_i32 k0_t1
  let c64_i32 : BitVec 32 := 64#32
  let v697 : BitVec 32 := Scalar.muli arg32 c64_i32
  let v698 : BitVec 32 := v697
  let v757 : BitVec 32 := Scalar.addi v698 c16_i32_569
  let v758 : Index := Scalar.indexCast v757
  let c0_571 : Index := 0#32
  ![7, v758.toNat, 0]
def k0_off9 (k0_t1 : Fin k0_t1_loop.trips) : Fin 2 → Nat :=
  let c0_i32_76 : BitVec 32 := 0#32
  let c1_i32 : BitVec 32 := 1#32
  let arg32 : BitVec 32 := Scf.iv c0_i32_76 c1_i32 k0_t1
  let c64_i32 : BitVec 32 := 64#32
  let v697 : BitVec 32 := Scalar.muli arg32 c64_i32
  let v698 : BitVec 32 := v697
  let v948 : Index := Scalar.indexCast v698
  let c0_687 : Index := 0#32
  ![v948.toNat, 0]
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== MixReferenceIdeal.lean ====
abbrev S4096x1024 : Shape := ⟨2, ![4096, 1024]⟩
abbrev S4096x512 : Shape := ⟨2, ![4096, 512]⟩
abbrev S1x1024 : Shape := ⟨2, ![1, 1024]⟩
abbrev S1536x1024 : Shape := ⟨2, ![1536, 1024]⟩
abbrev S32x512 : Shape := ⟨2, ![32, 512]⟩
abbrev S1x512 : Shape := ⟨2, ![1, 512]⟩
abbrev S4x128x128 : Shape := ⟨3, ![4, 128, 128]⟩
abbrev S1024x1024 : Shape := ⟨2, ![1024, 1024]⟩
abbrev S512 : Shape := ⟨1, ![512]⟩
abbrev S_ : Shape := ⟨0, ![]⟩
abbrev S4096 : Shape := ⟨1, ![4096]⟩
abbrev S4096x1 : Shape := ⟨2, ![4096, 1]⟩
abbrev S4096x128 : Shape := ⟨2, ![4096, 128]⟩
abbrev S1x128x128 : Shape := ⟨3, ![1, 128, 128]⟩
abbrev S128x128 : Shape := ⟨2, ![128, 128]⟩
abbrev S31 : Shape := ⟨1, ![31]⟩
abbrev S31x1x1 : Shape := ⟨3, ![31, 1, 1]⟩
abbrev S1x4096x1 : Shape := ⟨3, ![1, 4096, 1]⟩
abbrev S31x4096x1 : Shape := ⟨3, ![31, 4096, 1]⟩
abbrev S1x1x4096 : Shape := ⟨3, ![1, 1, 4096]⟩
abbrev S31x4096x4096 : Shape := ⟨3, ![31, 4096, 4096]⟩
abbrev S31x512 : Shape := ⟨2, ![31, 512]⟩
abbrev S31x1x512 : Shape := ⟨3, ![31, 1, 512]⟩
abbrev S31x4096x512 : Shape := ⟨3, ![31, 4096, 512]⟩
abbrev S1x4096 : Shape := ⟨2, ![1, 4096]⟩
abbrev S4096x4096 : Shape := ⟨2, ![4096, 4096]⟩
abbrev S1x1536 : Shape := ⟨2, ![1, 1536]⟩
abbrev S1024 : Shape := ⟨1, ![1024]⟩
abbrev S1024x1536 : Shape := ⟨2, ![1024, 1536]⟩
abbrev S4096x1536 : Shape := ⟨2, ![4096, 1536]⟩
abbrev S1536 : Shape := ⟨1, ![1536]⟩
abbrev S512x4096 : Shape := ⟨2, ![512, 4096]⟩
abbrev S128x4096 : Shape := ⟨2, ![128, 4096]⟩

abbrev nBuf : Space → Nat
  | .hbm => 484
  | .vmem => 0
  | .smem => 0
  | _ => 0

abbrev hbmTy0_0 (i : Nat) : BufTy := match i % 128 with
  | 0 => ⟨S4096x1024, .f32⟩
  | 1 => ⟨S4096x1024, .f32⟩
  | 2 => ⟨S4096x512, .f32⟩
  | 3 => ⟨S4096x512, .f32⟩
  | 4 => ⟨S4096x512, .f32⟩
  | 5 => ⟨S4096x512, .bf16⟩
  | 6 => ⟨S1x1024, .f32⟩
  | 7 => ⟨S1536x1024, .bf16⟩
  | 8 => ⟨S32x512, .f32⟩
  | 9 => ⟨S1x512, .f32⟩
  | 10 => ⟨S1x512, .f32⟩
  | 11 => ⟨S4x128x128, .bf16⟩
  | 12 => ⟨S1x512, .f32⟩
  | 13 => ⟨S1024x1024, .bf16⟩
  | 14 => ⟨S4096x512, .f32⟩
  | 15 => ⟨S1536x1024, .f32⟩
  | 16 => ⟨S4x128x128, .f32⟩
  | 17 => ⟨S1024x1024, .f32⟩
  | 18 => ⟨S512, .f32⟩
  | 19 => ⟨S512, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S4096x512, .f32⟩
  | 27 => ⟨S4096x512, .f32⟩
  | 28 => ⟨S4096x512, .f32⟩
  | 29 => ⟨S_, .f32⟩
  | 30 => ⟨S4096x512, .f32⟩
  | 31 => ⟨S4096x512, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S4096x512, .f32⟩
  | 39 => ⟨S4096x512, .f32⟩
  | 40 => ⟨S_, .f32⟩
  | 41 => ⟨S4096x1, .f32⟩
  | 42 => ⟨S4096x1, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S4096x512, .f32⟩
  | 49 => ⟨S4096x512, .f32⟩
  | 50 => ⟨S1x512, .f32⟩
  | 51 => ⟨S4096x512, .f32⟩
  | 52 => ⟨S4096x512, .f32⟩
  | 53 => ⟨S1x512, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S4096x512, .f32⟩
  | 68 => ⟨S4096x512, .f32⟩
  | 69 => ⟨S4096x128, .f32⟩
  | 70 => ⟨S1x128x128, .f32⟩
  | 71 => ⟨S128x128, .f32⟩
  | 72 => ⟨S4096x128, .f32⟩
  | 73 => ⟨S4096x128, .f32⟩
  | 74 => ⟨S1x128x128, .f32⟩
  | 75 => ⟨S128x128, .f32⟩
  | 76 => ⟨S4096x128, .f32⟩
  | 77 => ⟨S4096x128, .f32⟩
  | 78 => ⟨S1x128x128, .f32⟩
  | 79 => ⟨S128x128, .f32⟩
  | 80 => ⟨S4096x128, .f32⟩
  | 81 => ⟨S4096x128, .f32⟩
  | 82 => ⟨S1x128x128, .f32⟩
  | 83 => ⟨S128x128, .f32⟩
  | 84 => ⟨S4096x128, .f32⟩
  | 85 => ⟨S4096x512, .f32⟩
  | 86 => ⟨S512, .f32⟩
  | 87 => ⟨S1x512, .f32⟩
  | 88 => ⟨S4096x512, .f32⟩
  | 89 => ⟨S4096x512, .f32⟩
  | 90 => ⟨S_, .f32⟩
  | 91 => ⟨S4096x1024, .f32⟩
  | 92 => ⟨S4096x1024, .f32⟩
  | 93 => ⟨S4096x1024, .f32⟩
  | 94 => ⟨S_, .f32⟩
  | 95 => ⟨S1x512, .f32⟩
  | 96 => ⟨S4096x512, .f32⟩
  | 97 => ⟨S4096x512, .f32⟩
  | 98 => ⟨S_, .f32⟩
  | 99 => ⟨S4096x512, .f32⟩
  | 100 => ⟨S4096x512, .f32⟩
  | 101 => ⟨S_, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S4096x512, .f32⟩
  | 108 => ⟨S4096x512, .f32⟩
  | 109 => ⟨S31, .i32⟩
  | 110 => ⟨S31x1x1, .i32⟩
  | 111 => ⟨S4096, .i32⟩
  | 112 => ⟨S4096x1, .i32⟩
  | 113 => ⟨S1x4096x1, .i32⟩
  | 114 => ⟨S31x4096x1, .i32⟩
  | 115 => ⟨S31x4096x1, .i32⟩
  | 116 => ⟨S31x4096x1, .i32⟩
  | 117 => ⟨S_, .i32⟩
  | 118 => ⟨S4096, .i32⟩
  | 119 => ⟨S4096, .i32⟩
  | 120 => ⟨S1x1x4096, .i32⟩
  | 121 => ⟨S31x4096x4096, .i32⟩
  | 122 => ⟨S31x4096x4096, .i32⟩
  | 123 => ⟨S31x4096x4096, .i1⟩
  | 124 => ⟨S31x4096x4096, .f32⟩
  | 125 => ⟨S31x512, .f32⟩
  | 126 => ⟨S31x1x512, .f32⟩
  | 127 => ⟨S31x4096x512, .f32⟩
  | _ => ⟨S4096x1024, .f32⟩

abbrev hbmTy0_1 (i : Nat) : BufTy := match i % 128 with
  | 0 => ⟨S31x4096x512, .f32⟩
  | 1 => ⟨S31x4096x512, .f32⟩
  | 2 => ⟨S_, .f32⟩
  | 3 => ⟨S4096x512, .f32⟩
  | 4 => ⟨S512, .f32⟩
  | 5 => ⟨S1x512, .f32⟩
  | 6 => ⟨S4096x512, .f32⟩
  | 7 => ⟨S4096x512, .f32⟩
  | 8 => ⟨S_, .f32⟩
  | 9 => ⟨S4096x512, .f32⟩
  | 10 => ⟨S4096, .i32⟩
  | 11 => ⟨S4096x128, .f32⟩
  | 12 => ⟨S4096x1, .i32⟩
  | 13 => ⟨S1x4096, .i32⟩
  | 14 => ⟨S4096x4096, .i32⟩
  | 15 => ⟨S4096x4096, .i32⟩
  | 16 => ⟨S4096x4096, .i1⟩
  | 17 => ⟨S4096x1, .i32⟩
  | 18 => ⟨S_, .i32⟩
  | 19 => ⟨S4096, .i32⟩
  | 20 => ⟨S4096, .i32⟩
  | 21 => ⟨S1x4096, .i32⟩
  | 22 => ⟨S4096x4096, .i32⟩
  | 23 => ⟨S4096x4096, .i32⟩
  | 24 => ⟨S4096x4096, .i1⟩
  | 25 => ⟨S4096x4096, .i1⟩
  | 26 => ⟨S4096x4096, .f32⟩
  | 27 => ⟨S_, .i32⟩
  | 28 => ⟨S4096, .i32⟩
  | 29 => ⟨S4096, .i32⟩
  | 30 => ⟨S_, .i32⟩
  | 31 => ⟨S4096, .i32⟩
  | 32 => ⟨S4096, .i32⟩
  | 33 => ⟨S4096, .f32⟩
  | 34 => ⟨S4096x1, .f32⟩
  | 35 => ⟨S4096x128, .f32⟩
  | 36 => ⟨S4096x128, .f32⟩
  | 37 => ⟨S4096x128, .f32⟩
  | 38 => ⟨S4096x128, .f32⟩
  | 39 => ⟨S4096x128, .f32⟩
  | 40 => ⟨S4096x1, .i32⟩
  | 41 => ⟨S1x4096, .i32⟩
  | 42 => ⟨S4096x4096, .i32⟩
  | 43 => ⟨S4096x4096, .i32⟩
  | 44 => ⟨S4096x4096, .i1⟩
  | 45 => ⟨S4096x1, .i32⟩
  | 46 => ⟨S_, .i32⟩
  | 47 => ⟨S4096, .i32⟩
  | 48 => ⟨S4096, .i32⟩
  | 49 => ⟨S1x4096, .i32⟩
  | 50 => ⟨S4096x4096, .i32⟩
  | 51 => ⟨S4096x4096, .i32⟩
  | 52 => ⟨S4096x4096, .i1⟩
  | 53 => ⟨S4096x4096, .i1⟩
  | 54 => ⟨S4096x4096, .f32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S4096, .f32⟩
  | 62 => ⟨S4096x1, .f32⟩
  | 63 => ⟨S4096x128, .f32⟩
  | 64 => ⟨S4096x128, .f32⟩
  | 65 => ⟨S4096x128, .f32⟩
  | 66 => ⟨S4096x128, .f32⟩
  | 67 => ⟨S4096x128, .f32⟩
  | 68 => ⟨S4096x1, .i32⟩
  | 69 => ⟨S1x4096, .i32⟩
  | 70 => ⟨S4096x4096, .i32⟩
  | 71 => ⟨S4096x4096, .i32⟩
  | 72 => ⟨S4096x4096, .i1⟩
  | 73 => ⟨S4096x1, .i32⟩
  | 74 => ⟨S_, .i32⟩
  | 75 => ⟨S4096, .i32⟩
  | 76 => ⟨S4096, .i32⟩
  | 77 => ⟨S1x4096, .i32⟩
  | 78 => ⟨S4096x4096, .i32⟩
  | 79 => ⟨S4096x4096, .i32⟩
  | 80 => ⟨S4096x4096, .i1⟩
  | 81 => ⟨S4096x4096, .i1⟩
  | 82 => ⟨S4096x4096, .f32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S4096, .f32⟩
  | 90 => ⟨S4096x1, .f32⟩
  | 91 => ⟨S4096x128, .f32⟩
  | 92 => ⟨S4096x128, .f32⟩
  | 93 => ⟨S4096x128, .f32⟩
  | 94 => ⟨S4096x128, .f32⟩
  | 95 => ⟨S4096x128, .f32⟩
  | 96 => ⟨S4096x1, .i32⟩
  | 97 => ⟨S1x4096, .i32⟩
  | 98 => ⟨S4096x4096, .i32⟩
  | 99 => ⟨S4096x4096, .i32⟩
  | 100 => ⟨S4096x4096, .i1⟩
  | 101 => ⟨S4096x1, .i32⟩
  | 102 => ⟨S_, .i32⟩
  | 103 => ⟨S4096, .i32⟩
  | 104 => ⟨S4096, .i32⟩
  | 105 => ⟨S1x4096, .i32⟩
  | 106 => ⟨S4096x4096, .i32⟩
  | 107 => ⟨S4096x4096, .i32⟩
  | 108 => ⟨S4096x4096, .i1⟩
  | 109 => ⟨S4096x4096, .i1⟩
  | 110 => ⟨S4096x4096, .f32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S4096, .f32⟩
  | 118 => ⟨S4096x1, .f32⟩
  | 119 => ⟨S4096x128, .f32⟩
  | 120 => ⟨S4096x128, .f32⟩
  | 121 => ⟨S4096x128, .f32⟩
  | 122 => ⟨S4096x128, .f32⟩
  | 123 => ⟨S4096x512, .f32⟩
  | 124 => ⟨S_, .f32⟩
  | 125 => ⟨S1x1536, .f32⟩
  | 126 => ⟨S1024, .f32⟩
  | 127 => ⟨S4096x1024, .f32⟩
  | _ => ⟨S4096x1024, .f32⟩

abbrev hbmTy0_2 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096x1, .f32⟩
  | 8 => ⟨S4096x1, .f32⟩
  | 9 => ⟨S4096x1, .f32⟩
  | 10 => ⟨S4096x1, .f32⟩
  | 11 => ⟨S_, .f32⟩
  | 12 => ⟨S4096x1, .f32⟩
  | 13 => ⟨S4096x1, .f32⟩
  | 14 => ⟨S4096x1024, .f32⟩
  | 15 => ⟨S4096x1024, .f32⟩
  | 16 => ⟨S1x1024, .f32⟩
  | 17 => ⟨S4096x1024, .f32⟩
  | 18 => ⟨S4096x1024, .f32⟩
  | 19 => ⟨S1024x1536, .f32⟩
  | 20 => ⟨S4096x1536, .f32⟩
  | 21 => ⟨S1536, .f32⟩
  | 22 => ⟨S1x1536, .f32⟩
  | 23 => ⟨S4096x1536, .f32⟩
  | 24 => ⟨S4096x1536, .f32⟩
  | 25 => ⟨S4096x1024, .f32⟩
  | 26 => ⟨S4096x1024, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S_, .f32⟩
  | 33 => ⟨S512, .f32⟩
  | 34 => ⟨S1x512, .f32⟩
  | 35 => ⟨S_, .f32⟩
  | 36 => ⟨S512, .f32⟩
  | 37 => ⟨S4096x512, .f32⟩
  | 38 => ⟨S_, .f32⟩
  | 39 => ⟨S512, .f32⟩
  | 40 => ⟨S1x512, .f32⟩
  | 41 => ⟨S4096x512, .f32⟩
  | 42 => ⟨S4096x512, .f32⟩
  | 43 => ⟨S_, .f32⟩
  | 44 => ⟨S512, .f32⟩
  | 45 => ⟨S4096x512, .f32⟩
  | 46 => ⟨S_, .f32⟩
  | 47 => ⟨S4096, .f32⟩
  | 48 => ⟨S4096x1, .f32⟩
  | 49 => ⟨S4096x512, .f32⟩
  | 50 => ⟨S4096x512, .f32⟩
  | 51 => ⟨S4096x1, .f32⟩
  | 52 => ⟨S4096x512, .f32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S_, .f32⟩
  | 60 => ⟨S4096, .f32⟩
  | 61 => ⟨S4096x512, .f32⟩
  | 62 => ⟨S4096x512, .f32⟩
  | 63 => ⟨S4096x512, .f32⟩
  | 64 => ⟨S_, .f32⟩
  | 65 => ⟨S4096, .f32⟩
  | 66 => ⟨S4096x1, .f32⟩
  | 67 => ⟨S4096x512, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096, .f32⟩
  | 74 => ⟨S4096x512, .f32⟩
  | 75 => ⟨S4096x512, .f32⟩
  | 76 => ⟨S1x512, .f32⟩
  | 77 => ⟨S1x512, .f32⟩
  | 78 => ⟨S_, .f32⟩
  | 79 => ⟨S512, .f32⟩
  | 80 => ⟨S1x512, .f32⟩
  | 81 => ⟨S_, .f32⟩
  | 82 => ⟨S512, .f32⟩
  | 83 => ⟨S1x512, .f32⟩
  | 84 => ⟨S31x4096x512, .f32⟩
  | 85 => ⟨S31x4096x512, .f32⟩
  | 86 => ⟨S31x4096x512, .f32⟩
  | 87 => ⟨S31x4096x512, .f32⟩
  | 88 => ⟨S_, .f32⟩
  | 89 => ⟨S31x512, .f32⟩
  | 90 => ⟨S31x1x512, .f32⟩
  | 91 => ⟨S512x4096, .f32⟩
  | 92 => ⟨S4096x512, .f32⟩
  | 93 => ⟨S_, .f32⟩
  | 94 => ⟨S31x512, .f32⟩
  | 95 => ⟨S_, .f32⟩
  | 96 => ⟨S32x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S_, .f32⟩
  | 103 => ⟨S512, .f32⟩
  | 104 => ⟨S1x512, .f32⟩
  | 105 => ⟨S4096x512, .f32⟩
  | 106 => ⟨S4096x512, .f32⟩
  | 107 => ⟨S_, .f32⟩
  | 108 => ⟨S512, .f32⟩
  | 109 => ⟨S1x512, .f32⟩
  | 110 => ⟨S4096x128, .f32⟩
  | 111 => ⟨S4096x128, .f32⟩
  | 112 => ⟨S4096x128, .f32⟩
  | 113 => ⟨S4096x128, .f32⟩
  | 114 => ⟨S128x128, .f32⟩
  | 115 => ⟨S128x128, .f32⟩
  | 116 => ⟨S4096x128, .f32⟩
  | 117 => ⟨S1x128x128, .f32⟩
  | 118 => ⟨S_, .f32⟩
  | 119 => ⟨S4x128x128, .f32⟩
  | 120 => ⟨S_, .f32⟩
  | 121 => ⟨S4096x512, .f32⟩
  | 122 => ⟨S128x128, .f32⟩
  | 123 => ⟨S128x128, .f32⟩
  | 124 => ⟨S4096x128, .f32⟩
  | 125 => ⟨S1x128x128, .f32⟩
  | 126 => ⟨S_, .f32⟩
  | 127 => ⟨S4x128x128, .f32⟩
  | _ => ⟨S4096x1024, .f32⟩

abbrev hbmTy0_3 (i : Nat) : BufTy := match i % 128 with
  | 0 => ⟨S4x128x128, .f32⟩
  | 1 => ⟨S_, .f32⟩
  | 2 => ⟨S4096x512, .f32⟩
  | 3 => ⟨S4096x512, .f32⟩
  | 4 => ⟨S128x128, .f32⟩
  | 5 => ⟨S128x128, .f32⟩
  | 6 => ⟨S4096x128, .f32⟩
  | 7 => ⟨S1x128x128, .f32⟩
  | 8 => ⟨S_, .f32⟩
  | 9 => ⟨S4x128x128, .f32⟩
  | 10 => ⟨S4x128x128, .f32⟩
  | 11 => ⟨S_, .f32⟩
  | 12 => ⟨S4096x512, .f32⟩
  | 13 => ⟨S4096x512, .f32⟩
  | 14 => ⟨S128x128, .f32⟩
  | 15 => ⟨S128x128, .f32⟩
  | 16 => ⟨S4096x128, .f32⟩
  | 17 => ⟨S1x128x128, .f32⟩
  | 18 => ⟨S_, .f32⟩
  | 19 => ⟨S4x128x128, .f32⟩
  | 20 => ⟨S4x128x128, .f32⟩
  | 21 => ⟨S_, .f32⟩
  | 22 => ⟨S4096x512, .f32⟩
  | 23 => ⟨S4096x512, .f32⟩
  | 24 => ⟨S4096x128, .f32⟩
  | 25 => ⟨S4096x128, .f32⟩
  | 26 => ⟨S4096x128, .f32⟩
  | 27 => ⟨S4096x128, .f32⟩
  | 28 => ⟨S4096x128, .f32⟩
  | 29 => ⟨S4096x128, .f32⟩
  | 30 => ⟨S4096x128, .f32⟩
  | 31 => ⟨S128x4096, .f32⟩
  | 32 => ⟨S4096x128, .f32⟩
  | 33 => ⟨S4096x128, .f32⟩
  | 34 => ⟨S_, .f32⟩
  | 35 => ⟨S4096x512, .f32⟩
  | 36 => ⟨S4096x128, .f32⟩
  | 37 => ⟨S4096x128, .f32⟩
  | 38 => ⟨S4096x128, .f32⟩
  | 39 => ⟨S128x4096, .f32⟩
  | 40 => ⟨S4096x128, .f32⟩
  | 41 => ⟨S4096x128, .f32⟩
  | 42 => ⟨S_, .f32⟩
  | 43 => ⟨S4096x512, .f32⟩
  | 44 => ⟨S4096x512, .f32⟩
  | 45 => ⟨S4096x128, .f32⟩
  | 46 => ⟨S4096x128, .f32⟩
  | 47 => ⟨S4096x128, .f32⟩
  | 48 => ⟨S128x4096, .f32⟩
  | 49 => ⟨S4096x128, .f32⟩
  | 50 => ⟨S4096x128, .f32⟩
  | 51 => ⟨S_, .f32⟩
  | 52 => ⟨S4096x512, .f32⟩
  | 53 => ⟨S4096x512, .f32⟩
  | 54 => ⟨S4096x128, .f32⟩
  | 55 => ⟨S4096x128, .f32⟩
  | 56 => ⟨S4096x128, .f32⟩
  | 57 => ⟨S128x4096, .f32⟩
  | 58 => ⟨S4096x128, .f32⟩
  | 59 => ⟨S4096x128, .f32⟩
  | 60 => ⟨S_, .f32⟩
  | 61 => ⟨S4096x512, .f32⟩
  | 62 => ⟨S4096x512, .f32⟩
  | 63 => ⟨S4096x1536, .f32⟩
  | 64 => ⟨S_, .f32⟩
  | 65 => ⟨S1536, .f32⟩
  | 66 => ⟨S1x1536, .f32⟩
  | 67 => ⟨S_, .f32⟩
  | 68 => ⟨S1536, .f32⟩
  | 69 => ⟨S1x1536, .f32⟩
  | 70 => ⟨S4096x1024, .f32⟩
  | 71 => ⟨S4096x1024, .f32⟩
  | 72 => ⟨S_, .f32⟩
  | 73 => ⟨S1024, .f32⟩
  | 74 => ⟨S1x1024, .f32⟩
  | 75 => ⟨S4096x1024, .f32⟩
  | 76 => ⟨S4096x1024, .f32⟩
  | 77 => ⟨S_, .f32⟩
  | 78 => ⟨S1024, .f32⟩
  | 79 => ⟨S4096x1024, .f32⟩
  | 80 => ⟨S_, .f32⟩
  | 81 => ⟨S4096, .f32⟩
  | 82 => ⟨S4096x1, .f32⟩
  | 83 => ⟨S4096x1024, .f32⟩
  | 84 => ⟨S4096x1024, .f32⟩
  | 85 => ⟨S4096x1, .f32⟩
  | 86 => ⟨S_, .f32⟩
  | 87 => ⟨S4096x1, .f32⟩
  | 88 => ⟨S4096x1, .f32⟩
  | 89 => ⟨S_, .f32⟩
  | 90 => ⟨S4096, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S1x1024, .f32⟩
  | 97 => ⟨S4096x1024, .f32⟩
  | 98 => ⟨S4096x1536, .bf16⟩
  | 99 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v35_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v35_1 : Ref sig .tc := ⟨.hbm, 67, rfl⟩
abbrev main_v35_0 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_6 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_7 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_8 : Ref sig .tc := ⟨.hbm, 98, rfl⟩
abbrev main_v63 : Ref sig .tc := ⟨.hbm, 99, rfl⟩
abbrev main_v64 : Ref sig .tc := ⟨.hbm, 100, rfl⟩
abbrev main_cst_9 : Ref sig .tc := ⟨.hbm, 101, rfl⟩
abbrev main_v65 : Ref sig .tc := ⟨.hbm, 102, rfl⟩
abbrev main_v66 : Ref sig .tc := ⟨.hbm, 103, rfl⟩
abbrev main_cst_10 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_11 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_12 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_c_13 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_14 : Ref sig .tc := ⟨.hbm, 155, rfl⟩
abbrev main_v113 : Ref sig .tc := ⟨.hbm, 156, rfl⟩
abbrev main_v114 : Ref sig .tc := ⟨.hbm, 157, rfl⟩
abbrev main_c_15 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_c_16 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_c_17 : Ref sig .tc := ⟨.hbm, 183, rfl⟩
abbrev main_v138 : Ref sig .tc := ⟨.hbm, 184, rfl⟩
abbrev main_v139 : Ref sig .tc := ⟨.hbm, 185, rfl⟩
abbrev main_c_18 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_c_19 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_c_20 : Ref sig .tc := ⟨.hbm, 211, rfl⟩
abbrev main_v163 : Ref sig .tc := ⟨.hbm, 212, rfl⟩
abbrev main_v164 : Ref sig .tc := ⟨.hbm, 213, rfl⟩
abbrev main_c_21 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_c_22 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_c_23 : Ref sig .tc := ⟨.hbm, 239, rfl⟩
abbrev main_v188 : Ref sig .tc := ⟨.hbm, 240, rfl⟩
abbrev main_v189 : Ref sig .tc := ⟨.hbm, 241, rfl⟩
abbrev main_c_24 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_cst_25 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_cst_26 : Ref sig .tc := ⟨.hbm, 256, rfl⟩
abbrev main_v202 : Ref sig .tc := ⟨.hbm, 257, rfl⟩
abbrev main_v203 : Ref sig .tc := ⟨.hbm, 258, rfl⟩
abbrev main_cst_27 : Ref sig .tc := ⟨.hbm, 259, rfl⟩
abbrev main_v204 : Ref sig .tc := ⟨.hbm, 260, rfl⟩
abbrev main_v205 : Ref sig .tc := ⟨.hbm, 261, rfl⟩
abbrev main_cst_28 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_cst_29 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_call1_v0 : Ref sig .tc := ⟨.hbm, 284, rfl⟩
abbrev main_call1_v1 : Ref sig .tc := ⟨.hbm, 285, rfl⟩
abbrev main_call1_v2 : Ref sig .tc := ⟨.hbm, 286, rfl⟩
abbrev main_v226 : Ref sig .tc := ⟨.hbm, 287, rfl⟩
abbrev main_cst_30 : Ref sig .tc := ⟨.hbm, 288, rfl⟩
abbrev main_v227 : Ref sig .tc := ⟨.hbm, 289, rfl⟩
abbrev main_v228 : Ref sig .tc := ⟨.hbm, 290, rfl⟩
abbrev main_cst_31 : Ref sig .tc := ⟨.hbm, 291, rfl⟩
abbrev main_v229 : Ref sig .tc := ⟨.hbm, 292, rfl⟩
abbrev main_v230 : Ref sig .tc := ⟨.hbm, 293, rfl⟩
abbrev main_cst_32 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_cst_33 : Ref sig .tc := ⟨.hbm, 299, rfl⟩
abbrev main_v235 : Ref sig .tc := ⟨.hbm, 300, rfl⟩
abbrev main_v236 : Ref sig .tc := ⟨.hbm, 301, rfl⟩
abbrev main_cst_34 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_cst_35 : Ref sig .tc := ⟨.hbm, 309, rfl⟩
abbrev main_v243 : Ref sig .tc := ⟨.hbm, 310, rfl⟩
abbrev main_v244 : Ref sig .tc := ⟨.hbm, 311, rfl⟩
abbrev main_cst_36 : Ref sig .tc := ⟨.hbm, 312, rfl⟩
abbrev main_v245 : Ref sig .tc := ⟨.hbm, 313, rfl⟩
abbrev main_v246 : Ref sig .tc := ⟨.hbm, 314, rfl⟩
abbrev main_cst_37 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_cst_38 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_cst_39 : Ref sig .tc := ⟨.hbm, 325, rfl⟩
abbrev main_v255 : Ref sig .tc := ⟨.hbm, 326, rfl⟩
abbrev main_v256 : Ref sig .tc := ⟨.hbm, 327, rfl⟩
abbrev main_cst_40 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_cst_41 : Ref sig .tc := ⟨.hbm, 334, rfl⟩
abbrev main_v262 : Ref sig .tc := ⟨.hbm, 335, rfl⟩
abbrev main_v263 : Ref sig .tc := ⟨.hbm, 336, rfl⟩
abbrev main_cst_42 : Ref sig .tc := ⟨.hbm, 337, rfl⟩
abbrev main_v264 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_cst_43 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_cst_44 : Ref sig .tc := ⟨.hbm, 349, rfl⟩
abbrev main_v274 : Ref sig .tc := ⟨.hbm, 350, rfl⟩
abbrev main_cst_45 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_cst_46 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_cst_47 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_v290 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_cst_48 : Ref sig .tc := ⟨.hbm, 374, rfl⟩
abbrev main_v295 : Ref sig .tc := ⟨.hbm, 375, rfl⟩
abbrev main_cst_49 : Ref sig .tc := ⟨.hbm, 376, rfl⟩
abbrev main_v296 : Ref sig .tc := ⟨.hbm, 377, rfl⟩
abbrev main_v297 : Ref sig .tc := ⟨.hbm, 378, rfl⟩
abbrev main_v298 : Ref sig .tc := ⟨.hbm, 379, rfl⟩
abbrev main_v299 : Ref sig .tc := ⟨.hbm, 380, rfl⟩
abbrev main_v300 : Ref sig .tc := ⟨.hbm, 381, rfl⟩
abbrev main_cst_50 : Ref sig .tc := ⟨.hbm, 382, rfl⟩
abbrev main_v301 : Ref sig .tc := ⟨.hbm, 383, rfl⟩
abbrev main_v302 : Ref sig .tc := ⟨.hbm, 384, rfl⟩
abbrev main_cst_51 : Ref sig .tc := ⟨.hbm, 385, rfl⟩
abbrev main_v303 : Ref sig .tc := ⟨.hbm, 386, rfl⟩
abbrev main_v304 : Ref sig .tc := ⟨.hbm, 387, rfl⟩
abbrev main_v305 : Ref sig .tc := ⟨.hbm, 388, rfl⟩
abbrev main_v306 : Ref sig .tc := ⟨.hbm, 389, rfl⟩
abbrev main_v307 : Ref sig .tc := ⟨.hbm, 390, rfl⟩
abbrev main_v308 : Ref sig .tc := ⟨.hbm, 391, rfl⟩
abbrev main_cst_52 : Ref sig .tc := ⟨.hbm, 392, rfl⟩
abbrev main_v309 : Ref sig .tc := ⟨.hbm, 393, rfl⟩
abbrev main_v310 : Ref sig .tc := ⟨.hbm, 394, rfl⟩
abbrev main_cst_53 : Ref sig .tc := ⟨.hbm, 395, rfl⟩
abbrev main_v311 : Ref sig .tc := ⟨.hbm, 396, rfl⟩
abbrev main_v312 : Ref sig .tc := ⟨.hbm, 397, rfl⟩
abbrev main_v313 : Ref sig .tc := ⟨.hbm, 398, rfl⟩
abbrev main_v314 : Ref sig .tc := ⟨.hbm, 399, rfl⟩
abbrev main_v315 : Ref sig .tc := ⟨.hbm, 400, rfl⟩
abbrev main_v316 : Ref sig .tc := ⟨.hbm, 401, rfl⟩
abbrev main_cst_54 : Ref sig .tc := ⟨.hbm, 402, rfl⟩
abbrev main_v317 : Ref sig .tc := ⟨.hbm, 403, rfl⟩
abbrev main_v318 : Ref sig .tc := ⟨.hbm, 404, rfl⟩
abbrev main_cst_55 : Ref sig .tc := ⟨.hbm, 405, rfl⟩
abbrev main_v319 : Ref sig .tc := ⟨.hbm, 406, rfl⟩
abbrev main_v320 : Ref sig .tc := ⟨.hbm, 407, rfl⟩
abbrev main_v321 : Ref sig .tc := ⟨.hbm, 408, rfl⟩
abbrev main_v322 : Ref sig .tc := ⟨.hbm, 409, rfl⟩
abbrev main_v323 : Ref sig .tc := ⟨.hbm, 410, rfl⟩
abbrev main_v324 : Ref sig .tc := ⟨.hbm, 411, rfl⟩
abbrev main_v325 : Ref sig .tc := ⟨.hbm, 412, rfl⟩
abbrev main_v326 : Ref sig .tc := ⟨.hbm, 413, rfl⟩
abbrev main_v327 : Ref sig .tc := ⟨.hbm, 414, rfl⟩
abbrev main_v328 : Ref sig .tc := ⟨.hbm, 415, rfl⟩
abbrev main_v329 : Ref sig .tc := ⟨.hbm, 416, rfl⟩
abbrev main_v330 : Ref sig .tc := ⟨.hbm, 417, rfl⟩
abbrev main_cst_56 : Ref sig .tc := ⟨.hbm, 418, rfl⟩
abbrev main_v331 : Ref sig .tc := ⟨.hbm, 419, rfl⟩
abbrev main_v332 : Ref sig .tc := ⟨.hbm, 420, rfl⟩
abbrev main_v333 : Ref sig .tc := ⟨.hbm, 421, rfl⟩
abbrev main_v334 : Ref sig .tc := ⟨.hbm, 422, rfl⟩
abbrev main_v335 : Ref sig .tc := ⟨.hbm, 423, rfl⟩
abbrev main_v336 : Ref sig .tc := ⟨.hbm, 424, rfl⟩
abbrev main_v337 : Ref sig .tc := ⟨.hbm, 425, rfl⟩
abbrev main_cst_57 : Ref sig .tc := ⟨.hbm, 426, rfl⟩
abbrev main_v338 : Ref sig .tc := ⟨.hbm, 427, rfl⟩
abbrev main_v339 : Ref sig .tc := ⟨.hbm, 428, rfl⟩
abbrev main_v340 : Ref sig .tc := ⟨.hbm, 429, rfl⟩
abbrev main_v341 : Ref sig .tc := ⟨.hbm, 430, rfl⟩
abbrev main_v342 : Ref sig .tc := ⟨.hbm, 431, rfl⟩
abbrev main_v343 : Ref sig .tc := ⟨.hbm, 432, rfl⟩
abbrev main_v344 : Ref sig .tc := ⟨.hbm, 433, rfl⟩
abbrev main_v345 : Ref sig .tc := ⟨.hbm, 434, rfl⟩
abbrev main_cst_58 : Ref sig .tc := ⟨.hbm, 435, rfl⟩
abbrev main_v346 : Ref sig .tc := ⟨.hbm, 436, rfl⟩
abbrev main_v347 : Ref sig .tc := ⟨.hbm, 437, rfl⟩
abbrev main_v348 : Ref sig .tc := ⟨.hbm, 438, rfl⟩
abbrev main_v349 : Ref sig .tc := ⟨.hbm, 439, rfl⟩
abbrev main_v350 : Ref sig .tc := ⟨.hbm, 440, rfl⟩
abbrev main_v351 : Ref sig .tc := ⟨.hbm, 441, rfl⟩
abbrev main_v352 : Ref sig .tc := ⟨.hbm, 442, rfl⟩
abbrev main_v353 : Ref sig .tc := ⟨.hbm, 443, rfl⟩
abbrev main_cst_59 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_cst_60 : Ref sig .tc := ⟨.hbm, 448, rfl⟩
abbrev main_v357 : Ref sig .tc := ⟨.hbm, 449, rfl⟩
abbrev main_v358 : Ref sig .tc := ⟨.hbm, 450, rfl⟩
abbrev main_cst_61 : Ref sig .tc := ⟨.hbm, 451, rfl⟩
abbrev main_v359 : Ref sig .tc := ⟨.hbm, 452, rfl⟩
abbrev main_v360 : Ref sig .tc := ⟨.hbm, 453, rfl⟩
abbrev main_v361 : Ref sig .tc := ⟨.hbm, 454, rfl⟩
abbrev main_v362 : Ref sig .tc := ⟨.hbm, 455, rfl⟩
abbrev main_cst_62 : Ref sig .tc := ⟨.hbm, 456, rfl⟩
abbrev main_v363 : Ref sig .tc := ⟨.hbm, 457, rfl⟩
abbrev main_v364 : Ref sig .tc := ⟨.hbm, 458, rfl⟩
abbrev main_v365 : Ref sig .tc := ⟨.hbm, 459, rfl⟩
abbrev main_v366 : Ref sig .tc := ⟨.hbm, 460, rfl⟩
abbrev main_cst_63 : Ref sig .tc := ⟨.hbm, 461, rfl⟩
abbrev main_v367 : Ref sig .tc := ⟨.hbm, 462, rfl⟩
abbrev main_v368 : Ref sig .tc := ⟨.hbm, 463, rfl⟩
abbrev main_cst_64 : Ref sig .tc := ⟨.hbm, 464, rfl⟩
abbrev main_v369 : Ref sig .tc := ⟨.hbm, 465, rfl⟩
abbrev main_v370 : Ref sig .tc := ⟨.hbm, 466, rfl⟩
abbrev main_v371 : Ref sig .tc := ⟨.hbm, 467, rfl⟩
abbrev main_v372 : Ref sig .tc := ⟨.hbm, 468, rfl⟩
abbrev main_v373 : Ref sig .tc := ⟨.hbm, 469, rfl⟩
abbrev main_cst_65 : Ref sig .tc := ⟨.hbm, 470, rfl⟩
abbrev main_v374 : Ref sig .tc := ⟨.hbm, 471, rfl⟩
abbrev main_v375 : Ref sig .tc := ⟨.hbm, 472, rfl⟩
abbrev main_cst_66 : Ref sig .tc := ⟨.hbm, 473, rfl⟩
abbrev main_v376 : Ref sig .tc := ⟨.hbm, 474, rfl⟩
abbrev main_v377 : Ref sig .tc := ⟨.hbm, 475, rfl⟩
abbrev main_v378 : Ref sig .tc := ⟨.hbm, 476, rfl⟩
abbrev main_v379 : Ref sig .tc := ⟨.hbm, 477, rfl⟩
abbrev main_v380 : Ref sig .tc := ⟨.hbm, 478, rfl⟩
abbrev main_v381 : Ref sig .tc := ⟨.hbm, 479, rfl⟩
abbrev main_v382 : Ref sig .tc := ⟨.hbm, 480, rfl⟩
abbrev main_v383 : Ref sig .tc := ⟨.hbm, 481, rfl⟩
abbrev main_v384 : Ref sig .tc := ⟨.hbm, 482, rfl⟩
abbrev main_v385 : Ref sig .tc := ⟨.hbm, 483, rfl⟩

abbrev nD : Nat := 1
abbrev τ : Topo := Topo.v7x

variable {F : FTy → Type} [FloatOps F]
-- ==== Proof.Lift.lean ====
/- Real numbers inside the extended reals: the moves that carry an expression over finite entries to one real number, and the
   values of the literals that the two programs hold. -/
module

public import Idealize.ShloMosaic.PureOps.Ideal
public import Idealize.ShloMosaic.Lib.Pointwise

@[expose] public section

noncomputable section

namespace Cert.Lift

open Idealize.ShloMosaic

/-- A finite sum of real numbers is the same sum in the extended reals. -/
theorem coe_sum {ι : Type*} (s : Finset ι) (f : ι → ℝ) : ((∑ i ∈ s, f i : ℝ) : EReal) = ∑ i ∈ s, (f i : EReal) := by
  classical
  induction s using Finset.induction with
  | empty => simp
  | insert a s h ih => rw [Finset.sum_insert h, Finset.sum_insert h, EReal.coe_add, ih]

/-- The constant added under the root. -/
def eps : ℝ := 8796093 / 8796093022208

theorem eps_pos : 0 < eps := by norm_num [eps]

theorem lit_eps : Ideal.ofBits .f32 897988541#32 = ((eps : ℝ) : EReal) := by
  simp [Ideal.ofBits, Ideal.ieee, -EReal.coe_mul]; norm_num [eps]

theorem lit_1024 : Ideal.ofBits .f32 1149239296#32 = ((1024 : ℝ) : EReal) := by
  simp [Ideal.ofBits, Ideal.ieee, -EReal.coe_mul]; norm_num

theorem lit_half : Ideal.ofBits .f32 1056964608#32 = ((1 / 2 : ℝ) : EReal) := by
  simp [Ideal.ofBits, Ideal.ieee, -EReal.coe_mul]; norm_num

theorem lit_neg_half : Ideal.ofBits .f32 3204448256#32 = ((-(1 / 2) : ℝ) : EReal) := by
  simp [Ideal.ofBits, Ideal.ieee, -EReal.coe_mul]; norm_num

theorem lit_one : Ideal.ofBits .f32 1065353216#32 = ((1 : ℝ) : EReal) := by
  simp [Ideal.ofBits, Ideal.ieee, -EReal.coe_mul]; norm_num

theorem lit_two : Ideal.ofBits .f32 1073741824#32 = ((2 : ℝ) : EReal) := by
  simp [Ideal.ofBits, Ideal.ieee, -EReal.coe_mul]; norm_num

theorem lit_top : Ideal.ofBits .f32 2139095040#32 = (⊤ : EReal) := by
  simp [Ideal.ofBits, Ideal.ieee]

theorem div_1024 (r : ℝ) : Ideal.div (r : EReal) ((1024 : ℝ) : EReal) = ((r / 1024 : ℝ) : EReal) := by
  rw [Ideal.div_coe (by norm_num), ← EReal.coe_mul]; congr 1; ring

theorem div_pos_coe (r : ℝ) {s : ℝ} (h : 0 < s) : Ideal.div (r : EReal) ((s : ℝ) : EReal) = ((r / s : ℝ) : EReal) := by
  rw [Ideal.div_coe h.ne', ← EReal.coe_mul]; congr 1; ring

theorem rsqrt_pos {r : ℝ} (h : 0 < r) : Ideal.rsqrt (r : EReal) = (((√r)⁻¹ : ℝ) : EReal) := by
  rw [Ideal.rsqrt_coe, if_neg h.le.not_gt, if_neg h.ne']

end Cert.Lift
-- ==== Proof.Spec.lean ====
/- The feed-forward block of the training step over the real numbers, one token at a time: the forward pass, the loss and
   the gradients, written as formulas. Both programs are compared with these. -/
module

public import proofs.«01_k».proof.Proof.Lift

@[expose] public section

noncomputable section

namespace Cert.Spec

open Cert.Lift

/-- The parameters of the block: two gains and three weight matrices. -/
structure Params where
  gf : Fin 1024 → ℝ
  gl : Fin 1024 → ℝ
  wg : Fin 2816 → Fin 1024 → ℝ
  wu : Fin 2816 → Fin 1024 → ℝ
  wd : Fin 2816 → Fin 1024 → ℝ

/-- The mean square of a row, with the constant that keeps it positive. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg (x k)) (by norm_num)) eps_pos

/-- The inverse of a row's root mean square. -/
def rr (x : Fin 1024 → ℝ) : ℝ := (√(ms x))⁻¹

/-- A row divided by its root mean square. -/
def nrm (x : Fin 1024 → ℝ) (j : Fin 1024) : ℝ := x j * rr x

/-- The logistic function. -/
def sg (z : ℝ) : ℝ := (1 + Real.exp (-z))⁻¹

/-- The normalised row with its gain. -/
def hn (g x : Fin 1024 → ℝ) (j : Fin 1024) : ℝ := nrm x j * g j

/-- The product of a row with one row of a weight matrix. -/
def lin {n : ℕ} (w : Fin n → Fin 1024 → ℝ) (h : Fin 1024 → ℝ) (f : Fin n) : ℝ := ∑ k, h k * w f k

/-- The gated activation. -/
def actf (g u : ℝ) : ℝ := g * sg g * u

/-- The gradient of a root-mean-square normalisation, from the gradient of the normalised row. -/
def back (r : ℝ) (n d : Fin 1024 → ℝ) (j : Fin 1024) : ℝ := r * (d j - n j * ((∑ k, d k * n k) / 1024))

/-- The gradient of the gate, from the gradient of the activation. -/
def dgf (g u d : ℝ) : ℝ := d * u * (sg g * (1 + g * (1 - sg g)))

/-- The gradient of the other factor of the activation. -/
def duf (g d : ℝ) : ℝ := d * (g * sg g)

variable (p : Params) (x t : Fin 1024 → ℝ)

def gate : Fin 2816 → ℝ := lin p.wg (hn p.gf x)
def up : Fin 2816 → ℝ := lin p.wu (hn p.gf x)
def act (f : Fin 2816) : ℝ := actf (gate p x f) (up p x f)
/-- The row after the block. -/
def h2 (j : Fin 1024) : ℝ := x j + ∑ f, act p x f * p.wd f j
def diff (j : Fin 1024) : ℝ := nrm (h2 p x) j * p.gl j - t j
/-- One token's share of the loss. -/
def lossRow : ℝ := 1 / 2 * (∑ j, diff p x t j * diff p x t j) / 1024
/-- One token's share of the gradient of the last gain. -/
def dglRow (j : Fin 1024) : ℝ := diff p x t j / 1024 * nrm (h2 p x) j
def dh2 : Fin 1024 → ℝ := back (rr (h2 p x)) (nrm (h2 p x)) fun j => diff p x t j / 1024 * p.gl j
def dact : Fin 2816 → ℝ := lin p.wd (dh2 p x t)
def dgate (f : Fin 2816) : ℝ := dgf (gate p x f) (up p x f) (dact p x t f)
def dup (f : Fin 2816) : ℝ := duf (gate p x f) (dact p x t f)
/-- The gradient of the normalised row with its gain. -/
def dhn (j : Fin 1024) : ℝ := ∑ f, dgate p x t f * p.wg f j + ∑ f, dup p x t f * p.wu f j
/-- One token's share of the gradient of the first gain. -/
def dgfRow (j : Fin 1024) : ℝ := dhn p x t j * nrm x j
/-- The gradient of the block's input. -/
def dh1 (j : Fin 1024) : ℝ := dh2 p x t j + back (rr x) (nrm x) (fun j => dhn p x t j * p.gf j) j

end Cert.Spec
-- ==== Proof.Payloads.lean ====
/- What the kernel's operations compute, over real entries: one statement for each value that the body of the kernel names. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.Payloads

open Idealize.ShloMosaic Cert.KernelIdeal Cert.KernelIdeal.Gen Cert.Lift Cert.Spec

/-- A matrix of extended reals whose entries are the given real numbers. -/
def Is2 {a b : ℕ} (v : (⟨2, ![a, b]⟩ : Shape).Idx → EReal) (f : Fin a → Fin b → ℝ) : Prop :=
  ∀ i j, v (ix2 i j) = ((f i j : ℝ) : EReal)

theorem pay5 (xV : Vec Ideal S256x1024 .f32)
    {x : Fin 256 → Fin 1024 → ℝ}
    (hx : Is2 xV x) :
    Is2 (k0_pay5 (F := Ideal) xV) fun i j => rr (x i) := by
  intro i j
  simp only [Is2] at hx
  pointwise [k0_pay5]
  simp only [hx, ← EReal.coe_mul, ← EReal.coe_add, ← EReal.coe_sub, ← coe_sum, lit_1024, lit_eps, lit_half, lit_one, div_1024, Ideal.logistic_coe]
  exact rsqrt_pos (ms_pos (x i))

theorem pay6 (xV : Vec Ideal S256x1024 .f32)
    {x : Fin 256 → Fin 1024 → ℝ}
    (hx : Is2 xV x) :
    Is2 (k0_pay6 (F := Ideal) xV) fun i j => nrm (x i) j := by
  have u0 := pay5 xV hx
  intro i j
  simp only [Is2] at hx u0
  pointwise [k0_pay6]
  simp only [hx, u0, ← EReal.coe_mul, ← EReal.coe_add, ← EReal.coe_sub, ← coe_sum, lit_1024, lit_eps, lit_half, lit_one, div_1024, Ideal.logistic_coe]
  rfl

theorem pay7 (xV : Vec Ideal S256x1024 .f32) (gV : Vec Ideal S1x1024 .f32)
    {x : Fin 256 → Fin 1024 → ℝ} {g : Fin 1024 → ℝ}
    (hx : Is2 xV x) (hg : Is2 gV (fun _ j => g j)) :
    Is2 (k0_pay7 (F := Ideal) xV gV) fun i j => hn g (x i) j := by
  have u0 := pay6 xV hx
  intro i j
  simp only [Is2] at hx hg u0
  pointwise [k0_pay7]
  simp only [hx, hg, u0, ← EReal.coe_mul, ← EReal.coe_add, ← EReal.coe_sub, ← coe_sum, lit_1024, lit_eps, lit_half, lit_one, div_1024, Ideal.logistic_coe]
  rfl

theorem pay8 (xV : Vec Ideal S256x1024 .f32) (gV : Vec Ideal S1x1024 .f32) (wV : Vec Ideal S1024x1024 .bf16)
    {x : Fin 256 → Fin 1024 → ℝ} {g : Fin 1024 → ℝ} {w : Fin 1024 → Fin 1024 → ℝ}
    (hx : Is2 xV x) (hg : Is2 gV (fun _ j => g j)) (hw : Is2 wV w) :
    Is2 (k0_pay8 (F := Ideal) xV gV wV) fun i j => lin w (hn g (x i)) j := by
  have u0 := pay7 xV gV hx hg
  intro i j
  simp only [Is2] at hx hg hw u0
  pointwise [k0_pay8]
  simp only [hx, hg, hw, u0, ← EReal.coe_mul, ← EReal.coe_add, ← EReal.coe_sub, ← coe_sum, lit_1024, lit_eps, lit_half, lit_one, div_1024, Ideal.logistic_coe]
  rfl

theorem pay9 (xV : Vec Ideal S256x1024 .f32) (gV : Vec Ideal S1x1024 .f32) (wV : Vec Ideal S1024x1024 .bf16)
    {x : Fin 256 → Fin 1024 → ℝ} {g : Fin 1024 → ℝ} {w : Fin 1024 → Fin 1024 → ℝ}
    (hx : Is2 xV x) (hg : Is2 gV (fun _ j => g j)) (hw : Is2 wV w) :
    Is2 (k0_pay9 (F := Ideal) xV gV wV) fun i j => lin w (hn g (x i)) j := by
  have u0 := pay7 xV gV hx hg
  intro i j
  simp only [Is2] at hx hg hw u0
  pointwise [k0_pay9]
  simp only [hx, hg, hw, u0, ← EReal.coe_mul, ← EReal.coe_add, ← EReal.coe_sub, ← coe_sum, lit_1024, lit_eps, lit_half, lit_one, div_1024, Ideal.logistic_coe]
  rfl

theorem pay10 (xV : Vec Ideal S256x1024 .f32) (gV : Vec Ideal S1x1024 .f32) (wV : Vec Ideal S1024x1024 .bf16)
    {x : Fin 256 → Fin 1024 → ℝ} {g : Fin 1024 → ℝ} {w : Fin 1024 → Fin 1024 → ℝ}
    (hx : Is2 xV x) (hg : Is2 gV (fun _ j => g j)) (hw : Is2 wV w) :
    Is2 (k0_pay10 (F := Ideal) xV gV wV) fun i j => lin w (hn g (x i)) j := by
  have u0 := pay8 xV gV wV hx hg hw
  intro i j
  simp only [Is2] at hx hg hw u0
  pointwise [k0_pay10]
  simp only [hx, hg, hw, u0, ← EReal.coe_mul, ← EReal.coe_add, ← EReal.coe_sub, ← coe_sum, lit_1024, lit_eps, lit_half, lit_one, div_1024, Ideal.logistic_coe]

theorem pay11 (xV : Vec Ideal S256x1024 .f32) (gV : Vec Ideal S1x1024 .f32) (wV : Vec Ideal S1024x1024 .bf16)
    {x : Fin 256 → Fin 1024 → ℝ} {g : Fin 1024 → ℝ} {w : Fin 1024 → Fin 1024 → ℝ}
    (hx : Is2 xV x) (hg : Is2 gV (fun _ j => g j)) (hw : Is2 wV w) :
    Is2 (k0_pay11 (F := Ideal) xV gV wV) fun i j => lin w (hn g (x i)) j := by
  have u0 := pay9 xV gV wV hx hg hw
  intro i j
  simp only [Is2] at hx hg hw u0
  pointwise [k0_pay11]
  simp only [hx, hg, hw, u0, ← EReal.coe_mul, ← EReal.coe_add, ← EReal.coe_sub, ← coe_sum, lit_1024, lit_eps, lit_half, lit_one, div_1024, Ideal.logistic_coe]

theorem pay12 (xV : Vec Ideal S256x1024 .f32) (gV : Vec Ideal S1x1024 .f32) (wV : Vec Ideal S1024x1024 .bf16) (uV : Vec Ideal S1024x1024 .bf16)
    {x : Fin 256 → Fin 1024 → ℝ} {g : Fin 1024 → ℝ} {w : Fin 1024 → Fin 1024 → ℝ} {u : Fin 1024 → Fin 1024 → ℝ}
    (hx : Is2 xV x) (hg : Is2 gV (fun _ j => g j)) (hw : Is2 wV w) (hu : Is2 uV u) :
    Is2 (k0_pay12 (F := Ideal) xV gV wV uV) fun i j => actf (lin w (hn g (x i)) j) (lin u (hn g (x i)) j) := by
  have u0 := pay8 xV gV wV hx hg hw
  have u1 := pay9 xV gV uV hx hg hu
  intro i j
  simp only [Is2] at hx hg hw hu u0 u1
  pointwise [k0_pay12]
  simp only [hx, hg, hw, hu, u0, u1, ← EReal.coe_mul, ← EReal.coe_add, ← EReal.coe_sub, ← coe_sum, lit_1024, lit_eps, lit_half, lit_one, div_1024, Ideal.logistic_coe]
  rfl

theorem pay18 (xV : Vec Ideal S256x1024 .f32) (aV : Vec Ideal S256x1024 .bf16) (wV : Vec Ideal S1024x1024 .bf16)
    {x : Fin 256 → Fin 1024 → ℝ} {a : Fin 256 → Fin 1024 → ℝ} {w : Fin 1024 → Fin 1024 → ℝ}
    (hx : Is2 xV x) (ha : Is2 aV a) (hw : Is2 wV w) :
    Is2 (k0_pay18 (F := Ideal) xV aV wV) fun i j => x i j + ∑ f, a i f * w f j := by
  intro i j
  simp only [Is2] at hx ha hw
  pointwise [k0_pay18]
  simp only [hx, ha, hw, ← EReal.coe_mul, ← EReal.coe_add, ← EReal.coe_sub, ← coe_sum, lit_1024, lit_eps, lit_half, lit_one, div_1024, Ideal.logistic_coe]

theorem pay19 (hV : Vec Ideal S256x1024 .bf16) (wV : Vec Ideal S1024x1024 .bf16)
    {h : Fin 256 → Fin 1024 → ℝ} {w : Fin 1024 → Fin 1024 → ℝ}
    (hh : Is2 hV h) (hw : Is2 wV w) :
    Is2 (k0_pay19 (F := Ideal) hV wV) fun i j => lin w (h i) j := by
  intro i j
  simp only [Is2] at hh hw
  pointwise [k0_pay19]
  simp only [hh, hw, ← EReal.coe_mul, ← EReal.coe_add, ← EReal.coe_sub, ← coe_sum, lit_1024, lit_eps, lit_half, lit_one, div_1024, Ideal.logistic_coe]
  rfl

theorem pay20 (hV : Vec Ideal S256x1024 .bf16) (wV : Vec Ideal S1024x1024 .bf16)
    {h : Fin 256 → Fin 1024 → ℝ} {w : Fin 1024 → Fin 1024 → ℝ}
    (hh : Is2 hV h) (hw : Is2 wV w) :
    Is2 (k0_pay20 (F := Ideal) hV wV) fun i j => lin w (h i) j := by
  intro i j
  simp only [Is2] at hh hw
  pointwise [k0_pay20]
  simp only [hh, hw, ← EReal.coe_mul, ← EReal.coe_add, ← EReal.coe_sub, ← coe_sum, lit_1024, lit_eps, lit_half, lit_one, div_1024, Ideal.logistic_coe]
  rfl

theorem pay21 (hV : Vec Ideal S256x1024 .bf16) (wV : Vec Ideal S1024x1024 .bf16)
    {h : Fin 256 → Fin 1024 → ℝ} {w : Fin 1024 → Fin 1024 → ℝ}
    (hh : Is2 hV h) (hw : Is2 wV w) :
    Is2 (k0_pay21 (F := Ideal) hV wV) fun i j => lin w (h i) j := by
  have u0 := pay19 hV wV hh hw
  intro i j
  simp only [Is2] at hh hw u0
  pointwise [k0_pay21]
  simp only [hh, hw, u0, ← EReal.coe_mul, ← EReal.coe_add, ← EReal.coe_sub, ← coe_sum, lit_1024, lit_eps, lit_half, lit_one, div_1024, Ideal.logistic_coe]

theorem pay22 (hV : Vec Ideal S256x1024 .bf16) (wV : Vec Ideal S1024x1024 .bf16)
    {h : Fin 256 → Fin 1024 → ℝ} {w : Fin 1024 → Fin 1024 → ℝ}
    (hh : Is2 hV h) (hw : Is2 wV w) :
    Is2 (k0_pay22 (F := Ideal) hV wV) fun i j => lin w (h i) j := by
  have u0 := pay20 hV wV hh hw
  intro i j
  simp only [Is2] at hh hw u0
  pointwise [k0_pay22]
  simp only [hh, hw, u0, ← EReal.coe_mul, ← EReal.coe_add, ← EReal.coe_sub, ← coe_sum, lit_1024, lit_eps, lit_half, lit_one, div_1024, Ideal.logistic_coe]

theorem pay23 (hV : Vec Ideal S256x1024 .bf16) (wV : Vec Ideal S1024x1024 .bf16)
    {h : Fin 256 → Fin 1024 → ℝ} {w : Fin 1024 → Fin 1024 → ℝ}
    (hh : Is2 hV h) (hw : Is2 wV w) :
    Is2 (k0_pay23 (F := Ideal) hV wV) fun i j => sg (lin w (h i) j) := by
  have u0 := pay19 hV wV hh hw
  intro i j
  simp only [Is2] at hh hw u0
  pointwise [k0_pay23]
  simp only [hh, hw, u0, ← EReal.coe_mul, ← EReal.coe_add, ← EReal.coe_sub, ← coe_sum, lit_1024, lit_eps, lit_half, lit_one, div_1024, Ideal.logistic_coe]
  rfl

theorem pay24 (gV : Vec Ideal S256x1024 .f32) (uV : Vec Ideal S256x1024 .f32) (sV : Vec Ideal S256x1024 .f32)
    {g : Fin 256 → Fin 1024 → ℝ} {u : Fin 256 → Fin 1024 → ℝ}
    (hg : Is2 gV g) (hu : Is2 uV u) (hs : Is2 sV (fun i f => sg (g i f))) :
    Is2 (k0_pay24 (F := Ideal) gV uV sV) fun i j => actf (g i j) (u i j) := by
  intro i j
  simp only [Is2] at hg hu hs
  pointwise [k0_pay24]
  simp only [hg, hu, hs, ← EReal.coe_mul, ← EReal.coe_add, ← EReal.coe_sub, ← coe_sum, lit_1024, lit_eps, lit_half, lit_one, div_1024, Ideal.logistic_coe]
  rfl

theorem pay29 (aV : Vec Ideal S256x1024 .f32) (gV : Vec Ideal S256x1024 .f32) (uV : Vec Ideal S256x1024 .f32) (sV : Vec Ideal S256x1024 .f32) (wV : Vec Ideal S1024x1024 .bf16)
    {a : Fin 256 → Fin 1024 → ℝ} {g : Fin 256 → Fin 1024 → ℝ} {u : Fin 256 → Fin 1024 → ℝ} {w : Fin 1024 → Fin 1024 → ℝ}
    (ha : Is2 aV a) (hg : Is2 gV g) (hu : Is2 uV u) (hs : Is2 sV (fun i f => sg (g i f))) (hw : Is2 wV w) :
    Is2 (k0_pay29 (F := Ideal) aV gV uV sV wV) fun i j => a i j + ∑ f, actf (g i f) (u i f) * w f j := by
  have u0 := pay24 gV uV sV hg hu hs
  intro i j
  simp only [Is2] at ha hg hu hs hw u0
  pointwise [k0_pay29]
  simp only [ha, hg, hu, hs, hw, u0, ← EReal.coe_mul, ← EReal.coe_add, ← EReal.coe_sub, ← coe_sum, lit_1024, lit_eps, lit_half, lit_one, div_1024, Ideal.logistic_coe]

theorem pay30 (hV : Vec Ideal S256x1024 .bf16) (wV : Vec Ideal S768x1024 .bf16)
    {h : Fin 256 → Fin 1024 → ℝ} {w : Fin 768 → Fin 1024 → ℝ}
    (hh : Is2 hV h) (hw : Is2 wV w) :
    Is2 (k0_pay30 (F := Ideal) hV wV) fun i j => lin w (h i) j := by
  intro i j
  simp only [Is2] at hh hw
  pointwise [k0_pay30]
  simp only [hh, hw, ← EReal.coe_mul, ← EReal.coe_add, ← EReal.coe_sub, ← coe_sum, lit_1024, lit_eps, lit_half, lit_one, div_1024, Ideal.logistic_coe]
  rfl

theorem pay31 (hV : Vec Ideal S256x1024 .bf16) (wV : Vec Ideal S768x1024 .bf16)
    {h : Fin 256 → Fin 1024 → ℝ} {w : Fin 768 → Fin 1024 → ℝ}
    (hh : Is2 hV h) (hw : Is2 wV w) :
    Is2 (k0_pay31 (F := Ideal) hV wV) fun i j => lin w (h i) j := by
  intro i j
  simp only [Is2] at hh hw
  pointwise [k0_pay31]
  simp only [hh, hw, ← EReal.coe_mul, ← EReal.coe_add, ← EReal.coe_sub, ← coe_sum, lit_1024, lit_eps, lit_half, lit_one, div_1024, Ideal.logistic_coe]
  rfl

theorem pay32 (hV : Vec Ideal S256x1024 .bf16) (wV : Vec Ideal S768x1024 .bf16)
    {h : Fin 256 → Fin 1024 → ℝ} {w : Fin 768 → Fin 1024 → ℝ}
    (hh : Is2 hV h) (hw : Is2 wV w) :
    Is2 (k0_pay32 (F := Ideal) hV wV) fun i j => lin w (h i) j := by
  have u0 := pay30 hV wV hh hw
  intro i j
  simp only [Is2] at hh hw u0
  pointwise [k0_pay32]
  simp only [hh, hw, u0, ← EReal.coe_mul, ← EReal.coe_add, ← EReal.coe_sub, ← coe_sum, lit_1024, lit_eps, lit_half, lit_one, div_1024, Ideal.logistic_coe]

theorem pay33 (uV : Vec Ideal S256x768 .f32)
    {u : Fin 256 → Fin 768 → ℝ}
    (hu : Is2 uV u) :
    Is2 (k0_pay33 (F := Ideal) uV) fun i j => u i j := by
  intro i j
  simp only [Is2] at hu
  pointwise [k0_pay33]
  simp only [hu, ← EReal.coe_mul, ← EReal.coe_add, ← EReal.coe_sub, ← coe_sum, lit_1024, lit_eps, lit_half, lit_one, div_1024, Ideal.logistic_coe]

theorem pay34 (gV : Vec Ideal S256x768 .f32) (uV : Vec Ideal S256x768 .f32)
    {g : Fin 256 → Fin 768 → ℝ} {u : Fin 256 → Fin 768 → ℝ}
    (hg : Is2 gV g) (hu : Is2 uV u) :
    Is2 (k0_pay34 (F := Ideal) gV uV) fun i j => actf (g i j) (u i j) := by
  intro i j
  simp only [Is2] at hg hu
  pointwise [k0_pay34]
  simp only [hg, hu, ← EReal.coe_mul, ← EReal.coe_add, ← EReal.coe_sub, ← coe_sum, lit_1024, lit_eps, lit_half, lit_one, div_1024, Ideal.logistic_coe]
  rfl

theorem pay38 (aV : Vec Ideal S256x1024 .f32) (gV : Vec Ideal S256x768 .f32) (uV : Vec Ideal S256x768 .f32) (wV : Vec Ideal S768x1024 .bf16)
    {a : Fin 256 → Fin 1024 → ℝ} {g : Fin 256 → Fin 768 → ℝ} {u : Fin 256 → Fin 768 → ℝ} {w : Fin 768 → Fin 1024 → ℝ}
    (ha : Is2 aV a) (hg : Is2 gV g) (hu : Is2 uV u) (hw : Is2 wV w) :
    Is2 (k0_pay38 (F := Ideal) aV gV uV wV) fun i j => a i j + ∑ f, actf (g i f) (u i f) * w f j := by
  have u0 := pay34 gV uV hg hu
  intro i j
  simp only [Is2] at ha hg hu hw u0
  pointwise [k0_pay38]
  simp only [ha, hg, hu, hw, u0, ← EReal.coe_mul, ← EReal.coe_add, ← EReal.coe_sub, ← coe_sum, lit_1024, lit_eps, lit_half, lit_one, div_1024, Ideal.logistic_coe]

theorem pay39 (aV : Vec Ideal S256x1024 .f32) (gV : Vec Ideal S256x768 .f32) (uV : Vec Ideal S256x768 .f32) (wV : Vec Ideal S768x1024 .bf16)
    {a : Fin 256 → Fin 1024 → ℝ} {g : Fin 256 → Fin 768 → ℝ} {u : Fin 256 → Fin 768 → ℝ} {w : Fin 768 → Fin 1024 → ℝ}
    (ha : Is2 aV a) (hg : Is2 gV g) (hu : Is2 uV u) (hw : Is2 wV w) :
    Is2 (k0_pay39 (F := Ideal) aV gV uV wV) fun i j => rr (fun j => a i j + ∑ f, actf (g i f) (u i f) * w f j) := by
  have u0 := pay38 aV gV uV wV ha hg hu hw
  intro i j
  simp only [Is2] at ha hg hu hw u0
  pointwise [k0_pay39]
  simp only [ha, hg, hu, hw, u0, ← EReal.coe_mul, ← EReal.coe_add, ← EReal.coe_sub, ← coe_sum, lit_1024, lit_eps, lit_half, lit_one, div_1024, Ideal.logistic_coe]
  exact rsqrt_pos (ms_pos _)

theorem pay40 (aV : Vec Ideal S256x1024 .f32) (gV : Vec Ideal S256x768 .f32) (uV : Vec Ideal S256x768 .f32) (wV : Vec Ideal S768x1024 .bf16)
    {a : Fin 256 → Fin 1024 → ℝ} {g : Fin 256 → Fin 768 → ℝ} {u : Fin 256 → Fin 768 → ℝ} {w : Fin 768 → Fin 1024 → ℝ}
    (ha : Is2 aV a) (hg : Is2 gV g) (hu : Is2 uV u) (hw : Is2 wV w) :
    Is2 (k0_pay40 (F := Ideal) aV gV uV wV) fun i j => nrm (fun j => a i j + ∑ f, actf (g i f) (u i f) * w f j) j := by
  have u0 := pay38 aV gV uV wV ha hg hu hw
  have u1 := pay39 aV gV uV wV ha hg hu hw
  intro i j
  simp only [Is2] at ha hg hu hw u0 u1
  pointwise [k0_pay40]
  simp only [ha, hg, hu, hw, u0, u1, ← EReal.coe_mul, ← EReal.coe_add, ← EReal.coe_sub, ← coe_sum, lit_1024, lit_eps, lit_half, lit_one, div_1024, Ideal.logistic_coe]
  rfl

theorem pay41 (aV : Vec Ideal S256x1024 .f32) (gV : Vec Ideal S256x768 .f32) (uV : Vec Ideal S256x768 .f32) (wV : Vec Ideal S768x1024 .bf16) (glV : Vec Ideal S1x1024 .f32) (tV : Vec Ideal S256x1024 .f32)
    {a : Fin 256 → Fin 1024 → ℝ} {g : Fin 256 → Fin 768 → ℝ} {u : Fin 256 → Fin 768 → ℝ} {w : Fin 768 → Fin 1024 → ℝ} {gl : Fin 1024 → ℝ} {t : Fin 256 → Fin 1024 → ℝ}
    (ha : Is2 aV a) (hg : Is2 gV g) (hu : Is2 uV u) (hw : Is2 wV w) (hgl : Is2 glV (fun _ j => gl j)) (ht : Is2 tV t) :
    Is2 (k0_pay41 (F := Ideal) aV gV uV wV glV tV) fun i j => nrm (fun j => a i j + ∑ f, actf (g i f) (u i f) * w f j) j * gl j - t i j := by
  have u0 := pay40 aV gV uV wV ha hg hu hw
  intro i j
  simp only [Is2] at ha hg hu hw hgl ht u0
  pointwise [k0_pay41]
  simp only [ha, hg, hu, hw, hgl, ht, u0, ← EReal.coe_mul, ← EReal.coe_add, ← EReal.coe_sub, ← coe_sum, lit_1024, lit_eps, lit_half, lit_one, div_1024, Ideal.logistic_coe]

theorem pay43 (dV : Vec Ideal S256x1024 .f32)
    {d : Fin 256 → Fin 1024 → ℝ}
    (hd : Is2 dV d) :
    Is2 (k0_pay43 (F := Ideal) dV) fun i j => d i j / 1024 := by
  intro i j
  simp only [Is2] at hd
  pointwise [k0_pay43]
  simp only [hd, ← EReal.coe_mul, ← EReal.coe_add, ← EReal.coe_sub, ← coe_sum, lit_1024, lit_eps, lit_half, lit_one, div_1024, Ideal.logistic_coe]

theorem pay45 (rV : Vec Ideal S256x1 .f32) (nV : Vec Ideal S256x1024 .f32) (glV : Vec Ideal S1x1024 .f32) (dV : Vec Ideal S256x1024 .f32)
    {r : Fin 256 → ℝ} {n : Fin 256 → Fin 1024 → ℝ} {gl : Fin 1024 → ℝ} {d : Fin 256 → Fin 1024 → ℝ}
    (hr : Is2 rV (fun i _ => r i)) (hn : Is2 nV n) (hgl : Is2 glV (fun _ j => gl j)) (hd : Is2 dV d) :
    Is2 (k0_pay45 (F := Ideal) rV nV glV dV) fun i j => back (r i) (n i) (fun j => d i j / 1024 * gl j) j := by
  have u0 := pay43 dV hd
  intro i j
  simp only [Is2] at hr hn hgl hd u0
  pointwise [k0_pay45]
  simp only [hr, hn, hgl, hd, u0, ← EReal.coe_mul, ← EReal.coe_add, ← EReal.coe_sub, ← coe_sum, lit_1024, lit_eps, lit_half, lit_one, div_1024, Ideal.logistic_coe]
  rfl

theorem pay46 (rV : Vec Ideal S256x1 .f32) (nV : Vec Ideal S256x1024 .f32) (glV : Vec Ideal S1x1024 .f32) (dV : Vec Ideal S256x1024 .f32)
    {r : Fin 256 → ℝ} {n : Fin 256 → Fin 1024 → ℝ} {gl : Fin 1024 → ℝ} {d : Fin 256 → Fin 1024 → ℝ}
    (hr : Is2 rV (fun i _ => r i)) (hn : Is2 nV n) (hgl : Is2 glV (fun _ j => gl j)) (hd : Is2 dV d) :
    Is2 (k0_pay46 (F := Ideal) rV nV glV dV) fun i j => back (r i) (n i) (fun j => d i j / 1024 * gl j) j := by
  have u0 := pay45 rV nV glV dV hr hn hgl hd
  intro i j
  simp only [Is2] at hr hn hgl hd u0
  pointwise [k0_pay46]
  simp only [hr, hn, hgl, hd, u0, ← EReal.coe_mul, ← EReal.coe_add, ← EReal.coe_sub, ← coe_sum, lit_1024, lit_eps, lit_half, lit_one, div_1024, Ideal.logistic_coe]

theorem pay48 (gV : Vec Ideal S256x1024 .f32)
    {g : Fin 256 → Fin 1024 → ℝ}
    (hg : Is2 gV g) :
    Is2 (k0_pay48 (F := Ideal) gV) fun i j => sg (g i j) := by
  intro i j
  simp only [Is2] at hg
  pointwise [k0_pay48]
  simp only [hg, ← EReal.coe_mul, ← EReal.coe_add, ← EReal.coe_sub, ← coe_sum, lit_1024, lit_eps, lit_half, lit_one, div_1024, Ideal.logistic_coe]
  rfl

theorem pay49 (dV : Vec Ideal S256x1024 .bf16) (wV : Vec Ideal S1024x1024 .bf16)
    {d : Fin 256 → Fin 1024 → ℝ} {w : Fin 1024 → Fin 1024 → ℝ}
    (hd : Is2 dV d) (hw : Is2 wV w) :
    Is2 (k0_pay49 (F := Ideal) dV wV) fun i j => lin w (d i) j := by
  intro i j
  simp only [Is2] at hd hw
  pointwise [k0_pay49]
  simp only [hd, hw, ← EReal.coe_mul, ← EReal.coe_add, ← EReal.coe_sub, ← coe_sum, lit_1024, lit_eps, lit_half, lit_one, div_1024, Ideal.logistic_coe]
  rfl

theorem pay50 (dV : Vec Ideal S256x1024 .bf16) (gV : Vec Ideal S256x1024 .f32) (uV : Vec Ideal S256x1024 .f32) (wV : Vec Ideal S1024x1024 .bf16)
    {d : Fin 256 → Fin 1024 → ℝ} {g : Fin 256 → Fin 1024 → ℝ} {u : Fin 256 → Fin 1024 → ℝ} {w : Fin 1024 → Fin 1024 → ℝ}
    (hd : Is2 dV d) (hg : Is2 gV g) (hu : Is2 uV u) (hw : Is2 wV w) :
    Is2 (k0_pay50 (F := Ideal) dV gV uV wV) fun i j => dgf (g i j) (u i j) (lin w (d i) j) := by
  have u0 := pay48 gV hg
  have u1 := pay49 dV wV hd hw
  intro i j
  simp only [Is2] at hd hg hu hw u0 u1
  pointwise [k0_pay50]
  simp only [hd, hg, hu, hw, u0, u1, ← EReal.coe_mul, ← EReal.coe_add, ← EReal.coe_sub, ← coe_sum, lit_1024, lit_eps, lit_half, lit_one, div_1024, Ideal.logistic_coe]
  rfl

theorem pay51 (dV : Vec Ideal S256x1024 .bf16) (gV : Vec Ideal S256x1024 .f32) (wV : Vec Ideal S1024x1024 .bf16)
    {d : Fin 256 → Fin 1024 → ℝ} {g : Fin 256 → Fin 1024 → ℝ} {w : Fin 1024 → Fin 1024 → ℝ}
    (hd : Is2 dV d) (hg : Is2 gV g) (hw : Is2 wV w) :
    Is2 (k0_pay51 (F := Ideal) dV gV wV) fun i j => duf (g i j) (lin w (d i) j) := by
  have u0 := pay48 gV hg
  have u1 := pay49 dV wV hd hw
  intro i j
  simp only [Is2] at hd hg hw u0 u1
  pointwise [k0_pay51]
  simp only [hd, hg, hw, u0, u1, ← EReal.coe_mul, ← EReal.coe_add, ← EReal.coe_sub, ← coe_sum, lit_1024, lit_eps, lit_half, lit_one, div_1024, Ideal.logistic_coe]
  rfl

theorem pay61 (aV : Vec Ideal S256x1024 .f32) (pV : Vec Ideal S256x1024 .bf16) (qV : Vec Ideal S256x1024 .bf16) (wV : Vec Ideal S1024x1024 .bf16) (vV : Vec Ideal S1024x1024 .bf16)
    {a : Fin 256 → Fin 1024 → ℝ} {p : Fin 256 → Fin 1024 → ℝ} {q : Fin 256 → Fin 1024 → ℝ} {w : Fin 1024 → Fin 1024 → ℝ} {v : Fin 1024 → Fin 1024 → ℝ}
    (ha : Is2 aV a) (hp : Is2 pV p) (hq : Is2 qV q) (hw : Is2 wV w) (hv : Is2 vV v) :
    Is2 (k0_pay61 (F := Ideal) aV pV qV wV vV) fun i j => a i j + ∑ f, p i f * w f j + ∑ f, q i f * v f j := by
  intro i j
  simp only [Is2] at ha hp hq hw hv
  pointwise [k0_pay61]
  simp only [ha, hp, hq, hw, hv, ← EReal.coe_mul, ← EReal.coe_add, ← EReal.coe_sub, ← coe_sum, lit_1024, lit_eps, lit_half, lit_one, div_1024, Ideal.logistic_coe]

theorem pay78 (aV : Vec Ideal S256x1024 .f32) (pV : Vec Ideal S256x1024 .bf16) (qV : Vec Ideal S256x1024 .bf16) (wV : Vec Ideal S1024x1024 .bf16) (vV : Vec Ideal S1024x1024 .bf16)
    {a : Fin 256 → Fin 1024 → ℝ} {p : Fin 256 → Fin 1024 → ℝ} {q : Fin 256 → Fin 1024 → ℝ} {w : Fin 1024 → Fin 1024 → ℝ} {v : Fin 1024 → Fin 1024 → ℝ}
    (ha : Is2 aV a) (hp : Is2 pV p) (hq : Is2 qV q) (hw : Is2 wV w) (hv : Is2 vV v) :
    Is2 (k0_pay78 (F := Ideal) aV pV qV wV vV) fun i j => a i j + ∑ f, p i f * w f j + ∑ f, q i f * v f j := by
  intro i j
  simp only [Is2] at ha hp hq hw hv
  pointwise [k0_pay78]
  simp only [ha, hp, hq, hw, hv, ← EReal.coe_mul, ← EReal.coe_add, ← EReal.coe_sub, ← coe_sum, lit_1024, lit_eps, lit_half, lit_one, div_1024, Ideal.logistic_coe]

theorem pay62 (gV : Vec Ideal S256x1024 .f32)
    {g : Fin 256 → Fin 1024 → ℝ}
    (hg : Is2 gV g) :
    Is2 (k0_pay62 (F := Ideal) gV) fun i j => sg (g i j) := by
  intro i j
  simp only [Is2] at hg
  pointwise [k0_pay62]
  simp only [hg, ← EReal.coe_mul, ← EReal.coe_add, ← EReal.coe_sub, ← coe_sum, lit_1024, lit_eps, lit_half, lit_one, div_1024, Ideal.logistic_coe]
  rfl

theorem pay63 (dV : Vec Ideal S256x1024 .bf16) (wV : Vec Ideal S1024x1024 .bf16)
    {d : Fin 256 → Fin 1024 → ℝ} {w : Fin 1024 → Fin 1024 → ℝ}
    (hd : Is2 dV d) (hw : Is2 wV w) :
    Is2 (k0_pay63 (F := Ideal) dV wV) fun i j => lin w (d i) j := by
  intro i j
  simp only [Is2] at hd hw
  pointwise [k0_pay63]
  simp only [hd, hw, ← EReal.coe_mul, ← EReal.coe_add, ← EReal.coe_sub, ← coe_sum, lit_1024, lit_eps, lit_half, lit_one, div_1024, Ideal.logistic_coe]
  rfl

theorem pay64 (dV : Vec Ideal S256x1024 .bf16) (uV : Vec Ideal S256x1024 .f32) (wV : Vec Ideal S1024x1024 .bf16)
    {d : Fin 256 → Fin 1024 → ℝ} {u : Fin 256 → Fin 1024 → ℝ} {w : Fin 1024 → Fin 1024 → ℝ}
    (hd : Is2 dV d) (hu : Is2 uV u) (hw : Is2 wV w) :
    Is2 (k0_pay64 (F := Ideal) dV uV wV) fun i j => lin w (d i) j * u i j := by
  have u0 := pay63 dV wV hd hw
  intro i j
  simp only [Is2] at hd hu hw u0
  pointwise [k0_pay64]
  simp only [hd, hu, hw, u0, ← EReal.coe_mul, ← EReal.coe_add, ← EReal.coe_sub, ← coe_sum, lit_1024, lit_eps, lit_half, lit_one, div_1024, Ideal.logistic_coe]

theorem pay65 (gV : Vec Ideal S256x1024 .f32)
    {g : Fin 256 → Fin 1024 → ℝ}
    (hg : Is2 gV g) :
    Is2 (k0_pay65 (F := Ideal) gV) fun i j => g i j * (1 - sg (g i j)) := by
  have u0 := pay62 gV hg
  intro i j
  simp only [Is2] at hg u0
  pointwise [k0_pay65]
  simp only [hg, u0, ← EReal.coe_mul, ← EReal.coe_add, ← EReal.coe_sub, ← coe_sum, lit_1024, lit_eps, lit_half, lit_one, div_1024, Ideal.logistic_coe]
  rfl

theorem pay67 (sV : Vec Ideal S256x1024 .f32) (eV : Vec Ideal S256x1024 .f32) (oV : Vec Ideal S256x1024 .f32) (cV : Vec Ideal S256x1024 .f32)
    {s : Fin 256 → Fin 1024 → ℝ} {e : Fin 256 → Fin 1024 → ℝ} {o : Fin 256 → Fin 1024 → ℝ} {c : Fin 256 → Fin 1024 → ℝ}
    (hs : Is2 sV s) (he : Is2 eV e) (ho : Is2 oV o) (hc : Is2 cV c) :
    Is2 (k0_pay67 (F := Ideal) sV eV oV cV) fun i j => e i j * (s i j * (c i j + o i j)) := by
  intro i j
  simp only [Is2] at hs he ho hc
  pointwise [k0_pay67]
  simp only [hs, he, ho, hc, ← EReal.coe_mul, ← EReal.coe_add, ← EReal.coe_sub, ← coe_sum, lit_1024, lit_eps, lit_half, lit_one, div_1024, Ideal.logistic_coe]

theorem pay68 (gV : Vec Ideal S256x1024 .f32) (sV : Vec Ideal S256x1024 .f32) (eV : Vec Ideal S256x1024 .f32)
    {g : Fin 256 → Fin 1024 → ℝ} {e : Fin 256 → Fin 1024 → ℝ}
    (hg : Is2 gV g) (hs : Is2 sV (fun i f => sg (g i f))) (he : Is2 eV e) :
    Is2 (k0_pay68 (F := Ideal) gV sV eV) fun i j => duf (g i j) (e i j) := by
  intro i j
  simp only [Is2] at hg hs he
  pointwise [k0_pay68]
  simp only [hg, hs, he, ← EReal.coe_mul, ← EReal.coe_add, ← EReal.coe_sub, ← coe_sum, lit_1024, lit_eps, lit_half, lit_one, div_1024, Ideal.logistic_coe]
  rfl

theorem pay79 (gV : Vec Ideal S256x768 .f32)
    {g : Fin 256 → Fin 768 → ℝ}
    (hg : Is2 gV g) :
    Is2 (k0_pay79 (F := Ideal) gV) fun i j => sg (g i j) := by
  intro i j
  simp only [Is2] at hg
  pointwise [k0_pay79]
  simp only [hg, ← EReal.coe_mul, ← EReal.coe_add, ← EReal.coe_sub, ← coe_sum, lit_1024, lit_eps, lit_half, lit_one, div_1024, Ideal.logistic_coe]
  rfl

theorem pay80 (dV : Vec Ideal S256x1024 .bf16) (wV : Vec Ideal S768x1024 .bf16)
    {d : Fin 256 → Fin 1024 → ℝ} {w : Fin 768 → Fin 1024 → ℝ}
    (hd : Is2 dV d) (hw : Is2 wV w) :
    Is2 (k0_pay80 (F := Ideal) dV wV) fun i j => lin w (d i) j := by
  intro i j
  simp only [Is2] at hd hw
  pointwise [k0_pay80]
  simp only [hd, hw, ← EReal.coe_mul, ← EReal.coe_add, ← EReal.coe_sub, ← coe_sum, lit_1024, lit_eps, lit_half, lit_one, div_1024, Ideal.logistic_coe]
  rfl

theorem pay81 (dV : Vec Ideal S256x1024 .bf16) (gV : Vec Ideal S256x768 .f32) (uV : Vec Ideal S256x768 .f32) (wV : Vec Ideal S768x1024 .bf16)
    {d : Fin 256 → Fin 1024 → ℝ} {g : Fin 256 → Fin 768 → ℝ} {u : Fin 256 → Fin 768 → ℝ} {w : Fin 768 → Fin 1024 → ℝ}
    (hd : Is2 dV d) (hg : Is2 gV g) (hu : Is2 uV u) (hw : Is2 wV w) :
    Is2 (k0_pay81 (F := Ideal) dV gV uV wV) fun i j => dgf (g i j) (u i j) (lin w (d i) j) := by
  have u0 := pay79 gV hg
  have u1 := pay80 dV wV hd hw
  intro i j
  simp only [Is2] at hd hg hu hw u0 u1
  pointwise [k0_pay81]
  simp only [hd, hg, hu, hw, u0, u1, ← EReal.coe_mul, ← EReal.coe_add, ← EReal.coe_sub, ← coe_sum, lit_1024, lit_eps, lit_half, lit_one, div_1024, Ideal.logistic_coe]
  rfl

theorem pay82 (dV : Vec Ideal S256x1024 .bf16) (gV : Vec Ideal S256x768 .f32) (wV : Vec Ideal S768x1024 .bf16)
    {d : Fin 256 → Fin 1024 → ℝ} {g : Fin 256 → Fin 768 → ℝ} {w : Fin 768 → Fin 1024 → ℝ}
    (hd : Is2 dV d) (hg : Is2 gV g) (hw : Is2 wV w) :
    Is2 (k0_pay82 (F := Ideal) dV gV wV) fun i j => duf (g i j) (lin w (d i) j) := by
  have u0 := pay79 gV hg
  have u1 := pay80 dV wV hd hw
  intro i j
  simp only [Is2] at hd hg hw u0 u1
  pointwise [k0_pay82]
  simp only [hd, hg, hw, u0, u1, ← EReal.coe_mul, ← EReal.coe_add, ← EReal.coe_sub, ← coe_sum, lit_1024, lit_eps, lit_half, lit_one, div_1024, Ideal.logistic_coe]
  rfl

theorem pay90 (aV : Vec Ideal S256x1024 .f32) (pV : Vec Ideal S256x768 .bf16) (qV : Vec Ideal S256x768 .bf16) (wV : Vec Ideal S768x1024 .bf16) (vV : Vec Ideal S768x1024 .bf16)
    {a : Fin 256 → Fin 1024 → ℝ} {p : Fin 256 → Fin 768 → ℝ} {q : Fin 256 → Fin 768 → ℝ} {w : Fin 768 → Fin 1024 → ℝ} {v : Fin 768 → Fin 1024 → ℝ}
    (ha : Is2 aV a) (hp : Is2 pV p) (hq : Is2 qV q) (hw : Is2 wV w) (hv : Is2 vV v) :
    Is2 (k0_pay90 (F := Ideal) aV pV qV wV vV) fun i j => a i j + ∑ f, p i f * w f j + ∑ f, q i f * v f j := by
  intro i j
  simp only [Is2] at ha hp hq hw hv
  pointwise [k0_pay90]
  simp only [ha, hp, hq, hw, hv, ← EReal.coe_mul, ← EReal.coe_add, ← EReal.coe_sub, ← coe_sum, lit_1024, lit_eps, lit_half, lit_one, div_1024, Ideal.logistic_coe]

theorem pay1 (rV : Vec Ideal S256x1 .f32) (nV : Vec Ideal S256x1024 .f32) (sV : Vec Ideal S256x1024 .f32) (dV : Vec Ideal S256x1024 .f32) (gV : Vec Ideal S1x1024 .f32)
    {r : Fin 256 → ℝ} {n : Fin 256 → Fin 1024 → ℝ} {s : Fin 256 → Fin 1024 → ℝ} {d : Fin 256 → Fin 1024 → ℝ} {g : Fin 1024 → ℝ}
    (hr : Is2 rV (fun i _ => r i)) (hn : Is2 nV n) (hs : Is2 sV s) (hd : Is2 dV d) (hg : Is2 gV (fun _ j => g j)) :
    Is2 (k0_pay1 (F := Ideal) rV nV sV dV gV) fun i j => s i j + back (r i) (n i) (fun j => d i j * g j) j := by
  intro i j
  simp only [Is2] at hr hn hs hd hg
  pointwise [k0_pay1]
  simp only [hr, hn, hs, hd, hg, ← EReal.coe_mul, ← EReal.coe_add, ← EReal.coe_sub, ← coe_sum, lit_1024, lit_eps, lit_half, lit_one, div_1024, Ideal.logistic_coe]
  rfl

theorem pay47 : Is2 (k0_pay47 (F := Ideal)) fun _ _ => 0 := by
  intro i j
  pointwise [k0_pay47]
  simp

theorem pay66 : Is2 (k0_pay66 (F := Ideal)) fun _ _ => 1 := by
  intro i j
  pointwise [k0_pay66]
  simp

theorem pay2 : Is2 (k0_pay2 (F := Ideal)) fun _ _ => 0 := by
  intro i j
  pointwise [k0_pay2]
  simp

theorem pay3 : Is2 (k0_pay3 (F := Ideal)) fun _ _ => 0 := by
  intro i j
  pointwise [k0_pay3]
  simp

theorem pay4 : Is2 (k0_pay4 (F := Ideal)) fun _ _ => 0 := by
  intro i j
  pointwise [k0_pay4]
  simp

/-! The three sums over tokens: what a point adds to what the points before it left. -/

theorem pay42 (dV : Vec Ideal S256x1024 .f32) (lV : Vec Ideal S1x128 .f32) {d : Fin 256 → Fin 1024 → ℝ} (hd : Is2 dV d)
    (i : Fin 1) (j : Fin 128) :
    k0_pay42 (F := Ideal) dV lV (ix2 i j) =
      (lV (ix2 i j) : EReal) + ((∑ i, 1 / 2 * (∑ k, d i k * d i k) / 1024 : ℝ) : EReal) := by
  simp only [Is2] at hd
  pointwise [k0_pay42]
  simp only [hd, ← EReal.coe_mul, ← EReal.coe_add, ← EReal.coe_sub, ← coe_sum, lit_1024, lit_eps, lit_half, lit_one, div_1024, Ideal.logistic_coe]

theorem pay44 (nV : Vec Ideal S256x1024 .f32) (dV : Vec Ideal S256x1024 .f32) (lV : Vec Ideal S1x1024 .f32)
    {n d : Fin 256 → Fin 1024 → ℝ} (hn : Is2 nV n) (hd : Is2 dV d) (i : Fin 1) (j : Fin 1024) :
    k0_pay44 (F := Ideal) nV dV lV (ix2 i j) =
      (lV (ix2 i j) : EReal) + ((∑ i, d i j / 1024 * n i j : ℝ) : EReal) := by
  have u := pay43 dV hd
  simp only [Is2] at hn u
  pointwise [k0_pay44]
  simp only [hn, u, ← EReal.coe_mul, ← EReal.coe_add, ← EReal.coe_sub, ← coe_sum, lit_1024, lit_eps, lit_half, lit_one, div_1024, Ideal.logistic_coe]

theorem pay91 (nV : Vec Ideal S256x1024 .f32) (aV : Vec Ideal S256x1024 .f32) (pV qV : Vec Ideal S256x768 .bf16)
    (wV vV : Vec Ideal S768x1024 .bf16) (lV : Vec Ideal S1x1024 .f32) {n a : Fin 256 → Fin 1024 → ℝ}
    {p q : Fin 256 → Fin 768 → ℝ} {w v : Fin 768 → Fin 1024 → ℝ} (hn : Is2 nV n) (ha : Is2 aV a) (hp : Is2 pV p)
    (hq : Is2 qV q) (hw : Is2 wV w) (hv : Is2 vV v) (i : Fin 1) (j : Fin 1024) :
    k0_pay91 (F := Ideal) nV aV pV qV wV vV lV (ix2 i j) = (lV (ix2 i j) : EReal) +
      ((∑ i, (a i j + ∑ f, p i f * w f j + ∑ f, q i f * v f j) * n i j : ℝ) : EReal) := by
  have u := pay90 aV pV qV wV vV ha hp hq hw hv
  simp only [Is2] at hn u
  pointwise [k0_pay91]
  simp only [hn, u, ← EReal.coe_mul, ← EReal.coe_add, ← EReal.coe_sub, ← coe_sum, lit_1024, lit_eps, lit_half, lit_one, div_1024, Ideal.logistic_coe]

end Cert.Payloads
-- ==== Proof.Point.lean ====
/- One point of the kernel's grid over real entries: the values it computes for its 256 tokens are the formulas of the
   feed-forward block at those tokens. The kernel takes the 2816 hidden columns in three pieces. -/
module

public import proofs.«01_k».proof.Proof.Payloads

@[expose] public section

set_option maxRecDepth 16384

noncomputable section

namespace Cert.Point

open Idealize.ShloMosaic Cert.KernelIdeal Cert.KernelIdeal.Gen Cert.Lift Cert.Spec Cert.Payloads

/-- The hidden columns of the three pieces. -/
def e0 (f : Fin 1024) : Fin 2816 := ⟨f.val, by omega⟩
def e1 (f : Fin 1024) : Fin 2816 := ⟨1024 + f.val, by omega⟩
def e2 (f : Fin 768) : Fin 2816 := ⟨2048 + f.val, by omega⟩

theorem sum_pieces {M : Type*} [AddCommMonoid M] (g : Fin 2816 → M) :
    ∑ f, g f = ∑ f, g (e0 f) + ∑ f, g (e1 f) + ∑ f, g (e2 f) := by
  refine (Fin.sum_univ_add (a := 1024 + 1024) (b := 768) g).trans ?_
  rw [Fin.sum_univ_add (a := 1024) (b := 1024) fun i => g (Fin.castAdd 768 i)]
  rfl

theorem _root_.Cert.Payloads.Is2.congr {a b : ℕ} {v : (⟨2, ![a, b]⟩ : Shape).Idx → EReal} {f g : Fin a → Fin b → ℝ}
    (h : Is2 v f) (e : ∀ i j, f i j = g i j) : Is2 v g := fun i j => by rw [h i j, e i j]

/-- What a grid point reads: 256 rows of the two token arrays, the two gains, and the three weight matrices in three pieces. -/
structure In where
  x0 : Vec Ideal S256x1024 .f32
  x1 : Vec Ideal S256x1024 .f32
  x2 : Vec Ideal S1x1024 .f32
  x3 : Vec Ideal S1x1024 .f32
  g0 : Vec Ideal S1024x1024 .bf16
  g1 : Vec Ideal S1024x1024 .bf16
  g2 : Vec Ideal S768x1024 .bf16
  u0 : Vec Ideal S1024x1024 .bf16
  u1 : Vec Ideal S1024x1024 .bf16
  u2 : Vec Ideal S768x1024 .bf16
  d0 : Vec Ideal S1024x1024 .bf16
  d1 : Vec Ideal S1024x1024 .bf16
  d2 : Vec Ideal S768x1024 .bf16

/-- The entries read are these real numbers. -/
structure Real (a : In) (p : Params) (x t : Fin 256 → Fin 1024 → ℝ) : Prop where
  x0 : Is2 a.x0 x
  x1 : Is2 a.x1 t
  x2 : Is2 a.x2 fun _ j => p.gf j
  x3 : Is2 a.x3 fun _ j => p.gl j
  g0 : Is2 a.g0 fun f => p.wg (e0 f)
  g1 : Is2 a.g1 fun f => p.wg (e1 f)
  g2 : Is2 a.g2 fun f => p.wg (e2 f)
  u0 : Is2 a.u0 fun f => p.wu (e0 f)
  u1 : Is2 a.u1 fun f => p.wu (e1 f)
  u2 : Is2 a.u2 fun f => p.wu (e2 f)
  d0 : Is2 a.d0 fun f => p.wd (e0 f)
  d1 : Is2 a.d1 fun f => p.wd (e1 f)
  d2 : Is2 a.d2 fun f => p.wd (e2 f)

abbrev P5 (a : In) := k0_pay5 (F := Ideal) a.x0
abbrev P6 (a : In) := k0_pay6 (F := Ideal) a.x0
abbrev P7 (a : In) := k0_pay7 (F := Ideal) a.x0 a.x2
abbrev P12 (a : In) := k0_pay12 (F := Ideal) a.x0 a.x2 a.g0 a.u0
abbrev P18 (a : In) := k0_pay18 (F := Ideal) a.x0 (P12 a) a.d0
abbrev P19 (a : In) := k0_pay19 (F := Ideal) (P7 a) a.g1
abbrev P20 (a : In) := k0_pay20 (F := Ideal) (P7 a) a.u1
abbrev P23 (a : In) := k0_pay23 (F := Ideal) (P7 a) a.g1
abbrev P24 (a : In) := k0_pay24 (F := Ideal) (P19 a) (P20 a) (P23 a)
abbrev P29 (a : In) := k0_pay29 (F := Ideal) (P18 a) (P19 a) (P20 a) (P23 a) a.d1
abbrev P30 (a : In) := k0_pay30 (F := Ideal) (P7 a) a.g2
abbrev P31 (a : In) := k0_pay31 (F := Ideal) (P7 a) a.u2
abbrev P34 (a : In) := k0_pay34 (F := Ideal) (P30 a) (P31 a)
abbrev P39 (a : In) := k0_pay39 (F := Ideal) (P29 a) (P30 a) (P31 a) a.d2
abbrev P40 (a : In) := k0_pay40 (F := Ideal) (P29 a) (P30 a) (P31 a) a.d2
abbrev P41 (a : In) := k0_pay41 (F := Ideal) (P29 a) (P30 a) (P31 a) a.d2 a.x3 a.x1
abbrev P45 (a : In) := k0_pay45 (F := Ideal) (P39 a) (P40 a) a.x3 (P41 a)
abbrev P46 (a : In) := k0_pay46 (F := Ideal) (P39 a) (P40 a) a.x3 (P41 a)
abbrev P10 (a : In) := k0_pay10 (F := Ideal) a.x0 a.x2 a.g0
abbrev P11 (a : In) := k0_pay11 (F := Ideal) a.x0 a.x2 a.u0
abbrev P50 (a : In) := k0_pay50 (F := Ideal) (P46 a) (P10 a) (P11 a) a.d0
abbrev P51 (a : In) := k0_pay51 (F := Ideal) (P46 a) (P10 a) a.d0
abbrev P61 (a : In) := k0_pay61 (F := Ideal) k0_pay47 (P50 a) (P51 a) a.g0 a.u0
abbrev P21 (a : In) := k0_pay21 (F := Ideal) (P7 a) a.g1
abbrev P62 (a : In) := k0_pay62 (F := Ideal) (P21 a)
abbrev P22 (a : In) := k0_pay22 (F := Ideal) (P7 a) a.u1
abbrev P64 (a : In) := k0_pay64 (F := Ideal) (P46 a) (P22 a) a.d1
abbrev P65 (a : In) := k0_pay65 (F := Ideal) (P21 a)
abbrev P67 (a : In) := k0_pay67 (F := Ideal) (P62 a) (P64 a) (P65 a) k0_pay66
abbrev P63 (a : In) := k0_pay63 (F := Ideal) (P46 a) a.d1
abbrev P68 (a : In) := k0_pay68 (F := Ideal) (P21 a) (P62 a) (P63 a)
abbrev P78 (a : In) := k0_pay78 (F := Ideal) (P61 a) (P67 a) (P68 a) a.g1 a.u1
abbrev P32 (a : In) := k0_pay32 (F := Ideal) (P7 a) a.g2
abbrev P33 (a : In) := k0_pay33 (F := Ideal) (P31 a)
abbrev P81 (a : In) := k0_pay81 (F := Ideal) (P46 a) (P32 a) (P33 a) a.d2
abbrev P82 (a : In) := k0_pay82 (F := Ideal) (P46 a) (P32 a) a.d2
abbrev P90 (a : In) := k0_pay90 (F := Ideal) (P78 a) (P81 a) (P82 a) a.g2 a.u2
abbrev P1 (a : In) := k0_pay1 (F := Ideal) (P5 a) (P6 a) (P45 a) (P90 a) a.x2

theorem h2_pieces (p : Params) (x : Fin 1024 → ℝ) : h2 p x = fun j => x j + ∑ f, act p x (e0 f) * p.wd (e0 f) j +
    ∑ f, act p x (e1 f) * p.wd (e1 f) j + ∑ f, act p x (e2 f) * p.wd (e2 f) j := by
  funext j
  rw [h2, sum_pieces]
  ring

theorem dhn_pieces (p : Params) (x t : Fin 1024 → ℝ) (j : Fin 1024) : dhn p x t j =
    0 + ∑ f, dgate p x t (e0 f) * p.wg (e0 f) j + ∑ f, dup p x t (e0 f) * p.wu (e0 f) j +
      ∑ f, dgate p x t (e1 f) * p.wg (e1 f) j + ∑ f, dup p x t (e1 f) * p.wu (e1 f) j +
      ∑ f, dgate p x t (e2 f) * p.wg (e2 f) j + ∑ f, dup p x t (e2 f) * p.wu (e2 f) j := by
  rw [dhn, sum_pieces, sum_pieces fun f => dup p x t f * p.wu f j]
  ring

section
variable {a : In} {p : Params} {x t : Fin 256 → Fin 1024 → ℝ} (h : Real a p x t)
include h

theorem r5 : Is2 (P5 a) fun i j => rr (x i) :=
  (Payloads.pay5 _ h.x0).congr fun i j => rfl

theorem r6 : Is2 (P6 a) fun i j => nrm (x i) j :=
  (Payloads.pay6 _ h.x0).congr fun i j => rfl

theorem r7 : Is2 (P7 a) fun i j => hn p.gf (x i) j :=
  (Payloads.pay7 _ _ h.x0 h.x2).congr fun i j => rfl

theorem r12 : Is2 (P12 a) fun i j => act p (x i) (e0 j) :=
  (Payloads.pay12 _ _ _ _ h.x0 h.x2 h.g0 h.u0).congr fun i j => rfl

theorem r18 : Is2 (P18 a) fun i j => x i j + ∑ f, act p (x i) (e0 f) * p.wd (e0 f) j :=
  (Payloads.pay18 _ _ _ h.x0 (r12 h) h.d0).congr fun i j => rfl

theorem r19 : Is2 (P19 a) fun i j => gate p (x i) (e1 j) :=
  (Payloads.pay19 _ _ (r7 h) h.g1).congr fun i j => rfl

theorem r20 : Is2 (P20 a) fun i j => up p (x i) (e1 j) :=
  (Payloads.pay20 _ _ (r7 h) h.u1).congr fun i j => rfl

theorem r23 : Is2 (P23 a) fun i j => sg (gate p (x i) (e1 j)) :=
  (Payloads.pay23 _ _ (r7 h) h.g1).congr fun i j => rfl

theorem r24 : Is2 (P24 a) fun i j => act p (x i) (e1 j) :=
  (Payloads.pay24 _ _ _ (r19 h) (r20 h) (r23 h)).congr fun i j => rfl

theorem r29 : Is2 (P29 a) fun i j => x i j + ∑ f, act p (x i) (e0 f) * p.wd (e0 f) j + ∑ f, act p (x i) (e1 f) * p.wd (e1 f) j :=
  (Payloads.pay29 _ _ _ _ _ (r18 h) (r19 h) (r20 h) (r23 h) h.d1).congr fun i j => rfl

theorem r30 : Is2 (P30 a) fun i j => gate p (x i) (e2 j) :=
  (Payloads.pay30 _ _ (r7 h) h.g2).congr fun i j => rfl

theorem r31 : Is2 (P31 a) fun i j => up p (x i) (e2 j) :=
  (Payloads.pay31 _ _ (r7 h) h.u2).congr fun i j => rfl

theorem r34 : Is2 (P34 a) fun i j => act p (x i) (e2 j) :=
  (Payloads.pay34 _ _ (r30 h) (r31 h)).congr fun i j => rfl

theorem r39 : Is2 (P39 a) fun i j => rr (h2 p (x i)) :=
  (Payloads.pay39 _ _ _ _ (r29 h) (r30 h) (r31 h) h.d2).congr fun i j => by simp only [h2_pieces]; rfl

theorem r40 : Is2 (P40 a) fun i j => nrm (h2 p (x i)) j :=
  (Payloads.pay40 _ _ _ _ (r29 h) (r30 h) (r31 h) h.d2).congr fun i j => by simp only [h2_pieces]; rfl

theorem r41 : Is2 (P41 a) fun i j => diff p (x i) (t i) j :=
  (Payloads.pay41 _ _ _ _ _ _ (r29 h) (r30 h) (r31 h) h.d2 h.x3 h.x1).congr fun i j => by simp only [diff, h2_pieces]; rfl

theorem r45 : Is2 (P45 a) fun i j => dh2 p (x i) (t i) j :=
  (Payloads.pay45 _ _ _ _ (r39 h) (r40 h) h.x3 (r41 h)).congr fun i j => rfl

theorem r46 : Is2 (P46 a) fun i j => dh2 p (x i) (t i) j :=
  (Payloads.pay46 _ _ _ _ (r39 h) (r40 h) h.x3 (r41 h)).congr fun i j => rfl

theorem r10 : Is2 (P10 a) fun i j => gate p (x i) (e0 j) :=
  (Payloads.pay10 _ _ _ h.x0 h.x2 h.g0).congr fun i j => rfl

theorem r11 : Is2 (P11 a) fun i j => up p (x i) (e0 j) :=
  (Payloads.pay11 _ _ _ h.x0 h.x2 h.u0).congr fun i j => rfl

theorem r50 : Is2 (P50 a) fun i j => dgate p (x i) (t i) (e0 j) :=
  (Payloads.pay50 _ _ _ _ (r46 h) (r10 h) (r11 h) h.d0).congr fun i j => rfl

theorem r51 : Is2 (P51 a) fun i j => dup p (x i) (t i) (e0 j) :=
  (Payloads.pay51 _ _ _ (r46 h) (r10 h) h.d0).congr fun i j => rfl

theorem r61 : Is2 (P61 a) fun i j => 0 + ∑ f, dgate p (x i) (t i) (e0 f) * p.wg (e0 f) j + ∑ f, dup p (x i) (t i) (e0 f) * p.wu (e0 f) j :=
  (Payloads.pay61 _ _ _ _ _ pay47 (r50 h) (r51 h) h.g0 h.u0).congr fun i j => rfl

theorem r21 : Is2 (P21 a) fun i j => gate p (x i) (e1 j) :=
  (Payloads.pay21 _ _ (r7 h) h.g1).congr fun i j => rfl

theorem r62 : Is2 (P62 a) fun i j => sg (gate p (x i) (e1 j)) :=
  (Payloads.pay62 _ (r21 h)).congr fun i j => rfl

theorem r22 : Is2 (P22 a) fun i j => up p (x i) (e1 j) :=
  (Payloads.pay22 _ _ (r7 h) h.u1).congr fun i j => rfl

theorem r64 : Is2 (P64 a) fun i j => dact p (x i) (t i) (e1 j) * up p (x i) (e1 j) :=
  (Payloads.pay64 _ _ _ (r46 h) (r22 h) h.d1).congr fun i j => rfl

theorem r65 : Is2 (P65 a) fun i j => gate p (x i) (e1 j) * (1 - sg (gate p (x i) (e1 j))) :=
  (Payloads.pay65 _ (r21 h)).congr fun i j => rfl

theorem r67 : Is2 (P67 a) fun i j => dgate p (x i) (t i) (e1 j) :=
  (Payloads.pay67 _ _ _ _ (r62 h) (r64 h) (r65 h) pay66).congr fun i j => rfl

theorem r63 : Is2 (P63 a) fun i j => dact p (x i) (t i) (e1 j) :=
  (Payloads.pay63 _ _ (r46 h) h.d1).congr fun i j => rfl

theorem r68 : Is2 (P68 a) fun i j => dup p (x i) (t i) (e1 j) :=
  (Payloads.pay68 _ _ _ (r21 h) (r62 h) (r63 h)).congr fun i j => rfl

theorem r78 : Is2 (P78 a) fun i j => 0 + ∑ f, dgate p (x i) (t i) (e0 f) * p.wg (e0 f) j + ∑ f, dup p (x i) (t i) (e0 f) * p.wu (e0 f) j + ∑ f, dgate p (x i) (t i) (e1 f) * p.wg (e1 f) j + ∑ f, dup p (x i) (t i) (e1 f) * p.wu (e1 f) j :=
  (Payloads.pay78 _ _ _ _ _ (r61 h) (r67 h) (r68 h) h.g1 h.u1).congr fun i j => rfl

theorem r32 : Is2 (P32 a) fun i j => gate p (x i) (e2 j) :=
  (Payloads.pay32 _ _ (r7 h) h.g2).congr fun i j => rfl

theorem r33 : Is2 (P33 a) fun i j => up p (x i) (e2 j) :=
  (Payloads.pay33 _ (r31 h)).congr fun i j => rfl

theorem r81 : Is2 (P81 a) fun i j => dgate p (x i) (t i) (e2 j) :=
  (Payloads.pay81 _ _ _ _ (r46 h) (r32 h) (r33 h) h.d2).congr fun i j => rfl

theorem r82 : Is2 (P82 a) fun i j => dup p (x i) (t i) (e2 j) :=
  (Payloads.pay82 _ _ _ (r46 h) (r32 h) h.d2).congr fun i j => rfl

theorem r90 : Is2 (P90 a) fun i j => dhn p (x i) (t i) j :=
  (Payloads.pay90 _ _ _ _ _ (r78 h) (r81 h) (r82 h) h.g2 h.u2).congr fun i j => (dhn_pieces _ _ _ _).symm

theorem r1 : Is2 (P1 a) fun i j => dh1 p (x i) (t i) j :=
  (Payloads.pay1 _ _ _ _ _ (r5 h) (r6 h) (r45 h) (r90 h) h.x2).congr fun i j => rfl

end

end Cert.Point
-- ==== Proof.Pieces.lean ====
/- The three column outputs of one grid point: eleven slabs of 256 columns each, cut from the three pieces in which the kernel
   computes the hidden columns. -/
module

public import proofs.«01_k».proof.Proof.Point
public import Idealize.ShloMosaic.Lib.Pipeline.ValueKit

@[expose] public section

set_option maxRecDepth 16384

noncomputable section

namespace Cert.Pieces

open Idealize.ShloMosaic Cert.KernelIdeal Cert.KernelIdeal.Gen Cert.Lift Cert.Spec Cert.Payloads Cert.Point

/-- The hidden column of a slab's column. -/
def col (b : Fin 11) (k : Fin 256) : Fin 2816 := ⟨256 * b.val + k.val, by omega⟩

theorem piece {n : ℕ} {v : (⟨2, ![256, n]⟩ : Shape).Idx → EReal} {e : Fin n → Fin 2816} {g : Fin 256 → Fin 2816 → ℝ}
    (h : Is2 v fun i j => g i (e j)) (i : Fin 256) (j : Fin n) (k : Fin 2816) (hk : (e j).val = k.val) :
    v (ix2 i j) = ((g i k : ℝ) : EReal) := by
  obtain rfl := Fin.ext hk
  exact h i j

variable {a : In} {p : Params} {x t : Fin 256 → Fin 1024 → ℝ} (h : Real a p x t)
include h

theorem act0 (q : Fin 1) (i k : Fin 256) :
    k0_pay14 (F := Ideal) (k0_pay13 a.x0 a.x2 a.g0 a.u0) (ix3 q i k) = ((act p (x i) (col 0 k) : ℝ) : EReal) := by
  pointwise [k0_pay14, k0_pay13]
  exact piece (g := fun i => act p (x i)) (r12 h) i _ _ (by simp only [e0, col]; first | omega | (simp; omega) | simp)

theorem act1 (q : Fin 1) (i k : Fin 256) :
    k0_pay15 (F := Ideal) (P12 a) (ix3 q i k) = ((act p (x i) (col 1 k) : ℝ) : EReal) := by
  pointwise [k0_pay15]
  exact piece (g := fun i => act p (x i)) (r12 h) i _ _ (by simp only [e0, col]; first | omega | (simp; omega) | simp)

theorem act2 (q : Fin 1) (i k : Fin 256) :
    k0_pay16 (F := Ideal) (P12 a) (ix3 q i k) = ((act p (x i) (col 2 k) : ℝ) : EReal) := by
  pointwise [k0_pay16]
  exact piece (g := fun i => act p (x i)) (r12 h) i _ _ (by simp only [e0, col]; first | omega | (simp; omega) | simp)

theorem act3 (q : Fin 1) (i k : Fin 256) :
    k0_pay17 (F := Ideal) (P12 a) (ix3 q i k) = ((act p (x i) (col 3 k) : ℝ) : EReal) := by
  pointwise [k0_pay17]
  exact piece (g := fun i => act p (x i)) (r12 h) i _ _ (by simp only [e0, col]; first | omega | (simp; omega) | simp)

theorem act4 (q : Fin 1) (i k : Fin 256) :
    k0_pay25 (F := Ideal) (P19 a) (P20 a) (P23 a) (ix3 q i k) = ((act p (x i) (col 4 k) : ℝ) : EReal) := by
  pointwise [k0_pay25]
  exact piece (g := fun i => act p (x i)) (r24 h) i _ _ (by simp only [e1, col]; first | omega | (simp; omega) | simp)

theorem act5 (q : Fin 1) (i k : Fin 256) :
    k0_pay26 (F := Ideal) (P19 a) (P20 a) (P23 a) (ix3 q i k) = ((act p (x i) (col 5 k) : ℝ) : EReal) := by
  pointwise [k0_pay26]
  exact piece (g := fun i => act p (x i)) (r24 h) i _ _ (by simp only [e1, col]; first | omega | (simp; omega) | simp)

theorem act6 (q : Fin 1) (i k : Fin 256) :
    k0_pay27 (F := Ideal) (P19 a) (P20 a) (P23 a) (ix3 q i k) = ((act p (x i) (col 6 k) : ℝ) : EReal) := by
  pointwise [k0_pay27]
  exact piece (g := fun i => act p (x i)) (r24 h) i _ _ (by simp only [e1, col]; first | omega | (simp; omega) | simp)

theorem act7 (q : Fin 1) (i k : Fin 256) :
    k0_pay28 (F := Ideal) (P19 a) (P20 a) (P23 a) (ix3 q i k) = ((act p (x i) (col 7 k) : ℝ) : EReal) := by
  pointwise [k0_pay28]
  exact piece (g := fun i => act p (x i)) (r24 h) i _ _ (by simp only [e1, col]; first | omega | (simp; omega) | simp)

theorem act8 (q : Fin 1) (i k : Fin 256) :
    k0_pay35 (F := Ideal) (P30 a) (P31 a) (ix3 q i k) = ((act p (x i) (col 8 k) : ℝ) : EReal) := by
  pointwise [k0_pay35]
  exact piece (g := fun i => act p (x i)) (r34 h) i _ _ (by simp only [e2, col]; first | omega | (simp; omega) | simp)

theorem act9 (q : Fin 1) (i k : Fin 256) :
    k0_pay36 (F := Ideal) (P30 a) (P31 a) (ix3 q i k) = ((act p (x i) (col 9 k) : ℝ) : EReal) := by
  pointwise [k0_pay36]
  exact piece (g := fun i => act p (x i)) (r34 h) i _ _ (by simp only [e2, col]; first | omega | (simp; omega) | simp)

theorem act10 (q : Fin 1) (i k : Fin 256) :
    k0_pay37 (F := Ideal) (P30 a) (P31 a) (ix3 q i k) = ((act p (x i) (col 10 k) : ℝ) : EReal) := by
  pointwise [k0_pay37]
  exact piece (g := fun i => act p (x i)) (r34 h) i _ _ (by simp only [e2, col]; first | omega | (simp; omega) | simp)

theorem dgate0 (q : Fin 1) (i k : Fin 256) :
    k0_pay52 (F := Ideal) (P46 a) (P10 a) (P11 a) a.d0 (ix3 q i k) = ((dgate p (x i) (t i) (col 0 k) : ℝ) : EReal) := by
  pointwise [k0_pay52]
  exact piece (g := fun i => dgate p (x i) (t i)) (r50 h) i _ _ (by simp only [e0, col]; first | omega | (simp; omega) | simp)

theorem dgate1 (q : Fin 1) (i k : Fin 256) :
    k0_pay53 (F := Ideal) (P46 a) (P10 a) (P11 a) a.d0 (ix3 q i k) = ((dgate p (x i) (t i) (col 1 k) : ℝ) : EReal) := by
  pointwise [k0_pay53]
  exact piece (g := fun i => dgate p (x i) (t i)) (r50 h) i _ _ (by simp only [e0, col]; first | omega | (simp; omega) | simp)

theorem dgate2 (q : Fin 1) (i k : Fin 256) :
    k0_pay54 (F := Ideal) (P46 a) (P10 a) (P11 a) a.d0 (ix3 q i k) = ((dgate p (x i) (t i) (col 2 k) : ℝ) : EReal) := by
  pointwise [k0_pay54]
  exact piece (g := fun i => dgate p (x i) (t i)) (r50 h) i _ _ (by simp only [e0, col]; first | omega | (simp; omega) | simp)

theorem dgate3 (q : Fin 1) (i k : Fin 256) :
    k0_pay55 (F := Ideal) (P46 a) (P10 a) (P11 a) a.d0 (ix3 q i k) = ((dgate p (x i) (t i) (col 3 k) : ℝ) : EReal) := by
  pointwise [k0_pay55]
  exact piece (g := fun i => dgate p (x i) (t i)) (r50 h) i _ _ (by simp only [e0, col]; first | omega | (simp; omega) | simp)

theorem dgate4 (q : Fin 1) (i k : Fin 256) :
    k0_pay69 (F := Ideal) (P62 a) (P64 a) (P65 a) k0_pay66 (ix3 q i k) = ((dgate p (x i) (t i) (col 4 k) : ℝ) : EReal) := by
  pointwise [k0_pay69]
  exact piece (g := fun i => dgate p (x i) (t i)) (r67 h) i _ _ (by simp only [e1, col]; first | omega | (simp; omega) | simp)

theorem dgate5 (q : Fin 1) (i k : Fin 256) :
    k0_pay70 (F := Ideal) (P62 a) (P64 a) (P65 a) k0_pay66 (ix3 q i k) = ((dgate p (x i) (t i) (col 5 k) : ℝ) : EReal) := by
  pointwise [k0_pay70]
  exact piece (g := fun i => dgate p (x i) (t i)) (r67 h) i _ _ (by simp only [e1, col]; first | omega | (simp; omega) | simp)

theorem dgate6 (q : Fin 1) (i k : Fin 256) :
    k0_pay71 (F := Ideal) (P62 a) (P64 a) (P65 a) k0_pay66 (ix3 q i k) = ((dgate p (x i) (t i) (col 6 k) : ℝ) : EReal) := by
  pointwise [k0_pay71]
  exact piece (g := fun i => dgate p (x i) (t i)) (r67 h) i _ _ (by simp only [e1, col]; first | omega | (simp; omega) | simp)

theorem dgate7 (q : Fin 1) (i k : Fin 256) :
    k0_pay72 (F := Ideal) (P62 a) (P64 a) (P65 a) k0_pay66 (ix3 q i k) = ((dgate p (x i) (t i) (col 7 k) : ℝ) : EReal) := by
  pointwise [k0_pay72]
  exact piece (g := fun i => dgate p (x i) (t i)) (r67 h) i _ _ (by simp only [e1, col]; first | omega | (simp; omega) | simp)

theorem dgate8 (q : Fin 1) (i k : Fin 256) :
    k0_pay83 (F := Ideal) (P46 a) (P32 a) (P33 a) a.d2 (ix3 q i k) = ((dgate p (x i) (t i) (col 8 k) : ℝ) : EReal) := by
  pointwise [k0_pay83]
  exact piece (g := fun i => dgate p (x i) (t i)) (r81 h) i _ _ (by simp only [e2, col]; first | omega | (simp; omega) | simp)

theorem dgate9 (q : Fin 1) (i k : Fin 256) :
    k0_pay85 (F := Ideal) (k0_pay84 (P46 a) (P32 a) (P33 a) a.d2) (ix3 q i k) = ((dgate p (x i) (t i) (col 9 k) : ℝ) : EReal) := by
  pointwise [k0_pay85, k0_pay84]
  exact piece (g := fun i => dgate p (x i) (t i)) (r81 h) i _ _ (by simp only [e2, col]; first | omega | (simp; omega) | simp)

theorem dgate10 (q : Fin 1) (i k : Fin 256) :
    k0_pay86 (F := Ideal) (P81 a) (ix3 q i k) = ((dgate p (x i) (t i) (col 10 k) : ℝ) : EReal) := by
  pointwise [k0_pay86]
  exact piece (g := fun i => dgate p (x i) (t i)) (r81 h) i _ _ (by simp only [e2, col]; first | omega | (simp; omega) | simp)

theorem dup0 (q : Fin 1) (i k : Fin 256) :
    k0_pay57 (F := Ideal) (k0_pay56 (P46 a) (P10 a) a.d0) (ix3 q i k) = ((dup p (x i) (t i) (col 0 k) : ℝ) : EReal) := by
  pointwise [k0_pay57, k0_pay56]
  exact piece (g := fun i => dup p (x i) (t i)) (r51 h) i _ _ (by simp only [e0, col]; first | omega | (simp; omega) | simp)

theorem dup1 (q : Fin 1) (i k : Fin 256) :
    k0_pay58 (F := Ideal) (P51 a) (ix3 q i k) = ((dup p (x i) (t i) (col 1 k) : ℝ) : EReal) := by
  pointwise [k0_pay58]
  exact piece (g := fun i => dup p (x i) (t i)) (r51 h) i _ _ (by simp only [e0, col]; first | omega | (simp; omega) | simp)

theorem dup2 (q : Fin 1) (i k : Fin 256) :
    k0_pay59 (F := Ideal) (P51 a) (ix3 q i k) = ((dup p (x i) (t i) (col 2 k) : ℝ) : EReal) := by
  pointwise [k0_pay59]
  exact piece (g := fun i => dup p (x i) (t i)) (r51 h) i _ _ (by simp only [e0, col]; first | omega | (simp; omega) | simp)

theorem dup3 (q : Fin 1) (i k : Fin 256) :
    k0_pay60 (F := Ideal) (P51 a) (ix3 q i k) = ((dup p (x i) (t i) (col 3 k) : ℝ) : EReal) := by
  pointwise [k0_pay60]
  exact piece (g := fun i => dup p (x i) (t i)) (r51 h) i _ _ (by simp only [e0, col]; first | omega | (simp; omega) | simp)

theorem dup4 (q : Fin 1) (i k : Fin 256) :
    k0_pay73 (F := Ideal) (P21 a) (P62 a) (P63 a) (ix3 q i k) = ((dup p (x i) (t i) (col 4 k) : ℝ) : EReal) := by
  pointwise [k0_pay73]
  exact piece (g := fun i => dup p (x i) (t i)) (r68 h) i _ _ (by simp only [e1, col]; first | omega | (simp; omega) | simp)

theorem dup5 (q : Fin 1) (i k : Fin 256) :
    k0_pay74 (F := Ideal) (P21 a) (P62 a) (P63 a) (ix3 q i k) = ((dup p (x i) (t i) (col 5 k) : ℝ) : EReal) := by
  pointwise [k0_pay74]
  exact piece (g := fun i => dup p (x i) (t i)) (r68 h) i _ _ (by simp only [e1, col]; first | omega | (simp; omega) | simp)

theorem dup6 (q : Fin 1) (i k : Fin 256) :
    k0_pay76 (F := Ideal) (k0_pay75 (P21 a) (P62 a) (P63 a)) (ix3 q i k) = ((dup p (x i) (t i) (col 6 k) : ℝ) : EReal) := by
  pointwise [k0_pay76, k0_pay75]
  exact piece (g := fun i => dup p (x i) (t i)) (r68 h) i _ _ (by simp only [e1, col]; first | omega | (simp; omega) | simp)

theorem dup7 (q : Fin 1) (i k : Fin 256) :
    k0_pay77 (F := Ideal) (P68 a) (ix3 q i k) = ((dup p (x i) (t i) (col 7 k) : ℝ) : EReal) := by
  pointwise [k0_pay77]
  exact piece (g := fun i => dup p (x i) (t i)) (r68 h) i _ _ (by simp only [e1, col]; first | omega | (simp; omega) | simp)

theorem dup8 (q : Fin 1) (i k : Fin 256) :
    k0_pay87 (F := Ideal) (P82 a) (ix3 q i k) = ((dup p (x i) (t i) (col 8 k) : ℝ) : EReal) := by
  pointwise [k0_pay87]
  exact piece (g := fun i => dup p (x i) (t i)) (r82 h) i _ _ (by simp only [e2, col]; first | omega | (simp; omega) | simp)

theorem dup9 (q : Fin 1) (i k : Fin 256) :
    k0_pay88 (F := Ideal) (P82 a) (ix3 q i k) = ((dup p (x i) (t i) (col 9 k) : ℝ) : EReal) := by
  pointwise [k0_pay88]
  exact piece (g := fun i => dup p (x i) (t i)) (r82 h) i _ _ (by simp only [e2, col]; first | omega | (simp; omega) | simp)

theorem dup10 (q : Fin 1) (i k : Fin 256) :
    k0_pay89 (F := Ideal) (P82 a) (ix3 q i k) = ((dup p (x i) (t i) (col 10 k) : ℝ) : EReal) := by
  pointwise [k0_pay89]
  exact piece (g := fun i => dup p (x i) (t i)) (r82 h) i _ _ (by simp only [e2, col]; first | omega | (simp; omega) | simp)

/-- The block of the output holding `act`, read at a slab, a token and a column. -/
theorem act_block (y : S11x256x256.Idx) : View.canon (Val := Elt Ideal) (e := .bf16) [
      ⟨Rect.unit ![10, 0, 0] ![1, 256, 256] inb_S11x256x256_S1x256x256_10_0_0, k0_pay37 (P30 a) (P31 a)⟩,
      ⟨Rect.unit ![9, 0, 0] ![1, 256, 256] inb_S11x256x256_S1x256x256_9_0_0, k0_pay36 (P30 a) (P31 a)⟩,
      ⟨Rect.unit ![8, 0, 0] ![1, 256, 256] inb_S11x256x256_S1x256x256_8_0_0, k0_pay35 (P30 a) (P31 a)⟩,
      ⟨Rect.unit ![7, 0, 0] ![1, 256, 256] inb_S11x256x256_S1x256x256_7_0_0, k0_pay28 (P19 a) (P20 a) (P23 a)⟩,
      ⟨Rect.unit ![6, 0, 0] ![1, 256, 256] inb_S11x256x256_S1x256x256_6_0_0, k0_pay27 (P19 a) (P20 a) (P23 a)⟩,
      ⟨Rect.unit ![5, 0, 0] ![1, 256, 256] inb_S11x256x256_S1x256x256_5_0_0, k0_pay26 (P19 a) (P20 a) (P23 a)⟩,
      ⟨Rect.unit ![4, 0, 0] ![1, 256, 256] inb_S11x256x256_S1x256x256_4_0_0, k0_pay25 (P19 a) (P20 a) (P23 a)⟩,
      ⟨Rect.unit ![3, 0, 0] ![1, 256, 256] inb_S11x256x256_S1x256x256_3_0_0, k0_pay17 (P12 a)⟩,
      ⟨Rect.unit ![2, 0, 0] ![1, 256, 256] inb_S11x256x256_S1x256x256_2_0_0, k0_pay16 (P12 a)⟩,
      ⟨Rect.unit ![1, 0, 0] ![1, 256, 256] inb_S11x256x256_S1x256x256_1_0_0, k0_pay15 (P12 a)⟩,
      ⟨Rect.unit ![0, 0, 0] ![1, 256, 256] inb_S11x256x256_S1x256x256_0_0_0, k0_pay14 (k0_pay13 a.x0 a.x2 a.g0 a.u0)⟩] y =
    ((act p (x (y 1)) (col (y 0) (y 2)) : ℝ) : EReal) := by
  canon_tiles z hz
  all_goals
    idx_vars z
    obtain rfl : z1 = y 1 := Fin.ext hz1.symm
    obtain rfl : z2 = y 2 := Fin.ext hz2.symm
  · exact (act10 h z0 (y 1) (y 2)).trans (by rw [show (10 : Fin 11) = y 0 from Fin.ext (by rw [hz0]; show 10 = _; omega)])
  · exact (act9 h z0 (y 1) (y 2)).trans (by rw [show (9 : Fin 11) = y 0 from Fin.ext (by rw [hz0]; show 9 = _; omega)])
  · exact (act8 h z0 (y 1) (y 2)).trans (by rw [show (8 : Fin 11) = y 0 from Fin.ext (by rw [hz0]; show 8 = _; omega)])
  · exact (act7 h z0 (y 1) (y 2)).trans (by rw [show (7 : Fin 11) = y 0 from Fin.ext (by rw [hz0]; show 7 = _; omega)])
  · exact (act6 h z0 (y 1) (y 2)).trans (by rw [show (6 : Fin 11) = y 0 from Fin.ext (by rw [hz0]; show 6 = _; omega)])
  · exact (act5 h z0 (y 1) (y 2)).trans (by rw [show (5 : Fin 11) = y 0 from Fin.ext (by rw [hz0]; show 5 = _; omega)])
  · exact (act4 h z0 (y 1) (y 2)).trans (by rw [show (4 : Fin 11) = y 0 from Fin.ext (by rw [hz0]; show 4 = _; omega)])
  · exact (act3 h z0 (y 1) (y 2)).trans (by rw [show (3 : Fin 11) = y 0 from Fin.ext (by rw [hz0]; show 3 = _; omega)])
  · exact (act2 h z0 (y 1) (y 2)).trans (by rw [show (2 : Fin 11) = y 0 from Fin.ext (by rw [hz0]; show 2 = _; omega)])
  · exact (act1 h z0 (y 1) (y 2)).trans (by rw [show (1 : Fin 11) = y 0 from Fin.ext (by rw [hz0]; show 1 = _; omega)])
  · exact (act0 h z0 (y 1) (y 2)).trans (by rw [show (0 : Fin 11) = y 0 from Fin.ext (by rw [hz0]; show 0 = _; omega)])
/-- The block of the output holding `dgate`, read at a slab, a token and a column. -/
theorem dgate_block (y : S11x256x256.Idx) : View.canon (Val := Elt Ideal) (e := .bf16) [
      ⟨Rect.unit ![10, 0, 0] ![1, 256, 256] inb_S11x256x256_S1x256x256_10_0_0, k0_pay86 (P81 a)⟩,
      ⟨Rect.unit ![9, 0, 0] ![1, 256, 256] inb_S11x256x256_S1x256x256_9_0_0, k0_pay85 (k0_pay84 (P46 a) (P32 a) (P33 a) a.d2)⟩,
      ⟨Rect.unit ![8, 0, 0] ![1, 256, 256] inb_S11x256x256_S1x256x256_8_0_0, k0_pay83 (P46 a) (P32 a) (P33 a) a.d2⟩,
      ⟨Rect.unit ![7, 0, 0] ![1, 256, 256] inb_S11x256x256_S1x256x256_7_0_0, k0_pay72 (P62 a) (P64 a) (P65 a) k0_pay66⟩,
      ⟨Rect.unit ![6, 0, 0] ![1, 256, 256] inb_S11x256x256_S1x256x256_6_0_0, k0_pay71 (P62 a) (P64 a) (P65 a) k0_pay66⟩,
      ⟨Rect.unit ![5, 0, 0] ![1, 256, 256] inb_S11x256x256_S1x256x256_5_0_0, k0_pay70 (P62 a) (P64 a) (P65 a) k0_pay66⟩,
      ⟨Rect.unit ![4, 0, 0] ![1, 256, 256] inb_S11x256x256_S1x256x256_4_0_0, k0_pay69 (P62 a) (P64 a) (P65 a) k0_pay66⟩,
      ⟨Rect.unit ![3, 0, 0] ![1, 256, 256] inb_S11x256x256_S1x256x256_3_0_0, k0_pay55 (P46 a) (P10 a) (P11 a) a.d0⟩,
      ⟨Rect.unit ![2, 0, 0] ![1, 256, 256] inb_S11x256x256_S1x256x256_2_0_0, k0_pay54 (P46 a) (P10 a) (P11 a) a.d0⟩,
      ⟨Rect.unit ![1, 0, 0] ![1, 256, 256] inb_S11x256x256_S1x256x256_1_0_0, k0_pay53 (P46 a) (P10 a) (P11 a) a.d0⟩,
      ⟨Rect.unit ![0, 0, 0] ![1, 256, 256] inb_S11x256x256_S1x256x256_0_0_0, k0_pay52 (P46 a) (P10 a) (P11 a) a.d0⟩] y =
    ((dgate p (x (y 1)) (t (y 1)) (col (y 0) (y 2)) : ℝ) : EReal) := by
  canon_tiles z hz
  all_goals
    idx_vars z
    obtain rfl : z1 = y 1 := Fin.ext hz1.symm
    obtain rfl : z2 = y 2 := Fin.ext hz2.symm
  · exact (dgate10 h z0 (y 1) (y 2)).trans (by rw [show (10 : Fin 11) = y 0 from Fin.ext (by rw [hz0]; show 10 = _; omega)])
  · exact (dgate9 h z0 (y 1) (y 2)).trans (by rw [show (9 : Fin 11) = y 0 from Fin.ext (by rw [hz0]; show 9 = _; omega)])
  · exact (dgate8 h z0 (y 1) (y 2)).trans (by rw [show (8 : Fin 11) = y 0 from Fin.ext (by rw [hz0]; show 8 = _; omega)])
  · exact (dgate7 h z0 (y 1) (y 2)).trans (by rw [show (7 : Fin 11) = y 0 from Fin.ext (by rw [hz0]; show 7 = _; omega)])
  · exact (dgate6 h z0 (y 1) (y 2)).trans (by rw [show (6 : Fin 11) = y 0 from Fin.ext (by rw [hz0]; show 6 = _; omega)])
  · exact (dgate5 h z0 (y 1) (y 2)).trans (by rw [show (5 : Fin 11) = y 0 from Fin.ext (by rw [hz0]; show 5 = _; omega)])
  · exact (dgate4 h z0 (y 1) (y 2)).trans (by rw [show (4 : Fin 11) = y 0 from Fin.ext (by rw [hz0]; show 4 = _; omega)])
  · exact (dgate3 h z0 (y 1) (y 2)).trans (by rw [show (3 : Fin 11) = y 0 from Fin.ext (by rw [hz0]; show 3 = _; omega)])
  · exact (dgate2 h z0 (y 1) (y 2)).trans (by rw [show (2 : Fin 11) = y 0 from Fin.ext (by rw [hz0]; show 2 = _; omega)])
  · exact (dgate1 h z0 (y 1) (y 2)).trans (by rw [show (1 : Fin 11) = y 0 from Fin.ext (by rw [hz0]; show 1 = _; omega)])
  · exact (dgate0 h z0 (y 1) (y 2)).trans (by rw [show (0 : Fin 11) = y 0 from Fin.ext (by rw [hz0]; show 0 = _; omega)])
/-- The block of the output holding `dup`, read at a slab, a token and a column. -/
theorem dup_block (y : S11x256x256.Idx) : View.canon (Val := Elt Ideal) (e := .bf16) [
      ⟨Rect.unit ![10, 0, 0] ![1, 256, 256] inb_S11x256x256_S1x256x256_10_0_0, k0_pay89 (P82 a)⟩,
      ⟨Rect.unit ![9, 0, 0] ![1, 256, 256] inb_S11x256x256_S1x256x256_9_0_0, k0_pay88 (P82 a)⟩,
      ⟨Rect.unit ![8, 0, 0] ![1, 256, 256] inb_S11x256x256_S1x256x256_8_0_0, k0_pay87 (P82 a)⟩,
      ⟨Rect.unit ![7, 0, 0] ![1, 256, 256] inb_S11x256x256_S1x256x256_7_0_0, k0_pay77 (P68 a)⟩,
      ⟨Rect.unit ![6, 0, 0] ![1, 256, 256] inb_S11x256x256_S1x256x256_6_0_0, k0_pay76 (k0_pay75 (P21 a) (P62 a) (P63 a))⟩,
      ⟨Rect.unit ![5, 0, 0] ![1, 256, 256] inb_S11x256x256_S1x256x256_5_0_0, k0_pay74 (P21 a) (P62 a) (P63 a)⟩,
      ⟨Rect.unit ![4, 0, 0] ![1, 256, 256] inb_S11x256x256_S1x256x256_4_0_0, k0_pay73 (P21 a) (P62 a) (P63 a)⟩,
      ⟨Rect.unit ![3, 0, 0] ![1, 256, 256] inb_S11x256x256_S1x256x256_3_0_0, k0_pay60 (P51 a)⟩,
      ⟨Rect.unit ![2, 0, 0] ![1, 256, 256] inb_S11x256x256_S1x256x256_2_0_0, k0_pay59 (P51 a)⟩,
      ⟨Rect.unit ![1, 0, 0] ![1, 256, 256] inb_S11x256x256_S1x256x256_1_0_0, k0_pay58 (P51 a)⟩,
      ⟨Rect.unit ![0, 0, 0] ![1, 256, 256] inb_S11x256x256_S1x256x256_0_0_0, k0_pay57 (k0_pay56 (P46 a) (P10 a) a.d0)⟩] y =
    ((dup p (x (y 1)) (t (y 1)) (col (y 0) (y 2)) : ℝ) : EReal) := by
  canon_tiles z hz
  all_goals
    idx_vars z
    obtain rfl : z1 = y 1 := Fin.ext hz1.symm
    obtain rfl : z2 = y 2 := Fin.ext hz2.symm
  · exact (dup10 h z0 (y 1) (y 2)).trans (by rw [show (10 : Fin 11) = y 0 from Fin.ext (by rw [hz0]; show 10 = _; omega)])
  · exact (dup9 h z0 (y 1) (y 2)).trans (by rw [show (9 : Fin 11) = y 0 from Fin.ext (by rw [hz0]; show 9 = _; omega)])
  · exact (dup8 h z0 (y 1) (y 2)).trans (by rw [show (8 : Fin 11) = y 0 from Fin.ext (by rw [hz0]; show 8 = _; omega)])
  · exact (dup7 h z0 (y 1) (y 2)).trans (by rw [show (7 : Fin 11) = y 0 from Fin.ext (by rw [hz0]; show 7 = _; omega)])
  · exact (dup6 h z0 (y 1) (y 2)).trans (by rw [show (6 : Fin 11) = y 0 from Fin.ext (by rw [hz0]; show 6 = _; omega)])
  · exact (dup5 h z0 (y 1) (y 2)).trans (by rw [show (5 : Fin 11) = y 0 from Fin.ext (by rw [hz0]; show 5 = _; omega)])
  · exact (dup4 h z0 (y 1) (y 2)).trans (by rw [show (4 : Fin 11) = y 0 from Fin.ext (by rw [hz0]; show 4 = _; omega)])
  · exact (dup3 h z0 (y 1) (y 2)).trans (by rw [show (3 : Fin 11) = y 0 from Fin.ext (by rw [hz0]; show 3 = _; omega)])
  · exact (dup2 h z0 (y 1) (y 2)).trans (by rw [show (2 : Fin 11) = y 0 from Fin.ext (by rw [hz0]; show 2 = _; omega)])
  · exact (dup1 h z0 (y 1) (y 2)).trans (by rw [show (1 : Fin 11) = y 0 from Fin.ext (by rw [hz0]; show 1 = _; omega)])
  · exact (dup0 h z0 (y 1) (y 2)).trans (by rw [show (0 : Fin 11) = y 0 from Fin.ext (by rw [hz0]; show 0 = _; omega)])
end Cert.Pieces
-- ==== Proof.Reads.lean ====
/- What the kernel's body reads at one grid point, over real arguments. -/
module

public import proofs.«01_k».proof.Proof.Pieces
public import proofs.«01_k».proof.Proof.Gen.KernelIdeal.Frame
public import Idealize.ShloMosaic.Lib.Pipeline.ValueKit
public import Idealize.ShloMosaic.Lib.Pipeline.ReadBack

@[expose] public section

set_option maxRecDepth 16384
set_option maxHeartbeats 4000000

noncomputable section

namespace Cert.Blocks

open Idealize.ShloMosaic Cert.KernelIdeal Cert.KernelIdeal.Gen Cert.Lift Cert.Spec Cert.Payloads Cert.Point
open Idealize.ShloMosaic.TcCoe Idealize.ShloMosaic.Tactic

/-- The token at a row of a grid point's block. -/
def tok (n : Fin 16) (i : Fin 256) : Fin 4096 := ⟨256 * n.val + i.val, by omega⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)

variable (m : (ℓ : Loc nD τ sig) → Buf (Elt Ideal) ℓ)

/-- The entries of the seven arguments are these real numbers. -/
structure Args (c : Dev nD) (p : Params) (x tgt : Fin 4096 → Fin 1024 → ℝ) : Prop where
  a0 : Is2 (m ((c : Thread nD τ).loc main_arg0)) x
  a1 : Is2 (m ((c : Thread nD τ).loc main_arg1)) tgt
  a2 : Is2 (m ((c : Thread nD τ).loc main_arg2)) fun _ j => p.gf j
  a3 : Is2 (m ((c : Thread nD τ).loc main_arg3)) fun _ j => p.gl j
  a4 : Is2 (m ((c : Thread nD τ).loc main_arg4)) p.wg
  a5 : Is2 (m ((c : Thread nD τ).loc main_arg5)) p.wu
  a6 : Is2 (m ((c : Thread nD τ).loc main_arg6)) p.wd

/-- What a grid point reads of the arguments. -/
abbrev inAt (c : Dev nD) (t : Fin cfg0.N) : In where
  x0 := iblk m c 0 t
  x1 := iblk m c 1 t
  x2 := iblk m c 2 t
  x3 := iblk m c 3 t
  g0 := View.ld (Val := Elt Ideal) (S := S2816x1024) (e' := .bf16) (iblk m c 4 t) (Rect.unit ![0, 0] ![1024, 1024] inb_S2816x1024_S1024x1024_0_0)
  g1 := View.ld (Val := Elt Ideal) (S := S2816x1024) (e' := .bf16) (iblk m c 4 t) (Rect.unit ![1024, 0] ![1024, 1024] inb_S2816x1024_S1024x1024_1024_0)
  g2 := View.ld (Val := Elt Ideal) (S := S2816x1024) (e' := .bf16) (iblk m c 4 t) (Rect.unit ![2048, 0] ![768, 1024] inb_S2816x1024_S768x1024_2048_0)
  u0 := View.ld (Val := Elt Ideal) (S := S2816x1024) (e' := .bf16) (iblk m c 5 t) (Rect.unit ![0, 0] ![1024, 1024] inb_S2816x1024_S1024x1024_0_0)
  u1 := View.ld (Val := Elt Ideal) (S := S2816x1024) (e' := .bf16) (iblk m c 5 t) (Rect.unit ![1024, 0] ![1024, 1024] inb_S2816x1024_S1024x1024_1024_0)
  u2 := View.ld (Val := Elt Ideal) (S := S2816x1024) (e' := .bf16) (iblk m c 5 t) (Rect.unit ![2048, 0] ![768, 1024] inb_S2816x1024_S768x1024_2048_0)
  d0 := View.ld (Val := Elt Ideal) (S := S2816x1024) (e' := .bf16) (iblk m c 6 t) (Rect.unit ![0, 0] ![1024, 1024] inb_S2816x1024_S1024x1024_0_0)
  d1 := View.ld (Val := Elt Ideal) (S := S2816x1024) (e' := .bf16) (iblk m c 6 t) (Rect.unit ![1024, 0] ![1024, 1024] inb_S2816x1024_S1024x1024_1024_0)
  d2 := View.ld (Val := Elt Ideal) (S := S2816x1024) (e' := .bf16) (iblk m c 6 t) (Rect.unit ![2048, 0] ![768, 1024] inb_S2816x1024_S768x1024_2048_0)

variable {m} {c : Dev nD} {p : Params} {x tgt : Fin 4096 → Fin 1024 → ℝ} (h : Args m c p x tgt)
include h

/-- The rows of a grid point. -/
abbrev rowsAt (x : Fin 4096 → Fin 1024 → ℝ) (t : Fin cfg0.N) (i : Fin 256) : Fin 1024 → ℝ := x (tok t i)

theorem read0 (t : Fin cfg0.N) : Is2 (iblk m c 0 t) (rowsAt x t) := by
  intro i j
  refine Eq.trans ?_ (h.a0 (tok t i) j)
  blk_ext [iblk, V, index0 t]
  all_goals (simp [tok]; try omega)

theorem read1 (t : Fin cfg0.N) : Is2 (iblk m c 1 t) (rowsAt tgt t) := by
  intro i j
  refine Eq.trans ?_ (h.a1 (tok t i) j)
  blk_ext [iblk, V, index1 t]
  all_goals (simp [tok]; try omega)

theorem read2 (t : Fin cfg0.N) : Is2 (iblk m c 2 t) fun _ j => p.gf j := by
  intro i j
  refine Eq.trans ?_ (h.a2 i j)
  blk_ext [iblk, V, index2 t]

theorem read3 (t : Fin cfg0.N) : Is2 (iblk m c 3 t) fun _ j => p.gl j := by
  intro i j
  refine Eq.trans ?_ (h.a3 i j)
  blk_ext [iblk, V, index3 t]

theorem read4 (t : Fin cfg0.N) : Is2 (iblk m c 4 t) p.wg := by
  intro i j
  refine Eq.trans ?_ (h.a4 i j)
  blk_ext [iblk, V, index4 t]

theorem read5 (t : Fin cfg0.N) : Is2 (iblk m c 5 t) p.wu := by
  intro i j
  refine Eq.trans ?_ (h.a5 i j)
  blk_ext [iblk, V, index5 t]

theorem read6 (t : Fin cfg0.N) : Is2 (iblk m c 6 t) p.wd := by
  intro i j
  refine Eq.trans ?_ (h.a6 i j)
  blk_ext [iblk, V, index6 t]

omit h in
/-- Rows 0 to 1023 of a weight matrix. -/
theorem piece0 {X : Vec Ideal S2816x1024 .bf16} {w : Fin 2816 → Fin 1024 → ℝ} (hX : Is2 X w) :
    Is2 (View.ld (Val := Elt Ideal) (S := S2816x1024) (e' := .bf16) X (Rect.unit ![0, 0] ![1024, 1024] inb_S2816x1024_S1024x1024_0_0))
      fun f => w (e0 f) := by
  intro i j
  refine Eq.trans ?_ (hX (e0 i) j)
  exact View.ld_unit_apply_of X _ _ _ _ (ix2 (e0 i) j) (by intro a; fin_cases a <;> simp [e0])

omit h in
/-- Rows 1024 to 2047 of a weight matrix. -/
theorem piece1 {X : Vec Ideal S2816x1024 .bf16} {w : Fin 2816 → Fin 1024 → ℝ} (hX : Is2 X w) :
    Is2 (View.ld (Val := Elt Ideal) (S := S2816x1024) (e' := .bf16) X (Rect.unit ![1024, 0] ![1024, 1024] inb_S2816x1024_S1024x1024_1024_0))
      fun f => w (e1 f) := by
  intro i j
  refine Eq.trans ?_ (hX (e1 i) j)
  exact View.ld_unit_apply_of X _ _ _ _ (ix2 (e1 i) j) (by intro a; fin_cases a <;> simp [e1])

omit h in
/-- Rows 2048 to 2815 of a weight matrix. -/
theorem piece2 {X : Vec Ideal S2816x1024 .bf16} {w : Fin 2816 → Fin 1024 → ℝ} (hX : Is2 X w) :
    Is2 (View.ld (Val := Elt Ideal) (S := S2816x1024) (e' := .bf16) X (Rect.unit ![2048, 0] ![768, 1024] inb_S2816x1024_S768x1024_2048_0))
      fun f => w (e2 f) := by
  intro i j
  refine Eq.trans ?_ (hX (e2 i) j)
  exact View.ld_unit_apply_of X _ _ _ _ (ix2 (e2 i) j) (by intro a; fin_cases a <;> simp [e2])

theorem realAt (t : Fin cfg0.N) : Real (inAt m c t) p (rowsAt x t) (rowsAt tgt t) where
  x0 := read0 h t
  x1 := read1 h t
  x2 := read2 h t
  x3 := read3 h t
  g0 := piece0 (read4 h t)
  g1 := piece1 (read4 h t)
  g2 := piece2 (read4 h t)
  u0 := piece0 (read5 h t)
  u1 := piece1 (read5 h t)
  u2 := piece2 (read5 h t)
  d0 := piece0 (read6 h t)
  d1 := piece1 (read6 h t)
  d2 := piece2 (read6 h t)

end Cert.Blocks
-- ==== Proof.Blocks.lean ====
/- What the kernel's body leaves in each output window at one grid point, over real arguments. -/
module

public import proofs.«01_k».proof.Proof.Reads
public import proofs.«01_k».proof.Proof.Gen.KernelIdeal.Frame
public import Idealize.ShloMosaic.Lib.Pipeline.ValueKit
public import Idealize.ShloMosaic.Lib.Pipeline.ReadBack

@[expose] public section

set_option maxRecDepth 16384
set_option maxHeartbeats 4000000

noncomputable section

namespace Cert.Blocks

open Idealize.ShloMosaic Cert.KernelIdeal Cert.KernelIdeal.Gen Cert.Lift Cert.Spec Cert.Payloads Cert.Point
open Idealize.ShloMosaic.TcCoe Idealize.ShloMosaic.Tactic

variable {m : (ℓ : Loc nD τ sig) → Buf (Elt Ideal) ℓ} {c : Dev nD} {p : Params} {x tgt : Fin 4096 → Fin 1024 → ℝ} (h : Args m c p x tgt)
include h

omit h in
theorem open0 (t : Fin cfg0.N) : (outsAt0 m c t.val t.isLt).1 = P1 (inAt m c t) := by
  by_cases h0 : t.val % 16 = 0
  · rw [outsAt0_A m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]
  · rw [outsAt0_B m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]

theorem out0 (t : Fin cfg0.N) : Is2 (outsAt0 m c t.val t.isLt).1 fun i j => dh1 p (x (tok t i)) (tgt (tok t i)) j := by
  rw [open0]
  exact r1 (realAt h t)

omit h in
theorem open1 (t : Fin cfg0.N) : (outsAt0 m c t.val t.isLt).2.1 = P7 (inAt m c t) := by
  by_cases h0 : t.val % 16 = 0
  · rw [outsAt0_A m c t h0]
    dsimp only
    frame_open
    try simp (disch := decide) only [↓ View.readCov_skip, ↓ View.readCov_cons_toLoadRect]
    frame_out
  · rw [outsAt0_B m c t h0]
    dsimp only
    frame_open
    try simp (disch := decide) only [↓ View.readCov_skip, ↓ View.readCov_cons_toLoadRect]
    frame_out

theorem out1 (t : Fin cfg0.N) : Is2 (outsAt0 m c t.val t.isLt).2.1 fun i j => hn p.gf (x (tok t i)) j := by
  rw [open1]
  exact r7 (realAt h t)

omit h in
theorem open5 (t : Fin cfg0.N) : (outsAt0 m c t.val t.isLt).2.2.2.2.2.1 = P46 (inAt m c t) := by
  by_cases h0 : t.val % 16 = 0
  · rw [outsAt0_A m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]
  · rw [outsAt0_B m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]

theorem out5 (t : Fin cfg0.N) : Is2 (outsAt0 m c t.val t.isLt).2.2.2.2.2.1 fun i j => dh2 p (x (tok t i)) (tgt (tok t i)) j := by
  rw [open5]
  exact r46 (realAt h t)

theorem out2 (t : Fin cfg0.N) (y : S11x256x256.Idx) : (outsAt0 m c t.val t.isLt).2.2.1 y =
    ((act p (x (tok t (y 1))) (Pieces.col (y 0) (y 2)) : ℝ) : EReal) := by
  refine Eq.trans ?_ (Pieces.act_block (realAt h t) y)
  by_cases h0 : t.val % 16 = 0
  · rw [outsAt0_A m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]
  · rw [outsAt0_B m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]

theorem out3 (t : Fin cfg0.N) (y : S11x256x256.Idx) : (outsAt0 m c t.val t.isLt).2.2.2.1 y =
    ((dgate p (x (tok t (y 1))) (tgt (tok t (y 1))) (Pieces.col (y 0) (y 2)) : ℝ) : EReal) := by
  refine Eq.trans ?_ (Pieces.dgate_block (realAt h t) y)
  by_cases h0 : t.val % 16 = 0
  · rw [outsAt0_A m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]
  · rw [outsAt0_B m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]

theorem out4 (t : Fin cfg0.N) (y : S11x256x256.Idx) : (outsAt0 m c t.val t.isLt).2.2.2.2.1 y =
    ((dup p (x (tok t (y 1))) (tgt (tok t (y 1))) (Pieces.col (y 0) (y 2)) : ℝ) : EReal) := by
  refine Eq.trans ?_ (Pieces.dup_block (realAt h t) y)
  by_cases h0 : t.val % 16 = 0
  · rw [outsAt0_A m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]
  · rw [outsAt0_B m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]

theorem out6_first (t : Fin cfg0.N) (h0 : t.val % 16 = 0) (i : Fin 1) (j : Fin 128) :
    (outsAt0 m c t.val t.isLt).2.2.2.2.2.2.1 (ix2 i j) = (0 : EReal) + ((∑ i, lossRow p (x (tok t i)) (tgt (tok t i)) : ℝ) : EReal) := by
  refine Eq.trans ?_ ((pay42 _ (k0_pay2 (F := Ideal)) (r41 (realAt h t)) i j).trans ?_)
  · rw [outsAt0_A m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]
  · rw [pay2 i j]
    simp only [lossRow, EReal.coe_zero]

theorem out6_next (t : Fin cfg0.N) (h0 : ¬t.val % 16 = 0) (i : Fin 1) (j : Fin 128) :
    (outsAt0 m c t.val t.isLt).2.2.2.2.2.2.1 (ix2 i j) = ((outsAt0 m c (t.val - 1) (Nat.lt_of_le_of_lt (Nat.sub_le _ _) t.isLt)).2.2.2.2.2.2.1 (ix2 i j) : EReal) + ((∑ i, lossRow p (x (tok t i)) (tgt (tok t i)) : ℝ) : EReal) := by
  refine Eq.trans ?_ ((pay42 _ (outsAt0 m c (t.val - 1) (Nat.lt_of_le_of_lt (Nat.sub_le _ _) t.isLt)).2.2.2.2.2.2.1 (r41 (realAt h t)) i j).trans ?_)
  · rw [outsAt0_B m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]
  · simp only [lossRow]

theorem out7_first (t : Fin cfg0.N) (h0 : t.val % 16 = 0) (i : Fin 1) (j : Fin 1024) :
    (outsAt0 m c t.val t.isLt).2.2.2.2.2.2.2.1 (ix2 i j) = (0 : EReal) + ((∑ i, dglRow p (x (tok t i)) (tgt (tok t i)) j : ℝ) : EReal) := by
  refine Eq.trans ?_ ((pay44 _ _ (k0_pay3 (F := Ideal)) (r40 (realAt h t)) (r41 (realAt h t)) i j).trans ?_)
  · rw [outsAt0_A m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]
  · rw [pay3 i j]
    simp only [dglRow, EReal.coe_zero]

theorem out7_next (t : Fin cfg0.N) (h0 : ¬t.val % 16 = 0) (i : Fin 1) (j : Fin 1024) :
    (outsAt0 m c t.val t.isLt).2.2.2.2.2.2.2.1 (ix2 i j) = ((outsAt0 m c (t.val - 1) (Nat.lt_of_le_of_lt (Nat.sub_le _ _) t.isLt)).2.2.2.2.2.2.2.1 (ix2 i j) : EReal) + ((∑ i, dglRow p (x (tok t i)) (tgt (tok t i)) j : ℝ) : EReal) := by
  refine Eq.trans ?_ ((pay44 _ _ (outsAt0 m c (t.val - 1) (Nat.lt_of_le_of_lt (Nat.sub_le _ _) t.isLt)).2.2.2.2.2.2.2.1 (r40 (realAt h t)) (r41 (realAt h t)) i j).trans ?_)
  · rw [outsAt0_B m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]
  · simp only [dglRow]

theorem out8_first (t : Fin cfg0.N) (h0 : t.val % 16 = 0) (i : Fin 1) (j : Fin 1024) :
    (outsAt0 m c t.val t.isLt).2.2.2.2.2.2.2.2 (ix2 i j) = (0 : EReal) + ((∑ i, dgfRow p (x (tok t i)) (tgt (tok t i)) j : ℝ) : EReal) := by
  refine Eq.trans ?_ ((pay91 _ _ _ _ _ _ (k0_pay4 (F := Ideal)) (r6 (realAt h t)) (r78 (realAt h t)) (r81 (realAt h t)) (r82 (realAt h t)) (realAt h t).g2 (realAt h t).u2 i j).trans ?_)
  · rw [outsAt0_A m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]
  · rw [pay4 i j]
    simp only [dgfRow, dhn_pieces, EReal.coe_zero]

theorem out8_next (t : Fin cfg0.N) (h0 : ¬t.val % 16 = 0) (i : Fin 1) (j : Fin 1024) :
    (outsAt0 m c t.val t.isLt).2.2.2.2.2.2.2.2 (ix2 i j) = ((outsAt0 m c (t.val - 1) (Nat.lt_of_le_of_lt (Nat.sub_le _ _) t.isLt)).2.2.2.2.2.2.2.2 (ix2 i j) : EReal) + ((∑ i, dgfRow p (x (tok t i)) (tgt (tok t i)) j : ℝ) : EReal) := by
  refine Eq.trans ?_ ((pay91 _ _ _ _ _ _ (outsAt0 m c (t.val - 1) (Nat.lt_of_le_of_lt (Nat.sub_le _ _) t.isLt)).2.2.2.2.2.2.2.2 (r6 (realAt h t)) (r78 (realAt h t)) (r81 (realAt h t)) (r82 (realAt h t)) (realAt h t).g2 (realAt h t).u2 i j).trans ?_)
  · rw [outsAt0_B m c t h0]
    dsimp only
    frame_open
    try simp (disch := decide) only [↓ View.readCov_skip, ↓ View.readCov_cons_toLoadRect]
    frame_out
    dsimp only [P5, P6, P7, P12, P18, P19, P20, P23, P24, P29, P30, P31, P34, P39, P40, P41, P45, P46, P10, P11, P50, P51, P61, P21, P62, P22, P64, P65, P67, P63, P68, P78, P32, P33, P81, P82, P90, P1, inAt]
  · simp only [dgfRow, dhn_pieces]

end Cert.Blocks
-- ==== Proof.Arrays.lean ====
/- The kernel's nine result arrays over real arguments: the blocks of the grid points put together, and the three sums over
   tokens that the points carry from one to the next. -/
module

public import proofs.«01_k».proof.Proof.Blocks

@[expose] public section

set_option maxRecDepth 16384

noncomputable section

namespace Cert.Arrays

open Idealize.ShloMosaic Cert.KernelIdeal Cert.KernelIdeal.Gen Cert.Lift Cert.Spec Cert.Payloads Cert.Point Cert.Blocks
open Idealize.ShloMosaic.TcCoe Idealize.ShloMosaic.Tactic

theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index12 : ∀ t : Fin cfg0.N, win0_12.index t = ![t.val, 0] := (by decide +kernel : ∀ t : Fin grid0.N, _)
theorem index9 : ∀ t : Fin cfg0.N, win0_9.index t = ![0, t.val, 0] := (by decide +kernel : ∀ t : Fin grid0.N, _)
theorem index10 : ∀ t : Fin cfg0.N, win0_10.index t = ![0, t.val, 0] := (by decide +kernel : ∀ t : Fin grid0.N, _)
theorem index11 : ∀ t : Fin cfg0.N, win0_11.index t = ![0, t.val, 0] := (by decide +kernel : ∀ t : Fin grid0.N, _)

/-- A real matrix read at any index. -/
theorem at2 {a b : ℕ} {v : (⟨2, ![a, b]⟩ : Shape).Idx → EReal} {f : Fin a → Fin b → ℝ} (h : Is2 v f)
    (y : (⟨2, ![a, b]⟩ : Shape).Idx) : v y = ((f (y 0) (y 1) : ℝ) : EReal) := by
  rw [← h (y 0) (y 1)]
  congr 1
  funext k
  fin_cases k <;> rfl

/-- The sum over the grid's points and the rows of each is the sum over all tokens. -/
theorem sum_tok (f : Fin 4096 → ℝ) : ∑ t : Fin 16, ∑ i : Fin 256, f (tok t i) = ∑ i, f i := by
  refine Fin.sum_mul_add_congr (f := f) fun t i h => congrArg f (Fin.ext ?_)
  simp only [tok, Nat.mul_comm]

variable {m : (ℓ : Loc nD τ sig) → Buf (Elt Ideal) ℓ} {c : Dev nD} {p : Params} {x tgt : Fin 4096 → Fin 1024 → ℝ} (h : Args m c p x tgt)
include h

theorem arr7 : (dats m 0 c).arrAt 7 cfg0.N = fun y : S4096x1024.Idx => ((dh1 p (x (y 0)) (tgt (y 0)) (y 1) : ℝ) : EReal) := by
  refine (dats m 0 c).arrAt_eq_of_covers 7 _ (by decide +kernel) fun t hf y => ?_
  blk_simp
  rw [after0_7]
  refine (at2 (out0 h t) y).trans ?_
  have e0 : (win0_7.blk t).view.emb y 0 = tok t (y 0) := by
    apply Fin.ext
    blk_simp [index7 t]
    simp [tok, Nat.mul_comm]
  have e1 : (win0_7.blk t).view.emb y 1 = y 1 := by
    apply Fin.ext
    blk_simp [index7 t]
  rw [e0, e1]

theorem arr8 : (dats m 0 c).arrAt 8 cfg0.N = fun y : S4096x1024.Idx => ((hn p.gf (x (y 0)) (y 1) : ℝ) : EReal) := by
  refine (dats m 0 c).arrAt_eq_of_covers 8 _ (by decide +kernel) fun t hf y => ?_
  blk_simp
  rw [after0_8]
  refine (at2 (out1 h t) y).trans ?_
  have e0 : (win0_8.blk t).view.emb y 0 = tok t (y 0) := by
    apply Fin.ext
    blk_simp [index8 t]
    simp [tok, Nat.mul_comm]
  have e1 : (win0_8.blk t).view.emb y 1 = y 1 := by
    apply Fin.ext
    blk_simp [index8 t]
  rw [e0, e1]

theorem arr12 : (dats m 0 c).arrAt 12 cfg0.N = fun y : S4096x1024.Idx => ((dh2 p (x (y 0)) (tgt (y 0)) (y 1) : ℝ) : EReal) := by
  refine (dats m 0 c).arrAt_eq_of_covers 12 _ (by decide +kernel) fun t hf y => ?_
  blk_simp
  rw [after0_12]
  refine (at2 (out5 h t) y).trans ?_
  have e0 : (win0_12.blk t).view.emb y 0 = tok t (y 0) := by
    apply Fin.ext
    blk_simp [index12 t]
    simp [tok, Nat.mul_comm]
  have e1 : (win0_12.blk t).view.emb y 1 = y 1 := by
    apply Fin.ext
    blk_simp [index12 t]
  rw [e0, e1]

theorem arr9 : (dats m 0 c).arrAt 9 cfg0.N =
    fun y : S11x4096x256.Idx => ((act p (x (y 1)) (Pieces.col (y 0) (y 2)) : ℝ) : EReal) := by
  refine (dats m 0 c).arrAt_eq_of_covers 9 _ (by decide +kernel) fun t hf y => ?_
  blk_simp
  rw [after0_9]
  refine (out2 h t y).trans ?_
  have e0 : (win0_9.blk t).view.emb y 0 = y 0 := by
    apply Fin.ext
    blk_simp [index9 t]
  have e1 : (win0_9.blk t).view.emb y 1 = tok t (y 1) := by
    apply Fin.ext
    blk_simp [index9 t]
    simp [tok, Nat.mul_comm]
  have e2 : (win0_9.blk t).view.emb y 2 = y 2 := by
    apply Fin.ext
    blk_simp [index9 t]
  rw [e0, e1, e2]

theorem arr10 : (dats m 0 c).arrAt 10 cfg0.N =
    fun y : S11x4096x256.Idx => ((dgate p (x (y 1)) (tgt (y 1)) (Pieces.col (y 0) (y 2)) : ℝ) : EReal) := by
  refine (dats m 0 c).arrAt_eq_of_covers 10 _ (by decide +kernel) fun t hf y => ?_
  blk_simp
  rw [after0_10]
  refine (out3 h t y).trans ?_
  have e0 : (win0_10.blk t).view.emb y 0 = y 0 := by
    apply Fin.ext
    blk_simp [index10 t]
  have e1 : (win0_10.blk t).view.emb y 1 = tok t (y 1) := by
    apply Fin.ext
    blk_simp [index10 t]
    simp [tok, Nat.mul_comm]
  have e2 : (win0_10.blk t).view.emb y 2 = y 2 := by
    apply Fin.ext
    blk_simp [index10 t]
  rw [e0, e1, e2]

theorem arr11 : (dats m 0 c).arrAt 11 cfg0.N =
    fun y : S11x4096x256.Idx => ((dup p (x (y 1)) (tgt (y 1)) (Pieces.col (y 0) (y 2)) : ℝ) : EReal) := by
  refine (dats m 0 c).arrAt_eq_of_covers 11 _ (by decide +kernel) fun t hf y => ?_
  blk_simp
  rw [after0_11]
  refine (out4 h t y).trans ?_
  have e0 : (win0_11.blk t).view.emb y 0 = y 0 := by
    apply Fin.ext
    blk_simp [index11 t]
  have e1 : (win0_11.blk t).view.emb y 1 = tok t (y 1) := by
    apply Fin.ext
    blk_simp [index11 t]
    simp [tok, Nat.mul_comm]
  have e2 : (win0_11.blk t).view.emb y 2 = y 2 := by
    apply Fin.ext
    blk_simp [index11 t]
  rw [e0, e1, e2]

theorem last6 : Is2 (outsAt0 m c t0_15.val t0_15.isLt).2.2.2.2.2.2.1 fun _ j => ∑ i, lossRow p (x i) (tgt i) := by
  intro i j
  have e := Pipeline.eq_sum_fin_of_reset_step_apply_last
    (fun n h (q : Fin 1 × Fin 128) => ((outsAt0 m c n h).2.2.2.2.2.2.1 (ix2 q.1 q.2) : EReal)) 16 (fun _ => 0)
    (fun t q => ((∑ i, lossRow p (x (tok t i)) (tgt (tok t i)) : ℝ) : EReal))
    (fun t h0 q => out6_first h t h0 q.1 q.2) (fun t h0 q => out6_next h t h0 q.1 q.2) (le_of_eq N_0) t0_15 rfl (i, j)
  dsimp only at e
  rw [e, zero_add, ← coe_sum]
  exact congrArg _ (sum_tok fun i => lossRow p (x i) (tgt i))

theorem arr13 : (dats m 0 c).arrAt 13 cfg0.N =
    fun y : S1x128.Idx => ((∑ i, lossRow p (x i) (tgt i) : ℝ) : EReal) := by
  refine (dats m 0 c).arrAt_eq_of_after_last 13 t0_15 (by decide +kernel) _ fun y => ?_
  blk_simp
  rw [after0_13]
  exact at2 (last6 h) y

theorem last7 : Is2 (outsAt0 m c t0_15.val t0_15.isLt).2.2.2.2.2.2.2.1 fun _ j => ∑ i, dglRow p (x i) (tgt i) j := by
  intro i j
  have e := Pipeline.eq_sum_fin_of_reset_step_apply_last
    (fun n h (q : Fin 1 × Fin 1024) => ((outsAt0 m c n h).2.2.2.2.2.2.2.1 (ix2 q.1 q.2) : EReal)) 16 (fun _ => 0)
    (fun t q => ((∑ i, dglRow p (x (tok t i)) (tgt (tok t i)) q.2 : ℝ) : EReal))
    (fun t h0 q => out7_first h t h0 q.1 q.2) (fun t h0 q => out7_next h t h0 q.1 q.2) (le_of_eq N_0) t0_15 rfl (i, j)
  dsimp only at e
  rw [e, zero_add, ← coe_sum]
  exact congrArg _ (sum_tok fun i => dglRow p (x i) (tgt i) j)

theorem arr14 : (dats m 0 c).arrAt 14 cfg0.N =
    fun y : S1x1024.Idx => ((∑ i, dglRow p (x i) (tgt i) (y 1) : ℝ) : EReal) := by
  refine (dats m 0 c).arrAt_eq_of_after_last 14 t0_15 (by decide +kernel) _ fun y => ?_
  blk_simp
  rw [after0_14]
  exact at2 (last7 h) y

theorem last8 : Is2 (outsAt0 m c t0_15.val t0_15.isLt).2.2.2.2.2.2.2.2 fun _ j => ∑ i, dgfRow p (x i) (tgt i) j := by
  intro i j
  have e := Pipeline.eq_sum_fin_of_reset_step_apply_last
    (fun n h (q : Fin 1 × Fin 1024) => ((outsAt0 m c n h).2.2.2.2.2.2.2.2 (ix2 q.1 q.2) : EReal)) 16 (fun _ => 0)
    (fun t q => ((∑ i, dgfRow p (x (tok t i)) (tgt (tok t i)) q.2 : ℝ) : EReal))
    (fun t h0 q => out8_first h t h0 q.1 q.2) (fun t h0 q => out8_next h t h0 q.1 q.2) (le_of_eq N_0) t0_15 rfl (i, j)
  dsimp only at e
  rw [e, zero_add, ← coe_sum]
  exact congrArg _ (sum_tok fun i => dgfRow p (x i) (tgt i) j)

theorem arr15 : (dats m 0 c).arrAt 15 cfg0.N =
    fun y : S1x1024.Idx => ((∑ i, dgfRow p (x i) (tgt i) (y 1) : ℝ) : EReal) := by
  refine (dats m 0 c).arrAt_eq_of_after_last 15 t0_15 (by decide +kernel) _ fun y => ?_
  blk_simp
  rw [after0_15]
  exact at2 (last8 h) y

end Cert.Arrays
-- ==== Proof.Reference.lean ====
/- What the reference computes, operation by operation, over real arguments: the same formulas as the kernel. The gradients
   are the reverse-mode derivatives of its forward lines. -/
module

public import proofs.«01_k».proof.Proof.Pieces
public import proofs.«01_k».proof.Proof.Gen.ReferenceIdeal.Read

@[expose] public section

set_option maxRecDepth 16384

noncomputable section

namespace Cert.Reference

open Idealize.ShloMosaic Cert.ReferenceIdeal Cert.ReferenceIdeal.Read Cert.Lift Cert.Spec Cert.Payloads

theorem lit_zero : Ideal.ofBits .f32 0#32 = ((0 : ℝ) : EReal) := by
  simp [Ideal.ofBits, Ideal.ieee]

/-- The third power of the inverse root mean square, as the derivative of the inverse root has it. -/
theorem rr_div_ms (x : Fin 1024 → ℝ) : rr x / ms x = rr x * rr x * rr x := by
  have h : rr x * rr x = (ms x)⁻¹ := by
    rw [rr, ← mul_inv, Real.mul_self_sqrt (ms_pos x).le]
  rw [h, div_eq_mul_inv, mul_comm]

/-- The gradient of a root-mean-square normalisation, as the chain rule gives it term by term. -/
theorem back_rule (x d : Fin 1024 → ℝ) (j : Fin 1024) :
    d j * rr x + x j * ((∑ k, x k * d k) * (-(1 / 2) * (rr x / ms x)) / 1024) +
      (∑ k, x k * d k) * (-(1 / 2) * (rr x / ms x)) / 1024 * x j = back (rr x) (nrm x) d j := by
  have e : ∑ k, d k * nrm x k = (∑ k, x k * d k) * rr x := by
    rw [Finset.sum_mul]
    exact Finset.sum_congr rfl fun k _ => by rw [nrm]; ring
  rw [back, e, rr_div_ms, nrm]
  ring

/-- The logistic function as the reference writes it. -/
theorem sg_rule (z : ℝ) : Ideal.div 1 (1 + Ideal.exp ((-z : ℝ) : EReal)) = ((sg z : ℝ) : EReal) := by
  rw [Ideal.exp_coe, ← EReal.coe_one, ← EReal.coe_add, div_pos_coe _ (by positivity), sg, one_div]

variable {X0 X1 : Vec Ideal S4096x1024 .f32} {X2 X3 : Vec Ideal S1x1024 .f32} {X4 X5 X6 : Vec Ideal S2816x1024 .bf16}

/-- The entries of the seven arguments are these real numbers. -/
structure Args (X0 X1 : Vec Ideal S4096x1024 .f32) (X2 X3 : Vec Ideal S1x1024 .f32) (X4 X5 X6 : Vec Ideal S2816x1024 .bf16)
    (p : Params) (x t : Fin 4096 → Fin 1024 → ℝ) : Prop where
  a0 : Is2 X0 x
  a1 : Is2 X1 t
  a2 : Is2 X2 fun _ j => p.gf j
  a3 : Is2 X3 fun _ j => p.gl j
  a4 : Is2 X4 p.wg
  a5 : Is2 X5 p.wu
  a6 : Is2 X6 p.wd

variable {p : Params} {x t : Fin 4096 → Fin 1024 → ℝ} (h : Args X0 X1 X2 X3 X4 X5 X6 p x t)
include h

theorem rv10 : Is2 (val_main_v10 (F := Ideal) X0) fun i j => ms (x i) := by
  have ua0 := h.a0
  intro i j
  simp only [Is2] at ua0
  pointwise [val_main_v10, val_main_v4, val_main_cst, val_main_v5, val_main_v6, val_main_cst_0, val_main_v7, val_main_v8, val_main_cst_1, val_main_v9]
  simp only [ua0, ← EReal.coe_mul, ← EReal.coe_add, ← EReal.coe_sub, ← EReal.coe_neg, ← coe_sum, lit_zero, lit_1024, lit_eps, lit_half, lit_neg_half, lit_one, lit_two, div_1024, zero_add]
  rfl

theorem rv24 : Is2 (val_main_v24 (F := Ideal) X0) fun i j => ms (x i) := by
  have ua0 := h.a0
  intro i j
  simp only [Is2] at ua0
  pointwise [val_main_v24, val_main_v18, val_main_cst_2, val_main_v19, val_main_v20, val_main_cst_3, val_main_v21, val_main_v22, val_main_cst_4, val_main_v23]
  simp only [ua0, ← EReal.coe_mul, ← EReal.coe_add, ← EReal.coe_sub, ← EReal.coe_neg, ← coe_sum, lit_zero, lit_1024, lit_eps, lit_half, lit_neg_half, lit_one, lit_two, div_1024, zero_add]
  rfl

theorem rv124 : Is2 (val_main_v124 (F := Ideal) X0 X2) fun i j => hn p.gf (x i) j := by
  have ua0 := h.a0
  have ua2 := h.a2
  have uv10 := rv10 h
  intro i j
  simp only [Is2] at ua0 ua2 uv10
  pointwise [val_main_v124, val_main_v3, val_main_v11, val_main_v12, val_main_v13, val_main_v14, val_main_v15, val_main_v16]
  simp only [ua0, ua2, uv10, ← EReal.coe_mul, ← EReal.coe_add, ← EReal.coe_sub, ← EReal.coe_neg, ← coe_sum, lit_zero, lit_1024, lit_eps, lit_half, lit_neg_half, lit_one, lit_two, div_1024, rsqrt_pos (ms_pos _), zero_add]
  rfl

theorem rv25 : Is2 (val_main_v25 (F := Ideal) X0) fun i j => rr (x i) := by
  have uv24 := rv24 h
  intro i j
  simp only [Is2] at uv24
  pointwise [val_main_v25]
  simp only [uv24, ← EReal.coe_mul, ← EReal.coe_add, ← EReal.coe_sub, ← EReal.coe_neg, ← coe_sum, lit_zero, lit_1024, lit_eps, lit_half, lit_neg_half, lit_one, lit_two, div_1024, rsqrt_pos (ms_pos _), rr, zero_add]

theorem rv30 : Is2 (val_main_v30 (F := Ideal) X0) fun i j => nrm (x i) j := by
  have ua0 := h.a0
  have uv25 := rv25 h
  intro i j
  simp only [Is2] at ua0 uv25
  pointwise [val_main_v30, val_main_v29]
  simp only [ua0, uv25, ← EReal.coe_mul, ← EReal.coe_add, ← EReal.coe_sub, ← EReal.coe_neg, ← coe_sum, lit_zero, lit_1024, lit_eps, lit_half, lit_neg_half, lit_one, lit_two, div_1024, zero_add]
  rfl

theorem rv33 : Is2 (val_main_v33 (F := Ideal) X0 X2) fun i j => hn p.gf (x i) j := by
  have ua2 := h.a2
  have uv30 := rv30 h
  intro i j
  simp only [Is2] at ua2 uv30
  pointwise [val_main_v33, val_main_v17, val_main_v31, val_main_v32]
  simp only [ua2, uv30, ← EReal.coe_mul, ← EReal.coe_add, ← EReal.coe_sub, ← EReal.coe_neg, ← coe_sum, lit_zero, lit_1024, lit_eps, lit_half, lit_neg_half, lit_one, lit_two, div_1024, zero_add]
  rfl

theorem rv35 : Is2 (val_main_v35 (F := Ideal) X0 X2 X4) fun i j => gate p (x i) j := by
  have ua4 := h.a4
  have uv33 := rv33 h
  intro i j
  simp only [Is2] at ua4 uv33
  pointwise [val_main_v35, val_main_v0, val_main_v34]
  simp only [ua4, uv33, ← EReal.coe_mul, ← EReal.coe_add, ← EReal.coe_sub, ← EReal.coe_neg, ← coe_sum, lit_zero, lit_1024, lit_eps, lit_half, lit_neg_half, lit_one, lit_two, div_1024, zero_add]
  rfl

theorem rv37 : Is2 (val_main_v37 (F := Ideal) X0 X2 X5) fun i j => up p (x i) j := by
  have ua5 := h.a5
  have uv33 := rv33 h
  intro i j
  simp only [Is2] at ua5 uv33
  pointwise [val_main_v37, val_main_v1, val_main_v36]
  simp only [ua5, uv33, ← EReal.coe_mul, ← EReal.coe_add, ← EReal.coe_sub, ← EReal.coe_neg, ← coe_sum, lit_zero, lit_1024, lit_eps, lit_half, lit_neg_half, lit_one, lit_two, div_1024, zero_add]
  rfl

theorem rv28 : Is2 (val_main_v28 (F := Ideal) X0) fun i j => -(1 / 2) * (rr (x i) / ms (x i)) := by
  have uv24 := rv24 h
  have uv25 := rv25 h
  intro i j
  simp only [Is2] at uv24 uv25
  pointwise [val_main_v28, val_main_v26, val_main_cst_5, val_main_v27]
  simp only [uv24, uv25, ← EReal.coe_mul, ← EReal.coe_add, ← EReal.coe_sub, ← EReal.coe_neg, ← coe_sum, lit_zero, lit_1024, lit_eps, lit_half, lit_neg_half, lit_one, lit_two, div_1024, div_pos_coe _ (ms_pos _), zero_add]

theorem rv38_2 : Is2 (val_main_v38_2 (F := Ideal) X0 X2 X4) fun i j => sg (gate p (x i) j) := by
  have uv35 := rv35 h
  intro i j
  simp only [Is2] at uv35
  pointwise [val_main_v38_2, val_main_call0_v0, val_main_call0_v1, val_main_call0_cst, val_main_call0_v2, val_main_call0_v3, val_main_call0_cst_0, val_main_call0_v4]
  simp only [uv35, ← EReal.coe_mul, ← EReal.coe_add, ← EReal.coe_sub, ← EReal.coe_neg, ← coe_sum, lit_zero, lit_1024, lit_eps, lit_half, lit_neg_half, lit_one, lit_two, div_1024, sg_rule, zero_add]

theorem rv38_0 : Is2 (val_main_v38_0 (F := Ideal) X0 X2 X4) fun i j => gate p (x i) j * sg (gate p (x i) j) := by
  have uv35 := rv35 h
  have uv38_2 := rv38_2 h
  intro i j
  simp only [Is2] at uv35 uv38_2
  pointwise [val_main_v38_0]
  simp only [uv35, uv38_2, ← EReal.coe_mul, ← EReal.coe_add, ← EReal.coe_sub, ← EReal.coe_neg, ← coe_sum, lit_zero, lit_1024, lit_eps, lit_half, lit_neg_half, lit_one, lit_two, div_1024, zero_add]

theorem rv39 : Is2 (val_main_v39 (F := Ideal) X0 X2 X4 X5) fun i j => act p (x i) j := by
  have uv38_0 := rv38_0 h
  have uv37 := rv37 h
  intro i j
  simp only [Is2] at uv38_0 uv37
  pointwise [val_main_v39]
  simp only [uv38_0, uv37, ← EReal.coe_mul, ← EReal.coe_add, ← EReal.coe_sub, ← EReal.coe_neg, ← coe_sum, lit_zero, lit_1024, lit_eps, lit_half, lit_neg_half, lit_one, lit_two, div_1024, zero_add]
  rfl

theorem rv41 : Is2 (val_main_v41 (F := Ideal) X0 X2 X4 X5 X6) fun i j => h2 p (x i) j := by
  have ua0 := h.a0
  have ua6 := h.a6
  have uv39 := rv39 h
  intro i j
  simp only [Is2] at ua0 ua6 uv39
  pointwise [val_main_v41, val_main_v2, val_main_v40]
  simp only [ua0, ua6, uv39, ← EReal.coe_mul, ← EReal.coe_add, ← EReal.coe_sub, ← EReal.coe_neg, ← coe_sum, lit_zero, lit_1024, lit_eps, lit_half, lit_neg_half, lit_one, lit_two, div_1024, zero_add]
  rfl

theorem rv49 : Is2 (val_main_v49 (F := Ideal) X0 X2 X4 X5 X6) fun i j => ms (h2 p (x i)) := by
  have uv41 := rv41 h
  intro i j
  simp only [Is2] at uv41
  pointwise [val_main_v49, val_main_v43, val_main_cst_6, val_main_v44, val_main_v45, val_main_cst_7, val_main_v46, val_main_v47, val_main_cst_8, val_main_v48]
  simp only [uv41, ← EReal.coe_mul, ← EReal.coe_add, ← EReal.coe_sub, ← EReal.coe_neg, ← coe_sum, lit_zero, lit_1024, lit_eps, lit_half, lit_neg_half, lit_one, lit_two, div_1024, zero_add]
  rfl

theorem rv50 : Is2 (val_main_v50 (F := Ideal) X0 X2 X4 X5 X6) fun i j => rr (h2 p (x i)) := by
  have uv49 := rv49 h
  intro i j
  simp only [Is2] at uv49
  pointwise [val_main_v50]
  simp only [uv49, ← EReal.coe_mul, ← EReal.coe_add, ← EReal.coe_sub, ← EReal.coe_neg, ← coe_sum, lit_zero, lit_1024, lit_eps, lit_half, lit_neg_half, lit_one, lit_two, div_1024, rsqrt_pos (ms_pos _), rr, zero_add]

theorem rv53 : Is2 (val_main_v53 (F := Ideal) X0 X2 X4 X5 X6) fun i j => -(1 / 2) * (rr (h2 p (x i)) / ms (h2 p (x i))) := by
  have uv49 := rv49 h
  have uv50 := rv50 h
  intro i j
  simp only [Is2] at uv49 uv50
  pointwise [val_main_v53, val_main_v51, val_main_cst_9, val_main_v52]
  simp only [uv49, uv50, ← EReal.coe_mul, ← EReal.coe_add, ← EReal.coe_sub, ← EReal.coe_neg, ← coe_sum, lit_zero, lit_1024, lit_eps, lit_half, lit_neg_half, lit_one, lit_two, div_1024, div_pos_coe _ (ms_pos _), zero_add]

theorem rv55 : Is2 (val_main_v55 (F := Ideal) X0 X2 X4 X5 X6) fun i j => nrm (h2 p (x i)) j := by
  have uv41 := rv41 h
  have uv50 := rv50 h
  intro i j
  simp only [Is2] at uv41 uv50
  pointwise [val_main_v55, val_main_v54]
  simp only [uv41, uv50, ← EReal.coe_mul, ← EReal.coe_add, ← EReal.coe_sub, ← EReal.coe_neg, ← coe_sum, lit_zero, lit_1024, lit_eps, lit_half, lit_neg_half, lit_one, lit_two, div_1024, zero_add]
  rfl

theorem rv59 : Is2 (val_main_v59 (F := Ideal) X0 X1 X2 X3 X4 X5 X6) fun i j => diff p (x i) (t i) j := by
  have ua1 := h.a1
  have ua3 := h.a3
  have uv55 := rv55 h
  intro i j
  simp only [Is2] at ua1 ua3 uv55
  pointwise [val_main_v59, val_main_v42, val_main_v56, val_main_v57, val_main_v58]
  simp only [ua1, ua3, uv55, ← EReal.coe_mul, ← EReal.coe_add, ← EReal.coe_sub, ← EReal.coe_neg, ← coe_sum, lit_zero, lit_1024, lit_eps, lit_half, lit_neg_half, lit_one, lit_two, div_1024, zero_add]
  rfl

theorem rv73 : Is2 (val_main_v73 (F := Ideal) X0 X1 X2 X3 X4 X5 X6) fun i j => diff p (x i) (t i) j / 1024 := by
  have uv59 := rv59 h
  intro i j
  simp only [Is2] at uv59
  pointwise [val_main_v73, val_main_cst_10, val_main_v61, val_main_v62, val_main_cst_15, val_main_cst_16, val_main_v68, val_main_v69, val_main_cst_17, val_main_v70, val_main_v71, val_main_v72]
  simp only [uv59, ← EReal.coe_mul, ← EReal.coe_add, ← EReal.coe_sub, ← EReal.coe_neg, ← coe_sum, lit_zero, lit_1024, lit_eps, lit_half, lit_neg_half, lit_one, lit_two, div_1024, zero_add]
  congr 1
  ring

theorem rv78 : Is2 (val_main_v78 (F := Ideal) X0 X1 X2 X3 X4 X5 X6) fun i j => diff p (x i) (t i) j / 1024 * p.gl j := by
  have ua3 := h.a3
  have uv73 := rv73 h
  intro i j
  simp only [Is2] at ua3 uv73
  pointwise [val_main_v78, val_main_v42, val_main_v56, val_main_v77]
  simp only [ua3, uv73, ← EReal.coe_mul, ← EReal.coe_add, ← EReal.coe_sub, ← EReal.coe_neg, ← coe_sum, lit_zero, lit_1024, lit_eps, lit_half, lit_neg_half, lit_one, lit_two, div_1024, zero_add]

theorem rv94 : Is2 (val_main_v94 (F := Ideal) X0 X1 X2 X3 X4 X5 X6) fun i j => ∑ i, dglRow p (x i) (t i) j := by
  have uv55 := rv55 h
  have uv73 := rv73 h
  intro i j
  simp only [Is2] at uv55 uv73
  pointwise [val_main_v94, val_main_v74, val_main_cst_18, val_main_v75, val_main_v76, val_main_cst_19, val_main_v79]
  simp only [uv55, uv73, ← EReal.coe_mul, ← EReal.coe_add, ← EReal.coe_sub, ← EReal.coe_neg, ← coe_sum, lit_zero, lit_1024, lit_eps, lit_half, lit_neg_half, lit_one, lit_two, div_1024, zero_add]
  congr 1
  rw [Fin.sum_univ_one]
  exact Finset.sum_congr rfl fun i _ => mul_comm _ _

theorem rv89 : Is2 (val_main_v89 (F := Ideal) X0 X1 X2 X3 X4 X5 X6) fun i j => (∑ k, h2 p (x i) k * (diff p (x i) (t i) k / 1024 * p.gl k)) * (-(1 / 2) * (rr (h2 p (x i)) / ms (h2 p (x i)))) / 1024 := by
  have uv41 := rv41 h
  have uv78 := rv78 h
  have uv53 := rv53 h
  intro i j
  simp only [Is2] at uv41 uv78 uv53
  pointwise [val_main_v89, val_main_v80, val_main_cst_20, val_main_v81, val_main_v82, val_main_v85, val_main_cst_21, val_main_v86, val_main_v87, val_main_cst_22, val_main_v88]
  simp only [uv41, uv78, uv53, ← EReal.coe_mul, ← EReal.coe_add, ← EReal.coe_sub, ← EReal.coe_neg, ← coe_sum, lit_zero, lit_1024, lit_eps, lit_half, lit_neg_half, lit_one, lit_two, div_1024, zero_add]
  congr 1
  exact Fin.sum_univ_one _

theorem rv93 : Is2 (val_main_v93 (F := Ideal) X0 X1 X2 X3 X4 X5 X6) fun i j => dh2 p (x i) (t i) j := by
  have uv41 := rv41 h
  have uv50 := rv50 h
  have uv78 := rv78 h
  have uv89 := rv89 h
  intro i j
  simp only [Is2] at uv41 uv50 uv78 uv89
  pointwise [val_main_v93, val_main_v83, val_main_v84, val_main_v90, val_main_v91, val_main_v92]
  simp only [uv41, uv50, uv78, uv89, ← EReal.coe_mul, ← EReal.coe_add, ← EReal.coe_sub, ← EReal.coe_neg, ← coe_sum, lit_zero, lit_1024, lit_eps, lit_half, lit_neg_half, lit_one, lit_two, div_1024, zero_add]
  exact congrArg _ (back_rule (h2 p (x i)) (fun j => diff p (x i) (t i) j / 1024 * p.gl j) j)

theorem rv95 : Is2 (val_main_v95 (F := Ideal) X0 X1 X2 X3 X4 X5 X6) fun i j => dact p (x i) (t i) j := by
  have ua6 := h.a6
  have uv93 := rv93 h
  intro i j
  simp only [Is2] at ua6 uv93
  pointwise [val_main_v95, val_main_v2]
  simp only [ua6, uv93, ← EReal.coe_mul, ← EReal.coe_add, ← EReal.coe_sub, ← EReal.coe_neg, ← coe_sum, lit_zero, lit_1024, lit_eps, lit_half, lit_neg_half, lit_one, lit_two, div_1024, zero_add]
  rfl

theorem rv96 : Is2 (val_main_v96 (F := Ideal) X0 X1 X2 X3 X4 X5 X6) fun i j => dup p (x i) (t i) j := by
  have uv38_0 := rv38_0 h
  have uv95 := rv95 h
  intro i j
  simp only [Is2] at uv38_0 uv95
  pointwise [val_main_v96]
  simp only [uv38_0, uv95, ← EReal.coe_mul, ← EReal.coe_add, ← EReal.coe_sub, ← EReal.coe_neg, ← coe_sum, lit_zero, lit_1024, lit_eps, lit_half, lit_neg_half, lit_one, lit_two, div_1024, zero_add]
  congr 1
  rw [dup, duf]
  ring

theorem rv98 : Is2 (val_main_v98 (F := Ideal) X0 X1 X2 X3 X4 X5 X6) fun i j => dgate p (x i) (t i) j := by
  have uv35 := rv35 h
  have uv37 := rv37 h
  have uv38_2 := rv38_2 h
  have uv95 := rv95 h
  intro i j
  simp only [Is2] at uv35 uv37 uv38_2 uv95
  pointwise [val_main_v98, val_main_v97, val_main_call1_v0, val_main_call1_v1, val_main_call1_v2, val_main_v38_1, val_main_call0_cst_1, val_main_call0_v6, val_main_call0_v7]
  simp only [uv35, uv37, uv38_2, uv95, ← EReal.coe_mul, ← EReal.coe_add, ← EReal.coe_sub, ← EReal.coe_neg, ← coe_sum, lit_zero, lit_1024, lit_eps, lit_half, lit_neg_half, lit_one, lit_two, div_1024, ← EReal.coe_one, zero_add]
  congr 1
  rw [dgate, dgf]
  ring

theorem rv101 : Is2 (val_main_v101 (F := Ideal) X0 X1 X2 X3 X4 X5 X6) fun i j => dhn p (x i) (t i) j := by
  have ua4 := h.a4
  have ua5 := h.a5
  have uv96 := rv96 h
  have uv98 := rv98 h
  intro i j
  simp only [Is2] at ua4 ua5 uv96 uv98
  pointwise [val_main_v101, val_main_v99, val_main_v100, val_main_v34, val_main_v36, val_main_v0, val_main_v1]
  simp only [ua4, ua5, uv96, uv98, ← EReal.coe_mul, ← EReal.coe_add, ← EReal.coe_sub, ← EReal.coe_neg, ← coe_sum, lit_zero, lit_1024, lit_eps, lit_half, lit_neg_half, lit_one, lit_two, div_1024, zero_add]
  congr 1
  rw [dhn, add_comm]

theorem rv106 : Is2 (val_main_v106 (F := Ideal) X0 X1 X2 X3 X4 X5 X6) fun i j => dhn p (x i) (t i) j * p.gf j := by
  have ua2 := h.a2
  have uv101 := rv101 h
  intro i j
  simp only [Is2] at ua2 uv101
  pointwise [val_main_v106, val_main_v17, val_main_v31, val_main_v105]
  simp only [ua2, uv101, ← EReal.coe_mul, ← EReal.coe_add, ← EReal.coe_sub, ← EReal.coe_neg, ← coe_sum, lit_zero, lit_1024, lit_eps, lit_half, lit_neg_half, lit_one, lit_two, div_1024, zero_add]

theorem rv122 : Is2 (val_main_v122 (F := Ideal) X0 X1 X2 X3 X4 X5 X6) fun i j => ∑ i, dgfRow p (x i) (t i) j := by
  have uv30 := rv30 h
  have uv101 := rv101 h
  intro i j
  simp only [Is2] at uv30 uv101
  pointwise [val_main_v122, val_main_v102, val_main_cst_23, val_main_v103, val_main_v104, val_main_cst_24, val_main_v107]
  simp only [uv30, uv101, ← EReal.coe_mul, ← EReal.coe_add, ← EReal.coe_sub, ← EReal.coe_neg, ← coe_sum, lit_zero, lit_1024, lit_eps, lit_half, lit_neg_half, lit_one, lit_two, div_1024, zero_add]
  congr 1
  rw [Fin.sum_univ_one]
  exact Finset.sum_congr rfl fun i _ => mul_comm _ _

theorem rv117 : Is2 (val_main_v117 (F := Ideal) X0 X1 X2 X3 X4 X5 X6) fun i j => (∑ k, x i k * (dhn p (x i) (t i) k * p.gf k)) * (-(1 / 2) * (rr (x i) / ms (x i))) / 1024 := by
  have ua0 := h.a0
  have uv106 := rv106 h
  have uv28 := rv28 h
  intro i j
  simp only [Is2] at ua0 uv106 uv28
  pointwise [val_main_v117, val_main_v108, val_main_cst_25, val_main_v109, val_main_v110, val_main_v113, val_main_cst_26, val_main_v114, val_main_v115, val_main_cst_27, val_main_v116]
  simp only [ua0, uv106, uv28, ← EReal.coe_mul, ← EReal.coe_add, ← EReal.coe_sub, ← EReal.coe_neg, ← coe_sum, lit_zero, lit_1024, lit_eps, lit_half, lit_neg_half, lit_one, lit_two, div_1024, zero_add]
  congr 1
  exact Fin.sum_univ_one _

theorem rv123 : Is2 (val_main_v123 (F := Ideal) X0 X1 X2 X3 X4 X5 X6) fun i j => dh1 p (x i) (t i) j := by
  have ua0 := h.a0
  have uv25 := rv25 h
  have uv93 := rv93 h
  have uv106 := rv106 h
  have uv117 := rv117 h
  intro i j
  simp only [Is2] at ua0 uv25 uv93 uv106 uv117
  pointwise [val_main_v123, val_main_v111, val_main_v112, val_main_v118, val_main_v119, val_main_v120, val_main_v121]
  simp only [ua0, uv25, uv93, uv106, uv117, ← EReal.coe_mul, ← EReal.coe_add, ← EReal.coe_sub, ← EReal.coe_neg, ← coe_sum, lit_zero, lit_1024, lit_eps, lit_half, lit_neg_half, lit_one, lit_two, div_1024, zero_add]
  exact congrArg (fun r : ℝ => ((dh2 p (x i) (t i) j + r : ℝ) : EReal)) (back_rule (x i) (fun j => dhn p (x i) (t i) j * p.gf j) j)

theorem rv134 : Is2 (val_main_v134 (F := Ideal) X0 X1 X2 X3 X4 X5 X6) fun i j => dh2 p (x i) (t i) j := by
  have uv93 := rv93 h
  intro i j
  simp only [Is2] at uv93
  pointwise [val_main_v134]
  simp only [uv93, ← EReal.coe_mul, ← EReal.coe_add, ← EReal.coe_sub, ← EReal.coe_neg, ← coe_sum, lit_zero, lit_1024, lit_eps, lit_half, lit_neg_half, lit_one, lit_two, div_1024, zero_add]

theorem rv135 : Is2 (val_main_v135 (F := Ideal) X0 X1 X2 X3 X4 X5 X6) fun i j => ∑ i, lossRow p (x i) (t i) := by
  have uv59 := rv59 h
  intro i j
  simp only [Is2] at uv59
  pointwise [val_main_v135, val_main_v60, val_main_cst_11, val_main_v63, val_main_cst_12, val_main_v64, val_main_v65, val_main_cst_13, val_main_v66, val_main_cst_14, val_main_v67]
  simp only [uv59, ← EReal.coe_mul, ← EReal.coe_add, ← EReal.coe_sub, ← EReal.coe_neg, ← coe_sum, lit_zero, lit_1024, lit_eps, lit_half, lit_neg_half, lit_one, lit_two, div_1024, zero_add]
  congr 1
  rw [Finset.mul_sum]
  exact Finset.sum_congr rfl fun i _ => by rw [lossRow]; ring

omit h in
/-- The 2816 columns cut into eleven slabs. -/
theorem slab {v : S4096x2816.Idx → EReal} {f : Fin 4096 → Fin 2816 → ℝ} (hv : Is2 v f) (i : Fin 4096) (b : Fin 11) (k : Fin 256)
    (q : Fin 2816) (hq : q.val = 256 * b.val + k.val) : v (ix2 i q) = ((f i (Pieces.col b k) : ℝ) : EReal) := by
  obtain rfl : q = Pieces.col b k := Fin.ext hq
  exact hv i _

theorem rv127 (b : Fin 11) (i : Fin 4096) (k : Fin 256) :
    val_main_v127 (F := Ideal) X0 X2 X4 X5 (ix3 b i k) = ((act p (x i) (Pieces.col b k) : ℝ) : EReal) := by
  have u := rv39 h
  pointwise [val_main_v127, val_main_v126, val_main_v125]
  exact slab u i b k _ (by simp [Nat.mul_comm])

theorem rv130 (b : Fin 11) (i : Fin 4096) (k : Fin 256) :
    val_main_v130 (F := Ideal) X0 X1 X2 X3 X4 X5 X6 (ix3 b i k) = ((dgate p (x i) (t i) (Pieces.col b k) : ℝ) : EReal) := by
  have u := rv98 h
  pointwise [val_main_v130, val_main_v129, val_main_v128]
  exact slab u i b k _ (by simp [Nat.mul_comm])

theorem rv133 (b : Fin 11) (i : Fin 4096) (k : Fin 256) :
    val_main_v133 (F := Ideal) X0 X1 X2 X3 X4 X5 X6 (ix3 b i k) = ((dup p (x i) (t i) (Pieces.col b k) : ℝ) : EReal) := by
  have u := rv96 h
  pointwise [val_main_v133, val_main_v132, val_main_v131]
  exact slab u i b k _ (by simp [Nat.mul_comm])

end Cert.Reference
-- ==== Proof.Finite.lean ====
/- Finite arguments are real numbers: what the precondition says of the arrays. -/
module

public import proofs.«01_k».proof.Defs
public import proofs.«01_k».proof.Proof.Reads

@[expose] public section

noncomputable section

namespace Cert.Finite

open Idealize.ShloMosaic Cert.KernelIdeal Cert.KernelIdeal.Gen Cert.Lift Cert.Spec Cert.Payloads Cert.Blocks
open Idealize.ShloMosaic.TcCoe

instance facts : Cert.Pre_finite.Facts where
  bcast_S_S4096x1024 := by decide
  bcast_S_S1x1024 := by decide
  bitsLt_bf16_f32 := by decide
  bcast_S_S2816x1024 := by decide

/-- An extended real whose absolute value is below infinity is a real number. -/
theorem real_of_cmp {a : EReal} (h : Ideal.cmp .olt (max a (-a)) ⊤ = 1#1) : a = ((EReal.toReal a : ℝ) : EReal) := by
  revert h
  induction a using EReal.rec <;> simp [Ideal.cmp]

/-- … so every entry of an array that passes the test is a real number. -/
theorem entry {S : Shape} (X : FVec Ideal S .f32) (hb : Cert.Pre_finite.S_.BroadcastsInDim S (![] : Fin 0 → Fin S.rank))
    (h : cmpf .olt (Host.absf X) (broadcastInDim S ![] hb (constant (F := Ideal) Cert.Pre_finite.S_ .f32 0x7F800000#32)) =
      fun _ => 1#1) (i : S.Idx) : (X i : EReal) = ((EReal.toReal (X i) : ℝ) : EReal) := by
  have e : Ideal.cmp .olt (max (X i : EReal) (-(X i : EReal))) (Ideal.ofBits .f32 2139095040#32) = 1#1 := congrFun h i
  rw [lit_top] at e
  exact real_of_cmp e

variable (m : (ℓ : Loc nD τ sig) → Buf (Elt Ideal) ℓ) (c : Dev nD)

/-- The real entries of a matrix. -/
def mat {a b : ℕ} (v : (⟨2, ![a, b]⟩ : Shape).Idx → EReal) (i : Fin a) (j : Fin b) : ℝ := EReal.toReal (v (ix2 i j))

/-- The block's parameters, read off the arguments. -/
def params : Params where
  gf := mat (m ((c : Thread nD τ).loc main_arg2)) 0
  gl := mat (m ((c : Thread nD τ).loc main_arg3)) 0
  wg := mat (m ((c : Thread nD τ).loc main_arg4))
  wu := mat (m ((c : Thread nD τ).loc main_arg5))
  wd := mat (m ((c : Thread nD τ).loc main_arg6))

theorem is2 {a b : ℕ} {v : (⟨2, ![a, b]⟩ : Shape).Idx → EReal} (h : ∀ i, v i = ((EReal.toReal (v i) : ℝ) : EReal)) : Is2 v (mat v) :=
  fun i j => h (ix2 i j)

theorem args (h : Cert.Pre_KernelIdeal_finite m) :
    Args m c (params m c) (mat (m ((c : Thread nD τ).loc main_arg0))) (mat (m ((c : Thread nD τ).loc main_arg1))) := by
  obtain ⟨h0, h1, h2, h3, h4, h5, h6⟩ := h c
  refine ⟨is2 (entry _ _ h0), is2 (entry _ _ h1), fun i j => ?_, fun i j => ?_, is2 (entry _ _ h4), is2 (entry _ _ h5), is2 (entry _ _ h6)⟩
  · obtain rfl := Subsingleton.elim i 0
    exact entry _ _ h2 _
  · obtain rfl := Subsingleton.elim i 0
    exact entry _ _ h3 _

end Cert.Finite
-- ==== Proof.MixSpec.lean ====
/- The backward pass of the block that mixes tokens, over the real numbers: the gradients through the output projection, the
   normalised causal convolution with its gate, the pooled means with their maps, and the input projection, written as
   formulas. Both programs are compared with these. -/
module

public import proofs.«01_k».proof.Proof.Spec

@[expose] public section

noncomputable section

namespace Cert.Mix

open Cert.Lift Cert.Spec Idealize.ShloMosaic

/-- The constant of the layer normalisation. -/
def eps5 : ℝ := 10995116 / 1099511627776

theorem eps5_pos : 0 < eps5 := by norm_num [eps5]

theorem lit_eps5 : Ideal.ofBits .f32 925353388#32 = ((eps5 : ℝ) : EReal) := by
  simp [Ideal.ofBits, Ideal.ieee, -EReal.coe_mul]; norm_num [eps5]

theorem lit_512 : Ideal.ofBits .f32 1140850688#32 = ((512 : ℝ) : EReal) := by
  simp [Ideal.ofBits, Ideal.ieee, -EReal.coe_mul]; norm_num

theorem lit_zero : Ideal.ofBits .f32 0#32 = ((0 : ℝ) : EReal) := by
  simp [Ideal.ofBits, Ideal.ieee]

theorem div_512 (r : ℝ) : Ideal.div (r : EReal) ((512 : ℝ) : EReal) = ((r / 512 : ℝ) : EReal) :=
  div_pos_coe r (by norm_num)

/-! The layer normalisation of a row of 512 channels. -/

section
variable (v : Fin 512 → ℝ)

def mu : ℝ := (∑ k, v k) / 512
def ctr (j : Fin 512) : ℝ := v j - mu v
def var5 : ℝ := (∑ k, ctr v k * ctr v k) / 512 + eps5

theorem var5_pos : 0 < var5 v :=
  add_pos_of_nonneg_of_pos (div_nonneg (Finset.sum_nonneg fun k _ => mul_self_nonneg (ctr v k)) (by norm_num)) eps5_pos

def rs : ℝ := (√(var5 v))⁻¹
def vh (j : Fin 512) : ℝ := ctr v j * rs v
def lnf (g b : Fin 512 → ℝ) (j : Fin 512) : ℝ := vh v j * g j + b j
end

/-- The gradient through `z · sg z`. -/
def dsl (z d : ℝ) : ℝ := d * (sg z * (1 + z * (1 - sg z)))

/-- The gradient of a layer normalisation, from the gradient of the normalised row. -/
def lnback (r : ℝ) (n d : Fin 512 → ℝ) (j : Fin 512) : ℝ :=
  r * (d j - (∑ k, d k) / 512 - n j * ((∑ k, d k * n k) / 512))

/-! Where the channels lie. -/

/-- A channel of the convolution among the columns of the output projection. -/
def cl (j : Fin 512) : Fin 1024 := ⟨j.val, by omega⟩
/-- A channel of the pooled means among them. -/
def cr (j : Fin 512) : Fin 1024 := ⟨512 + j.val, by omega⟩
/-- A channel of one of the four groups of pooled means. -/
def lane (g : Fin 4) (j : Fin 128) : Fin 512 := ⟨128 * g.val + j.val, by omega⟩
/-- The tap of the convolution, in the padded array of taps. -/
def tap (k : Fin 31) : Fin 32 := ⟨k.val, by omega⟩

/-- A sequence over the tokens, with zeros after the last. -/
def ext (f : Fin 4096 → ℝ) (n : ℕ) : ℝ := if h : n < 4096 then f ⟨n, h⟩ else 0

/-- The parameters of the block. -/
structure Params where
  g : Fin 1024 → ℝ
  win : Fin 1536 → Fin 1024 → ℝ
  wdw : Fin 32 → Fin 512 → ℝ
  lng : Fin 512 → ℝ
  lnb : Fin 512 → ℝ
  wp : Fin 4 → Fin 128 → Fin 128 → ℝ
  sp : Fin 512 → ℝ
  wout : Fin 1024 → Fin 1024 → ℝ

/-- What the backward pass reads of the tokens: the incoming gradient, the block's input and four arrays of the forward pass. -/
structure Tokens where
  dh : Fin 4096 → Fin 1024 → ℝ
  x : Fin 4096 → Fin 1024 → ℝ
  a : Fin 4096 → Fin 512 → ℝ
  gate : Fin 4096 → Fin 512 → ℝ
  v : Fin 4096 → Fin 512 → ℝ
  m : Fin 4096 → Fin 512 → ℝ

variable (p : Params) (T : Tokens)

def dy (t : Fin 4096) : Fin 1024 → ℝ := lin p.wout (T.dh t)
def dln (t : Fin 4096) (c : Fin 512) : ℝ := dsl (lnf (T.v t) p.lng p.lnb c) (dy p T t (cl c))
def dv (t : Fin 4096) : Fin 512 → ℝ := lnback (rs (T.v t)) (vh (T.v t)) fun c => dln p T t c * p.lng c
/-- The gradient of the convolution's output at a token, zero after the last one. -/
def dvx (n : ℕ) (c : Fin 512) : ℝ := ext (fun s => dv p T s c) n
def u (t : Fin 4096) (c : Fin 512) : ℝ := T.a t c * sg (T.gate t c)
def du (t : Fin 4096) (c : Fin 512) : ℝ := ∑ k : Fin 31, p.wdw (tap k) c * dvx p T (t.val + (30 - k.val)) c
def dwdw (k : Fin 31) (c : Fin 512) : ℝ := ∑ t, u T t c * dvx p T (t.val + (30 - k.val)) c
def da (t : Fin 4096) (c : Fin 512) : ℝ := du p T t c * sg (T.gate t c)
def dgate (t : Fin 4096) (c : Fin 512) : ℝ := du p T t c * T.a t c * sg (T.gate t c) * (1 - sg (T.gate t c))

def dyp (t : Fin 4096) (g : Fin 4) (j : Fin 128) : ℝ := dy p T t (cr (lane g j))
def ypre (t : Fin 4096) (g : Fin 4) (j : Fin 128) : ℝ := ∑ e, T.m t (lane g e) * p.wp g e j
def dyi (t : Fin 4096) (g : Fin 4) (j : Fin 128) : ℝ := dyp p T t g j * p.sp (lane g j)
def dm (t : Fin 4096) (g : Fin 4) (e : Fin 128) : ℝ := ∑ j, dyi p T t g j * p.wp g e j
/-- The number of tokens in the window that ends at a token. -/
def cnt (g : Fin 4) (n : ℕ) : ℝ := ((min (n + 1) (2 ^ (g.val + 1)) : ℕ) : ℝ)

theorem cnt_pos (g : Fin 4) (n : ℕ) : 0 < cnt g n := by
  have : 0 < min (n + 1) (2 ^ (g.val + 1)) := lt_min (Nat.succ_pos n) (by positivity)
  exact Nat.cast_pos.mpr this

/-- The gradient of a window's sum, zero after the last token. -/
def dqx (n : ℕ) (g : Fin 4) (e : Fin 128) : ℝ := ext (fun s => dm p T s g e / cnt g s.val) n
def dp (t : Fin 4096) (g : Fin 4) (e : Fin 128) : ℝ :=
  ∑ i ∈ Finset.range (2 ^ (g.val + 1)), dqx p T (t.val + i) g e - dm p T t g e

/-- The gradient of the input projection's columns: the convolution's factor, its gate, the pooled channels. -/
def dz (t : Fin 4096) (j : Fin 1536) : ℝ :=
  if h : j.val < 512 then da p T t ⟨j.val, h⟩
  else if h : j.val < 1024 then dgate p T t ⟨j.val - 512, by omega⟩
  else dp p T t ⟨(j.val - 1024) / 128, by omega⟩ ⟨(j.val - 1024) % 128, by omega⟩

def dxn (t : Fin 4096) (d : Fin 1024) : ℝ := ∑ j, dz p T t j * p.win j d
def dx (t : Fin 4096) (d : Fin 1024) : ℝ :=
  T.dh t d + back (rr (T.x t)) (nrm (T.x t)) (fun d => dxn p T t d * p.g d) d

end Cert.Mix
-- ==== Proof.MixPayloads.lean ====
/- What the operations of the backward pass's kernel compute, over real entries: one statement for each value that the body
   of the kernel names. -/
module

public import proofs.«01_k».proof.Proof.MixSpec
public import proofs.«01_k».proof.Proof.Payloads
public import proofs.«01_k».proof.Proof.Gen.MixKernelIdeal.Skeleton
public import Idealize.ShloMosaic.Lib.Pointwise

@[expose] public section

set_option maxRecDepth 16384

noncomputable section

namespace Cert.Mix

open Idealize.ShloMosaic Cert.MixKernelIdeal Cert.MixKernelIdeal.Gen Cert.Lift Cert.Spec
open Cert.Payloads (Is2)

/-- A three-dimensional array of extended reals whose entries are the given real numbers. -/
def Is3 {a b c : ℕ} (v : (⟨3, ![a, b, c]⟩ : Shape).Idx → EReal) (f : Fin a → Fin b → Fin c → ℝ) : Prop :=
  ∀ i j k, v (ix3 i j k) = ((f i j k : ℝ) : EReal)

/-! The gradient of the normalised convolution. -/

theorem pay20 {dV : Vec Ideal S512x1024 .f32} {wV : Vec Ideal S1024x1024 .bf16} {d : Fin 512 → Fin 1024 → ℝ} {w : Fin 1024 → Fin 1024 → ℝ}
    (hd : Is2 dV d) (hw : Is2 wV w) : Is2 (k0_pay20 (F := Ideal) dV wV) fun i j => lin w (d i) j := by
  intro i j
  simp only [Is2] at hd hw
  pointwise [k0_pay20, k0_pay19]
  simp only [hd, hw, ← EReal.coe_mul, ← coe_sum]
  rfl

section
variable {vV : Vec Ideal S512x512 .f32} {v : Fin 512 → Fin 512 → ℝ} (hv : Is2 vV v)
include hv

theorem pay21 : Is2 (k0_pay21 (F := Ideal) vV) fun i j => ctr (v i) j := by
  intro i j
  simp only [Is2] at hv
  pointwise [k0_pay21]
  simp only [hv, ← coe_sum, lit_512, div_512, ← EReal.coe_sub]
  rfl

theorem pay22 : Is2 (k0_pay22 (F := Ideal) vV) fun i _ => rs (v i) := by
  have u0 := pay21 hv
  intro i j
  simp only [Is2] at u0
  pointwise [k0_pay22]
  simp only [u0, ← EReal.coe_mul, ← EReal.coe_add, ← coe_sum, lit_512, lit_eps5, div_512]
  exact rsqrt_pos (var5_pos (v i))

theorem pay23 : Is2 (k0_pay23 (F := Ideal) vV) fun i j => vh (v i) j := by
  have u0 := pay21 hv
  have u1 := pay22 hv
  intro i j
  simp only [Is2] at u0 u1
  pointwise [k0_pay23]
  simp only [u0, u1, ← EReal.coe_mul]
  rfl

variable {gV bV : Vec Ideal S1x512 .f32} {g b : Fin 512 → ℝ} (hg : Is2 gV fun _ j => g j) (hb : Is2 bV fun _ j => b j)
include hg hb

theorem pay24 : Is2 (k0_pay24 (F := Ideal) vV gV bV) fun i j => lnf (v i) g b j := by
  have u0 := pay23 hv
  intro i j
  simp only [Is2] at u0 hg hb
  pointwise [k0_pay24]
  simp only [u0, hg, hb, ← EReal.coe_mul, ← EReal.coe_add]
  rfl

theorem pay25 : Is2 (k0_pay25 (F := Ideal) vV gV bV) fun i j => sg (lnf (v i) g b j) := by
  have u0 := pay24 hv hg hb
  intro i j
  simp only [Is2] at u0
  pointwise [k0_pay25]
  simp only [u0, Ideal.logistic_coe]
  rfl
end

theorem pay26 {dV : Vec Ideal S512x1024 .f32} {wV : Vec Ideal S1024x1024 .bf16} {d : Fin 512 → Fin 1024 → ℝ} {w : Fin 1024 → Fin 1024 → ℝ}
    (hd : Is2 dV d) (hw : Is2 wV w) : Is2 (k0_pay26 (F := Ideal) dV wV) fun i j => lin w (d i) (cl j) := by
  intro i j
  refine Eq.trans ?_ (pay20 hd hw i (cl j))
  pointwise [k0_pay26]
  rfl

theorem pay27 : Is2 (k0_pay27 (F := Ideal)) fun _ _ => 1 := by
  intro i j
  pointwise [k0_pay27]
  exact EReal.coe_one.symm

section
variable {lV sV dV oV : Vec Ideal S512x512 .f32} {l d : Fin 512 → Fin 512 → ℝ}
  (hl : Is2 lV l) (hs : Is2 sV fun i j => sg (l i j)) (hd : Is2 dV d) (ho : Is2 oV fun _ _ => 1)
include hl hs hd ho

theorem pay28 : Is2 (k0_pay28 (F := Ideal) lV sV dV oV) fun i j => dsl (l i j) (d i j) := by
  intro i j
  simp only [Is2] at hl hs hd ho
  pointwise [k0_pay28]
  simp only [hl, hs, hd, ho, lit_one, ← EReal.coe_mul, ← EReal.coe_add, ← EReal.coe_sub]
  rfl

theorem pay30 (aV : Vec Ideal S1x512 .f32) (i : Fin 1) (j : Fin 512) :
    k0_pay30 (F := Ideal) lV sV dV oV aV (ix2 i j) = (aV (ix2 i j) : EReal) + ((∑ r, dsl (l r j) (d r j) : ℝ) : EReal) := by
  have u0 := pay28 hl hs hd ho
  simp only [Is2] at u0
  pointwise [k0_pay30]
  simp only [u0, ← coe_sum]

variable {nV : Vec Ideal S512x512 .f32} {n : Fin 512 → Fin 512 → ℝ} (hn : Is2 nV n)
include hn

theorem pay29 (aV : Vec Ideal S1x512 .f32) (i : Fin 1) (j : Fin 512) :
    k0_pay29 (F := Ideal) nV lV sV dV oV aV (ix2 i j) =
      (aV (ix2 i j) : EReal) + ((∑ r, dsl (l r j) (d r j) * n r j : ℝ) : EReal) := by
  have u0 := pay28 hl hs hd ho
  simp only [Is2] at u0 hn
  pointwise [k0_pay29]
  simp only [u0, hn, ← EReal.coe_mul, ← coe_sum]

variable {rV : Vec Ideal S512x1 .f32} {gV : Vec Ideal S1x512 .f32} {r : Fin 512 → ℝ} {g : Fin 512 → ℝ}
  (hr : Is2 rV fun i _ => r i) (hg : Is2 gV fun _ j => g j)
include hr hg

theorem pay31 : Is2 (k0_pay31 (F := Ideal) rV nV gV lV sV dV oV) fun i j =>
    lnback (r i) (n i) (fun c => dsl (l i c) (d i c) * g c) j := by
  have u0 := pay28 hl hs hd ho
  intro i j
  simp only [Is2] at u0 hn hr hg
  pointwise [k0_pay31]
  simp only [u0, hn, hr, hg, ← EReal.coe_mul, ← EReal.coe_sub, ← coe_sum, lit_512, div_512]
  rfl

theorem pay34 (aV : Vec Ideal S1x512 .f32) (i : Fin 1) (j : Fin 512) :
    k0_pay34 (F := Ideal) (k0_pay32 aV) (k0_pay33 rV nV gV lV sV dV oV) (ix2 i j) =
      (aV (ix2 i j) : EReal) + ((∑ i, lnback (r i) (n i) (fun c => dsl (l i c) (d i c) * g c) j : ℝ) : EReal) := by
  have u0 := pay31 hl hs hd ho hn hr hg
  simp only [Is2] at u0
  pointwise [k0_pay34, k0_pay32, k0_pay33]
  simp only [u0, ← coe_sum]
end

theorem pay35 {V : Vec Ideal S512x512 .f32} {f : Fin 512 → Fin 512 → ℝ} (h : Is2 V f) :
    Is3 (k0_pay35 (F := Ideal) V) fun _ i j => f i j := by
  intro z i j
  simp only [Is2] at h
  pointwise [k0_pay35]
  exact h i j

theorem pay36 {V : Vec Ideal S1x536x512 .f32} {f : Fin 536 → Fin 512 → ℝ} (h : Is3 V fun _ => f) :
    Is3 (k0_pay36 (F := Ideal) V) fun _ => f := by
  intro z i j
  simp only [Is3] at h
  pointwise [k0_pay36]
  simp only [h]

/-! The gate and the taps of the convolution. -/

theorem pay43 {gV : Vec Ideal S512x512 .f32} {g : Fin 512 → Fin 512 → ℝ} (hg : Is2 gV g) :
    Is2 (k0_pay43 (F := Ideal) gV) fun i j => sg (g i j) := by
  intro i j
  simp only [Is2] at hg
  pointwise [k0_pay43]
  simp only [hg, Ideal.logistic_coe]
  rfl

theorem pay44 {aV gV : Vec Ideal S512x512 .f32} {a g : Fin 512 → Fin 512 → ℝ} (ha : Is2 aV a) (hg : Is2 gV g) :
    Is2 (k0_pay44 (F := Ideal) aV gV) fun i j => a i j * sg (g i j) := by
  have u0 := pay43 hg
  intro i j
  simp only [Is2] at ha u0
  pointwise [k0_pay44]
  simp only [ha, u0, ← EReal.coe_mul]

theorem pay47 {uV : Vec Ideal S512x512 .f32} {u : Fin 512 → Fin 512 → ℝ} (hu : Is2 uV u)
    {dV : Vec Ideal S1x512x512 .f32} {d : Fin 512 → Fin 512 → ℝ} (hd : Is3 dV fun _ => d) (aV : Vec Ideal S1x512 .f32) (i : Fin 1) (j : Fin 512) :
    k0_pay47 (F := Ideal) uV dV aV (ix2 i j) = (aV (ix2 i j) : EReal) + ((∑ r, u r j * d r j : ℝ) : EReal) := by
  simp only [Is2, Is3] at hu hd
  pointwise [k0_pay47]
  simp only [hu, hd, ← EReal.coe_mul, ← coe_sum]

section
variable {aV gV uV : Vec Ideal S512x512 .f32} {a g u : Fin 512 → Fin 512 → ℝ}
  (ha : Is2 aV a) (hg : Is2 gV fun i j => sg (g i j)) (hu : Is2 uV u)
include hg hu

theorem pay80 : Is2 (k0_pay80 (F := Ideal) gV uV) fun i j => u i j * sg (g i j) := by
  intro i j
  simp only [Is2] at hg hu
  pointwise [k0_pay80]
  simp only [hg, hu, ← EReal.coe_mul]

theorem pay82 : Is2 (k0_pay82 (F := Ideal) gV uV) fun i j => u i j * sg (g i j) := by
  have u0 := pay80 hg hu
  intro i j
  simp only [Is2] at u0
  pointwise [k0_pay82]
  exact u0 i j

theorem pay84 (cV : Vec Ideal S1x512 .f32) (i : Fin 1) (j : Fin 512) :
    k0_pay84 (F := Ideal) gV uV cV (ix2 i j) = (cV (ix2 i j) : EReal) + ((∑ r, u r j * sg (g r j) : ℝ) : EReal) := by
  have u0 := pay80 hg hu
  simp only [Is2] at u0
  pointwise [k0_pay84]
  simp only [u0, ← coe_sum]

include ha

theorem pay81 : Is2 (k0_pay81 (F := Ideal) aV gV uV) fun i j => u i j * a i j * sg (g i j) * (1 - sg (g i j)) := by
  intro i j
  simp only [Is2] at ha hg hu
  pointwise [k0_pay81]
  simp only [ha, hg, hu, ← EReal.coe_one, ← EReal.coe_mul, ← EReal.coe_sub]

theorem pay83 : Is2 (k0_pay83 (F := Ideal) aV gV uV) fun i j => u i j * a i j * sg (g i j) * (1 - sg (g i j)) := by
  have u0 := pay81 ha hg hu
  intro i j
  simp only [Is2] at u0
  pointwise [k0_pay83]
  exact u0 i j

theorem pay85 (cV : Vec Ideal S1x512 .f32) (i : Fin 1) (j : Fin 512) :
    k0_pay85 (F := Ideal) aV gV uV cV (ix2 i j) =
      (cV (ix2 i j) : EReal) + ((∑ r, u r j * a r j * sg (g r j) * (1 - sg (g r j)) : ℝ) : EReal) := by
  have u0 := pay81 ha hg hu
  simp only [Is2] at u0
  pointwise [k0_pay85]
  simp only [u0, ← coe_sum]
end

/-! The input projection. -/

section
variable {zV : Vec Ideal S512x1536 .bf16} {wV : Vec Ideal S1536x1024 .bf16} {z : Fin 512 → Fin 1536 → ℝ} {w : Fin 1536 → Fin 1024 → ℝ}
  (hz : Is2 zV z) (hw : Is2 wV w) {xV : Vec Ideal S512x1024 .f32} {x : Fin 512 → Fin 1024 → ℝ} (hx : Is2 xV x)

include hz hw in
theorem pay136 : Is2 (k0_pay136 (F := Ideal) zV wV) fun i d => ∑ j, z i j * w j d := by
  intro i j
  simp only [Is2] at hz hw
  pointwise [k0_pay136]
  simp only [hz, hw, ← EReal.coe_mul, ← coe_sum]

include hx in
theorem pay137 : Is2 (k0_pay137 (F := Ideal) xV) fun i _ => rr (x i) := by
  intro i j
  simp only [Is2] at hx
  pointwise [k0_pay137]
  simp only [hx, ← EReal.coe_mul, ← EReal.coe_add, ← coe_sum, lit_1024, lit_eps, div_1024]
  exact rsqrt_pos (ms_pos (x i))

include hx in
theorem pay138 : Is2 (k0_pay138 (F := Ideal) xV) fun i j => nrm (x i) j := by
  have u0 := pay137 hx
  intro i j
  simp only [Is2] at hx u0
  pointwise [k0_pay138]
  simp only [hx, u0, ← EReal.coe_mul]
  rfl

include hz hw hx in
theorem pay139 (aV : Vec Ideal S1x1024 .f32) (i : Fin 1) (d : Fin 1024) :
    k0_pay139 (F := Ideal) zV wV xV aV (ix2 i d) =
      (aV (ix2 i d) : EReal) + ((∑ r, (∑ j, z r j * w j d) * nrm (x r) d : ℝ) : EReal) := by
  have u0 := pay136 hz hw
  have u1 := pay138 hx
  simp only [Is2] at u0 u1
  pointwise [k0_pay139]
  simp only [u0, u1, ← EReal.coe_mul, ← coe_sum]
end

theorem pay140 {gV : Vec Ideal S1x1024 .f32} {g : Fin 1024 → ℝ} (hg : Is2 gV fun _ j => g j) :
    Is2 (k0_pay140 (F := Ideal) gV) fun _ j => g j := by
  intro i j
  simp only [Is2] at hg
  pointwise [k0_pay140]
  simp only [hg]

theorem pay141 {dV nV yV gV : Vec Ideal S512x1024 .f32} {rV : Vec Ideal S512x1 .f32} {d n y g : Fin 512 → Fin 1024 → ℝ} {r : Fin 512 → ℝ}
    (hd : Is2 dV d) (hy : Is2 yV y) (hr : Is2 rV fun i _ => r i) (hn : Is2 nV n) (hg : Is2 gV g) :
    Is2 (k0_pay141 (F := Ideal) dV yV rV nV gV) fun i j => d i j + back (r i) (n i) (fun k => y i k * g i k) j := by
  intro i j
  simp only [Is2] at hd hy hr hn hg
  pointwise [k0_pay141]
  simp only [hd, hy, hr, hn, hg, ← EReal.coe_mul, ← EReal.coe_add, ← EReal.coe_sub, ← coe_sum, lit_1024, div_1024]
  rfl

end Cert.Mix
-- ==== Proof.MixRules.lean ====
/- Identities between real numbers that the comparison of the two backward passes needs: the layer normalisation's gradient by the
   chain rule, sums over all tokens against indicators, and sums over windows by doubling. -/
module

public import proofs.«01_k».proof.Proof.MixSpec

@[expose] public section

noncomputable section

namespace Cert.Mix

open Cert.Lift Cert.Spec

theorem sum_ctr (v : Fin 512 → ℝ) : ∑ k, ctr v k = 0 := by
  simp only [ctr, Finset.sum_sub_distrib, Finset.sum_const, Finset.card_univ, Fintype.card_fin, nsmul_eq_mul, mu]
  push_cast
  ring

theorem rs_div_var5 (v : Fin 512 → ℝ) : rs v / var5 v = rs v * rs v * rs v := by
  have h : rs v * rs v = (var5 v)⁻¹ := by
    rw [rs, ← mul_inv, Real.mul_self_sqrt (var5_pos v).le]
  rw [h, div_eq_mul_inv, mul_comm]

/-- The gradient of a layer normalisation, as the chain rule gives it term by term. -/
theorem lnback_rule (v d : Fin 512 → ℝ) (j : Fin 512) (K : ℝ)
    (hK : K = (∑ k, ctr v k * d k) * (-(1 / 2) * (rs v / var5 v)) / 512) :
    d j * rs v + K * (2 * ctr v j) + ((∑ k, -(d k * rs v)) + ∑ k, -(K * (2 * ctr v k))) / 512 =
      lnback (rs v) (vh v) d j := by
  have e1 : ∑ k, d k * vh v k = (∑ k, ctr v k * d k) * rs v := by
    rw [Finset.sum_mul]
    exact Finset.sum_congr rfl fun k _ => by rw [vh]; ring
  have e2 : ∑ k, -(K * (2 * ctr v k)) = 0 := by
    rw [Finset.sum_neg_distrib, ← Finset.mul_sum, ← Finset.mul_sum, sum_ctr]
    ring
  have e3 : ∑ k, -(d k * rs v) = -((∑ k, d k) * rs v) := by
    rw [Finset.sum_neg_distrib, ← Finset.sum_mul]
  rw [lnback, e1, e2, e3, hK, rs_div_var5, vh]
  ring

/-- A sum over the tokens against the indicator of one of them, which may lie after the last. -/
theorem ext_sum (f : Fin 4096 → ℝ) (n : ℕ) : ∑ t : Fin 4096, (if t.val = n then f t else 0) = ext f n := by
  unfold ext
  split
  · next h =>
    rw [Finset.sum_eq_single (⟨n, h⟩ : Fin 4096)]
    · simp
    · intro b _ hb
      exact if_neg fun e => hb (Fin.ext e)
    · simp
  · next h => exact Finset.sum_eq_zero fun t _ => if_neg fun e : t.val = n => h (e ▸ t.isLt)

/-- The gradient of a convolution's input, summed over taps and tokens, is a sum over the later tokens that the taps reach. -/
theorem conv_rule (w : Fin 31 → ℝ) (f : Fin 4096 → ℝ) (s : Fin 4096) :
    ∑ k : Fin 31, ∑ t : Fin 4096, w k * f t * (if t.val + k.val = s.val + 30 then 1 else 0) =
      ∑ k : Fin 31, w k * ext f (s.val + (30 - k.val)) := by
  refine Finset.sum_congr rfl fun k _ => ?_
  rw [← ext_sum, Finset.mul_sum]
  refine Finset.sum_congr rfl fun t _ => ?_
  have : (t.val + k.val = s.val + 30) ↔ (t.val = s.val + (30 - k.val)) := by omega
  simp only [this]
  split <;> ring

/-- The gradient of a tap. -/
theorem tap_rule (u f : Fin 4096 → ℝ) (k : Fin 31) :
    ∑ t : Fin 4096, f t * (∑ s : Fin 4096, (if t.val + k.val = s.val + 30 then 1 else 0) * u s) =
      ∑ s : Fin 4096, u s * ext f (s.val + (30 - k.val)) := by
  simp only [Finset.mul_sum]
  rw [Finset.sum_comm]
  refine Finset.sum_congr rfl fun s _ => ?_
  rw [← ext_sum, Finset.mul_sum]
  refine Finset.sum_congr rfl fun t _ => ?_
  have : (t.val + k.val = s.val + 30) ↔ (t.val = s.val + (30 - k.val)) := by omega
  simp only [this]
  split <;> ring

/-- The gradient of the sums over trailing windows of `w` tokens sums over the tokens whose windows hold this one. -/
theorem window_rule (f : Fin 4096 → ℝ) (w : ℕ) (s : Fin 4096) :
    ∑ t : Fin 4096, f t * (if s.val ≤ t.val ∧ t.val < s.val + w then 1 else 0) =
      ∑ i ∈ Finset.range w, ext f (s.val + i) := by
  induction w with
  | zero =>
    rw [Finset.range_zero, Finset.sum_empty]
    exact Finset.sum_eq_zero fun t _ => by rw [if_neg (by omega), mul_zero]
  | succ w ih =>
    rw [Finset.sum_range_succ, ← ih, ← ext_sum, ← Finset.sum_add_distrib]
    refine Finset.sum_congr rfl fun t _ => ?_
    by_cases h : t.val = s.val + w
    · simp [h]
    · have : (s.val ≤ t.val ∧ t.val < s.val + (w + 1)) ↔ (s.val ≤ t.val ∧ t.val < s.val + w) := by omega
      rw [if_neg h, add_zero]
      simp only [this]

/-- The sum over a window of twice the length, by halves. -/
theorem window_double (f : ℕ → ℝ) (w n : ℕ) :
    ∑ i ∈ Finset.range w, f (n + i) + ∑ i ∈ Finset.range w, f (n + w + i) = ∑ i ∈ Finset.range (w + w), f (n + i) := by
  rw [Finset.sum_range_add]
  simp only [Nat.add_assoc]

end Cert.Mix
-- ==== Proof.MixReads.lean ====
/- What loads find in a buffer after several stores: a store's entries inside its rectangle, the earlier contents outside it. With
   these, what the buffers of the backward pass hold: the shifted copies of the convolution's gradient and the sums over windows. -/
module

public import proofs.«01_k».proof.Proof.MixPayloads
public import proofs.«01_k».proof.Proof.MixRules
public import Idealize.ShloMosaic.Lib.WritesUnit
public import Idealize.ShloMosaic.Lib.Pipeline.ReadBack

@[expose] public section

set_option maxRecDepth 16384

noncomputable section

namespace Cert.Mix

open Idealize.ShloMosaic Cert.Lift Cert.Spec
open Cert.Payloads (Is2)

section two
variable {sig : RefSig} {κ : Kind} {sp : Space} {a b : ℕ} {e : EltTy} (A : View sig κ sp (⟨2, ![a, b]⟩ : Shape) e)
  (f : A.ty.Contents (Elt Ideal)) {o0 o1 n0 n1 : ℕ}
  (inb : ∀ k : Fin 2, (![o0, o1] : Fin 2 → ℕ) k + (![n0, n1] : Fin 2 → ℕ) k ≤ (⟨2, ![a, b]⟩ : Shape).size k)

theorem load2 (i : Fin n0) (j : Fin n1) (y : Fin a) (z : Fin b) (hy : y.val = o0 + i.val) (hz : z.val = o1 + j.val) :
    A.readAt (Elt Ideal) (Rect.unit (s := ⟨2, ![a, b]⟩) ![o0, o1] ![n0, n1] inb).toLoadRect f (ix2 i j) = A.read (Elt Ideal) f (ix2 y z) := by
  refine congrArg (A.read (Elt Ideal) f) (funext fun k => Fin.ext ?_)
  fin_cases k
  · show o0 + 1 * i.val = y.val
    omega
  · show o1 + 1 * j.val = z.val
    omega

variable (w : (⟨2, ![n0, n1]⟩ : Shape).Idx → Elt Ideal e) (L : List (View.Piece (Elt Ideal) (⟨2, ![a, b]⟩ : Shape) e)) (y : Fin a) (z : Fin b)

theorem store2_in (i : Fin n0) (j : Fin n1) (hy : y.val = o0 + i.val) (hz : z.val = o1 + j.val) :
    A.read (Elt Ideal) (A.writes (Elt Ideal) f (⟨Rect.unit (s := ⟨2, ![a, b]⟩) ![o0, o1] ![n0, n1] inb, w⟩ :: L)) (ix2 y z) = w (ix2 i j) :=
  View.read_writes_cons_unit_of_mem A f inb w L _ (ix2 i j) rfl fun k => by
    fin_cases k
    · exact hy
    · exact hz

theorem store2_out (h : (y.val < o0 ∨ o0 + n0 ≤ y.val) ∨ (z.val < o1 ∨ o1 + n1 ≤ z.val)) :
    A.read (Elt Ideal) (A.writes (Elt Ideal) f (⟨Rect.unit (s := ⟨2, ![a, b]⟩) ![o0, o1] ![n0, n1] inb, w⟩ :: L)) (ix2 y z) =
      A.read (Elt Ideal) (A.writes (Elt Ideal) f L) (ix2 y z) := by
  rcases h with h | h
  · exact View.read_writes_cons_unit_of_not_mem A f inb w L _ rfl 0 h
  · exact View.read_writes_cons_unit_of_not_mem A f inb w L _ rfl 1 h

end two

section three
variable {sig : RefSig} {κ : Kind} {sp : Space} {a b c : ℕ} {e : EltTy} (A : View sig κ sp (⟨3, ![a, b, c]⟩ : Shape) e)
  (f : A.ty.Contents (Elt Ideal)) {o0 o1 o2 n0 n1 n2 : ℕ}
  (inb : ∀ k : Fin 3, (![o0, o1, o2] : Fin 3 → ℕ) k + (![n0, n1, n2] : Fin 3 → ℕ) k ≤ (⟨3, ![a, b, c]⟩ : Shape).size k)

theorem load3 (i : Fin n0) (j : Fin n1) (k : Fin n2) (x : Fin a) (y : Fin b) (z : Fin c) (hx : x.val = o0 + i.val)
    (hy : y.val = o1 + j.val) (hz : z.val = o2 + k.val) :
    A.readAt (Elt Ideal) (Rect.unit (s := ⟨3, ![a, b, c]⟩) ![o0, o1, o2] ![n0, n1, n2] inb).toLoadRect f (ix3 i j k) =
      A.read (Elt Ideal) f (ix3 x y z) := by
  refine congrArg (A.read (Elt Ideal) f) (funext fun l => Fin.ext ?_)
  fin_cases l
  · show o0 + 1 * i.val = x.val
    omega
  · show o1 + 1 * j.val = y.val
    omega
  · show o2 + 1 * k.val = z.val
    omega

variable (w : (⟨3, ![n0, n1, n2]⟩ : Shape).Idx → Elt Ideal e) (L : List (View.Piece (Elt Ideal) (⟨3, ![a, b, c]⟩ : Shape) e))
  (x : Fin a) (y : Fin b) (z : Fin c)

theorem store3_in (i : Fin n0) (j : Fin n1) (k : Fin n2) (hx : x.val = o0 + i.val) (hy : y.val = o1 + j.val) (hz : z.val = o2 + k.val) :
    A.read (Elt Ideal) (A.writes (Elt Ideal) f (⟨Rect.unit (s := ⟨3, ![a, b, c]⟩) ![o0, o1, o2] ![n0, n1, n2] inb, w⟩ :: L)) (ix3 x y z) =
      w (ix3 i j k) :=
  View.read_writes_cons_unit_of_mem A f inb w L _ (ix3 i j k) rfl fun l => by
    fin_cases l
    · exact hx
    · exact hy
    · exact hz

theorem store3_out (h : (x.val < o0 ∨ o0 + n0 ≤ x.val) ∨ (y.val < o1 ∨ o1 + n1 ≤ y.val)) :
    A.read (Elt Ideal) (A.writes (Elt Ideal) f (⟨Rect.unit (s := ⟨3, ![a, b, c]⟩) ![o0, o1, o2] ![n0, n1, n2] inb, w⟩ :: L)) (ix3 x y z) =
      A.read (Elt Ideal) (A.writes (Elt Ideal) f L) (ix3 x y z) := by
  rcases h with h | h
  · exact View.read_writes_cons_unit_of_not_mem A f inb w L _ rfl 0 h
  · exact View.read_writes_cons_unit_of_not_mem A f inb w L _ rfl 1 h

end three

/-! The shifted copies of the convolution's gradient. -/

section slots
variable {sig : RefSig} {κ : Kind} {sp : Space} (A : View sig κ sp (⟨3, ![8, 544, 512]⟩ : Shape) .f32)
  (X : A.ty.Contents (Elt Ideal)) (D : ℕ → Fin 512 → ℝ)

/-- The first `n` copies are there: copy `s` starts `s` rows later. The first is 544 rows long, the others 536. -/
def Slots (n : ℕ) : Prop :=
  (∀ (r : Fin 544) (c : Fin 512), A.read (Elt Ideal) X (ix3 0 r c) = ((D r.val c : ℝ) : EReal)) ∧
    ∀ s : Fin 8, 0 < s.val → s.val < n → ∀ r : Fin 544, r.val < 536 → ∀ c : Fin 512,
      A.read (Elt Ideal) X (ix3 s r c) = ((D (s.val + r.val) c : ℝ) : EReal)

variable {A X D}

theorem slots_load {n s o m : ℕ} (h : Slots A X D n) (hs : s < 8) (hn : s < n) (ho : o + m ≤ 536)
    (inb : ∀ k : Fin 3, (![s, o, 0] : Fin 3 → ℕ) k + (![1, m, 512] : Fin 3 → ℕ) k ≤ (⟨3, ![8, 544, 512]⟩ : Shape).size k) :
    Is3 (A.readAt (Elt Ideal) (Rect.unit (s := ⟨3, ![8, 544, 512]⟩) ![s, o, 0] ![1, m, 512] inb).toLoadRect X)
      fun _ r c => D (s + o + r.val) c := by
  intro z r c
  refine (load3 A X inb z r c ⟨s, hs⟩ ⟨o + r.val, by omega⟩ c (by simp) rfl (by simp)).trans ?_
  rcases Nat.eq_zero_or_pos s with rfl | h0
  · refine (h.1 ⟨o + r.val, by omega⟩ c).trans ?_
    simp only [Nat.zero_add]
  · refine (h.2 ⟨s, hs⟩ h0 hn ⟨o + r.val, by omega⟩ (by show o + r.val < 536; omega) c).trans ?_
    simp only [Nat.add_assoc]

theorem slots_load0 {n o m : ℕ} (h : Slots A X D n) (ho : o + m ≤ 544)
    (inb : ∀ k : Fin 3, (![0, o, 0] : Fin 3 → ℕ) k + (![1, m, 512] : Fin 3 → ℕ) k ≤ (⟨3, ![8, 544, 512]⟩ : Shape).size k) :
    Is3 (A.readAt (Elt Ideal) (Rect.unit (s := ⟨3, ![8, 544, 512]⟩) ![0, o, 0] ![1, m, 512] inb).toLoadRect X)
      fun _ r c => D (o + r.val) c := by
  intro z r c
  exact (load3 A X inb z r c 0 ⟨o + r.val, by omega⟩ c (by simp) rfl (by simp)).trans (h.1 ⟨o + r.val, by omega⟩ c)

variable {f : A.ty.Contents (Elt Ideal)} {L : List (View.Piece (Elt Ideal) (⟨3, ![8, 544, 512]⟩ : Shape) .f32)}

/-- The first copy: the block's own 512 rows, before the 32 rows carried from the block after it. -/
theorem slots_base (hc : ∀ (r : Fin 544), 512 ≤ r.val → ∀ c : Fin 512,
      A.read (Elt Ideal) (A.writes (Elt Ideal) f L) (ix3 0 r c) = ((D r.val c : ℝ) : EReal))
    (inb : ∀ k : Fin 3, (![0, 0, 0] : Fin 3 → ℕ) k + (![1, 512, 512] : Fin 3 → ℕ) k ≤ (⟨3, ![8, 544, 512]⟩ : Shape).size k)
    {w : (⟨3, ![1, 512, 512]⟩ : Shape).Idx → Elt Ideal .f32} (hw : Is3 w fun _ r c => D r.val c) :
    Slots A (A.writes (Elt Ideal) f (⟨Rect.unit (s := ⟨3, ![8, 544, 512]⟩) ![0, 0, 0] ![1, 512, 512] inb, w⟩ :: L)) D 1 := by
  refine ⟨fun r c => ?_, fun s h0 h1 => by omega⟩
  by_cases h : r.val < 512
  · exact (store3_in A f inb w L 0 r c 0 ⟨r.val, h⟩ c rfl (Nat.zero_add _).symm (Nat.zero_add _).symm).trans (hw 0 ⟨r.val, h⟩ c)
  · exact (store3_out A f inb w L 0 r c (.inr (.inr (by omega)))).trans (hc r (by omega) c)

/-- One more copy. -/
theorem slots_step {s : ℕ} (hs : s < 8) (h0 : 0 < s) (h : Slots A (A.writes (Elt Ideal) f L) D s)
    (inb : ∀ k : Fin 3, (![s, 0, 0] : Fin 3 → ℕ) k + (![1, 536, 512] : Fin 3 → ℕ) k ≤ (⟨3, ![8, 544, 512]⟩ : Shape).size k)
    {w : (⟨3, ![1, 536, 512]⟩ : Shape).Idx → Elt Ideal .f32} (hw : Is3 w fun _ r c => D (s + r.val) c) :
    Slots A (A.writes (Elt Ideal) f (⟨Rect.unit (s := ⟨3, ![8, 544, 512]⟩) ![s, 0, 0] ![1, 536, 512] inb, w⟩ :: L)) D (s + 1) := by
  refine ⟨fun r c => ?_, fun t ht0 ht r hr c => ?_⟩
  · exact (store3_out A f inb w L 0 r c (.inl (.inl h0))).trans (h.1 r c)
  · by_cases e : t.val = s
    · refine (store3_in A f inb w L t r c 0 ⟨r.val, hr⟩ c (by simpa using e) (Nat.zero_add _).symm (Nat.zero_add _).symm).trans ?_
      rw [e]
      exact hw 0 ⟨r.val, hr⟩ c
    · exact (store3_out A f inb w L t r c (.inl (by omega))).trans (h.2 t ht0 (by omega) r hr c)

end slots

/-! The sums over windows. -/

section windows
variable {sig : RefSig} {κ : Kind} {sp : Space} (A : View sig κ sp (⟨2, ![544, 512]⟩ : Shape) .f32)
  (X : A.ty.Contents (Elt Ideal)) (D : ℕ → Fin 512 → ℝ)

/-- The sums over `w` rows stand in rows before `n`, from channel `lo` on up to `hi`. -/
def Sums (w n lo hi : ℕ) : Prop :=
  ∀ r : Fin 544, r.val < n → ∀ c : Fin 512, lo ≤ c.val → c.val < hi →
    A.read (Elt Ideal) X (ix2 r c) = ((∑ i ∈ Finset.range w, D (r.val + i) c : ℝ) : EReal)

variable {A X D}

theorem sums_load {w n lo hi o l m k : ℕ} (h : Sums A X D w n lo hi) (ho : o + m ≤ n) (hn : n ≤ 544) (hl : lo ≤ l) (hk : l + k ≤ hi)
    (hh : hi ≤ 512) (inb : ∀ q : Fin 2, (![o, l] : Fin 2 → ℕ) q + (![m, k] : Fin 2 → ℕ) q ≤ (⟨2, ![544, 512]⟩ : Shape).size q) :
    Is2 (A.readAt (Elt Ideal) (Rect.unit (s := ⟨2, ![544, 512]⟩) ![o, l] ![m, k] inb).toLoadRect X)
      fun r c => ∑ i ∈ Finset.range w, D (o + r.val + i) ⟨l + c.val, by omega⟩ := by
  intro r c
  exact (load2 A X inb r c ⟨o + r.val, by omega⟩ ⟨l + c.val, by omega⟩ rfl rfl).trans
    (h ⟨o + r.val, by omega⟩ (by show o + r.val < n; omega) ⟨l + c.val, by omega⟩ (by show lo ≤ l + c.val; omega) (by show l + c.val < hi; omega))

variable {f : A.ty.Contents (Elt Ideal)} {L : List (View.Piece (Elt Ideal) (⟨2, ![544, 512]⟩ : Shape) .f32)}

/-- A store of sums in the channels from `lo` to `lo + k`. -/
theorem sums_store {w m lo k : ℕ}
    (inb : ∀ q : Fin 2, (![0, lo] : Fin 2 → ℕ) q + (![m, k] : Fin 2 → ℕ) q ≤ (⟨2, ![544, 512]⟩ : Shape).size q)
    {v : (⟨2, ![m, k]⟩ : Shape).Idx → Elt Ideal .f32} (hlo : lo + k ≤ 512)
    (hv : Is2 v fun r c => ∑ i ∈ Finset.range w, D (r.val + i) ⟨lo + c.val, by omega⟩) :
    Sums A (A.writes (Elt Ideal) f (⟨Rect.unit (s := ⟨2, ![544, 512]⟩) ![0, lo] ![m, k] inb, v⟩ :: L)) D w m lo (lo + k) := by
  intro r hr c hl hc
  refine (store2_in A f inb v L r c ⟨r.val, hr⟩ ⟨c.val - lo, by omega⟩ (Nat.zero_add _).symm (by show c.val = lo + (c.val - lo); omega)).trans ?_
  refine (hv ⟨r.val, hr⟩ ⟨c.val - lo, by omega⟩).trans ?_
  have e : (⟨lo + (c.val - lo), by omega⟩ : Fin 512) = c := Fin.ext (by show lo + (c.val - lo) = c.val; omega)
  simp only [e]

/-- A store in other channels leaves sums where they stand. -/
theorem sums_keep {w n lo hi m l k : ℕ} (h : Sums A (A.writes (Elt Ideal) f L) D w n lo hi) (hl : hi ≤ l)
    (inb : ∀ q : Fin 2, (![0, l] : Fin 2 → ℕ) q + (![m, k] : Fin 2 → ℕ) q ≤ (⟨2, ![544, 512]⟩ : Shape).size q)
    {v : (⟨2, ![m, k]⟩ : Shape).Idx → Elt Ideal .f32} :
    Sums A (A.writes (Elt Ideal) f (⟨Rect.unit (s := ⟨2, ![544, 512]⟩) ![0, l] ![m, k] inb, v⟩ :: L)) D w n lo hi :=
  fun r hr c h1 h2 => (store2_out A f inb v L r c (.inr (.inl (by omega)))).trans (h r hr c h1 h2)

/-- Fewer channels. -/
theorem Sums.mono {w n lo hi lo' hi' : ℕ} (h : Sums A X D w n lo hi) (h1 : lo ≤ lo') (h2 : hi' ≤ hi) : Sums A X D w n lo' hi' :=
  fun r hr c hl hc => h r hr c (h1.trans hl) (hc.trans_le h2)

end windows

end Cert.Mix
-- ==== Proof.MixArgs.lean ====
/- What the backward pass's body reads at one grid point, over real arguments. The points go through the tokens from the last block of
   512 to the first. -/
module

public import proofs.«01_k».proof.Proof.MixReads
public import proofs.«01_k».proof.Proof.Gen.MixKernelIdeal.Frame
public import Idealize.ShloMosaic.Lib.Pipeline.ValueKit
public import Idealize.ShloMosaic.Lib.Pipeline.ReadBack

@[expose] public section

set_option maxRecDepth 16384
set_option maxHeartbeats 4000000

noncomputable section

namespace Cert.Mix.Blocks

open Idealize.ShloMosaic Cert.MixKernelIdeal Cert.MixKernelIdeal.Gen Cert.Lift Cert.Spec
open Cert.Payloads (Is2)
open Idealize.ShloMosaic.TcCoe Idealize.ShloMosaic.Tactic

theorem lt8 (t : Fin cfg0.N) : t.val < 8 := N_0 ▸ t.isLt

/-- The block of tokens of a grid point. -/
def blkOf (t : Fin cfg0.N) : ℕ := 7 - t.val

/-- The token at a row of a grid point's block. -/
def tok (t : Fin cfg0.N) (i : Fin 512) : Fin 4096 := ⟨512 * blkOf t + i.val, by unfold blkOf; omega⟩

theorem index0 : ∀ t : Fin cfg0.N, win0_0.index t = ![7 - t.val, 0] := (by decide +kernel : ∀ t : Fin grid0.N, _)
theorem index1 : ∀ t : Fin cfg0.N, win0_1.index t = ![7 - t.val, 0] := (by decide +kernel : ∀ t : Fin grid0.N, _)
theorem index2 : ∀ t : Fin cfg0.N, win0_2.index t = ![7 - t.val, 0] := (by decide +kernel : ∀ t : Fin grid0.N, _)
theorem index3 : ∀ t : Fin cfg0.N, win0_3.index t = ![7 - t.val, 0] := (by decide +kernel : ∀ t : Fin grid0.N, _)
theorem index4 : ∀ t : Fin cfg0.N, win0_4.index t = ![7 - t.val, 0] := (by decide +kernel : ∀ t : Fin grid0.N, _)
theorem index5 : ∀ t : Fin cfg0.N, win0_5.index t = ![7 - t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![0, 0] := (by decide +kernel : ∀ t : Fin grid0.N, _)

theorem block_bits : ∀ t : Fin cfg0.N, Scalar.subi (7#32) (BitVec.ofNat 32 (grid0.coords t 0).val) = BitVec.ofNat 32 (7 - t.val) :=
  (by decide +kernel : ∀ t : Fin grid0.N, _)

variable (m : (ℓ : Loc nD τ sig) → Buf (Elt Ideal) ℓ)

/-- The entries of the fourteen arguments are these real numbers. -/
structure Args (c : Dev nD) (p : Params) (T : Tokens) : Prop where
  a0 : Is2 (m ((c : Thread nD τ).loc main_arg0)) T.dh
  a1 : Is2 (m ((c : Thread nD τ).loc main_arg1)) T.x
  a2 : Is2 (m ((c : Thread nD τ).loc main_arg2)) T.a
  a3 : Is2 (m ((c : Thread nD τ).loc main_arg3)) T.gate
  a4 : Is2 (m ((c : Thread nD τ).loc main_arg4)) T.v
  a5 : Is2 (m ((c : Thread nD τ).loc main_arg5)) T.m
  a6 : Is2 (m ((c : Thread nD τ).loc main_arg6)) fun _ j => p.g j
  a7 : Is2 (m ((c : Thread nD τ).loc main_arg7)) p.win
  a8 : Is2 (m ((c : Thread nD τ).loc main_arg8)) p.wdw
  a9 : Is2 (m ((c : Thread nD τ).loc main_arg9)) fun _ j => p.lng j
  a10 : Is2 (m ((c : Thread nD τ).loc main_arg10)) fun _ j => p.lnb j
  a11 : Is3 (m ((c : Thread nD τ).loc main_arg11)) p.wp
  a12 : Is2 (m ((c : Thread nD τ).loc main_arg12)) fun _ j => p.sp j
  a13 : Is2 (m ((c : Thread nD τ).loc main_arg13)) p.wout

variable {m} {c : Dev nD} {p : Params} {T : Tokens} (h : Args m c p T)
include h

theorem read0 (t : Fin cfg0.N) : Is2 (iblk m c 0 t) fun i => T.dh (tok t i) := by
  intro i j
  refine Eq.trans ?_ (h.a0 (tok t i) j)
  blk_ext [iblk, V, index0 t]
  all_goals (simp [tok, blkOf]; try omega)

theorem read1 (t : Fin cfg0.N) : Is2 (iblk m c 1 t) fun i => T.x (tok t i) := by
  intro i j
  refine Eq.trans ?_ (h.a1 (tok t i) j)
  blk_ext [iblk, V, index1 t]
  all_goals (simp [tok, blkOf]; try omega)

theorem read2 (t : Fin cfg0.N) : Is2 (iblk m c 2 t) fun i => T.a (tok t i) := by
  intro i j
  refine Eq.trans ?_ (h.a2 (tok t i) j)
  blk_ext [iblk, V, index2 t]
  all_goals (simp [tok, blkOf]; try omega)

theorem read3 (t : Fin cfg0.N) : Is2 (iblk m c 3 t) fun i => T.gate (tok t i) := by
  intro i j
  refine Eq.trans ?_ (h.a3 (tok t i) j)
  blk_ext [iblk, V, index3 t]
  all_goals (simp [tok, blkOf]; try omega)

theorem read4 (t : Fin cfg0.N) : Is2 (iblk m c 4 t) fun i => T.v (tok t i) := by
  intro i j
  refine Eq.trans ?_ (h.a4 (tok t i) j)
  blk_ext [iblk, V, index4 t]
  all_goals (simp [tok, blkOf]; try omega)

theorem read5 (t : Fin cfg0.N) : Is2 (iblk m c 5 t) fun i => T.m (tok t i) := by
  intro i j
  refine Eq.trans ?_ (h.a5 (tok t i) j)
  blk_ext [iblk, V, index5 t]
  all_goals (simp [tok, blkOf]; try omega)

theorem read6 (t : Fin cfg0.N) : Is2 (iblk m c 6 t) (fun _ j => p.g j) := by
  intro i j
  refine Eq.trans ?_ (h.a6 i j)
  blk_ext [iblk, V, index6 t]
  all_goals (simp; try omega)

theorem read7 (t : Fin cfg0.N) : Is2 (iblk m c 7 t) p.win := by
  intro i j
  refine Eq.trans ?_ (h.a7 i j)
  blk_ext [iblk, V, index7 t]
  all_goals (simp; try omega)

theorem read8 (t : Fin cfg0.N) : Is2 (iblk m c 8 t) p.wdw := by
  intro i j
  refine Eq.trans ?_ (h.a8 i j)
  blk_ext [iblk, V, index8 t]
  all_goals (simp; try omega)

theorem read9 (t : Fin cfg0.N) : Is2 (iblk m c 9 t) (fun _ j => p.lng j) := by
  intro i j
  refine Eq.trans ?_ (h.a9 i j)
  blk_ext [iblk, V, index9 t]
  all_goals (simp; try omega)

theorem read10 (t : Fin cfg0.N) : Is2 (iblk m c 10 t) (fun _ j => p.lnb j) := by
  intro i j
  refine Eq.trans ?_ (h.a10 i j)
  blk_ext [iblk, V, index10 t]
  all_goals (simp; try omega)

theorem read12 (t : Fin cfg0.N) : Is2 (iblk m c 12 t) (fun _ j => p.sp j) := by
  intro i j
  refine Eq.trans ?_ (h.a12 i j)
  blk_ext [iblk, V, index12 t]
  all_goals (simp; try omega)

theorem read13 (t : Fin cfg0.N) : Is2 (iblk m c 13 t) p.wout := by
  intro i j
  refine Eq.trans ?_ (h.a13 i j)
  blk_ext [iblk, V, index13 t]
  all_goals (simp; try omega)

theorem read11 (t : Fin cfg0.N) : Is3 (iblk m c 11 t) p.wp := by
  intro i j k
  refine Eq.trans ?_ (h.a11 i j k)
  blk_ext [iblk, V, index11 t]
  all_goals (simp; try omega)

end Cert.Mix.Blocks
-- ==== Proof.MixPool.lean ====
/- What the operations of the backward pass's kernel compute for the pooled means and their maps, over real entries. The four
   groups of channels go through the same operations with windows of 2, 4, 8 and 16 tokens. -/
module

public import proofs.«01_k».proof.Proof.MixPayloads
public import proofs.«01_k».proof.Proof.MixRules

@[expose] public section

set_option maxRecDepth 16384

noncomputable section

namespace Cert.Mix

open Idealize.ShloMosaic Cert.MixKernelIdeal Cert.MixKernelIdeal.Gen Cert.Lift Cert.Spec
open Cert.Payloads (Is2)

theorem pay86 (b : ℕ) (hb : b < 8) (i : Fin 512) (j : Fin 1) :
    k0_pay86 (BitVec.ofNat 32 b) (ix2 i j) = BitVec.ofNat 32 (512 * b + i.val) := by
  pointwise [k0_pay86]
  rw [IntOp.addi, Scalar.muli, IntOp.muli, Nat.add_comm, BitVec.ofNat_add, Nat.mul_comm, BitVec.ofNat_mul]

section
variable {dV : Vec Ideal S512x1024 .f32} {d : Fin 512 → Fin 1024 → ℝ} (hd : Is2 dV d)
include hd

theorem pay87 : Is2 (k0_pay87 (F := Ideal) dV) fun i j => d i (cr (lane 0 j)) := by
  intro i j
  refine Eq.trans ?_ (hd i (cr (lane 0 j)))
  pointwise [k0_pay87]
  exact congrArg dV (congrArg (ix2 i) (Fin.ext (by simp only [cr, lane, Fin.val_zero, Fin.val_one, Fin.val_two, Fin.reduceFinMk, Fin.isValue]; first | rfl | omega)))

theorem pay95 : Is2 (k0_pay95 (F := Ideal) dV) fun i j => d i (cr (lane 1 j)) := by
  intro i j
  refine Eq.trans ?_ (hd i (cr (lane 1 j)))
  pointwise [k0_pay95]
  exact congrArg dV (congrArg (ix2 i) (Fin.ext (by simp only [cr, lane, Fin.val_zero, Fin.val_one, Fin.val_two, Fin.reduceFinMk, Fin.isValue]; first | rfl | omega)))

theorem pay102 : Is2 (k0_pay102 (F := Ideal) dV) fun i j => d i (cr (lane 2 j)) := by
  intro i j
  refine Eq.trans ?_ (hd i (cr (lane 2 j)))
  pointwise [k0_pay102]
  exact congrArg dV (congrArg (ix2 i) (Fin.ext (by simp only [cr, lane, Fin.val_zero, Fin.val_one, Fin.val_two, Fin.reduceFinMk, Fin.isValue]; first | rfl | omega)))

theorem pay110 : Is2 (k0_pay110 (F := Ideal) dV) fun i j => d i (cr (lane 3 j)) := by
  intro i j
  refine Eq.trans ?_ (hd i (cr (lane 3 j)))
  pointwise [k0_pay110]
  exact congrArg dV (congrArg (ix2 i) (Fin.ext (by simp only [cr, lane, Fin.val_zero, Fin.val_one, Fin.val_two, Fin.reduceFinMk, Fin.isValue]; first | rfl | omega)))
end

section
variable {yV : Vec Ideal S512x128 .f32} {y : Fin 512 → Fin 128 → ℝ} (hy : Is2 yV y)
  {mV : Vec Ideal S512x128 .bf16} {m : Fin 512 → Fin 128 → ℝ} (hm : Is2 mV m)
  {wV : Vec Ideal S1x128x128 .bf16} {w : Fin 128 → Fin 128 → ℝ} (hw : Is3 wV fun _ => w)
  {sV : Vec Ideal S1x128 .f32} {s : Fin 128 → ℝ} (hs : Is2 sV fun _ j => s j)

include hy hm hw in
theorem pay88 (aV : Vec Ideal S1x128 .f32) (i : Fin 1) (j : Fin 128) :
    k0_pay88 (F := Ideal) yV mV wV aV (ix2 i j) =
      (aV (ix2 i j) : EReal) + ((∑ r, y r j * ∑ e, m r e * w e j : ℝ) : EReal) := by
  simp only [Is2, Is3] at hy hm hw
  pointwise [k0_pay88]
  simp only [hy, hm, hw, ← EReal.coe_mul, ← coe_sum]

include hy hs in
theorem pay89 : Is2 (k0_pay89 (F := Ideal) yV sV) fun i j => y i j * s j := by
  intro i j
  simp only [Is2] at hy hs
  pointwise [k0_pay89]
  simp only [hy, hs, ← EReal.coe_mul]

include hy hm hs in
theorem pay90 (aV : Vec Ideal S1x128x128 .f32) (i : Fin 1) (e j : Fin 128) :
    k0_pay90 (F := Ideal) yV mV sV aV (ix3 i e j) =
      (aV (ix3 i e j) : EReal) + ((∑ r, m r e * (y r j * s j) : ℝ) : EReal) := by
  have u0 := pay89 hy hs
  simp only [Is2] at u0 hm
  obtain rfl := Fin.fin_one_eq_zero i
  pointwise [k0_pay90]
  simp only [u0, hm, ← EReal.coe_mul, ← coe_sum]

include hy hs hw in
theorem pay91 : Is2 (k0_pay91 (F := Ideal) yV sV wV) fun i e => ∑ j, y i j * s j * w e j := by
  have u0 := pay89 hy hs
  intro i j
  simp only [Is2, Is3] at u0 hw
  pointwise [k0_pay91]
  simp only [u0, hw, ← EReal.coe_mul, ← coe_sum]

variable {rV : IVec S512x1 32} {n : ℕ} (hn : n + 512 ≤ 4096) (hr : ∀ (i : Fin 512) (j : Fin 1), rV (ix2 i j) = BitVec.ofNat 32 (n + i.val))

omit hn hr in
theorem toInt_ofNat {k : ℕ} (hk : k < 2 ^ 31) : (BitVec.ofNat 32 k).toInt = k := by
  have h : (BitVec.ofNat 32 k).toNat = k := by
    rw [BitVec.toNat_ofNat, Nat.mod_eq_of_lt (by omega)]
  rw [BitVec.toInt_eq_toNat_of_lt (by omega), h]

/-- The number of tokens in a window, as integer operations count it. -/
theorem cnt_rule (g : Fin 4) {n : ℕ} (hn : n < 4096) :
    (((IntOp.minsi (IntOp.addi (BitVec.ofNat 32 n) 1#32) (BitVec.ofNat 32 (2 ^ (g.val + 1)))).toInt : ℝ)) = cnt g n := by
  have hw : 2 ^ (g.val + 1) < 2 ^ 31 := Nat.pow_lt_pow_right (by norm_num) (by omega)
  have e : IntOp.addi (BitVec.ofNat 32 n) 1#32 = BitVec.ofNat 32 (n + 1) := by
    rw [IntOp.addi, BitVec.ofNat_add]
  rw [e, IntOp.minsi, BitVec.slt, toInt_ofNat (by omega), toInt_ofNat hw, cnt]
  by_cases h : n + 1 < 2 ^ (g.val + 1)
  · rw [if_pos (by simpa using (by exact_mod_cast h : ((n + 1 : ℕ) : ℤ) < ((2 ^ (g.val + 1) : ℕ) : ℤ))), toInt_ofNat (by omega), min_eq_left h.le]
    push_cast
    rfl
  · rw [if_neg (by simpa using (by exact_mod_cast not_lt.mp h : ((2 ^ (g.val + 1) : ℕ) : ℤ) ≤ ((n + 1 : ℕ) : ℤ))), toInt_ofNat hw, min_eq_right (not_lt.mp h)]
    push_cast
    rfl

/-- The gradient of a window's sum: a gradient divided by the number of tokens. -/
theorem dq_rule (g : Fin 4) (r : ℝ) {n : ℕ} (hn : n < 4096) :
    Ideal.div (r : EReal) (FloatOps.sitofp (F := Ideal) FTy.f32
      (IntOp.minsi (IntOp.addi (BitVec.ofNat 32 n) 1#32) (BitVec.ofNat 32 (2 ^ (g.val + 1))))) = ((r / cnt g n : ℝ) : EReal) := by
  rw [← cnt_rule g hn]
  refine div_pos_coe r ?_
  rw [cnt_rule g hn]
  exact cnt_pos g n
end

section
variable {yV : Vec Ideal S512x128 .f32} {y : Fin 512 → Fin 128 → ℝ} (hy : Is2 yV y)
  {wV : Vec Ideal S1x128x128 .bf16} {w : Fin 128 → Fin 128 → ℝ} (hw : Is3 wV fun _ => w)
  {sV : Vec Ideal S1x128 .f32} {s : Fin 128 → ℝ} (hs : Is2 sV fun _ j => s j)
  {rV : IVec S512x1 32} {n : ℕ} (hn : n + 512 ≤ 4096) (hr : ∀ (i : Fin 512) (j : Fin 1), rV (ix2 i j) = BitVec.ofNat 32 (n + i.val))

include hy hs hw in
theorem pay94 : Is2 (k0_pay94 (F := Ideal) (k0_pay91 yV sV wV)) fun i e => ∑ j, y i j * s j * w e j := by
  have u0 := pay91 hy hw hs
  intro i j
  simp only [Is2] at u0
  pointwise [k0_pay94]
  exact u0 i j

include hy hs hw hn hr

theorem pay93 : Is2 (k0_pay93 (F := Ideal) (k0_pay92 rV yV sV wV)) fun i e => (∑ j, y i j * s j * w e j) / cnt 0 (n + i.val) := by
  have u0 := pay91 hy hw hs
  intro i j
  simp only [Is2] at u0
  pointwise [k0_pay93, k0_pay92]
  simp only [u0, hr]
  exact dq_rule 0 _ (by omega)

theorem pay100 : Is2 (k0_pay100 (F := Ideal) rV (k0_pay89 yV sV) wV) fun i e => (∑ j, y i j * s j * w e j) / cnt 1 (n + i.val) := by
  have u0 : Is2 (k0_pay99 (F := Ideal) (k0_pay89 yV sV) wV) _ := pay91 hy hw hs
  intro i j
  simp only [Is2] at u0
  pointwise [k0_pay100]
  simp only [u0, hr]
  exact dq_rule 1 _ (by omega)

theorem pay108 : Is2 (k0_pay108 (F := Ideal) rV (k0_pay89 yV sV) wV) fun i e => (∑ j, y i j * s j * w e j) / cnt 2 (n + i.val) := by
  have u0 : Is2 (k0_pay107 (F := Ideal) (k0_pay89 yV sV) wV) _ := pay91 hy hw hs
  intro i j
  simp only [Is2] at u0
  pointwise [k0_pay108]
  simp only [u0, hr]
  exact dq_rule 2 _ (by omega)

theorem pay115 : Is2 (k0_pay115 (F := Ideal) rV yV sV wV) fun i e => (∑ j, y i j * s j * w e j) / cnt 3 (n + i.val) := by
  have u0 : Is2 (k0_pay114 (F := Ideal) yV sV wV) _ := pay91 hy hw hs
  intro i j
  simp only [Is2] at u0
  pointwise [k0_pay115]
  simp only [u0, hr]
  exact dq_rule 3 _ (by omega)
end

/-! Sums over windows, doubled, and the gradient of the pooled channels. -/

section
variable {m k : ℕ} {D : ℕ → Fin 512 → ℝ} {w lo : ℕ}

theorem dbl (hk : lo + k ≤ 512) (r : Fin m) (c : Fin k) :
    ∑ i ∈ Finset.range w, D (0 + r.val + i) ⟨lo + c.val, by omega⟩ + ∑ i ∈ Finset.range w, D (w + r.val + i) ⟨lo + c.val, by omega⟩ =
      ∑ i ∈ Finset.range (w + w), D (r.val + i) ⟨lo + c.val, by omega⟩ := by
  rw [Nat.zero_add, Nat.add_comm w r.val]
  exact window_double (fun n => D n _) w r.val
end

theorem pay118 {xV yV : Vec Ideal S536x512 .f32} {x y : Fin 536 → Fin 512 → ℝ} (hx : Is2 xV x) (hy : Is2 yV y) :
    Is2 (k0_pay118 (F := Ideal) (k0_pay117 xV yV)) fun r c => x r c + y r c := by
  intro i j
  simp only [Is2] at hx hy
  pointwise [k0_pay118, k0_pay117]
  simp only [hx, hy, ← EReal.coe_add]

theorem pay119 {xV yV : Vec Ideal S528x384 .f32} {x y : Fin 528 → Fin 384 → ℝ} (hx : Is2 xV x) (hy : Is2 yV y) :
    Is2 (k0_pay119 (F := Ideal) xV yV) fun r c => x r c + y r c := by
  intro i j
  simp only [Is2] at hx hy
  pointwise [k0_pay119]
  simp only [hx, hy, ← EReal.coe_add]

theorem pay120 {xV yV : Vec Ideal S520x256 .f32} {x y : Fin 520 → Fin 256 → ℝ} (hx : Is2 xV x) (hy : Is2 yV y) :
    Is2 (k0_pay120 (F := Ideal) xV yV) fun r c => x r c + y r c := by
  intro i j
  simp only [Is2] at hx hy
  pointwise [k0_pay120]
  simp only [hx, hy, ← EReal.coe_add]

section
variable {xV yV : Vec Ideal S512x128 .f32} {x y : Fin 512 → Fin 128 → ℝ} (hx : Is2 xV x) (hy : Is2 yV y)
include hx hy

theorem pay121 : Is2 (k0_pay121 (F := Ideal) xV yV) fun r c => x r c + y r c := by
  intro i j
  simp only [Is2] at hx hy
  pointwise [k0_pay121]
  simp only [hx, hy, ← EReal.coe_add]

theorem pay123 : Is2 (k0_pay123 (F := Ideal) xV yV) fun r c => x r c - y r c := by
  intro i j
  simp only [Is2] at hx hy
  pointwise [k0_pay123, k0_pay122]
  simp only [hx, hy, ← EReal.coe_sub]

theorem pay128 : Is2 (k0_pay128 (F := Ideal) xV yV) fun r c => x r c - y r c := pay123 hx hy
theorem pay131 : Is2 (k0_pay131 (F := Ideal) xV yV) fun r c => x r c - y r c := pay123 hx hy
theorem pay134 : Is2 (k0_pay134 (F := Ideal) xV yV) fun r c => x r c - y r c := pay123 hx hy

theorem pay129 (aV : Vec Ideal S1x128 .f32) (i : Fin 1) (j : Fin 128) :
    k0_pay129 (F := Ideal) xV yV aV (ix2 i j) = (aV (ix2 i j) : EReal) + ((∑ r, (x r j - y r j) : ℝ) : EReal) := by
  have u0 : Is2 (k0_pay127 (F := Ideal) xV yV) _ := pay123 hx hy
  simp only [Is2] at u0
  pointwise [k0_pay129]
  simp only [u0, ← coe_sum]

theorem pay126 (aV : Vec Ideal S1x128 .f32) (i : Fin 1) (j : Fin 128) :
    k0_pay126 (F := Ideal) (k0_pay124 aV) (k0_pay125 xV yV) (ix2 i j) = (aV (ix2 i j) : EReal) + ((∑ r, (x r j - y r j) : ℝ) : EReal) :=
  pay129 hx hy aV i j

theorem pay132 (aV : Vec Ideal S1x128 .f32) (i : Fin 1) (j : Fin 128) :
    k0_pay132 (F := Ideal) xV yV aV (ix2 i j) = (aV (ix2 i j) : EReal) + ((∑ r, (x r j - y r j) : ℝ) : EReal) :=
  pay129 hx hy aV i j

theorem pay135 (aV : Vec Ideal S1x128 .f32) (i : Fin 1) (j : Fin 128) :
    k0_pay135 (F := Ideal) xV yV aV (ix2 i j) = (aV (ix2 i j) : EReal) + ((∑ r, (x r j - y r j) : ℝ) : EReal) :=
  pay129 hx hy aV i j
end

end Cert.Mix
-- ==== Proof.MixStores.lean ====
/- What stands in the backward pass's buffers after the stores of one grid point, and what its loads find there: the eight shifted
   copies of the convolution's gradient, the sums over windows of 2, 4, 8 and 16 tokens, the six column ranges of the input projection's
   gradient. -/
module

public import proofs.«01_k».proof.Proof.MixReads
public import proofs.«01_k».proof.Proof.MixPool

@[expose] public section

set_option maxRecDepth 16384
set_option maxHeartbeats 4000000

noncomputable section

namespace Cert.Mix

open Idealize.ShloMosaic Cert.MixKernelIdeal Cert.MixKernelIdeal.Gen Cert.Lift Cert.Spec
open Cert.Payloads (Is2)

/-- What a load finds inside the range of the last store. -/
theorem cov3 {sig : RefSig} {κ : Kind} {sp : Space} {a b c : ℕ} {e : EltTy} (A : View sig κ sp (⟨3, ![a, b, c]⟩ : Shape) e) {s n o m k : ℕ}
    {w : (⟨3, ![1, n, k]⟩ : Shape).Idx → Elt Ideal e} (L : List (View.Piece (Elt Ideal) (⟨3, ![a, b, c]⟩ : Shape) e))
    (inb : ∀ l : Fin 3, (![s, 0, 0] : Fin 3 → ℕ) l + (![1, n, k] : Fin 3 → ℕ) l ≤ (⟨3, ![a, b, c]⟩ : Shape).size l)
    (inb' : ∀ l : Fin 3, (![s, o, 0] : Fin 3 → ℕ) l + (![1, m, k] : Fin 3 → ℕ) l ≤ (⟨3, ![a, b, c]⟩ : Shape).size l)
    (ho : o + m ≤ n) (x : Fin 1) (i : Fin m) (j : Fin k) :
    A.readCov (Val := Elt Ideal) (⟨Rect.unit (s := ⟨3, ![a, b, c]⟩) ![s, 0, 0] ![1, n, k] inb, w⟩ :: L)
      (Rect.unit (s := ⟨3, ![a, b, c]⟩) ![s, o, 0] ![1, m, k] inb').toLoadRect (ix3 x i j) = w (ix3 0 ⟨o + i.val, by omega⟩ j) := by
  have h0 : s + 1 ≤ a := inb 0
  have h1 : 0 + n ≤ b := inb 1
  have h2 : 0 + k ≤ c := inb 2
  refine (load3 A _ inb' x i j ⟨s, by omega⟩ ⟨o + i.val, by omega⟩ ⟨j.val, by omega⟩ (by simp) rfl (Nat.zero_add _).symm).trans ?_
  exact store3_in A _ inb w L _ _ _ 0 ⟨o + i.val, by omega⟩ j (by simp) (Nat.zero_add _).symm (Nat.zero_add _).symm

section copies
variable {sig : RefSig} {κ : Kind} {sp : Space} {A : View sig κ sp (⟨3, ![8, 544, 512]⟩ : Shape) .f32}
  {D : ℕ → Fin 512 → ℝ}

/-- A load from a copy, right after its store. -/
theorem copy_cov {s o m n : ℕ} {w : (⟨3, ![1, n, 512]⟩ : Shape).Idx → Elt Ideal .f32}
    (L : List (View.Piece (Elt Ideal) (⟨3, ![8, 544, 512]⟩ : Shape) .f32)) (hw : Is3 w fun _ r c => D (s + r.val) c) (ho : o + m ≤ n)
    (inb : ∀ l : Fin 3, (![s, 0, 0] : Fin 3 → ℕ) l + (![1, n, 512] : Fin 3 → ℕ) l ≤ (⟨3, ![8, 544, 512]⟩ : Shape).size l)
    (inb' : ∀ l : Fin 3, (![s, o, 0] : Fin 3 → ℕ) l + (![1, m, 512] : Fin 3 → ℕ) l ≤ (⟨3, ![8, 544, 512]⟩ : Shape).size l) :
    Is3 (A.readCov (Val := Elt Ideal) (⟨Rect.unit (s := ⟨3, ![8, 544, 512]⟩) ![s, 0, 0] ![1, n, 512] inb, w⟩ :: L)
      (Rect.unit (s := ⟨3, ![8, 544, 512]⟩) ![s, o, 0] ![1, m, 512] inb').toLoadRect) fun _ r c => D (s + o + r.val) c := by
  intro x i j
  refine (cov3 A L inb inb' ho x i j).trans ((hw 0 ⟨o + i.val, by omega⟩ j).trans ?_)
  simp only [Nat.add_assoc]

variable {f : A.ty.Contents (Elt Ideal)} {L : List (View.Piece (Elt Ideal) (⟨3, ![8, 544, 512]⟩ : Shape) .f32)}

/-- The payload of one more copy: the first copy's rows, `s` rows later. -/
theorem copy_pay {s n : ℕ} (hs : s + 536 ≤ 544) (h : Slots A (A.writes (Elt Ideal) f L) D n)
    (inb : ∀ l : Fin 3, (![0, s, 0] : Fin 3 → ℕ) l + (![1, 536, 512] : Fin 3 → ℕ) l ≤ (⟨3, ![8, 544, 512]⟩ : Shape).size l)
    {w : (⟨3, ![1, 536, 512]⟩ : Shape).Idx → Elt Ideal .f32}
    (e : k0_pay36 (F := Ideal) (A.readAt (Elt Ideal) (Rect.unit (s := ⟨3, ![8, 544, 512]⟩) ![0, s, 0] ![1, 536, 512] inb).toLoadRect
      (A.writes (Elt Ideal) f L)) = w) : Is3 w fun _ r c => D (s + r.val) c := by
  subst e
  exact pay36 (slots_load0 h hs inb)

variable {w0 : (⟨3, ![1, 512, 512]⟩ : Shape).Idx → Elt Ideal .f32} {w1 w2 w3 w4 w5 w6 w7 : (⟨3, ![1, 536, 512]⟩ : Shape).Idx → Elt Ideal .f32}

abbrev P0 (w : (⟨3, ![1, 512, 512]⟩ : Shape).Idx → Elt Ideal .f32) : View.Piece (Elt Ideal) (⟨3, ![8, 544, 512]⟩ : Shape) .f32 :=
  ⟨Rect.unit (s := ⟨3, ![8, 544, 512]⟩) ![0, 0, 0] ![1, 512, 512] inb_S8x544x512_S1x512x512_0_0_0, w⟩

abbrev P1 (w : (⟨3, ![1, 536, 512]⟩ : Shape).Idx → Elt Ideal .f32) : View.Piece (Elt Ideal) (⟨3, ![8, 544, 512]⟩ : Shape) .f32 :=
  ⟨Rect.unit (s := ⟨3, ![8, 544, 512]⟩) ![1, 0, 0] ![1, 536, 512] inb_S8x544x512_S1x536x512_1_0_0, w⟩
abbrev P2 (w : (⟨3, ![1, 536, 512]⟩ : Shape).Idx → Elt Ideal .f32) : View.Piece (Elt Ideal) (⟨3, ![8, 544, 512]⟩ : Shape) .f32 :=
  ⟨Rect.unit (s := ⟨3, ![8, 544, 512]⟩) ![2, 0, 0] ![1, 536, 512] inb_S8x544x512_S1x536x512_2_0_0, w⟩
abbrev P3 (w : (⟨3, ![1, 536, 512]⟩ : Shape).Idx → Elt Ideal .f32) : View.Piece (Elt Ideal) (⟨3, ![8, 544, 512]⟩ : Shape) .f32 :=
  ⟨Rect.unit (s := ⟨3, ![8, 544, 512]⟩) ![3, 0, 0] ![1, 536, 512] inb_S8x544x512_S1x536x512_3_0_0, w⟩
abbrev P4 (w : (⟨3, ![1, 536, 512]⟩ : Shape).Idx → Elt Ideal .f32) : View.Piece (Elt Ideal) (⟨3, ![8, 544, 512]⟩ : Shape) .f32 :=
  ⟨Rect.unit (s := ⟨3, ![8, 544, 512]⟩) ![4, 0, 0] ![1, 536, 512] inb_S8x544x512_S1x536x512_4_0_0, w⟩
abbrev P5 (w : (⟨3, ![1, 536, 512]⟩ : Shape).Idx → Elt Ideal .f32) : View.Piece (Elt Ideal) (⟨3, ![8, 544, 512]⟩ : Shape) .f32 :=
  ⟨Rect.unit (s := ⟨3, ![8, 544, 512]⟩) ![5, 0, 0] ![1, 536, 512] inb_S8x544x512_S1x536x512_5_0_0, w⟩
abbrev P6 (w : (⟨3, ![1, 536, 512]⟩ : Shape).Idx → Elt Ideal .f32) : View.Piece (Elt Ideal) (⟨3, ![8, 544, 512]⟩ : Shape) .f32 :=
  ⟨Rect.unit (s := ⟨3, ![8, 544, 512]⟩) ![6, 0, 0] ![1, 536, 512] inb_S8x544x512_S1x536x512_6_0_0, w⟩
abbrev P7 (w : (⟨3, ![1, 536, 512]⟩ : Shape).Idx → Elt Ideal .f32) : View.Piece (Elt Ideal) (⟨3, ![8, 544, 512]⟩ : Shape) .f32 :=
  ⟨Rect.unit (s := ⟨3, ![8, 544, 512]⟩) ![7, 0, 0] ![1, 536, 512] inb_S8x544x512_S1x536x512_7_0_0, w⟩

/-- The stores of all eight copies, after earlier ones. -/
abbrev all (w0 : (⟨3, ![1, 512, 512]⟩ : Shape).Idx → Elt Ideal .f32) (w1 w2 w3 w4 w5 w6 w7 : (⟨3, ![1, 536, 512]⟩ : Shape).Idx → Elt Ideal .f32)
    (L : List (View.Piece (Elt Ideal) (⟨3, ![8, 544, 512]⟩ : Shape) .f32)) : List (View.Piece (Elt Ideal) (⟨3, ![8, 544, 512]⟩ : Shape) .f32) :=
  P7 w7 :: P6 w6 :: P5 w5 :: P4 w4 :: P3 w3 :: P2 w2 :: P1 w1 :: P0 w0 :: L

/-- What the eight copies hold. -/
structure Copies (A : View sig κ sp (⟨3, ![8, 544, 512]⟩ : Shape) .f32) (f : A.ty.Contents (Elt Ideal)) (D : ℕ → Fin 512 → ℝ)
    (w0 : (⟨3, ![1, 512, 512]⟩ : Shape).Idx → Elt Ideal .f32) (w1 w2 w3 w4 w5 w6 w7 : (⟨3, ![1, 536, 512]⟩ : Shape).Idx → Elt Ideal .f32)
    (L : List (View.Piece (Elt Ideal) (⟨3, ![8, 544, 512]⟩ : Shape) .f32)) : Prop where
  h0 : Is3 w0 fun _ r c => D r.val c
  h1 : Is3 w1 fun _ r c => D (1 + r.val) c
  h2 : Is3 w2 fun _ r c => D (2 + r.val) c
  h3 : Is3 w3 fun _ r c => D (3 + r.val) c
  h4 : Is3 w4 fun _ r c => D (4 + r.val) c
  h5 : Is3 w5 fun _ r c => D (5 + r.val) c
  h6 : Is3 w6 fun _ r c => D (6 + r.val) c
  h7 : Is3 w7 fun _ r c => D (7 + r.val) c
  slots : Slots A (A.writes (Elt Ideal) f (all w0 w1 w2 w3 w4 w5 w6 w7 L)) D 8

theorem copies (hc : ∀ (r : Fin 544), 512 ≤ r.val → ∀ c : Fin 512,
      A.read (Elt Ideal) (A.writes (Elt Ideal) f L) (ix3 0 r c) = ((D r.val c : ℝ) : EReal))
    (h0 : Is3 w0 fun _ r c => D r.val c)
    (e1 : k0_pay36 (F := Ideal) (A.readAt (Elt Ideal) (Rect.unit (s := ⟨3, ![8, 544, 512]⟩) ![0, 1, 0] ![1, 536, 512]
      inb_S8x544x512_S1x536x512_0_1_0).toLoadRect (A.writes (Elt Ideal) f (P0 w0 :: L))) = w1)
    (e2 : k0_pay37 (F := Ideal) (A.readAt (Elt Ideal) (Rect.unit (s := ⟨3, ![8, 544, 512]⟩) ![0, 2, 0] ![1, 536, 512]
      inb_S8x544x512_S1x536x512_0_2_0).toLoadRect (A.writes (Elt Ideal) f (P1 w1 :: P0 w0 :: L))) = w2)
    (e3 : k0_pay38 (F := Ideal) (A.readAt (Elt Ideal) (Rect.unit (s := ⟨3, ![8, 544, 512]⟩) ![0, 3, 0] ![1, 536, 512]
      inb_S8x544x512_S1x536x512_0_3_0).toLoadRect (A.writes (Elt Ideal) f (P2 w2 :: P1 w1 :: P0 w0 :: L))) = w3)
    (e4 : k0_pay39 (F := Ideal) (A.readAt (Elt Ideal) (Rect.unit (s := ⟨3, ![8, 544, 512]⟩) ![0, 4, 0] ![1, 536, 512]
      inb_S8x544x512_S1x536x512_0_4_0).toLoadRect (A.writes (Elt Ideal) f (P3 w3 :: P2 w2 :: P1 w1 :: P0 w0 :: L))) = w4)
    (e5 : k0_pay40 (F := Ideal) (A.readAt (Elt Ideal) (Rect.unit (s := ⟨3, ![8, 544, 512]⟩) ![0, 5, 0] ![1, 536, 512]
      inb_S8x544x512_S1x536x512_0_5_0).toLoadRect (A.writes (Elt Ideal) f (P4 w4 :: P3 w3 :: P2 w2 :: P1 w1 :: P0 w0 :: L))) = w5)
    (e6 : k0_pay41 (F := Ideal) (A.readAt (Elt Ideal) (Rect.unit (s := ⟨3, ![8, 544, 512]⟩) ![0, 6, 0] ![1, 536, 512]
      inb_S8x544x512_S1x536x512_0_6_0).toLoadRect (A.writes (Elt Ideal) f (P5 w5 :: P4 w4 :: P3 w3 :: P2 w2 :: P1 w1 :: P0 w0 :: L))) = w6)
    (e7 : k0_pay42 (F := Ideal) (A.readAt (Elt Ideal) (Rect.unit (s := ⟨3, ![8, 544, 512]⟩) ![0, 7, 0] ![1, 536, 512]
      inb_S8x544x512_S1x536x512_0_7_0).toLoadRect (A.writes (Elt Ideal) f (P6 w6 :: P5 w5 :: P4 w4 :: P3 w3 :: P2 w2 :: P1 w1 :: P0 w0 :: L))) = w7) :
    Copies A f D w0 w1 w2 w3 w4 w5 w6 w7 L := by
  have s1 := slots_base (A := A) hc inb_S8x544x512_S1x512x512_0_0_0 h0
  have h1 := copy_pay (by omega) s1 _ e1
  have s2 := slots_step (by omega) (by omega) s1 inb_S8x544x512_S1x536x512_1_0_0 h1
  have h2 := copy_pay (by omega) s2 _ e2
  have s3 := slots_step (by omega) (by omega) s2 inb_S8x544x512_S1x536x512_2_0_0 h2
  have h3 := copy_pay (by omega) s3 _ e3
  have s4 := slots_step (by omega) (by omega) s3 inb_S8x544x512_S1x536x512_3_0_0 h3
  have h4 := copy_pay (by omega) s4 _ e4
  have s5 := slots_step (by omega) (by omega) s4 inb_S8x544x512_S1x536x512_4_0_0 h4
  have h5 := copy_pay (by omega) s5 _ e5
  have s6 := slots_step (by omega) (by omega) s5 inb_S8x544x512_S1x536x512_5_0_0 h5
  have h6 := copy_pay (by omega) s6 _ e6
  have s7 := slots_step (by omega) (by omega) s6 inb_S8x544x512_S1x536x512_6_0_0 h6
  have h7 := copy_pay (by omega) s7 _ e7
  exact ⟨h0, h1, h2, h3, h4, h5, h6, h7, slots_step (by omega) (by omega) s7 inb_S8x544x512_S1x536x512_7_0_0 h7⟩

end copies

/-! The sums over windows. -/

section windows
variable {sig : RefSig} {κ : Kind} {sp sp2 sp3 : Space} {A : View sig κ sp (⟨2, ![544, 512]⟩ : Shape) .f32}
  {D : ℕ → Fin 512 → ℝ} {f : A.ty.Contents (Elt Ideal)} {L : List (View.Piece (Elt Ideal) (⟨2, ![544, 512]⟩ : Shape) .f32)}
  {z0 z1 z2 z3 : (⟨2, ![512, 128]⟩ : Shape).Idx → Elt Ideal .f32}

abbrev Q0 (z : (⟨2, ![512, 128]⟩ : Shape).Idx → Elt Ideal .f32) : View.Piece (Elt Ideal) (⟨2, ![544, 512]⟩ : Shape) .f32 :=
  ⟨Rect.unit (s := ⟨2, ![544, 512]⟩) ![0, 0] ![512, 128] inb_S544x512_S512x128_0_0, z⟩
abbrev Q1 (z : (⟨2, ![512, 128]⟩ : Shape).Idx → Elt Ideal .f32) : View.Piece (Elt Ideal) (⟨2, ![544, 512]⟩ : Shape) .f32 :=
  ⟨Rect.unit (s := ⟨2, ![544, 512]⟩) ![0, 128] ![512, 128] inb_S544x512_S512x128_0_128, z⟩
abbrev Q2 (z : (⟨2, ![512, 128]⟩ : Shape).Idx → Elt Ideal .f32) : View.Piece (Elt Ideal) (⟨2, ![544, 512]⟩ : Shape) .f32 :=
  ⟨Rect.unit (s := ⟨2, ![544, 512]⟩) ![0, 256] ![512, 128] inb_S544x512_S512x128_0_256, z⟩
abbrev Q3 (z : (⟨2, ![512, 128]⟩ : Shape).Idx → Elt Ideal .f32) : View.Piece (Elt Ideal) (⟨2, ![544, 512]⟩ : Shape) .f32 :=
  ⟨Rect.unit (s := ⟨2, ![544, 512]⟩) ![0, 384] ![512, 128] inb_S544x512_S512x128_0_384, z⟩

/-- The four groups' own rows. -/
theorem quarters_own (h0 : Is2 z0 fun r c => D r.val (lane 0 c)) (h1 : Is2 z1 fun r c => D r.val (lane 1 c))
    (h2 : Is2 z2 fun r c => D r.val (lane 2 c)) (h3 : Is2 z3 fun r c => D r.val (lane 3 c)) (r : Fin 544) (hr : r.val < 512) (c : Fin 512) :
    A.read (Elt Ideal) (A.writes (Elt Ideal) f (Q3 z3 :: Q2 z2 :: Q1 z1 :: Q0 z0 :: L)) (ix2 r c) = ((D r.val c : ℝ) : EReal) := by
  by_cases c3 : 384 ≤ c.val
  · refine (store2_in A f _ z3 _ r c ⟨r.val, hr⟩ ⟨c.val - 384, by omega⟩ (Nat.zero_add _).symm (by show c.val = 384 + (c.val - 384); omega)).trans
      ((h3 _ _).trans (congrArg (fun k => ((D r.val k : ℝ) : EReal)) (Fin.ext (by show 128 * 3 + (c.val - 384) = c.val; omega))))
  refine (store2_out A f _ z3 _ r c (.inr (.inl (by omega)))).trans ?_
  by_cases c2 : 256 ≤ c.val
  · refine (store2_in A f _ z2 _ r c ⟨r.val, hr⟩ ⟨c.val - 256, by omega⟩ (Nat.zero_add _).symm (by show c.val = 256 + (c.val - 256); omega)).trans
      ((h2 _ _).trans (congrArg (fun k => ((D r.val k : ℝ) : EReal)) (Fin.ext (by show 128 * 2 + (c.val - 256) = c.val; omega))))
  refine (store2_out A f _ z2 _ r c (.inr (.inl (by omega)))).trans ?_
  by_cases c1 : 128 ≤ c.val
  · refine (store2_in A f _ z1 _ r c ⟨r.val, hr⟩ ⟨c.val - 128, by omega⟩ (Nat.zero_add _).symm (by show c.val = 128 + (c.val - 128); omega)).trans
      ((h1 _ _).trans (congrArg (fun k => ((D r.val k : ℝ) : EReal)) (Fin.ext (by show 128 * 1 + (c.val - 128) = c.val; omega))))
  refine (store2_out A f _ z1 _ r c (.inr (.inl (by omega)))).trans ?_
  refine (store2_in A f _ z0 _ r c ⟨r.val, hr⟩ ⟨c.val, by omega⟩ (Nat.zero_add _).symm (Nat.zero_add _).symm).trans
    ((h0 _ _).trans (congrArg (fun k => ((D r.val k : ℝ) : EReal)) (Fin.ext (by show 128 * 0 + c.val = c.val; omega))))

/-- The four groups' own rows and the rows carried from the block after. -/
theorem quarters (hc : ∀ (r : Fin 544), 512 ≤ r.val → ∀ c : Fin 512,
      A.read (Elt Ideal) (A.writes (Elt Ideal) f L) (ix2 r c) = ((D r.val c : ℝ) : EReal))
    (h0 : Is2 z0 fun r c => D r.val (lane 0 c)) (h1 : Is2 z1 fun r c => D r.val (lane 1 c))
    (h2 : Is2 z2 fun r c => D r.val (lane 2 c)) (h3 : Is2 z3 fun r c => D r.val (lane 3 c)) (r : Fin 544) (c : Fin 512) :
    A.read (Elt Ideal) (A.writes (Elt Ideal) f (Q3 z3 :: Q2 z2 :: Q1 z1 :: Q0 z0 :: L)) (ix2 r c) = ((D r.val c : ℝ) : EReal) := by
  by_cases hr : r.val < 512
  · exact quarters_own h0 h1 h2 h3 r hr c
  · refine (store2_out A f _ z3 _ r c (.inl (.inr (by omega)))).trans ?_
    refine (store2_out A f _ z2 _ r c (.inl (.inr (by omega)))).trans ?_
    refine (store2_out A f _ z1 _ r c (.inl (.inr (by omega)))).trans ?_
    exact (store2_out A f _ z0 _ r c (.inl (.inr (by omega)))).trans (hc r (by omega) c)

/-- The same, as sums over windows of one token. -/
theorem quarters_sums {X : A.ty.Contents (Elt Ideal)} (h : ∀ (r : Fin 544) (c : Fin 512), A.read (Elt Ideal) X (ix2 r c) = ((D r.val c : ℝ) : EReal)) :
    Sums A X D 1 544 0 512 := by
  intro r _ c _ _
  refine (h r c).trans ?_
  simp only [Finset.sum_range_one, Nat.add_zero]

variable {B : View sig κ sp2 (⟨2, ![544, 512]⟩ : Shape) .f32} {C : View sig κ sp3 (⟨2, ![544, 512]⟩ : Shape) .f32}
  {X : A.ty.Contents (Elt Ideal)}
  {sa : (⟨2, ![536, 512]⟩ : Shape).Idx → Elt Ideal .f32} {sb : (⟨2, ![528, 384]⟩ : Shape).Idx → Elt Ideal .f32}
  {sc : (⟨2, ![520, 256]⟩ : Shape).Idx → Elt Ideal .f32}

abbrev Sa (z : (⟨2, ![536, 512]⟩ : Shape).Idx → Elt Ideal .f32) : View.Piece (Elt Ideal) (⟨2, ![544, 512]⟩ : Shape) .f32 :=
  ⟨Rect.unit (s := ⟨2, ![544, 512]⟩) ![0, 0] ![536, 512] inb_S544x512_S536x512_0_0, z⟩
abbrev Sb (z : (⟨2, ![528, 384]⟩ : Shape).Idx → Elt Ideal .f32) : View.Piece (Elt Ideal) (⟨2, ![544, 512]⟩ : Shape) .f32 :=
  ⟨Rect.unit (s := ⟨2, ![544, 512]⟩) ![0, 128] ![528, 384] inb_S544x512_S528x384_0_128, z⟩
abbrev Sc (z : (⟨2, ![520, 256]⟩ : Shape).Idx → Elt Ideal .f32) : View.Piece (Elt Ideal) (⟨2, ![544, 512]⟩ : Shape) .f32 :=
  ⟨Rect.unit (s := ⟨2, ![544, 512]⟩) ![0, 256] ![520, 256] inb_S544x512_S520x256_0_256, z⟩

/-- The four loads that the groups' gradients are made of: sums over windows of 2, 4, 8 and 16 tokens. -/
structure Windows (B : View sig κ sp2 (⟨2, ![544, 512]⟩ : Shape) .f32) (C : View sig κ sp3 (⟨2, ![544, 512]⟩ : Shape) .f32) (D : ℕ → Fin 512 → ℝ)
    (sa : (⟨2, ![536, 512]⟩ : Shape).Idx → Elt Ideal .f32) (sb : (⟨2, ![528, 384]⟩ : Shape).Idx → Elt Ideal .f32)
    (sc : (⟨2, ![520, 256]⟩ : Shape).Idx → Elt Ideal .f32) : Prop where
  q0 : Is2 (B.readCov (Val := Elt Ideal) [Sa sa] (Rect.unit (s := ⟨2, ![544, 512]⟩) ![0, 0] ![512, 128] inb_S544x512_S512x128_0_0).toLoadRect)
    fun r c => ∑ i ∈ Finset.range 2, D (r.val + i) (lane 0 c)
  q1 : Is2 (C.readCov (Val := Elt Ideal) [Sb sb] (Rect.unit (s := ⟨2, ![544, 512]⟩) ![0, 128] ![512, 128] inb_S544x512_S512x128_0_128).toLoadRect)
    fun r c => ∑ i ∈ Finset.range 4, D (r.val + i) (lane 1 c)
  q2 : Is2 (B.readCov (Val := Elt Ideal) [Sc sc, Sa sa] (Rect.unit (s := ⟨2, ![544, 512]⟩) ![0, 256] ![512, 128] inb_S544x512_S512x128_0_256).toLoadRect)
    fun r c => ∑ i ∈ Finset.range 8, D (r.val + i) (lane 2 c)
  q3 : Is2 (k0_pay121 (F := Ideal)
      (B.readCov (Val := Elt Ideal) [Sc sc, Sa sa] (Rect.unit (s := ⟨2, ![544, 512]⟩) ![0, 384] ![512, 128] inb_S544x512_S512x128_0_384).toLoadRect)
      (B.readCov (Val := Elt Ideal) [Sc sc, Sa sa] (Rect.unit (s := ⟨2, ![544, 512]⟩) ![8, 384] ![512, 128] inb_S544x512_S512x128_8_384).toLoadRect))
    fun r c => ∑ i ∈ Finset.range 16, D (r.val + i) (lane 3 c)

theorem sum_split (g : ℕ → ℝ) (w : ℕ) (r : ℕ) :
    (∑ i ∈ Finset.range w, g (0 + r + i)) + ∑ i ∈ Finset.range w, g (w + r + i) = ∑ i ∈ Finset.range (w + w), g (r + i) := by
  rw [Finset.sum_range_add]
  congr 1
  · exact Finset.sum_congr rfl fun i _ => congrArg g (by omega)
  · exact Finset.sum_congr rfl fun i _ => congrArg g (by omega)

theorem windows (h : Sums A X D 1 544 0 512)
    (ea : k0_pay118 (F := Ideal) (k0_pay117
      (A.readAt (Elt Ideal) (Rect.unit (s := ⟨2, ![544, 512]⟩) ![0, 0] ![536, 512] inb_S544x512_S536x512_0_0).toLoadRect X)
      (A.readAt (Elt Ideal) (Rect.unit (s := ⟨2, ![544, 512]⟩) ![1, 0] ![536, 512] inb_S544x512_S536x512_1_0).toLoadRect X)) = sa)
    (eb : k0_pay119 (F := Ideal)
      (B.readCov (Val := Elt Ideal) [Sa sa] (Rect.unit (s := ⟨2, ![544, 512]⟩) ![0, 128] ![528, 384] inb_S544x512_S528x384_0_128).toLoadRect)
      (B.readCov (Val := Elt Ideal) [Sa sa] (Rect.unit (s := ⟨2, ![544, 512]⟩) ![2, 128] ![528, 384] inb_S544x512_S528x384_2_128).toLoadRect) = sb)
    (ec : k0_pay120 (F := Ideal)
      (C.readCov (Val := Elt Ideal) [Sb sb] (Rect.unit (s := ⟨2, ![544, 512]⟩) ![0, 256] ![520, 256] inb_S544x512_S520x256_0_256).toLoadRect)
      (C.readCov (Val := Elt Ideal) [Sb sb] (Rect.unit (s := ⟨2, ![544, 512]⟩) ![4, 256] ![520, 256] inb_S544x512_S520x256_4_256).toLoadRect) = sc) :
    Windows B C D sa sb sc := by
  have ha : Is2 sa fun r c => ∑ i ∈ Finset.range 2, D (r.val + i) ⟨0 + c.val, by omega⟩ := by
    subst ea
    intro r c
    refine (pay118 (sums_load h (by omega) (by omega) (by omega) (by omega) (by omega) _) (sums_load h (by omega) (by omega) (by omega) (by omega) (by omega) _) r c).trans
      (congrArg _ (sum_split (fun n => D n ⟨0 + c.val, by omega⟩) 1 r.val))
  have sA := sums_store (A := B) (f := B.junk) (L := []) inb_S544x512_S536x512_0_0 (by omega) ha
  have hb : Is2 sb fun r c => ∑ i ∈ Finset.range 4, D (r.val + i) ⟨128 + c.val, by omega⟩ := by
    subst eb
    intro r c
    refine (pay119 (sums_load sA (by omega) (by omega) (by omega) (by omega) (by omega) _) (sums_load sA (by omega) (by omega) (by omega) (by omega) (by omega) _) r c).trans
      (congrArg _ (sum_split (fun n => D n ⟨128 + c.val, by omega⟩) 2 r.val))
  have sB := sums_store (A := C) (f := C.junk) (L := []) inb_S544x512_S528x384_0_128 (by omega) hb
  have hc : Is2 sc fun r c => ∑ i ∈ Finset.range 8, D (r.val + i) ⟨256 + c.val, by omega⟩ := by
    subst ec
    intro r c
    refine (pay120 (sums_load sB (by omega) (by omega) (by omega) (by omega) (by omega) _) (sums_load sB (by omega) (by omega) (by omega) (by omega) (by omega) _) r c).trans
      (congrArg _ (sum_split (fun n => D n ⟨256 + c.val, by omega⟩) 4 r.val))
  have sC := sums_store (A := B) (f := B.junk) (L := [Sa sa]) inb_S544x512_S520x256_0_256 (by omega) hc
  have l : ∀ (g : Fin 4) (c : Fin 128) (o : ℕ) (ho : o = 128 * g.val), (⟨o + c.val, by omega⟩ : Fin 512) = lane g c :=
    fun g c o ho => Fin.ext (by show o + c.val = 128 * g.val + c.val; omega)
  refine ⟨fun r c => ?_, fun r c => ?_, fun r c => ?_, fun r c => ?_⟩
  · refine (sums_load sA (by omega) (by omega) (by omega) (by omega) (by omega) _ r c).trans ?_
    dsimp only
    rw [l 0 c 0 rfl]
    simp only [Nat.zero_add]
  · refine (sums_load sB (by omega) (by omega) (by omega) (by omega) (by omega) _ r c).trans ?_
    dsimp only
    rw [l 1 c 128 rfl]
    simp only [Nat.zero_add]
  · refine (sums_load sC (by omega) (by omega) (by omega) (by omega) (by omega) _ r c).trans ?_
    dsimp only
    rw [l 2 c 256 rfl]
    simp only [Nat.zero_add]
  · refine (pay121 (sums_load sC (by omega) (by omega) (by omega) (by omega) (by omega) _) (sums_load sC (by omega) (by omega) (by omega) (by omega) (by omega) _) r c).trans
      (congrArg _ ((sum_split (fun n => D n ⟨384 + c.val, by omega⟩) 8 r.val).trans ?_))
    dsimp only
    rw [l 3 c 384 rfl]

end windows

end Cert.Mix
-- ==== Proof.MixPoint.lean ====
/- The values that the backward pass's body computes at one grid point before it stores them, over real arguments. -/
module

public import proofs.«01_k».proof.Proof.MixArgs
public import proofs.«01_k».proof.Proof.MixStores

@[expose] public section

set_option maxRecDepth 16384
set_option maxHeartbeats 4000000

noncomputable section

namespace Cert.Mix.Blocks

open Idealize.ShloMosaic Cert.MixKernelIdeal Cert.MixKernelIdeal.Gen Cert.Lift Cert.Spec
open Cert.Payloads (Is2)
open Idealize.ShloMosaic.TcCoe Idealize.ShloMosaic.Tactic

/-- The group of a pooled channel, and the channel within it. -/
def grp (j : Fin 512) : Fin 4 := ⟨j.val / 128, by omega⟩
def sub (j : Fin 512) : Fin 128 := ⟨j.val % 128, by omega⟩

theorem grp_lane (g : Fin 4) (e : Fin 128) : grp (lane g e) = g :=
  Fin.ext (show (128 * g.val + e.val) / 128 = g.val by omega)
theorem sub_lane (g : Fin 4) (e : Fin 128) : sub (lane g e) = e :=
  Fin.ext (show (128 * g.val + e.val) % 128 = e.val by omega)
theorem lane_grp (j : Fin 512) : lane (grp j) (sub j) = j :=
  Fin.ext (show 128 * (j.val / 128) + j.val % 128 = j.val by omega)

theorem ld2 {a b o0 o1 n0 n1 : ℕ} {e : EltTy} (X : (⟨2, ![a, b]⟩ : Shape).Idx → Elt Ideal e)
    (inb : ∀ k : Fin 2, (![o0, o1] : Fin 2 → ℕ) k + (![n0, n1] : Fin 2 → ℕ) k ≤ (⟨2, ![a, b]⟩ : Shape).size k)
    (i : Fin n0) (j : Fin n1) (y : Fin a) (z : Fin b) (hy : y.val = o0 + i.val) (hz : z.val = o1 + j.val) :
    View.ld (Val := Elt Ideal) X (Rect.unit (s := ⟨2, ![a, b]⟩) ![o0, o1] ![n0, n1] inb) (ix2 i j) = X (ix2 y z) :=
  View.ld_unit_apply_of X _ _ _ _ (ix2 y z) fun k => by
    fin_cases k
    · exact hy
    · exact hz

theorem ld3 {a b d o0 o1 o2 n0 n1 n2 : ℕ} {e : EltTy} (X : (⟨3, ![a, b, d]⟩ : Shape).Idx → Elt Ideal e)
    (inb : ∀ k : Fin 3, (![o0, o1, o2] : Fin 3 → ℕ) k + (![n0, n1, n2] : Fin 3 → ℕ) k ≤ (⟨3, ![a, b, d]⟩ : Shape).size k)
    (i : Fin n0) (j : Fin n1) (k : Fin n2) (x : Fin a) (y : Fin b) (z : Fin d) (hx : x.val = o0 + i.val) (hy : y.val = o1 + j.val)
    (hz : z.val = o2 + k.val) :
    View.ld (Val := Elt Ideal) X (Rect.unit (s := ⟨3, ![a, b, d]⟩) ![o0, o1, o2] ![n0, n1, n2] inb) (ix3 i j k) = X (ix3 x y z) :=
  View.ld_unit_apply_of X _ _ _ _ (ix3 x y z) fun l => by
    fin_cases l
    · exact hx
    · exact hy
    · exact hz

section
variable (p : Params) (T : Tokens) (t : Fin cfg0.N)

/-- The gradient of the convolution's output, counted from a block's first token. -/
def Dv (n : ℕ) (j : Fin 512) : ℝ := dvx p T (512 * blkOf t + n) j
/-- The gradient of the windows' sums, counted from a block's first token. -/
def Dq (n : ℕ) (j : Fin 512) : ℝ := dqx p T (512 * blkOf t + n) (grp j) (sub j)

theorem tok_lt (r : Fin 512) : 512 * blkOf t + r.val < 4096 := by unfold blkOf; omega

theorem Dv_in (r : Fin 512) (j : Fin 512) : Dv p T t r.val j = dv p T (tok t r) j := by
  rw [Dv, dvx, ext, dif_pos (tok_lt t r)]
  rfl

theorem Dq_in (r : Fin 512) (g : Fin 4) (e : Fin 128) :
    Dq p T t r.val (lane g e) = dm p T (tok t r) g e / cnt g (512 * blkOf t + r.val) := by
  rw [Dq, grp_lane, sub_lane, dqx, ext, dif_pos (tok_lt t r)]
  rfl
end

variable {m : (ℓ : Loc nD τ sig) → Buf (Elt Ideal) ℓ} {c : Dev nD} {p : Params} {T : Tokens} (h : Args m c p T)
include h

/-! Windows of the arguments. -/

theorem win_sp (t : Fin cfg0.N) (g : Fin 4) {o : ℕ} (ho : o = 128 * g.val)
    (inb : ∀ k : Fin 2, (![0, o] : Fin 2 → ℕ) k + (![1, 128] : Fin 2 → ℕ) k ≤ (⟨2, ![1, 512]⟩ : Shape).size k) :
    Is2 (View.ld (Val := Elt Ideal) (S := S1x512) (e' := .f32) (iblk m c 12 t) (Rect.unit (s := ⟨2, ![1, 512]⟩) ![0, o] ![1, 128] inb))
      fun _ j => p.sp (lane g j) := fun i j =>
  (ld2 (e := .f32) (iblk m c 12 t) inb i j i (lane g j) (Nat.zero_add _).symm (by subst ho; rfl)).trans (read12 h t _ _)

theorem win_m (t : Fin cfg0.N) (g : Fin 4) {o : ℕ} (ho : o = 128 * g.val)
    (inb : ∀ k : Fin 2, (![0, o] : Fin 2 → ℕ) k + (![512, 128] : Fin 2 → ℕ) k ≤ (⟨2, ![512, 512]⟩ : Shape).size k) :
    Is2 (View.ld (Val := Elt Ideal) (S := S512x512) (e' := .bf16) (iblk m c 5 t) (Rect.unit (s := ⟨2, ![512, 512]⟩) ![0, o] ![512, 128] inb))
      fun i j => T.m (tok t i) (lane g j) := fun i j =>
  (ld2 (e := .bf16) (iblk m c 5 t) inb i j i (lane g j) (Nat.zero_add _).symm (by subst ho; rfl)).trans (read5 h t _ _)

theorem win_wp (t : Fin cfg0.N) (g : Fin 4) {o : ℕ} (ho : o = g.val)
    (inb : ∀ k : Fin 3, (![o, 0, 0] : Fin 3 → ℕ) k + (![1, 128, 128] : Fin 3 → ℕ) k ≤ (⟨3, ![4, 128, 128]⟩ : Shape).size k) :
    Is3 (View.ld (Val := Elt Ideal) (S := S4x128x128) (e' := .bf16) (iblk m c 11 t)
      (Rect.unit (s := ⟨3, ![4, 128, 128]⟩) ![o, 0, 0] ![1, 128, 128] inb)) fun _ => p.wp g := fun i j k =>
  (ld3 (e := .bf16) (iblk m c 11 t) inb i j k g j k (by subst ho; omega) (Nat.zero_add _).symm (Nat.zero_add _).symm).trans (read11 h t _ _ _)

/-! The gradient of the output projection's input, and of the convolution's output. -/

theorem val20 (t : Fin cfg0.N) : Is2 (k0_pay20 (F := Ideal) (iblk m c 0 t) (iblk m c 13 t)) fun i => dy p T (tok t i) :=
  pay20 (read0 h t) (read13 h t)

theorem val26 (t : Fin cfg0.N) : Is2 (k0_pay26 (F := Ideal) (iblk m c 0 t) (iblk m c 13 t)) fun i j => dy p T (tok t i) (cl j) :=
  pay26 (read0 h t) (read13 h t)

theorem val35 (t : Fin cfg0.N) : Is3 (k0_pay35 (F := Ideal) (k0_pay31 (k0_pay22 (iblk m c 4 t)) (k0_pay23 (iblk m c 4 t)) (iblk m c 9 t)
      (k0_pay24 (iblk m c 4 t) (iblk m c 9 t) (iblk m c 10 t)) (k0_pay25 (iblk m c 4 t) (iblk m c 9 t) (iblk m c 10 t))
      (k0_pay26 (iblk m c 0 t) (iblk m c 13 t)) k0_pay27)) fun _ r j => Dv p T t r.val j := fun i r j =>
  (pay35 (pay31 (pay24 (read4 h t) (read9 h t) (read10 h t)) (pay25 (read4 h t) (read9 h t) (read10 h t)) (val26 h t) pay27
    (pay23 (read4 h t)) (pay22 (read4 h t)) (read9 h t)) i r j).trans (congrArg _ (Dv_in p T t r j).symm)

/-! The four groups of pooled channels. -/

omit h in
theorem row_bits (t : Fin cfg0.N) (i : Fin 512) (j : Fin 1) :
    k0_pay86 (Scalar.subi (7#32) (BitVec.ofNat 32 (grid0.coords t 0).val)) (ix2 i j) = BitVec.ofNat 32 (512 * blkOf t + i.val) := by
  rw [block_bits]
  exact pay86 (7 - t.val) (by omega) i j

theorem y0 (t : Fin cfg0.N) : Is2 (k0_pay87 (F := Ideal) (k0_pay20 (iblk m c 0 t) (iblk m c 13 t))) fun i j => dyp p T (tok t i) 0 j :=
  pay87 (val20 h t)
theorem y1 (t : Fin cfg0.N) : Is2 (k0_pay95 (F := Ideal) (k0_pay20 (iblk m c 0 t) (iblk m c 13 t))) fun i j => dyp p T (tok t i) 1 j :=
  pay95 (val20 h t)
theorem y2 (t : Fin cfg0.N) : Is2 (k0_pay102 (F := Ideal) (k0_pay20 (iblk m c 0 t) (iblk m c 13 t))) fun i j => dyp p T (tok t i) 2 j :=
  pay102 (val20 h t)
theorem y3 (t : Fin cfg0.N) : Is2 (k0_pay110 (F := Ideal) (k0_pay20 (iblk m c 0 t) (iblk m c 13 t))) fun i j => dyp p T (tok t i) 3 j :=
  pay110 (val20 h t)

theorem z0 (t : Fin cfg0.N) : Is2 (k0_pay93 (F := Ideal) (k0_pay92 (k0_pay86 (Scalar.subi (7#32) (BitVec.ofNat 32 (grid0.coords t 0).val)))
      (k0_pay87 (k0_pay20 (iblk m c 0 t) (iblk m c 13 t)))
      (View.ld (Val := Elt Ideal) (S := S1x512) (e' := .f32) (iblk m c 12 t) (Rect.unit ![0, 0] ![1, 128] inb_S1x512_S1x128_0_0))
      (View.ld (Val := Elt Ideal) (S := S4x128x128) (e' := .bf16) (iblk m c 11 t) (Rect.unit ![0, 0, 0] ![1, 128, 128] inb_S4x128x128_S1x128x128_0_0_0))))
    fun r e => Dq p T t r.val (lane 0 e) := fun r e =>
  (pay93 (y0 h t) (win_wp h t 0 rfl _) (win_sp h t 0 rfl _) (by unfold blkOf; omega) (row_bits t) r e).trans
    (congrArg _ (Dq_in p T t r 0 e).symm)

theorem z1 (t : Fin cfg0.N) : Is2 (k0_pay100 (F := Ideal) (k0_pay86 (Scalar.subi (7#32) (BitVec.ofNat 32 (grid0.coords t 0).val)))
      (k0_pay97 (k0_pay20 (iblk m c 0 t) (iblk m c 13 t))
        (View.ld (Val := Elt Ideal) (S := S1x512) (e' := .f32) (iblk m c 12 t) (Rect.unit ![0, 128] ![1, 128] inb_S1x512_S1x128_0_128)))
      (View.ld (Val := Elt Ideal) (S := S4x128x128) (e' := .bf16) (iblk m c 11 t) (Rect.unit ![1, 0, 0] ![1, 128, 128] inb_S4x128x128_S1x128x128_1_0_0)))
    fun r e => Dq p T t r.val (lane 1 e) := fun r e =>
  (pay100 (y1 h t) (win_wp h t 1 rfl _) (win_sp h t 1 rfl _) (by unfold blkOf; omega) (row_bits t) r e).trans
    (congrArg _ (Dq_in p T t r 1 e).symm)

theorem z2 (t : Fin cfg0.N) : Is2 (k0_pay108 (F := Ideal) (k0_pay86 (Scalar.subi (7#32) (BitVec.ofNat 32 (grid0.coords t 0).val)))
      (k0_pay104 (k0_pay20 (iblk m c 0 t) (iblk m c 13 t))
        (View.ld (Val := Elt Ideal) (S := S1x512) (e' := .f32) (iblk m c 12 t) (Rect.unit ![0, 256] ![1, 128] inb_S1x512_S1x128_0_256)))
      (View.ld (Val := Elt Ideal) (S := S4x128x128) (e' := .bf16) (iblk m c 11 t) (Rect.unit ![2, 0, 0] ![1, 128, 128] inb_S4x128x128_S1x128x128_2_0_0)))
    fun r e => Dq p T t r.val (lane 2 e) := fun r e =>
  (pay108 (y2 h t) (win_wp h t 2 rfl _) (win_sp h t 2 rfl _) (by unfold blkOf; omega) (row_bits t) r e).trans
    (congrArg _ (Dq_in p T t r 2 e).symm)

theorem z3 (t : Fin cfg0.N) : Is2 (k0_pay115 (F := Ideal) (k0_pay86 (Scalar.subi (7#32) (BitVec.ofNat 32 (grid0.coords t 0).val)))
      (k0_pay110 (k0_pay20 (iblk m c 0 t) (iblk m c 13 t)))
      (View.ld (Val := Elt Ideal) (S := S1x512) (e' := .f32) (iblk m c 12 t) (Rect.unit ![0, 384] ![1, 128] inb_S1x512_S1x128_0_384))
      (View.ld (Val := Elt Ideal) (S := S4x128x128) (e' := .bf16) (iblk m c 11 t) (Rect.unit ![3, 0, 0] ![1, 128, 128] inb_S4x128x128_S1x128x128_3_0_0)))
    fun r e => Dq p T t r.val (lane 3 e) := fun r e =>
  (pay115 (y3 h t) (win_wp h t 3 rfl _) (win_sp h t 3 rfl _) (by unfold blkOf; omega) (row_bits t) r e).trans
    (congrArg _ (Dq_in p T t r 3 e).symm)

theorem d0 (t : Fin cfg0.N) : Is2 (k0_pay94 (F := Ideal) (k0_pay91 (k0_pay87 (k0_pay20 (iblk m c 0 t) (iblk m c 13 t)))
      (View.ld (Val := Elt Ideal) (S := S1x512) (e' := .f32) (iblk m c 12 t) (Rect.unit ![0, 0] ![1, 128] inb_S1x512_S1x128_0_0))
      (View.ld (Val := Elt Ideal) (S := S4x128x128) (e' := .bf16) (iblk m c 11 t) (Rect.unit ![0, 0, 0] ![1, 128, 128] inb_S4x128x128_S1x128x128_0_0_0))))
    fun r e => dm p T (tok t r) 0 e :=
  pay94 (y0 h t) (win_wp h t 0 rfl _) (win_sp h t 0 rfl _)

theorem d1 (t : Fin cfg0.N) : Is2 (k0_pay101 (F := Ideal) (k0_pay97 (k0_pay20 (iblk m c 0 t) (iblk m c 13 t))
        (View.ld (Val := Elt Ideal) (S := S1x512) (e' := .f32) (iblk m c 12 t) (Rect.unit ![0, 128] ![1, 128] inb_S1x512_S1x128_0_128)))
      (View.ld (Val := Elt Ideal) (S := S4x128x128) (e' := .bf16) (iblk m c 11 t) (Rect.unit ![1, 0, 0] ![1, 128, 128] inb_S4x128x128_S1x128x128_1_0_0)))
    fun r e => dm p T (tok t r) 1 e :=
  pay94 (y1 h t) (win_wp h t 1 rfl _) (win_sp h t 1 rfl _)

theorem d2 (t : Fin cfg0.N) : Is2 (k0_pay109 (F := Ideal) (k0_pay104 (k0_pay20 (iblk m c 0 t) (iblk m c 13 t))
        (View.ld (Val := Elt Ideal) (S := S1x512) (e' := .f32) (iblk m c 12 t) (Rect.unit ![0, 256] ![1, 128] inb_S1x512_S1x128_0_256)))
      (View.ld (Val := Elt Ideal) (S := S4x128x128) (e' := .bf16) (iblk m c 11 t) (Rect.unit ![2, 0, 0] ![1, 128, 128] inb_S4x128x128_S1x128x128_2_0_0)))
    fun r e => dm p T (tok t r) 2 e :=
  pay94 (y2 h t) (win_wp h t 2 rfl _) (win_sp h t 2 rfl _)

theorem d3 (t : Fin cfg0.N) : Is2 (k0_pay116 (F := Ideal) (k0_pay110 (k0_pay20 (iblk m c 0 t) (iblk m c 13 t)))
      (View.ld (Val := Elt Ideal) (S := S1x512) (e' := .f32) (iblk m c 12 t) (Rect.unit ![0, 384] ![1, 128] inb_S1x512_S1x128_0_384))
      (View.ld (Val := Elt Ideal) (S := S4x128x128) (e' := .bf16) (iblk m c 11 t) (Rect.unit ![3, 0, 0] ![1, 128, 128] inb_S4x128x128_S1x128x128_3_0_0)))
    fun r e => dm p T (tok t r) 3 e :=
  pay94 (y3 h t) (win_wp h t 3 rfl _) (win_sp h t 3 rfl _)

end Cert.Mix.Blocks
-- ==== Proof.MixTrip.lean ====
/- What one trip of the convolution's loop computes, over real entries: 31 products, added tap by tap. -/
module

public import proofs.«01_k».proof.Proof.MixPayloads

@[expose] public section

set_option maxRecDepth 16384

noncomputable section

namespace Cert.Mix

open Idealize.ShloMosaic Cert.MixKernelIdeal Cert.MixKernelIdeal.Gen Cert.Lift Cert.Spec
open Cert.Payloads (Is2)

/-- The sum that a trip leaves, from the rows of taps and the shifted blocks that it loads. -/
def tripSum (W : Fin 31 → Vec Ideal S1x512 .f32) (T : Fin 31 → Vec Ideal S1x64x512 .f32) : FVec Ideal S64x512 .f32 :=
  k0_pay17 (F := Ideal) (k0_pay16 (k0_pay15 (k0_pay14 (k0_pay13 (k0_pay11 (k0_pay10 (W 0) (T 0) (W 1) (T 1) (W 2) (T 2) (W 3) (T 3))
      (W 4) (T 4) (W 5) (T 5) (W 6) (T 6) (W 7) (T 7))
      (W 8) (k0_pay12 (T 8)) (W 9) (T 9) (W 10) (T 10) (W 11) (T 11) (W 12) (T 12))
      (W 13) (T 13) (W 14) (T 14) (W 15) (T 15) (W 16) (T 16) (W 17) (T 17))
      (W 18) (T 18) (W 19) (T 19) (W 20) (T 20) (W 21) (T 21))
      (W 22) (T 22) (W 23) (T 23) (W 24) (T 24) (W 25) (T 25) (W 26) (T 26))
      (W 27) (T 27) (W 28) (T 28) (W 29) (T 29) (W 30) (T 30)

theorem trip_sum {W : Fin 31 → Vec Ideal S1x512 .f32} {T : Fin 31 → Vec Ideal S1x64x512 .f32} {w : Fin 31 → Fin 512 → ℝ}
    {x : Fin 31 → Fin 64 → Fin 512 → ℝ} (hW : ∀ k, Is2 (W k) fun _ j => w k j) (hT : ∀ k, Is3 (T k) fun _ i j => x k i j) :
    Is2 (tripSum W T) fun i j => ∑ k, w k j * x k i j := by
  intro i j
  simp only [Is2, Is3] at hW hT
  pointwise [tripSum, k0_pay10, k0_pay11, k0_pay12, k0_pay13, k0_pay14, k0_pay15, k0_pay16, k0_pay17]
  simp only [hW, hT, ← EReal.coe_mul, ← EReal.coe_add]
  simp only [Fin.sum_univ_castSucc, Fin.sum_univ_zero, zero_add]
  rfl

end Cert.Mix
-- ==== Proof.MixLoop.lean ====
/- The convolution's loop over eight blocks of 64 rows: what one trip stores and what stands in the buffer after the trips, over real
   entries. -/
module

public import proofs.«01_k».proof.Proof.MixTrip
public import proofs.«01_k».proof.Proof.MixReads
public import proofs.«01_k».proof.Proof.Gen.MixKernelIdeal.Frame

@[expose] public section

set_option maxRecDepth 16384
set_option maxHeartbeats 4000000

noncomputable section

namespace Cert.Mix

open Idealize.ShloMosaic Cert.MixKernelIdeal Cert.MixKernelIdeal.Gen Cert.Lift Cert.Spec
open Cert.Payloads (Is2)

/-- Where a trip loads the shifted block of a tap. -/
def off (k : Fin k0_t1_loop.trips) (q : Fin 31) : Fin 3 → ℕ :=
  (![k0_off1 k, k0_off2 k, k0_off3 k, k0_off4 k, k0_off5 k, k0_off6 k, k0_off7 k, k0_off8 k] : Fin 8 → BitVec 32 → Fin 3 → ℕ)
    ⟨q.val % 8, Nat.mod_lt _ (by decide)⟩ (BitVec.ofNat 32 (8 * ((30 - q.val) / 8)))

theorem off_eq : ∀ (k : Fin k0_t1_loop.trips) (q : Fin 31),
    off k q = ![(30 - q.val) % 8, 64 * k.val + 8 * ((30 - q.val) / 8), 0] := by
  decide +kernel

theorem off9_eq : ∀ k : Fin k0_t1_loop.trips, k0_off9 k = ![64 * k.val, 0] := by
  decide +kernel

theorem trips_eq : k0_t1_loop.trips = 8 := by decide +kernel

theorem off_inb (k : Fin k0_t1_loop.trips) (q : Fin 31) :
    ∀ l : Fin 3, off k q l + S1x64x512.size l ≤ S8x544x512.size l := by
  have hk : k.val < 8 := trips_eq ▸ k.isLt
  rw [off_eq]
  intro l
  fin_cases l
  · show (30 - q.val) % 8 + 1 ≤ 8
    omega
  · show 64 * k.val + 8 * ((30 - q.val) / 8) + 64 ≤ 544
    omega
  · show 0 + 512 ≤ 512
    omega

theorem tap_inb (q : Fin 31) : ∀ l : Fin 2, (![q.val, 0] : Fin 2 → ℕ) l + S1x512.size l ≤ S32x512.size l := by
  intro l
  fin_cases l
  · show q.val + 1 ≤ 32
    omega
  · show 0 + 512 ≤ 512
    omega

section
variable (𝒱 : Variants) (c : Dev nD) (bd : Option 𝒱.V) (i : grid0.Coords) (arg1 : Memref sig .tc .vmem S512x1024 .f32) (harg1 : arg1.IsWhole)
  (arg2 : Memref sig .tc .vmem S512x1024 .f32) (harg2 : arg2.IsWhole) (arg3 : Memref sig .tc .vmem S512x512 .f32) (harg3 : arg3.IsWhole)
  (arg4 : Memref sig .tc .vmem S512x512 .f32) (harg4 : arg4.IsWhole) (arg5 : Memref sig .tc .vmem S512x512 .f32) (harg5 : arg5.IsWhole)
  (arg6 : Memref sig .tc .vmem S512x512 .bf16) (harg6 : arg6.IsWhole) (arg7 : Memref sig .tc .vmem S1x1024 .f32) (harg7 : arg7.IsWhole)
  (arg8 : Memref sig .tc .vmem S1536x1024 .bf16) (harg8 : arg8.IsWhole) (arg9 : Memref sig .tc .vmem S32x512 .f32) (harg9 : arg9.IsWhole)
  (arg10 : Memref sig .tc .vmem S1x512 .f32) (harg10 : arg10.IsWhole) (arg11 : Memref sig .tc .vmem S1x512 .f32) (harg11 : arg11.IsWhole)
  (arg12 : Memref sig .tc .vmem S4x128x128 .bf16) (harg12 : arg12.IsWhole) (arg13 : Memref sig .tc .vmem S1x512 .f32)
  (harg13 : arg13.IsWhole) (arg14 : Memref sig .tc .vmem S1024x1024 .bf16) (harg14 : arg14.IsWhole)
  (arg15 : Memref sig .tc .vmem S512x1024 .f32) (harg15 : arg15.IsWhole) (arg16 : Memref sig .tc .vmem S512x1536 .bf16)
  (harg16 : arg16.IsWhole) (arg17 : Memref sig .tc .vmem S512x1024 .bf16) (harg17 : arg17.IsWhole)
  (arg18 : Memref sig .tc .vmem S1x1024 .f32) (harg18 : arg18.IsWhole) (arg19 : Memref sig .tc .vmem S1x1536 .f32) (harg19 : arg19.IsWhole)
  (arg20 : Memref sig .tc .vmem S32x512 .f32) (harg20 : arg20.IsWhole) (arg21 : Memref sig .tc .vmem S1x512 .f32) (harg21 : arg21.IsWhole)
  (arg22 : Memref sig .tc .vmem S1x512 .f32) (harg22 : arg22.IsWhole) (arg23 : Memref sig .tc .vmem S1x512 .f32) (harg23 : arg23.IsWhole)
  (arg24 : Memref sig .tc .vmem S4x128x128 .f32) (harg24 : arg24.IsWhole) (arg25 : Memref sig .tc .vmem S1x512 .f32)
  (harg25 : arg25.IsWhole) (arg26 : Memref sig .tc .vmem S8x544x512 .f32) (harg26 : arg26.IsWhole)
  (arg27 : Memref sig .tc .vmem S544x512 .f32) (harg27 : arg27.IsWhole) (arg28 : Memref sig .tc .vmem S544x512 .f32)
  (harg28 : arg28.IsWhole) (arg29 : Memref sig .tc .vmem S544x512 .f32) (harg29 : arg29.IsWhole)
  (arg30 : Memref sig .tc .vmem S512x512 .f32) (harg30 : arg30.IsWhole) (arg31 : Memref sig .tc .vmem S512x512 .f32)
  (harg31 : arg31.IsWhole) (v100 : FVec Ideal S1x536x512 .f32) (X_arg9 : BufTy.Contents (Elt Ideal) arg9.view.ty)
  (X_arg26 : BufTy.Contents (Elt Ideal) arg26.view.ty)

theorem trip_pieces (k : Fin k0_t1_loop.trips) : ∃ inb,
    tripL_k0_t1 (F := Ideal)
      𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 arg27
      harg27 arg28 harg28 arg29 harg29 arg30 harg30 arg31 harg31 v100 X_arg9 X_arg26 k =
      [⟨Rect.unit (s := S512x512) (k0_off9 k) S64x512.size inb,
        tripSum (fun q => arg9.view.readAt (Elt Ideal) (Rect.unit (s := S32x512) ![q.val, 0] S1x512.size (tap_inb q)).toLoadRect X_arg9)
          (fun q => arg26.view.readAt (Elt Ideal) (Rect.unit (s := S8x544x512) (off k q) S1x64x512.size (off_inb k q)).toLoadRect X_arg26)⟩] := by
  unfold tripL_k0_t1 trip_k0_t1
  exact ⟨_, rfl⟩

variable {w : Fin 31 → Fin 512 → ℝ} {D : ℕ → Fin 512 → ℝ}
  (hW : ∀ (q : Fin 31) (j : Fin 512), arg9.view.read (Elt Ideal) X_arg9 (ix2 (tap q) j) = ((w q j : ℝ) : EReal))
  (hS : Slots arg26.view X_arg26 D 8)
include hW hS

theorem loop (f : arg30.view.ty.Contents (Elt Ideal)) (n : ℕ) (hn : n ≤ 8) (y : Fin 512) (hy : y.val < 64 * n) (j : Fin 512) :
    arg30.view.read (Elt Ideal) (arg30.view.writes (Elt Ideal) f (pb_k0_t1 (F := Ideal)
      𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 arg27
      harg27 arg28 harg28 arg29 harg29 arg30 harg30 arg31 harg31 v100 X_arg9 X_arg26 n)) (ix2 y j) =
      ((∑ q : Fin 31, w q j * D (y.val + (30 - q.val)) j : ℝ) : EReal) := by
  induction n with
  | zero => omega
  | succ n ih =>
    obtain ⟨inb, e⟩ := trip_pieces
      𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 arg27
      harg27 arg28 harg28 arg29 harg29 arg30 harg30 arg31 harg31 v100 X_arg9 X_arg26 ⟨n, by rw [trips_eq]; omega⟩
    have e1 := pb_k0_t1_succ (F := Ideal)
      𝒱 c bd i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg20 harg20 arg21 harg21 arg22 harg22 arg23 harg23 arg24 harg24 arg25 harg25 arg26 harg26 arg27
      harg27 arg28 harg28 arg29 harg29 arg30 harg30 arg31 harg31 v100 X_arg9 X_arg26 ⟨n, by rw [trips_eq]; omega⟩
    rw [e] at e1
    dsimp only at e1
    rw [e1]
    clear e e1
    revert inb
    rw [off9_eq]
    intro inb
    by_cases h : y.val < 64 * n
    · exact (store2_out arg30.view f inb _ _ y j (.inl (.inl h))).trans (ih (by omega) h)
    · refine (store2_in arg30.view f inb _ _ y j ⟨y.val - 64 * n, by omega⟩ j (by show y.val = 64 * n + (y.val - 64 * n); omega)
        (Nat.zero_add _).symm).trans ?_
      refine (trip_sum (w := w) (x := fun q r c => D (64 * n + r.val + (30 - q.val)) c) (fun q => ?_) (fun q => ?_) _ _).trans ?_
      · intro a c
        exact (load2 arg9.view X_arg9 (tap_inb q) a c (tap q) c (by show q.val = q.val + a.val; omega) (Nat.zero_add _).symm).trans (hW q c)
      · have l := slots_load (n := 8) (s := (30 - q.val) % 8) (o := 64 * n + 8 * ((30 - q.val) / 8)) (m := 64) hS (by omega) (by omega)
          (by omega) (by rw [← off_eq ⟨n, by rw [trips_eq]; omega⟩ q]; exact off_inb _ q)
        intro a r c
        have : (30 - q.val) % 8 + (64 * n + 8 * ((30 - q.val) / 8)) + r.val = 64 * n + r.val + (30 - q.val) := by omega
        refine Eq.trans ?_ ((l a r c).trans (congrArg (fun n => ((D n c : ℝ) : EReal)) this))
        congr 3
        exact off_eq _ q
      · have : 64 * n + (y.val - 64 * n) = y.val := by omega
        simp only [this]
end

end Cert.Mix
-- ==== Proof.MixBody.lean ====
/- The values that the backward pass's body stores at one grid point, named in order, from what the two carried buffers hold
   when the point starts. -/
module

public import proofs.«01_k».proof.Proof.MixPoint
public import proofs.«01_k».proof.Proof.MixLoop
public import Idealize.ShloMosaic.Lib.Pipeline.ValueKit
public import Idealize.ShloMosaic.Lib.Pipeline.ReadBack

@[expose] public section

set_option maxRecDepth 16384
set_option maxHeartbeats 4000000

noncomputable section

namespace Cert.Mix.Blocks

open Idealize Idealize.ShloMosaic Cert.MixKernelIdeal Cert.MixKernelIdeal.Gen Cert.Lift Cert.Spec
open Cert.Payloads (Is2)
open Idealize.ShloMosaic.TcCoe Idealize.ShloMosaic.Tactic

/-! The scratch buffers: the copies of the convolution's gradient, the windows' gradient, two for sums, one for the loop. -/

abbrev S0 : View sig .tc .vmem (⟨3, ![8, 544, 512]⟩ : Shape) .f32 := View.whole cc0_scratch0
abbrev S1 : View sig .tc .vmem (⟨2, ![544, 512]⟩ : Shape) .f32 := View.whole cc0_scratch1
abbrev S2 : View sig .tc .vmem (⟨2, ![544, 512]⟩ : Shape) .f32 := View.whole cc0_scratch2
abbrev S3 : View sig .tc .vmem (⟨2, ![544, 512]⟩ : Shape) .f32 := View.whole cc0_scratch3
abbrev S4 : View sig .tc .vmem (⟨2, ![512, 512]⟩ : Shape) .f32 := View.whole cc0_scratch4

section values
variable (m : (ℓ : Loc nD τ sig) → Buf (Elt Ideal) ℓ) (c : Dev nD) (t : Fin cfg0.N)

def W0 : Vec Ideal S1x512x512 .f32 := k0_pay35 (k0_pay31 (k0_pay22 (iblk m c 4 t)) (k0_pay23 (iblk m c 4 t)) (iblk m c 9 t)
  (k0_pay24 (iblk m c 4 t) (iblk m c 9 t) (iblk m c 10 t)) (k0_pay25 (iblk m c 4 t) (iblk m c 9 t) (iblk m c 10 t))
  (k0_pay26 (iblk m c 0 t) (iblk m c 13 t)) k0_pay27)
def Z0 : Vec Ideal S512x128 .f32 := k0_pay93 (k0_pay92 (k0_pay86 (Scalar.subi (7#32) (BitVec.ofNat 32 (grid0.coords t 0).val))) (k0_pay87 (k0_pay20 (iblk m c 0 t) (iblk m c 13 t)))
  (View.ld (Val := Elt Ideal) (S := S1x512) (e' := .f32) (iblk m c 12 t) (Rect.unit ![0, 0] ![1, 128] inb_S1x512_S1x128_0_0))
  (View.ld (Val := Elt Ideal) (S := S4x128x128) (e' := .bf16) (iblk m c 11 t) (Rect.unit ![0, 0, 0] ![1, 128, 128] inb_S4x128x128_S1x128x128_0_0_0)))
def Z1 : Vec Ideal S512x128 .f32 := k0_pay100 (k0_pay86 (Scalar.subi (7#32) (BitVec.ofNat 32 (grid0.coords t 0).val))) (k0_pay97 (k0_pay20 (iblk m c 0 t) (iblk m c 13 t))
  (View.ld (Val := Elt Ideal) (S := S1x512) (e' := .f32) (iblk m c 12 t) (Rect.unit ![0, 128] ![1, 128] inb_S1x512_S1x128_0_128)))
  (View.ld (Val := Elt Ideal) (S := S4x128x128) (e' := .bf16) (iblk m c 11 t) (Rect.unit ![1, 0, 0] ![1, 128, 128] inb_S4x128x128_S1x128x128_1_0_0))
def Z2 : Vec Ideal S512x128 .f32 := k0_pay108 (k0_pay86 (Scalar.subi (7#32) (BitVec.ofNat 32 (grid0.coords t 0).val))) (k0_pay104 (k0_pay20 (iblk m c 0 t) (iblk m c 13 t))
  (View.ld (Val := Elt Ideal) (S := S1x512) (e' := .f32) (iblk m c 12 t) (Rect.unit ![0, 256] ![1, 128] inb_S1x512_S1x128_0_256)))
  (View.ld (Val := Elt Ideal) (S := S4x128x128) (e' := .bf16) (iblk m c 11 t) (Rect.unit ![2, 0, 0] ![1, 128, 128] inb_S4x128x128_S1x128x128_2_0_0))
def Z3 : Vec Ideal S512x128 .f32 := k0_pay115 (k0_pay86 (Scalar.subi (7#32) (BitVec.ofNat 32 (grid0.coords t 0).val))) (k0_pay110 (k0_pay20 (iblk m c 0 t) (iblk m c 13 t)))
  (View.ld (Val := Elt Ideal) (S := S1x512) (e' := .f32) (iblk m c 12 t) (Rect.unit ![0, 384] ![1, 128] inb_S1x512_S1x128_0_384))
  (View.ld (Val := Elt Ideal) (S := S4x128x128) (e' := .bf16) (iblk m c 11 t) (Rect.unit ![3, 0, 0] ![1, 128, 128] inb_S4x128x128_S1x128x128_3_0_0))
def E0 : Vec Ideal S512x128 .f32 := k0_pay94 (k0_pay91 (k0_pay87 (k0_pay20 (iblk m c 0 t) (iblk m c 13 t)))
  (View.ld (Val := Elt Ideal) (S := S1x512) (e' := .f32) (iblk m c 12 t) (Rect.unit ![0, 0] ![1, 128] inb_S1x512_S1x128_0_0))
  (View.ld (Val := Elt Ideal) (S := S4x128x128) (e' := .bf16) (iblk m c 11 t) (Rect.unit ![0, 0, 0] ![1, 128, 128] inb_S4x128x128_S1x128x128_0_0_0)))
def E1 : Vec Ideal S512x128 .f32 := k0_pay101 (k0_pay97 (k0_pay20 (iblk m c 0 t) (iblk m c 13 t))
  (View.ld (Val := Elt Ideal) (S := S1x512) (e' := .f32) (iblk m c 12 t) (Rect.unit ![0, 128] ![1, 128] inb_S1x512_S1x128_0_128)))
  (View.ld (Val := Elt Ideal) (S := S4x128x128) (e' := .bf16) (iblk m c 11 t) (Rect.unit ![1, 0, 0] ![1, 128, 128] inb_S4x128x128_S1x128x128_1_0_0))
def E2 : Vec Ideal S512x128 .f32 := k0_pay109 (k0_pay104 (k0_pay20 (iblk m c 0 t) (iblk m c 13 t))
  (View.ld (Val := Elt Ideal) (S := S1x512) (e' := .f32) (iblk m c 12 t) (Rect.unit ![0, 256] ![1, 128] inb_S1x512_S1x128_0_256)))
  (View.ld (Val := Elt Ideal) (S := S4x128x128) (e' := .bf16) (iblk m c 11 t) (Rect.unit ![2, 0, 0] ![1, 128, 128] inb_S4x128x128_S1x128x128_2_0_0))
def E3 : Vec Ideal S512x128 .f32 := k0_pay116 (k0_pay110 (k0_pay20 (iblk m c 0 t) (iblk m c 13 t)))
  (View.ld (Val := Elt Ideal) (S := S1x512) (e' := .f32) (iblk m c 12 t) (Rect.unit ![0, 384] ![1, 128] inb_S1x512_S1x128_0_384))
  (View.ld (Val := Elt Ideal) (S := S4x128x128) (e' := .bf16) (iblk m c 11 t) (Rect.unit ![3, 0, 0] ![1, 128, 128] inb_S4x128x128_S1x128x128_3_0_0))

section
variable (f : (S0).ty.Contents (Elt Ideal)) (L : List (View.Piece (Elt Ideal) (⟨3, ![8, 544, 512]⟩ : Shape) .f32))

def W1 : Vec Ideal S1x536x512 .f32 := k0_pay36 (S0.readAt (Elt Ideal) (Rect.unit (s := ⟨3, ![8, 544, 512]⟩) ![0, 1, 0] ![1, 536, 512]
  inb_S8x544x512_S1x536x512_0_1_0).toLoadRect (S0.writes (Elt Ideal) f (P0 (W0 m c t) :: L)))
def W2 : Vec Ideal S1x536x512 .f32 := k0_pay37 (S0.readAt (Elt Ideal) (Rect.unit (s := ⟨3, ![8, 544, 512]⟩) ![0, 2, 0] ![1, 536, 512]
  inb_S8x544x512_S1x536x512_0_2_0).toLoadRect (S0.writes (Elt Ideal) f (P1 (W1 m c t f L) :: P0 (W0 m c t) :: L)))
def W3 : Vec Ideal S1x536x512 .f32 := k0_pay38 (S0.readAt (Elt Ideal) (Rect.unit (s := ⟨3, ![8, 544, 512]⟩) ![0, 3, 0] ![1, 536, 512]
  inb_S8x544x512_S1x536x512_0_3_0).toLoadRect (S0.writes (Elt Ideal) f (P2 (W2 m c t f L) :: P1 (W1 m c t f L) :: P0 (W0 m c t) :: L)))
def W4 : Vec Ideal S1x536x512 .f32 := k0_pay39 (S0.readAt (Elt Ideal) (Rect.unit (s := ⟨3, ![8, 544, 512]⟩) ![0, 4, 0] ![1, 536, 512]
  inb_S8x544x512_S1x536x512_0_4_0).toLoadRect (S0.writes (Elt Ideal) f (P3 (W3 m c t f L) :: P2 (W2 m c t f L) :: P1 (W1 m c t f L) :: P0 (W0 m c t) :: L)))
def W5 : Vec Ideal S1x536x512 .f32 := k0_pay40 (S0.readAt (Elt Ideal) (Rect.unit (s := ⟨3, ![8, 544, 512]⟩) ![0, 5, 0] ![1, 536, 512]
  inb_S8x544x512_S1x536x512_0_5_0).toLoadRect (S0.writes (Elt Ideal) f (P4 (W4 m c t f L) :: P3 (W3 m c t f L) :: P2 (W2 m c t f L) :: P1 (W1 m c t f L) :: P0 (W0 m c t) :: L)))
def W6 : Vec Ideal S1x536x512 .f32 := k0_pay41 (S0.readAt (Elt Ideal) (Rect.unit (s := ⟨3, ![8, 544, 512]⟩) ![0, 6, 0] ![1, 536, 512]
  inb_S8x544x512_S1x536x512_0_6_0).toLoadRect (S0.writes (Elt Ideal) f (P5 (W5 m c t f L) :: P4 (W4 m c t f L) :: P3 (W3 m c t f L) :: P2 (W2 m c t f L) :: P1 (W1 m c t f L) :: P0 (W0 m c t) :: L)))
def W7 : Vec Ideal S1x536x512 .f32 := k0_pay42 (S0.readAt (Elt Ideal) (Rect.unit (s := ⟨3, ![8, 544, 512]⟩) ![0, 7, 0] ![1, 536, 512]
  inb_S8x544x512_S1x536x512_0_7_0).toLoadRect (S0.writes (Elt Ideal) f (P6 (W6 m c t f L) :: P5 (W5 m c t f L) :: P4 (W4 m c t f L) :: P3 (W3 m c t f L) :: P2 (W2 m c t f L) :: P1 (W1 m c t f L) :: P0 (W0 m c t) :: L)))

/-- All eight copies. -/
abbrev copies0 : List (View.Piece (Elt Ideal) (⟨3, ![8, 544, 512]⟩ : Shape) .f32) :=
  all (W0 m c t) (W1 m c t f L) (W2 m c t f L) (W3 m c t f L)
    (W4 m c t f L) (W5 m c t f L) (W6 m c t f L) (W7 m c t f L) L

/-- The gradient of the gated product, as the loop leaves it. -/
def DU : Vec Ideal S512x512 .f32 :=
  S4.readCov (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)
    (W4 m c t f L) ((hs0_8 t).unread (iblk m c 8 t)) (S0.writes (Elt Ideal) f (copies0 m c t f L)) (Scf.trips 0#32 (Scalar.addi 0#32 8#32) 1#32))
    (Rect.unit (s := ⟨2, ![512, 512]⟩) ![0, 0] ![512, 512] inb_S512x512_S512x512_0_0).toLoadRect

/-- What the copies hold, from the rows carried. -/
theorem copies_at {p : Params} {T : Tokens} (h : Args m c p T) (hc : ∀ (r : Fin 544), 512 ≤ r.val → ∀ j : Fin 512,
      S0.read (Elt Ideal) (S0.writes (Elt Ideal) f L) (ix3 0 r j) = ((Dv p T t r.val j : ℝ) : EReal)) :
    Copies S0 f (Dv p T t) (W0 m c t) (W1 m c t f L) (W2 m c t f L) (W3 m c t f L)
      (W4 m c t f L) (W5 m c t f L) (W6 m c t f L) (W7 m c t f L) L :=
  copies hc (val35 h t) rfl rfl rfl rfl rfl rfl rfl

theorem du_at {p : Params} {T : Tokens} (h : Args m c p T) (hc : ∀ (r : Fin 544), 512 ≤ r.val → ∀ j : Fin 512,
      S0.read (Elt Ideal) (S0.writes (Elt Ideal) f L) (ix3 0 r j) = ((Dv p T t r.val j : ℝ) : EReal)) :
    Is2 (DU m c t f L) fun i j => du p T (tok t i) j := by
  intro i j
  have hW : ∀ (q : Fin 31) (j : Fin 512), (ms0_8 t).view.read (Elt Ideal) ((hs0_8 t).unread (iblk m c 8 t)) (ix2 (tap q) j) =
      ((p.wdw (tap q) j : ℝ) : EReal) := fun q j => by
    rw [(hs0_8 t).read_unread]
    exact read8 h t _ _
  have key := loop (w := fun q j => p.wdw (tap q) j) (D := Dv p T t) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t)
    scM0_0 (Memref.isWhole_whole _) scM0_1 (Memref.isWhole_whole _) scM0_2 (Memref.isWhole_whole _) scM0_3 (Memref.isWhole_whole _) scM0_4 (Memref.isWhole_whole _) scM0_5 (Memref.isWhole_whole _)
    (W4 m c t f L) ((hs0_8 t).unread (iblk m c 8 t)) (S0.writes (Elt Ideal) f (copies0 m c t f L)) hW (copies_at m c t f L h hc).slots
    S4.junk k0_t1_loop.trips (Nat.le_of_eq trips_eq) i (by rw [trips_eq]; exact i.isLt) j
  refine (load2 S4 _ inb_S512x512_S512x512_0_0 i j i j (Nat.zero_add _).symm (Nat.zero_add _).symm).trans (key.trans ?_)
  refine congrArg (fun r : ℝ => (r : EReal)) (Finset.sum_congr rfl fun q _ => ?_)
  rw [Dv, ← Nat.add_assoc]
  rfl
end

section
variable (f : (S1).ty.Contents (Elt Ideal)) (L : List (View.Piece (Elt Ideal) (⟨2, ![544, 512]⟩ : Shape) .f32))

/-- The four groups' gradients. -/
abbrev groups1 : List (View.Piece (Elt Ideal) (⟨2, ![544, 512]⟩ : Shape) .f32) :=
  Q3 (Z3 m c t) :: Q2 (Z2 m c t) :: Q1 (Z1 m c t) :: Q0 (Z0 m c t) :: L

def SA : Vec Ideal S536x512 .f32 := k0_pay118 (k0_pay117
  (S1.readAt (Elt Ideal) (Rect.unit (s := ⟨2, ![544, 512]⟩) ![0, 0] ![536, 512] inb_S544x512_S536x512_0_0).toLoadRect (S1.writes (Elt Ideal) f (groups1 m c t L)))
  (S1.readAt (Elt Ideal) (Rect.unit (s := ⟨2, ![544, 512]⟩) ![1, 0] ![536, 512] inb_S544x512_S536x512_1_0).toLoadRect (S1.writes (Elt Ideal) f (groups1 m c t L))))

def SB : Vec Ideal S528x384 .f32 := k0_pay119
  (S2.readCov (Val := Elt Ideal) [Sa (SA m c t f L)] (Rect.unit (s := ⟨2, ![544, 512]⟩) ![0, 128] ![528, 384] inb_S544x512_S528x384_0_128).toLoadRect)
  (S2.readCov (Val := Elt Ideal) [Sa (SA m c t f L)] (Rect.unit (s := ⟨2, ![544, 512]⟩) ![2, 128] ![528, 384] inb_S544x512_S528x384_2_128).toLoadRect)

def SC : Vec Ideal S520x256 .f32 := k0_pay120
  (S3.readCov (Val := Elt Ideal) [Sb (SB m c t f L)] (Rect.unit (s := ⟨2, ![544, 512]⟩) ![0, 256] ![520, 256] inb_S544x512_S520x256_0_256).toLoadRect)
  (S3.readCov (Val := Elt Ideal) [Sb (SB m c t f L)] (Rect.unit (s := ⟨2, ![544, 512]⟩) ![4, 256] ![520, 256] inb_S544x512_S520x256_4_256).toLoadRect)

/-! The sums over windows of 2, 4, 8 and 16 tokens, as they are loaded. -/

def R0 : Vec Ideal S512x128 .f32 := S2.readCov (Val := Elt Ideal) [Sa (SA m c t f L)]
  (Rect.unit (s := ⟨2, ![544, 512]⟩) ![0, 0] ![512, 128] inb_S544x512_S512x128_0_0).toLoadRect
def R1 : Vec Ideal S512x128 .f32 := S3.readCov (Val := Elt Ideal) [Sb (SB m c t f L)]
  (Rect.unit (s := ⟨2, ![544, 512]⟩) ![0, 128] ![512, 128] inb_S544x512_S512x128_0_128).toLoadRect
def R2 : Vec Ideal S512x128 .f32 := S2.readCov (Val := Elt Ideal) [Sc (SC m c t f L), Sa (SA m c t f L)]
  (Rect.unit (s := ⟨2, ![544, 512]⟩) ![0, 256] ![512, 128] inb_S544x512_S512x128_0_256).toLoadRect
def R3 : Vec Ideal S512x128 .f32 := k0_pay121
  (S2.readCov (Val := Elt Ideal) [Sc (SC m c t f L), Sa (SA m c t f L)]
    (Rect.unit (s := ⟨2, ![544, 512]⟩) ![0, 384] ![512, 128] inb_S544x512_S512x128_0_384).toLoadRect)
  (S2.readCov (Val := Elt Ideal) [Sc (SC m c t f L), Sa (SA m c t f L)]
    (Rect.unit (s := ⟨2, ![544, 512]⟩) ![8, 384] ![512, 128] inb_S544x512_S512x128_8_384).toLoadRect)

theorem windows_at {p : Params} {T : Tokens} (h : Args m c p T) (hc : ∀ (r : Fin 544), 512 ≤ r.val → ∀ j : Fin 512,
      S1.read (Elt Ideal) (S1.writes (Elt Ideal) f L) (ix2 r j) = ((Dq p T t r.val j : ℝ) : EReal)) :
    Windows S2 S3 (Dq p T t) (SA m c t f L) (SB m c t f L) (SC m c t f L) :=
  windows (quarters_sums (quarters hc (z0 h t) (z1 h t) (z2 h t) (z3 h t))) rfl rfl rfl
end

end values

end Cert.Mix.Blocks
-- ==== Proof.MixSums.lean ====
/- The results of the backward pass that are sums over the tokens, at each grid point: a point adds the sum over its tokens to
   what the points before it left, and the first point starts from zero. -/
module

public import proofs.«01_k».proof.Proof.MixPoint
public import Idealize.ShloMosaic.Lib.Pipeline.ValueKit
public import Idealize.ShloMosaic.Lib.Pipeline.ReadBack

@[expose] public section

set_option maxRecDepth 16384
set_option maxHeartbeats 4000000

noncomputable section

namespace Cert.Mix.Blocks

open Idealize Idealize.ShloMosaic Cert.MixKernelIdeal Cert.MixKernelIdeal.Gen Cert.Lift Cert.Spec
open Cert.Payloads (Is2)
open Idealize.ShloMosaic.TcCoe Idealize.ShloMosaic.Tactic

/-! Rows stored in four pieces. -/

section
variable {sig : RefSig} {κ : Kind} {sp : Space}

section
variable (A : View sig κ sp S1x512 .f32) (f : A.ty.Contents (Elt Ideal)) (L : List (View.Piece (Elt Ideal) S1x512 .f32))
  {n0 n1 n2 n3 : Vec Ideal S1x128 .f32} {P : Fin 1 → Fin 512 → EReal} {s : Fin 4 → Fin 128 → ℝ}
  (i0 : ∀ k : Fin 2, (![0, 0] : Fin 2 → ℕ) k + (![1, 128] : Fin 2 → ℕ) k ≤ S1x512.size k)
  (i1 : ∀ k : Fin 2, (![0, 128] : Fin 2 → ℕ) k + (![1, 128] : Fin 2 → ℕ) k ≤ S1x512.size k)
  (i2 : ∀ k : Fin 2, (![0, 256] : Fin 2 → ℕ) k + (![1, 128] : Fin 2 → ℕ) k ≤ S1x512.size k)
  (i3 : ∀ k : Fin 2, (![0, 384] : Fin 2 → ℕ) k + (![1, 128] : Fin 2 → ℕ) k ≤ S1x512.size k)

theorem acc_row (h0 : ∀ i e, n0 (ix2 i e) = P i (lane 0 e) + ((s 0 e : ℝ) : EReal))
    (h1 : ∀ i e, n1 (ix2 i e) = P i (lane 1 e) + ((s 1 e : ℝ) : EReal))
    (h2 : ∀ i e, n2 (ix2 i e) = P i (lane 2 e) + ((s 2 e : ℝ) : EReal))
    (h3 : ∀ i e, n3 (ix2 i e) = P i (lane 3 e) + ((s 3 e : ℝ) : EReal)) (i : Fin 1) (j : Fin 512) :
    A.read (Elt Ideal) (A.writes (Elt Ideal) f (⟨Rect.unit (s := S1x512) ![0, 384] ![1, 128] i3, n3⟩ ::
      ⟨Rect.unit (s := S1x512) ![0, 256] ![1, 128] i2, n2⟩ :: ⟨Rect.unit (s := S1x512) ![0, 128] ![1, 128] i1, n1⟩ ::
      ⟨Rect.unit (s := S1x512) ![0, 0] ![1, 128] i0, n0⟩ :: L)) (ix2 i j) = P i j + ((s (grp j) (sub j) : ℝ) : EReal) := by
  have e : ∀ (g : Fin 4) (k : Fin 128), lane g k = j → P i (lane g k) + ((s g k : ℝ) : EReal) = P i j + ((s (grp j) (sub j) : ℝ) : EReal) := by
    rintro g k rfl
    rw [grp_lane, sub_lane]
  by_cases c3 : 384 ≤ j.val
  · exact (store2_in A f i3 n3 _ i j i ⟨j.val - 384, by omega⟩ (Nat.zero_add _).symm (by show j.val = 384 + (j.val - 384); omega)).trans
      ((h3 _ _).trans (e 3 _ (Fin.ext (by show 128 * 3 + (j.val - 384) = j.val; omega))))
  refine (store2_out A f i3 n3 _ i j (.inr (.inl (by omega)))).trans ?_
  by_cases c2 : 256 ≤ j.val
  · exact (store2_in A f i2 n2 _ i j i ⟨j.val - 256, by omega⟩ (Nat.zero_add _).symm (by show j.val = 256 + (j.val - 256); omega)).trans
      ((h2 _ _).trans (e 2 _ (Fin.ext (by show 128 * 2 + (j.val - 256) = j.val; omega))))
  refine (store2_out A f i2 n2 _ i j (.inr (.inl (by omega)))).trans ?_
  by_cases c1 : 128 ≤ j.val
  · exact (store2_in A f i1 n1 _ i j i ⟨j.val - 128, by omega⟩ (Nat.zero_add _).symm (by show j.val = 128 + (j.val - 128); omega)).trans
      ((h1 _ _).trans (e 1 _ (Fin.ext (by show 128 * 1 + (j.val - 128) = j.val; omega))))
  refine (store2_out A f i1 n1 _ i j (.inr (.inl (by omega)))).trans ?_
  exact (store2_in A f i0 n0 _ i j i ⟨j.val, by omega⟩ (Nat.zero_add _).symm (Nat.zero_add _).symm).trans
    ((h0 _ _).trans (e 0 _ (Fin.ext (by show 128 * 0 + j.val = j.val; omega))))
end

section
variable (A : View sig κ sp S4x128x128 .f32) (f : A.ty.Contents (Elt Ideal)) (L : List (View.Piece (Elt Ideal) S4x128x128 .f32))
  {n0 n1 n2 n3 : Vec Ideal S1x128x128 .f32} {P : Fin 4 → Fin 128 → Fin 128 → EReal} {s : Fin 4 → Fin 128 → Fin 128 → ℝ}
  (i0 : ∀ k : Fin 3, (![0, 0, 0] : Fin 3 → ℕ) k + (![1, 128, 128] : Fin 3 → ℕ) k ≤ S4x128x128.size k)
  (i1 : ∀ k : Fin 3, (![1, 0, 0] : Fin 3 → ℕ) k + (![1, 128, 128] : Fin 3 → ℕ) k ≤ S4x128x128.size k)
  (i2 : ∀ k : Fin 3, (![2, 0, 0] : Fin 3 → ℕ) k + (![1, 128, 128] : Fin 3 → ℕ) k ≤ S4x128x128.size k)
  (i3 : ∀ k : Fin 3, (![3, 0, 0] : Fin 3 → ℕ) k + (![1, 128, 128] : Fin 3 → ℕ) k ≤ S4x128x128.size k)

theorem acc_cube (h0 : ∀ i e k, n0 (ix3 i e k) = P 0 e k + ((s 0 e k : ℝ) : EReal))
    (h1 : ∀ i e k, n1 (ix3 i e k) = P 1 e k + ((s 1 e k : ℝ) : EReal))
    (h2 : ∀ i e k, n2 (ix3 i e k) = P 2 e k + ((s 2 e k : ℝ) : EReal))
    (h3 : ∀ i e k, n3 (ix3 i e k) = P 3 e k + ((s 3 e k : ℝ) : EReal)) (g : Fin 4) (e k : Fin 128) :
    A.read (Elt Ideal) (A.writes (Elt Ideal) f (⟨Rect.unit (s := S4x128x128) ![3, 0, 0] ![1, 128, 128] i3, n3⟩ ::
      ⟨Rect.unit (s := S4x128x128) ![2, 0, 0] ![1, 128, 128] i2, n2⟩ :: ⟨Rect.unit (s := S4x128x128) ![1, 0, 0] ![1, 128, 128] i1, n1⟩ ::
      ⟨Rect.unit (s := S4x128x128) ![0, 0, 0] ![1, 128, 128] i0, n0⟩ :: L)) (ix3 g e k) = P g e k + ((s g e k : ℝ) : EReal) := by
  have z : ∀ r : Fin 128, r.val = 0 + r.val := fun r => (Nat.zero_add _).symm
  fin_cases g
  · exact (store3_out A f i3 n3 _ 0 e k (.inl (.inl (by decide)))).trans ((store3_out A f i2 n2 _ 0 e k (.inl (.inl (by decide)))).trans
      ((store3_out A f i1 n1 _ 0 e k (.inl (.inl (by decide)))).trans ((store3_in A f i0 n0 _ 0 e k 0 e k rfl (z e) (z k)).trans (h0 _ _ _))))
  · exact (store3_out A f i3 n3 _ 1 e k (.inl (.inl (by decide)))).trans ((store3_out A f i2 n2 _ 1 e k (.inl (.inl (by decide)))).trans
      ((store3_in A f i1 n1 _ 1 e k 0 e k rfl (z e) (z k)).trans (h1 _ _ _)))
  · exact (store3_out A f i3 n3 _ 2 e k (.inl (.inl (by decide)))).trans ((store3_in A f i2 n2 _ 2 e k 0 e k rfl (z e) (z k)).trans (h2 _ _ _))
  · exact (store3_in A f i3 n3 _ 3 e k 0 e k rfl (z e) (z k)).trans (h3 _ _ _)
end

/-! What a load finds right after the whole array was filled. -/

theorem fill2 {a b o0 o1 n0 n1 : ℕ} {e : EltTy} (A : View sig κ sp (⟨2, ![a, b]⟩ : Shape) e) {w : (⟨2, ![a, b]⟩ : Shape).Idx → Elt Ideal e}
    {iw : ∀ k : Fin 2, (![0, 0] : Fin 2 → ℕ) k + (![a, b] : Fin 2 → ℕ) k ≤ (⟨2, ![a, b]⟩ : Shape).size k}
    {inb : ∀ k : Fin 2, (![o0, o1] : Fin 2 → ℕ) k + (![n0, n1] : Fin 2 → ℕ) k ≤ (⟨2, ![a, b]⟩ : Shape).size k}
    (i : Fin n0) (j : Fin n1) (y : Fin a) (z : Fin b) (hy : y.val = o0 + i.val) (hz : z.val = o1 + j.val) :
    A.readCov [⟨Rect.unit (s := ⟨2, ![a, b]⟩) ![0, 0] ![a, b] iw, w⟩] (Rect.unit (s := ⟨2, ![a, b]⟩) ![o0, o1] ![n0, n1] inb).toLoadRect (ix2 i j) = w (ix2 y z) :=
  (load2 A _ inb i j y z hy hz).trans (store2_in A _ iw w _ y z y z (Nat.zero_add _).symm (Nat.zero_add _).symm)

theorem fill3 {a b d o0 o1 o2 n0 n1 n2 : ℕ} {e : EltTy} (A : View sig κ sp (⟨3, ![a, b, d]⟩ : Shape) e) {w : (⟨3, ![a, b, d]⟩ : Shape).Idx → Elt Ideal e}
    {iw : ∀ k : Fin 3, (![0, 0, 0] : Fin 3 → ℕ) k + (![a, b, d] : Fin 3 → ℕ) k ≤ (⟨3, ![a, b, d]⟩ : Shape).size k}
    {inb : ∀ k : Fin 3, (![o0, o1, o2] : Fin 3 → ℕ) k + (![n0, n1, n2] : Fin 3 → ℕ) k ≤ (⟨3, ![a, b, d]⟩ : Shape).size k}
    (i : Fin n0) (j : Fin n1) (k : Fin n2) (x : Fin a) (y : Fin b) (z : Fin d) (hx : x.val = o0 + i.val) (hy : y.val = o1 + j.val) (hz : z.val = o2 + k.val) :
    A.readCov [⟨Rect.unit (s := ⟨3, ![a, b, d]⟩) ![0, 0, 0] ![a, b, d] iw, w⟩] (Rect.unit (s := ⟨3, ![a, b, d]⟩) ![o0, o1, o2] ![n0, n1, n2] inb).toLoadRect (ix3 i j k) = w (ix3 x y z) :=
  (load3 A _ inb i j k x y z hx hy hz).trans (store3_in A _ iw w _ x y z x y z (Nat.zero_add _).symm (Nat.zero_add _).symm (Nat.zero_add _).symm)
end

/-! The zeros the first point starts from. -/

theorem zero3 (i : Fin 1) (j : Fin 1024) : k0_pay3 (F := Ideal) (ix2 i j) = 0 := by pointwise [k0_pay3]
theorem zero4 (i : Fin 1) (j : Fin 1536) : k0_pay4 (F := Ideal) (ix2 i j) = 0 := by pointwise [k0_pay4]
theorem zero5 (i : Fin 32) (j : Fin 512) : k0_pay5 (F := Ideal) (ix2 i j) = 0 := by pointwise [k0_pay5]
theorem zero6 (i : Fin 1) (j : Fin 512) : k0_pay6 (F := Ideal) (ix2 i j) = 0 := by pointwise [k0_pay6]
theorem zero7 (i : Fin 1) (j : Fin 512) : k0_pay7 (F := Ideal) (ix2 i j) = 0 := by pointwise [k0_pay7]
theorem zero8 (i : Fin 1) (j : Fin 512) : k0_pay8 (F := Ideal) (ix2 i j) = 0 := by pointwise [k0_pay8]
theorem zero9 (i : Fin 4) (j k : Fin 128) : k0_pay9 (F := Ideal) (ix3 i j k) = 0 := by pointwise [k0_pay9]
theorem zero18 (i : Fin 1) (j : Fin 512) : k0_pay18 (F := Ideal) (ix2 i j) = 0 := by pointwise [k0_pay18]

variable {m : (ℓ : Loc nD τ sig) → Buf (Elt Ideal) ℓ} {c : Dev nD} {p : Params} {T : Tokens} (h : Args m c p T)

/-- The point before. -/
abbrev before (m : (ℓ : Loc nD τ sig) → Buf (Elt Ideal) ℓ) (c : Dev nD) (t : Fin cfg0.N) :=
  outsAt0 m c (t.val - 1) (Nat.lt_of_le_of_lt (Nat.sub_le _ _) t.isLt)

include h

theorem out16 (t : Fin cfg0.N) : Is2 (outsAt0 m c t.val t.isLt).2.2.1 fun i => T.dh (tok t i) := by
  intro i j
  refine Eq.trans ?_ (read0 h t i j)
  by_cases h0 : t.val % 8 = 0
  · rw [outsAt0_A m c t h0]; dsimp only; frame_open
    try simp (disch := decide) only [↓ View.readCov_skip, ↓ View.readCov_cons_toLoadRect]
    frame_out
    rfl
  · rw [outsAt0_B m c t h0]; dsimp only; frame_open
    try simp (disch := decide) only [↓ View.readCov_skip, ↓ View.readCov_cons_toLoadRect]
    frame_out
    rfl

theorem out20_first (t : Fin cfg0.N) (h0 : t.val % 8 = 0) (i : Fin 1) (j : Fin 512) :
    (outsAt0 m c t.val t.isLt).2.2.2.2.2.2.1 (ix2 i j) = (0 : EReal) + ((∑ r, dv p T (tok t r) j : ℝ) : EReal) := by
  refine Eq.trans ?_ ((pay34 (pay24 (read4 h t) (read9 h t) (read10 h t)) (pay25 (read4 h t) (read9 h t) (read10 h t)) (val26 h t) pay27
    (pay23 (read4 h t)) (pay22 (read4 h t)) (read9 h t) (k0_pay6 (F := Ideal)) i j).trans (congrArg (· + _) (zero6 i j)))
  rw [outsAt0_A m c t h0]; dsimp only; frame_open
  try simp (disch := decide) only [↓ View.readCov_skip, ↓ View.readCov_cons_toLoadRect]
  frame_out

theorem out20_next (t : Fin cfg0.N) (h0 : ¬t.val % 8 = 0) (i : Fin 1) (j : Fin 512) :
    (outsAt0 m c t.val t.isLt).2.2.2.2.2.2.1 (ix2 i j) =
      ((before m c t).2.2.2.2.2.2.1 (ix2 i j) : EReal) + ((∑ r, dv p T (tok t r) j : ℝ) : EReal) := by
  refine Eq.trans ?_ (pay34 (pay24 (read4 h t) (read9 h t) (read10 h t)) (pay25 (read4 h t) (read9 h t) (read10 h t)) (val26 h t) pay27
    (pay23 (read4 h t)) (pay22 (read4 h t)) (read9 h t) (before m c t).2.2.2.2.2.2.1 i j)
  rw [outsAt0_B m c t h0]; dsimp only; frame_open
  try simp (disch := decide) only [↓ View.readCov_skip, ↓ View.readCov_cons_toLoadRect]
  frame_out

theorem out21_first (t : Fin cfg0.N) (h0 : t.val % 8 = 0) (i : Fin 1) (j : Fin 512) :
    (outsAt0 m c t.val t.isLt).2.2.2.2.2.2.2.1 (ix2 i j) = (0 : EReal) + ((∑ r, dln p T (tok t r) j * vh (T.v (tok t r)) j : ℝ) : EReal) := by
  refine Eq.trans ?_ ((pay29 (pay24 (read4 h t) (read9 h t) (read10 h t)) (pay25 (read4 h t) (read9 h t) (read10 h t)) (val26 h t) pay27
    (pay23 (read4 h t)) (k0_pay7 (F := Ideal)) i j).trans (congrArg (· + _) (zero7 i j)))
  rw [outsAt0_A m c t h0]; dsimp only; frame_open
  try simp (disch := decide) only [↓ View.readCov_skip, ↓ View.readCov_cons_toLoadRect]
  frame_out

theorem out21_next (t : Fin cfg0.N) (h0 : ¬t.val % 8 = 0) (i : Fin 1) (j : Fin 512) :
    (outsAt0 m c t.val t.isLt).2.2.2.2.2.2.2.1 (ix2 i j) =
      ((before m c t).2.2.2.2.2.2.2.1 (ix2 i j) : EReal) + ((∑ r, dln p T (tok t r) j * vh (T.v (tok t r)) j : ℝ) : EReal) := by
  refine Eq.trans ?_ (pay29 (pay24 (read4 h t) (read9 h t) (read10 h t)) (pay25 (read4 h t) (read9 h t) (read10 h t)) (val26 h t) pay27
    (pay23 (read4 h t)) (before m c t).2.2.2.2.2.2.2.1 i j)
  rw [outsAt0_B m c t h0]; dsimp only; frame_open
  try simp (disch := decide) only [↓ View.readCov_skip, ↓ View.readCov_cons_toLoadRect]
  frame_out

theorem out22_first (t : Fin cfg0.N) (h0 : t.val % 8 = 0) (i : Fin 1) (j : Fin 512) :
    (outsAt0 m c t.val t.isLt).2.2.2.2.2.2.2.2.1 (ix2 i j) = (0 : EReal) + ((∑ r, dln p T (tok t r) j : ℝ) : EReal) := by
  refine Eq.trans ?_ ((pay30 (pay24 (read4 h t) (read9 h t) (read10 h t)) (pay25 (read4 h t) (read9 h t) (read10 h t)) (val26 h t) pay27
    (k0_pay8 (F := Ideal)) i j).trans (congrArg (· + _) (zero8 i j)))
  rw [outsAt0_A m c t h0]; dsimp only; frame_open
  try simp (disch := decide) only [↓ View.readCov_skip, ↓ View.readCov_cons_toLoadRect]
  frame_out

theorem out22_next (t : Fin cfg0.N) (h0 : ¬t.val % 8 = 0) (i : Fin 1) (j : Fin 512) :
    (outsAt0 m c t.val t.isLt).2.2.2.2.2.2.2.2.1 (ix2 i j) =
      ((before m c t).2.2.2.2.2.2.2.2.1 (ix2 i j) : EReal) + ((∑ r, dln p T (tok t r) j : ℝ) : EReal) := by
  refine Eq.trans ?_ (pay30 (pay24 (read4 h t) (read9 h t) (read10 h t)) (pay25 (read4 h t) (read9 h t) (read10 h t)) (val26 h t) pay27
    (before m c t).2.2.2.2.2.2.2.2.1 i j)
  rw [outsAt0_B m c t h0]; dsimp only; frame_open
  try simp (disch := decide) only [↓ View.readCov_skip, ↓ View.readCov_cons_toLoadRect]
  frame_out

/-- A point's part of the gradient of the pooled maps. -/
def sum23 (p : Params) (T : Tokens) (t : Fin cfg0.N) (g : Fin 4) (e j : Fin 128) : ℝ :=
  ∑ r, T.m (tok t r) (lane g e) * dyi p T (tok t r) g j

theorem out23_first (t : Fin cfg0.N) (h0 : t.val % 8 = 0) (g : Fin 4) (e j : Fin 128) :
    (outsAt0 m c t.val t.isLt).2.2.2.2.2.2.2.2.2.1 (ix3 g e j) = (0 : EReal) + ((sum23 p T t g e j : ℝ) : EReal) := by
  rw [outsAt0_A m c t h0]; dsimp only; frame_open
  try simp (disch := decide) only [↓ View.readCov_skip, ↓ View.readCov_cons_toLoadRect]
  frame_out
  rw [← View.read_writes_junk_eq_canon (ms0_23 t).view]
  exact acc_cube (P := fun _ _ _ => 0) (s := sum23 p T t) (ms0_23 t).view _ _ _ _ _ _
    (fun i e k => (pay90 (y0 h t) (win_m h t 0 rfl _) (win_sp h t 0 rfl _) _ i e k).trans
      (congrArg (· + _) ((fill3 (ms0_23 t).view i e k 0 e k (by omega) (by omega) (by omega)).trans (zero9 _ _ _))))
    (fun i e k => (pay90 (y1 h t) (win_m h t 1 rfl _) (win_sp h t 1 rfl _) _ i e k).trans
      (congrArg (· + _) ((fill3 (ms0_23 t).view i e k 1 e k (by omega) (by omega) (by omega)).trans (zero9 _ _ _))))
    (fun i e k => (pay90 (y2 h t) (win_m h t 2 rfl _) (win_sp h t 2 rfl _) _ i e k).trans
      (congrArg (· + _) ((fill3 (ms0_23 t).view i e k 2 e k (by omega) (by omega) (by omega)).trans (zero9 _ _ _))))
    (fun i e k => (pay90 (y3 h t) (win_m h t 3 rfl _) (win_sp h t 3 rfl _) _ i e k).trans
      (congrArg (· + _) ((fill3 (ms0_23 t).view i e k 3 e k (by omega) (by omega) (by omega)).trans (zero9 _ _ _)))) g e j

theorem out23_next (t : Fin cfg0.N) (h0 : ¬t.val % 8 = 0) (g : Fin 4) (e j : Fin 128) :
    (outsAt0 m c t.val t.isLt).2.2.2.2.2.2.2.2.2.1 (ix3 g e j) =
      ((before m c t).2.2.2.2.2.2.2.2.2.1 (ix3 g e j) : EReal) + ((sum23 p T t g e j : ℝ) : EReal) := by
  rw [outsAt0_B m c t h0]; dsimp only; frame_open
  try simp (disch := decide) only [↓ View.readCov_skip, ↓ View.readCov_cons_toLoadRect]
  frame_out
  rw [← View.read_writes_junk_eq_canon (ms0_23 t).view]
  exact acc_cube (P := fun g e k => (before m c t).2.2.2.2.2.2.2.2.2.1 (ix3 g e k)) (s := sum23 p T t) (ms0_23 t).view _ _ _ _ _ _
    (fun i e k => (pay90 (y0 h t) (win_m h t 0 rfl _) (win_sp h t 0 rfl _) _ i e k).trans
      (congrArg (· + _) (ld3 (e := .f32) _ _ i e k 0 e k (by omega) (by omega) (by omega))))
    (fun i e k => (pay90 (y1 h t) (win_m h t 1 rfl _) (win_sp h t 1 rfl _) _ i e k).trans
      (congrArg (· + _) (ld3 (e := .f32) _ _ i e k 1 e k (by omega) (by omega) (by omega))))
    (fun i e k => (pay90 (y2 h t) (win_m h t 2 rfl _) (win_sp h t 2 rfl _) _ i e k).trans
      (congrArg (· + _) (ld3 (e := .f32) _ _ i e k 2 e k (by omega) (by omega) (by omega))))
    (fun i e k => (pay90 (y3 h t) (win_m h t 3 rfl _) (win_sp h t 3 rfl _) _ i e k).trans
      (congrArg (· + _) (ld3 (e := .f32) _ _ i e k 3 e k (by omega) (by omega) (by omega)))) g e j

/-- A point's part of the gradient of the pooled channels' scales. -/
def sum24 (p : Params) (T : Tokens) (t : Fin cfg0.N) (g : Fin 4) (j : Fin 128) : ℝ :=
  ∑ r, dyp p T (tok t r) g j * ypre p T (tok t r) g j

theorem out24_first (t : Fin cfg0.N) (h0 : t.val % 8 = 0) (i : Fin 1) (j : Fin 512) :
    (outsAt0 m c t.val t.isLt).2.2.2.2.2.2.2.2.2.2.1 (ix2 i j) = (0 : EReal) + ((sum24 p T t (grp j) (sub j) : ℝ) : EReal) := by
  rw [outsAt0_A m c t h0]; dsimp only; frame_open
  try simp (disch := decide) only [↓ View.readCov_skip, ↓ View.readCov_cons_toLoadRect]
  frame_out
  rw [← View.read_writes_junk_eq_canon (ms0_24 t).view]
  exact acc_row (P := fun _ _ => 0) (s := sum24 p T t) (ms0_24 t).view _ _ _ _ _ _
    (fun i e => (pay88 (y0 h t) (win_m h t 0 rfl _) (win_wp h t 0 rfl _) _ i e).trans
      (congrArg (· + _) ((fill2 (ms0_24 t).view i e i (lane 0 e) (Nat.zero_add _).symm rfl).trans (zero18 _ _))))
    (fun i e => (pay88 (y1 h t) (win_m h t 1 rfl _) (win_wp h t 1 rfl _) _ i e).trans
      (congrArg (· + _) ((fill2 (ms0_24 t).view i e i (lane 1 e) (Nat.zero_add _).symm rfl).trans (zero18 _ _))))
    (fun i e => (pay88 (y2 h t) (win_m h t 2 rfl _) (win_wp h t 2 rfl _) _ i e).trans
      (congrArg (· + _) ((fill2 (ms0_24 t).view i e i (lane 2 e) (Nat.zero_add _).symm rfl).trans (zero18 _ _))))
    (fun i e => (pay88 (y3 h t) (win_m h t 3 rfl _) (win_wp h t 3 rfl _) _ i e).trans
      (congrArg (· + _) ((fill2 (ms0_24 t).view i e i (lane 3 e) (Nat.zero_add _).symm rfl).trans (zero18 _ _)))) i j

theorem out24_next (t : Fin cfg0.N) (h0 : ¬t.val % 8 = 0) (i : Fin 1) (j : Fin 512) :
    (outsAt0 m c t.val t.isLt).2.2.2.2.2.2.2.2.2.2.1 (ix2 i j) =
      ((before m c t).2.2.2.2.2.2.2.2.2.2.1 (ix2 i j) : EReal) + ((sum24 p T t (grp j) (sub j) : ℝ) : EReal) := by
  rw [outsAt0_B m c t h0]; dsimp only; frame_open
  try simp (disch := decide) only [↓ View.readCov_skip, ↓ View.readCov_cons_toLoadRect]
  frame_out
  rw [← View.read_writes_junk_eq_canon (ms0_24 t).view]
  exact acc_row (P := fun i j => (before m c t).2.2.2.2.2.2.2.2.2.2.1 (ix2 i j)) (s := sum24 p T t) (ms0_24 t).view _ _ _ _ _ _
    (fun i e => (pay88 (y0 h t) (win_m h t 0 rfl _) (win_wp h t 0 rfl _) _ i e).trans
      (congrArg (· + _) (ld2 (e := .f32) _ _ i e i (lane 0 e) (Nat.zero_add _).symm rfl)))
    (fun i e => (pay88 (y1 h t) (win_m h t 1 rfl _) (win_wp h t 1 rfl _) _ i e).trans
      (congrArg (· + _) (ld2 (e := .f32) _ _ i e i (lane 1 e) (Nat.zero_add _).symm rfl)))
    (fun i e => (pay88 (y2 h t) (win_m h t 2 rfl _) (win_wp h t 2 rfl _) _ i e).trans
      (congrArg (· + _) (ld2 (e := .f32) _ _ i e i (lane 2 e) (Nat.zero_add _).symm rfl)))
    (fun i e => (pay88 (y3 h t) (win_m h t 3 rfl _) (win_wp h t 3 rfl _) _ i e).trans
      (congrArg (· + _) (ld2 (e := .f32) _ _ i e i (lane 3 e) (Nat.zero_add _).symm rfl))) i j

end Cert.Mix.Blocks
-- ==== Proof.MixCarry.lean ====
/- What the two buffers that are carried from a grid point to the next hold: the first 32 rows of a block's two gradients, which
   the block before it reads after its own rows. -/
module

public import proofs.«01_k».proof.Proof.MixBody
public import proofs.«01_k».proof.Proof.MixSums

@[expose] public section

set_option maxRecDepth 16384
set_option maxHeartbeats 2000000

noncomputable section

namespace Cert.Mix.Blocks

open Idealize Idealize.ShloMosaic Cert.MixKernelIdeal Cert.MixKernelIdeal.Gen Cert.Lift Cert.Spec
open Cert.Payloads (Is2)
open Idealize.ShloMosaic.TcCoe Idealize.ShloMosaic.Tactic

theorem pay142 {V : Vec Ideal S1x32x512 .f32} {f : Fin 32 → Fin 512 → ℝ} (h : Is3 V fun _ => f) :
    Is3 (k0_pay142 (F := Ideal) V) fun _ => f := by
  intro z i j
  obtain rfl := Fin.fin_one_eq_zero z
  pointwise [k0_pay142]
  exact h 0 i j

theorem pay143 {V : Vec Ideal S32x512 .f32} {f : Fin 32 → Fin 512 → ℝ} (h : Is2 V f) : Is2 (k0_pay143 (F := Ideal) V) f := by
  intro i j
  pointwise [k0_pay143]
  exact h i j

/-- The zeros the first point puts into the carried buffers. -/
abbrev fill0 : List (View.Piece (Elt Ideal) (⟨3, ![8, 544, 512]⟩ : Shape) .f32) :=
  [⟨Rect.unit (s := ⟨3, ![8, 544, 512]⟩) ![0, 0, 0] ![8, 544, 512] inb_S8x544x512_S8x544x512_0_0_0, k0_pay1 (F := Ideal)⟩]
abbrev fill1 : List (View.Piece (Elt Ideal) (⟨2, ![544, 512]⟩ : Shape) .f32) :=
  [⟨Rect.unit (s := ⟨2, ![544, 512]⟩) ![512, 0] ![32, 512] inb_S544x512_S32x512_512_0, k0_pay2 (F := Ideal)⟩]

theorem zero1 (i : Fin 8) (j : Fin 544) (k : Fin 512) : k0_pay1 (F := Ideal) (ix3 i j k) = 0 := by pointwise [k0_pay1]
theorem zero2 (i : Fin 32) (j : Fin 512) : k0_pay2 (F := Ideal) (ix2 i j) = 0 := by pointwise [k0_pay2]

section
variable (p : Params) (T : Tokens) (t : Fin cfg0.N)

theorem Dv_end (h0 : t.val % 8 = 0) {r : ℕ} (hr : 512 ≤ r) (j : Fin 512) : Dv p T t r j = 0 := by
  have := lt8 t
  rw [Dv, dvx, ext, dif_neg (by unfold blkOf; omega)]

theorem Dq_end (h0 : t.val % 8 = 0) {r : ℕ} (hr : 512 ≤ r) (j : Fin 512) : Dq p T t r j = 0 := by
  have := lt8 t
  rw [Dq, dqx, ext, dif_neg (by unfold blkOf; omega)]
end

variable {m : (ℓ : Loc nD τ sig) → Buf (Elt Ideal) ℓ} {c : Dev nD} {p : Params} {T : Tokens} (h : Args m c p T)
include h

theorem carry0 (t : Fin cfg0.N) (r : Fin 544) (hr : 512 ≤ r.val) (j : Fin 512) :
    (outsAt0 m c t.val t.isLt).2.2.2.2.2.2.2.2.2.2.2.1 (ix3 0 r j) = ((Dv p T t (r.val - 512) j : ℝ) : EReal) := by
  by_cases h0 : t.val % 8 = 0
  · rw [outsAt0_A m c t h0]; dsimp only; frame_open
    try simp (disch := decide) only [↓ View.readCov_skip, ↓ View.readCov_cons_toLoadRect]
    frame_out
    rw [← View.read_writes_junk_eq_canon S0]
    refine (store3_in S0 _ _ _ _ 0 r j 0 ⟨r.val - 512, by omega⟩ j rfl (by show r.val = 512 + (r.val - 512); omega) (Nat.zero_add _).symm).trans ?_
    refine (pay142 (copy_cov (D := Dv p T t) _ (fun z i k => (val35 h t z i k).trans (congrArg (fun n => ((Dv p T t n k : ℝ) : EReal)) (Nat.zero_add _).symm)) (by omega) _ _) _ _ _).trans ?_
    simp only [Nat.zero_add]
  · rw [outsAt0_B m c t h0]; dsimp only; frame_open
    try simp (disch := decide) only [↓ View.readCov_skip, ↓ View.readCov_cons_toLoadRect]
    frame_out
    refine (store3_in S0 _ _ _ _ 0 r j 0 ⟨r.val - 512, by omega⟩ j rfl (by show r.val = 512 + (r.val - 512); omega) (Nat.zero_add _).symm).trans ?_
    refine (pay142 (copy_cov (D := Dv p T t) _ (fun z i k => (val35 h t z i k).trans (congrArg (fun n => ((Dv p T t n k : ℝ) : EReal)) (Nat.zero_add _).symm)) (by omega) _ _) _ _ _).trans ?_
    simp only [Nat.zero_add]

theorem carry1 (t : Fin cfg0.N) (r : Fin 544) (hr : 512 ≤ r.val) (j : Fin 512) :
    (outsAt0 m c t.val t.isLt).2.2.2.2.2.2.2.2.2.2.2.2 (ix2 r j) = ((Dq p T t (r.val - 512) j : ℝ) : EReal) := by
  by_cases h0 : t.val % 8 = 0
  · rw [outsAt0_A m c t h0]; dsimp only; frame_open
    try simp (disch := decide) only [↓ View.readCov_skip, ↓ View.readCov_cons_toLoadRect]
    frame_out
    rw [← View.read_writes_junk_eq_canon S1]
    refine (store2_in S1 _ _ _ _ r j ⟨r.val - 512, by omega⟩ j (by show r.val = 512 + (r.val - 512); omega) (Nat.zero_add _).symm).trans ?_
    exact pay143 (f := fun i k => Dq p T t i.val k) (fun i k => (load2 S1 _ _ i k (⟨i.val, by omega⟩ : Fin 544) k (Nat.zero_add _).symm (Nat.zero_add _).symm).trans
      (quarters_own (z0 h t) (z1 h t) (z2 h t) (z3 h t) (⟨i.val, by omega⟩ : Fin 544) (by show i.val < 512; omega) k)) _ _
  · rw [outsAt0_B m c t h0]; dsimp only; frame_open
    try simp (disch := decide) only [↓ View.readCov_skip, ↓ View.readCov_cons_toLoadRect]
    frame_out
    rw [← View.read_writes_junk_eq_canon S1]
    refine (store2_in S1 _ inb_S544x512_S32x512_512_0 _ _ r j ⟨r.val - 512, by omega⟩ j (by show r.val = 512 + (r.val - 512); omega) (Nat.zero_add _).symm).trans ?_
    exact pay143 (f := fun i k => Dq p T t i.val k) (fun i k => (load2 S1 _ _ i k (⟨i.val, by omega⟩ : Fin 544) k (Nat.zero_add _).symm (Nat.zero_add _).symm).trans
      (quarters_own (z0 h t) (z1 h t) (z2 h t) (z3 h t) (⟨i.val, by omega⟩ : Fin 544) (by show i.val < 512; omega) k)) _ _

/-! The rows after a block's own ones, when a point starts. -/

omit h in
theorem start0_first (t : Fin cfg0.N) (h0 : t.val % 8 = 0) (r : Fin 544) (hr : 512 ≤ r.val) (j : Fin 512) :
    S0.read (Elt Ideal) (S0.writes (Elt Ideal) S0.junk fill0) (ix3 0 r j) = ((Dv p T t r.val j : ℝ) : EReal) :=
  (store3_in S0 _ inb_S8x544x512_S8x544x512_0_0_0 _ _ 0 r j 0 r j rfl (Nat.zero_add _).symm (Nat.zero_add _).symm).trans
    ((zero1 0 r j).trans (congrArg (fun x : ℝ => (x : EReal)) (Dv_end p T t h0 hr j).symm))

omit h in
theorem start1_first (t : Fin cfg0.N) (h0 : t.val % 8 = 0) (r : Fin 544) (hr : 512 ≤ r.val) (j : Fin 512) :
    S1.read (Elt Ideal) (S1.writes (Elt Ideal) S1.junk fill1) (ix2 r j) = ((Dq p T t r.val j : ℝ) : EReal) :=
  (store2_in S1 _ _ _ _ r j ⟨r.val - 512, by omega⟩ j (by show r.val = 512 + (r.val - 512); omega) (Nat.zero_add _).symm).trans
    ((zero2 _ j).trans (congrArg (fun x : ℝ => (x : EReal)) (Dq_end p T t h0 hr j).symm))

/-- What the carried buffers hold when a later point starts. -/
abbrev kept0 (m : (ℓ : Loc nD τ sig) → Buf (Elt Ideal) ℓ) (c : Dev nD) (t : Fin cfg0.N) : (S0).ty.Contents (Elt Ideal) :=
  (Memref.isWhole_whole cc0_scratch0).unread (before m c t).2.2.2.2.2.2.2.2.2.2.2.1
abbrev kept1 (m : (ℓ : Loc nD τ sig) → Buf (Elt Ideal) ℓ) (c : Dev nD) (t : Fin cfg0.N) : (S1).ty.Contents (Elt Ideal) :=
  (Memref.isWhole_whole cc0_scratch1).unread (before m c t).2.2.2.2.2.2.2.2.2.2.2.2

theorem start0_next (t : Fin cfg0.N) (h0 : ¬t.val % 8 = 0) (r : Fin 544) (hr : 512 ≤ r.val) (j : Fin 512) :
    S0.read (Elt Ideal) (S0.writes (Elt Ideal) (kept0 m c t) []) (ix3 0 r j) = ((Dv p T t r.val j : ℝ) : EReal) := by
  refine (congrFun ((Memref.isWhole_whole cc0_scratch0).read_unread _) (ix3 0 r j)).trans ?_
  refine (carry0 h ⟨t.val - 1, Nat.lt_of_le_of_lt (Nat.sub_le _ _) t.isLt⟩ r hr j).trans (congrArg (fun n => ((dvx p T n j : ℝ) : EReal)) ?_)
  have := lt8 t
  unfold blkOf
  dsimp only
  omega

theorem start1_next (t : Fin cfg0.N) (h0 : ¬t.val % 8 = 0) (r : Fin 544) (hr : 512 ≤ r.val) (j : Fin 512) :
    S1.read (Elt Ideal) (S1.writes (Elt Ideal) (kept1 m c t) []) (ix2 r j) = ((Dq p T t r.val j : ℝ) : EReal) := by
  refine (congrFun ((Memref.isWhole_whole cc0_scratch1).read_unread _) (ix2 r j)).trans ?_
  refine (carry1 h ⟨t.val - 1, Nat.lt_of_le_of_lt (Nat.sub_le _ _) t.isLt⟩ r hr j).trans
    (congrArg (fun n => ((dqx p T n (grp j) (sub j) : ℝ) : EReal)) ?_)
  have := lt8 t
  unfold blkOf
  dsimp only
  omega

end Cert.Mix.Blocks
-- ==== Proof.MixCols.lean ====
/- The results of the backward pass that are read from what the body stores: the gradient of the input projection's columns and
   of its bias, of the block's input, and of the norm's scale. -/
module

public import proofs.«01_k».proof.Proof.MixCarry

@[expose] public section

set_option maxRecDepth 16384
set_option maxHeartbeats 2000000

noncomputable section

namespace Cert.Mix.Blocks

open Idealize Idealize.ShloMosaic Cert.MixKernelIdeal Cert.MixKernelIdeal.Gen Cert.Lift Cert.Spec
open Cert.Payloads (Is2)
open Idealize.ShloMosaic.TcCoe Idealize.ShloMosaic.Tactic

/-! Columns stored in six pieces. -/

theorem six_cols {sig : RefSig} {κ : Kind} {sp : Space} {n : ℕ} {e : EltTy} (A : View sig κ sp (⟨2, ![n, 1536]⟩ : Shape) e)
    (f : A.ty.Contents (Elt Ideal)) (L : List (View.Piece (Elt Ideal) (⟨2, ![n, 1536]⟩ : Shape) e)) {G : Fin n → Fin 1536 → Elt Ideal e}
    {v0 v1 : (⟨2, ![n, 512]⟩ : Shape).Idx → Elt Ideal e} {v2 v3 v4 v5 : (⟨2, ![n, 128]⟩ : Shape).Idx → Elt Ideal e}
    (i0 : ∀ k : Fin 2, (![0, 0] : Fin 2 → ℕ) k + (![n, 512] : Fin 2 → ℕ) k ≤ (⟨2, ![n, 1536]⟩ : Shape).size k)
    (i1 : ∀ k : Fin 2, (![0, 512] : Fin 2 → ℕ) k + (![n, 512] : Fin 2 → ℕ) k ≤ (⟨2, ![n, 1536]⟩ : Shape).size k)
    (i2 : ∀ k : Fin 2, (![0, 1024] : Fin 2 → ℕ) k + (![n, 128] : Fin 2 → ℕ) k ≤ (⟨2, ![n, 1536]⟩ : Shape).size k)
    (i3 : ∀ k : Fin 2, (![0, 1152] : Fin 2 → ℕ) k + (![n, 128] : Fin 2 → ℕ) k ≤ (⟨2, ![n, 1536]⟩ : Shape).size k)
    (i4 : ∀ k : Fin 2, (![0, 1280] : Fin 2 → ℕ) k + (![n, 128] : Fin 2 → ℕ) k ≤ (⟨2, ![n, 1536]⟩ : Shape).size k)
    (i5 : ∀ k : Fin 2, (![0, 1408] : Fin 2 → ℕ) k + (![n, 128] : Fin 2 → ℕ) k ≤ (⟨2, ![n, 1536]⟩ : Shape).size k)
    (h0 : ∀ i (j : Fin 512), v0 (ix2 i j) = G i ⟨j.val, by omega⟩) (h1 : ∀ i (j : Fin 512), v1 (ix2 i j) = G i ⟨512 + j.val, by omega⟩)
    (h2 : ∀ i (j : Fin 128), v2 (ix2 i j) = G i ⟨1024 + j.val, by omega⟩) (h3 : ∀ i (j : Fin 128), v3 (ix2 i j) = G i ⟨1152 + j.val, by omega⟩)
    (h4 : ∀ i (j : Fin 128), v4 (ix2 i j) = G i ⟨1280 + j.val, by omega⟩) (h5 : ∀ i (j : Fin 128), v5 (ix2 i j) = G i ⟨1408 + j.val, by omega⟩)
    (i : Fin n) (j : Fin 1536) :
    A.read (Elt Ideal) (A.writes (Elt Ideal) f (⟨Rect.unit (s := ⟨2, ![n, 1536]⟩) ![0, 1408] ![n, 128] i5, v5⟩ ::
      ⟨Rect.unit (s := ⟨2, ![n, 1536]⟩) ![0, 1280] ![n, 128] i4, v4⟩ :: ⟨Rect.unit (s := ⟨2, ![n, 1536]⟩) ![0, 1152] ![n, 128] i3, v3⟩ ::
      ⟨Rect.unit (s := ⟨2, ![n, 1536]⟩) ![0, 1024] ![n, 128] i2, v2⟩ :: ⟨Rect.unit (s := ⟨2, ![n, 1536]⟩) ![0, 512] ![n, 512] i1, v1⟩ ::
      ⟨Rect.unit (s := ⟨2, ![n, 1536]⟩) ![0, 0] ![n, 512] i0, v0⟩ :: L)) (ix2 i j) = G i j := by
  have z := (Nat.zero_add i.val).symm
  by_cases c5 : 1408 ≤ j.val
  · exact (store2_in A f i5 v5 _ i j i ⟨j.val - 1408, by omega⟩ z (by show j.val = 1408 + (j.val - 1408); omega)).trans
      ((h5 _ _).trans (congrArg (G i) (Fin.ext (by show 1408 + (j.val - 1408) = j.val; omega))))
  refine (store2_out A f i5 v5 _ i j (.inr (.inl (by omega)))).trans ?_
  by_cases c4 : 1280 ≤ j.val
  · exact (store2_in A f i4 v4 _ i j i ⟨j.val - 1280, by omega⟩ z (by show j.val = 1280 + (j.val - 1280); omega)).trans
      ((h4 _ _).trans (congrArg (G i) (Fin.ext (by show 1280 + (j.val - 1280) = j.val; omega))))
  refine (store2_out A f i4 v4 _ i j (.inr (.inl (by omega)))).trans ?_
  by_cases c3 : 1152 ≤ j.val
  · exact (store2_in A f i3 v3 _ i j i ⟨j.val - 1152, by omega⟩ z (by show j.val = 1152 + (j.val - 1152); omega)).trans
      ((h3 _ _).trans (congrArg (G i) (Fin.ext (by show 1152 + (j.val - 1152) = j.val; omega))))
  refine (store2_out A f i3 v3 _ i j (.inr (.inl (by omega)))).trans ?_
  by_cases c2 : 1024 ≤ j.val
  · exact (store2_in A f i2 v2 _ i j i ⟨j.val - 1024, by omega⟩ z (by show j.val = 1024 + (j.val - 1024); omega)).trans
      ((h2 _ _).trans (congrArg (G i) (Fin.ext (by show 1024 + (j.val - 1024) = j.val; omega))))
  refine (store2_out A f i2 v2 _ i j (.inr (.inl (by omega)))).trans ?_
  by_cases c1 : 512 ≤ j.val
  · exact (store2_in A f i1 v1 _ i j i ⟨j.val - 512, by omega⟩ z (by show j.val = 512 + (j.val - 512); omega)).trans
      ((h1 _ _).trans (congrArg (G i) (Fin.ext (by show 512 + (j.val - 512) = j.val; omega))))
  refine (store2_out A f i1 v1 _ i j (.inr (.inl (by omega)))).trans ?_
  exact (store2_in A f i0 v0 _ i j i ⟨j.val, by omega⟩ z (Nat.zero_add _).symm).trans (h0 _ _)

/-! Which column holds what. -/

section
variable (p : Params) (T : Tokens) (s : Fin 4096)

theorem dz_a (j : Fin 512) : dz p T s ⟨j.val, by omega⟩ = da p T s j := by
  rw [dz, dif_pos (show j.val < 512 from j.isLt)]

theorem dz_gate (j : Fin 512) : dz p T s ⟨512 + j.val, by omega⟩ = dgate p T s j := by
  rw [dz, dif_neg (by show ¬(512 + j.val < 512); omega), dif_pos (by show 512 + j.val < 1024; omega)]
  exact congrArg _ (Fin.ext (by show 512 + j.val - 512 = j.val; omega))

theorem dz_pool {k : ℕ} (g : Fin 4) (hk : k = 1024 + 128 * g.val) (j : Fin 128) : dz p T s ⟨k + j.val, by omega⟩ = dp p T s g j := by
  subst hk
  rw [dz, dif_neg (by show ¬(1024 + 128 * g.val + j.val < 512); omega), dif_neg (by show ¬(1024 + 128 * g.val + j.val < 1024); omega)]
  congr 1
  · exact Fin.ext (by show (1024 + 128 * g.val + j.val - 1024) / 128 = g.val; omega)
  · exact Fin.ext (by show (1024 + 128 * g.val + j.val - 1024) % 128 = j.val; omega)
end

section
variable (m : (ℓ : Loc nD τ sig) → Buf (Elt Ideal) ℓ) (c : Dev nD) (t : Fin cfg0.N)
  (f : (S0).ty.Contents (Elt Ideal)) (L : List (View.Piece (Elt Ideal) (⟨3, ![8, 544, 512]⟩ : Shape) .f32))
  (f' : (S1).ty.Contents (Elt Ideal)) (L' : List (View.Piece (Elt Ideal) (⟨2, ![544, 512]⟩ : Shape) .f32))

/-- The columns of the input projection's gradient, as they are stored. -/
abbrev cols : List (View.Piece (Elt Ideal) (⟨2, ![512, 1536]⟩ : Shape) .bf16) :=
  [⟨Rect.unit (s := ⟨2, ![512, 1536]⟩) ![0, 1408] ![512, 128] inb_S512x1536_S512x128_0_1408, k0_pay134 (F := Ideal) (R3 m c t f' L') (E3 m c t)⟩,
    ⟨Rect.unit (s := ⟨2, ![512, 1536]⟩) ![0, 1280] ![512, 128] inb_S512x1536_S512x128_0_1280, k0_pay131 (F := Ideal) (R2 m c t f' L') (E2 m c t)⟩,
    ⟨Rect.unit (s := ⟨2, ![512, 1536]⟩) ![0, 1152] ![512, 128] inb_S512x1536_S512x128_0_1152, k0_pay128 (F := Ideal) (R1 m c t f' L') (E1 m c t)⟩,
    ⟨Rect.unit (s := ⟨2, ![512, 1536]⟩) ![0, 1024] ![512, 128] inb_S512x1536_S512x128_0_1024, k0_pay123 (F := Ideal) (R0 m c t f' L') (E0 m c t)⟩,
    ⟨Rect.unit (s := ⟨2, ![512, 1536]⟩) ![0, 512] ![512, 512] inb_S512x1536_S512x512_0_512,
      k0_pay83 (F := Ideal) (iblk m c 2 t) (k0_pay43 (iblk m c 3 t)) (DU m c t f L)⟩,
    ⟨Rect.unit (s := ⟨2, ![512, 1536]⟩) ![0, 0] ![512, 512] inb_S512x1536_S512x512_0_0,
      k0_pay82 (F := Ideal) (k0_pay43 (iblk m c 3 t)) (DU m c t f L)⟩]

/-- The sums of the columns, added to earlier ones. -/
abbrev colSums (q0 q1 : Vec Ideal S1x512 .f32) (q2 q3 q4 q5 : Vec Ideal S1x128 .f32) (K : List (View.Piece (Elt Ideal) (⟨2, ![1, 1536]⟩ : Shape) .f32)) :
    List (View.Piece (Elt Ideal) (⟨2, ![1, 1536]⟩ : Shape) .f32) :=
  ⟨Rect.unit (s := ⟨2, ![1, 1536]⟩) ![0, 1408] ![1, 128] inb_S1x1536_S1x128_0_1408, k0_pay135 (F := Ideal) (R3 m c t f' L') (E3 m c t) q5⟩ ::
    ⟨Rect.unit (s := ⟨2, ![1, 1536]⟩) ![0, 1280] ![1, 128] inb_S1x1536_S1x128_0_1280, k0_pay132 (F := Ideal) (R2 m c t f' L') (E2 m c t) q4⟩ ::
    ⟨Rect.unit (s := ⟨2, ![1, 1536]⟩) ![0, 1152] ![1, 128] inb_S1x1536_S1x128_0_1152, k0_pay129 (F := Ideal) (R1 m c t f' L') (E1 m c t) q3⟩ ::
    ⟨Rect.unit (s := ⟨2, ![1, 1536]⟩) ![0, 1024] ![1, 128] inb_S1x1536_S1x128_0_1024,
      k0_pay126 (F := Ideal) (k0_pay124 q2) (k0_pay125 (R0 m c t f' L') (E0 m c t))⟩ ::
    ⟨Rect.unit (s := ⟨2, ![1, 1536]⟩) ![0, 512] ![1, 512] inb_S1x1536_S1x512_0_512,
      k0_pay85 (F := Ideal) (iblk m c 2 t) (k0_pay43 (iblk m c 3 t)) (DU m c t f L) q1⟩ ::
    ⟨Rect.unit (s := ⟨2, ![1, 1536]⟩) ![0, 0] ![1, 512] inb_S1x1536_S1x512_0_0,
      k0_pay84 (F := Ideal) (k0_pay43 (iblk m c 3 t)) (DU m c t f L) q0⟩ :: K

variable {p : Params} {T : Tokens} (h : Args m c p T)
  (hc : ∀ (r : Fin 544), 512 ≤ r.val → ∀ j : Fin 512,
    S0.read (Elt Ideal) (S0.writes (Elt Ideal) f L) (ix3 0 r j) = ((Dv p T t r.val j : ℝ) : EReal))
  (hc' : ∀ (r : Fin 544), 512 ≤ r.val → ∀ j : Fin 512,
    S1.read (Elt Ideal) (S1.writes (Elt Ideal) f' L') (ix2 r j) = ((Dq p T t r.val j : ℝ) : EReal))

/-- A window's sum less the gradient itself, over a block's own tokens. -/
theorem own_pool (g : Fin 4) (r : Fin 512) (e : Fin 128) :
    ∑ i ∈ Finset.range (2 ^ (g.val + 1)), Dq p T t (r.val + i) (lane g e) - dm p T (tok t r) g e = dp p T (tok t r) g e := by
  unfold dp
  refine congrArg (· - _) (Finset.sum_congr rfl fun i _ => ?_)
  rw [Dq, grp_lane, sub_lane, ← Nat.add_assoc]
  rfl

include h hc hc'

theorem cols_val {sig' : RefSig} {κ : Kind} {sp : Space} (A : View sig' κ sp (⟨2, ![512, 1536]⟩ : Shape) .bf16) (X : A.ty.Contents (Elt Ideal)) (i : Fin 512) (j : Fin 1536) :
    A.read (Elt Ideal) (A.writes (Elt Ideal) X (cols m c t f L f' L')) (ix2 i j) = ((dz p T (tok t i) j : ℝ) : EReal) := by
  have hu := du_at m c t f L h hc
  have w := windows_at m c t f' L' h hc'
  have gg := pay43 (read3 h t)
  exact six_cols (e := .bf16) (G := fun i j => ((dz p T (tok t i) j : ℝ) : EReal)) A X [] _ _ _ _ _ _
    (fun i j => (pay82 gg hu i j).trans (congrArg (fun x : ℝ => (x : EReal)) (dz_a p T _ j).symm))
    (fun i j => (pay83 (read2 h t) gg hu i j).trans (congrArg (fun x : ℝ => (x : EReal)) (dz_gate p T _ j).symm))
    (fun i j => (pay123 w.q0 (d0 h t) i j).trans (congrArg (fun x : ℝ => (x : EReal)) ((own_pool t 0 i j).trans (dz_pool p T _ 0 rfl j).symm)))
    (fun i j => (pay128 w.q1 (d1 h t) i j).trans (congrArg (fun x : ℝ => (x : EReal)) ((own_pool t 1 i j).trans (dz_pool p T _ 1 rfl j).symm)))
    (fun i j => (pay131 w.q2 (d2 h t) i j).trans (congrArg (fun x : ℝ => (x : EReal)) ((own_pool t 2 i j).trans (dz_pool p T _ 2 rfl j).symm)))
    (fun i j => (pay134 w.q3 (d3 h t) i j).trans (congrArg (fun x : ℝ => (x : EReal)) ((own_pool t 3 i j).trans (dz_pool p T _ 3 rfl j).symm)))
    i j

theorem colSums_val {sig' : RefSig} {κ : Kind} {sp : Space} (A : View sig' κ sp (⟨2, ![1, 1536]⟩ : Shape) .f32) (X : A.ty.Contents (Elt Ideal))
    (K : List (View.Piece (Elt Ideal) (⟨2, ![1, 1536]⟩ : Shape) .f32)) {q0 q1 : Vec Ideal S1x512 .f32} {q2 q3 q4 q5 : Vec Ideal S1x128 .f32} {P : Fin 1 → Fin 1536 → EReal}
    (h0 : ∀ i (j : Fin 512), q0 (ix2 i j) = P i ⟨j.val, by omega⟩) (h1 : ∀ i (j : Fin 512), q1 (ix2 i j) = P i ⟨512 + j.val, by omega⟩)
    (h2 : ∀ i (j : Fin 128), q2 (ix2 i j) = P i ⟨1024 + j.val, by omega⟩) (h3 : ∀ i (j : Fin 128), q3 (ix2 i j) = P i ⟨1152 + j.val, by omega⟩)
    (h4 : ∀ i (j : Fin 128), q4 (ix2 i j) = P i ⟨1280 + j.val, by omega⟩) (h5 : ∀ i (j : Fin 128), q5 (ix2 i j) = P i ⟨1408 + j.val, by omega⟩)
    (i : Fin 1) (j : Fin 1536) :
    A.read (Elt Ideal) (A.writes (Elt Ideal) X (colSums m c t f L f' L' q0 q1 q2 q3 q4 q5 K)) (ix2 i j) =
      P i j + ((∑ r, dz p T (tok t r) j : ℝ) : EReal) := by
  have hu := du_at m c t f L h hc
  have w := windows_at m c t f' L' h hc'
  have gg := pay43 (read3 h t)
  have add : ∀ {a b : EReal} {x y : Fin 512 → ℝ}, a = b → (∀ r, x r = y r) → a + ((∑ r, x r : ℝ) : EReal) = b + ((∑ r, y r : ℝ) : EReal) :=
    fun e e' => by rw [e, Finset.sum_congr rfl fun r _ => e' r]
  exact six_cols (e := .f32) (G := fun i j => (P i j + ((∑ r, dz p T (tok t r) j : ℝ) : EReal) : EReal)) A X K _ _ _ _ _ _
    (fun i j => (pay84 gg hu q0 i j).trans (add (h0 i j) fun r => (dz_a p T _ j).symm))
    (fun i j => (pay85 (read2 h t) gg hu q1 i j).trans (add (h1 i j) fun r => (dz_gate p T _ j).symm))
    (fun i j => (pay126 w.q0 (d0 h t) q2 i j).trans (add (h2 i j) fun r => (own_pool t 0 r j).trans (dz_pool p T _ 0 rfl j).symm))
    (fun i j => (pay129 w.q1 (d1 h t) q3 i j).trans (add (h3 i j) fun r => (own_pool t 1 r j).trans (dz_pool p T _ 1 rfl j).symm))
    (fun i j => (pay132 w.q2 (d2 h t) q4 i j).trans (add (h4 i j) fun r => (own_pool t 2 r j).trans (dz_pool p T _ 2 rfl j).symm))
    (fun i j => (pay135 w.q3 (d3 h t) q5 i j).trans (add (h5 i j) fun r => (own_pool t 3 r j).trans (dz_pool p T _ 3 rfl j).symm))
    i j
end

/-- A load from a carried buffer at the first point, as a load from what the stores before it leave. -/
theorem cov0 (L : List (View.Piece (Elt Ideal) cc0_scratch0.ty.shape cc0_scratch0.ty.elt)) (R : LoadRect cc0_scratch0.ty.shape) :
    (View.whole cc0_scratch0).readCov L R =
      (View.whole cc0_scratch0).readAt (Elt Ideal) R ((View.whole cc0_scratch0).writes (Elt Ideal) (View.whole cc0_scratch0).junk L) := rfl
theorem cov1 (L : List (View.Piece (Elt Ideal) cc0_scratch1.ty.shape cc0_scratch1.ty.elt)) (R : LoadRect cc0_scratch1.ty.shape) :
    (View.whole cc0_scratch1).readCov L R =
      (View.whole cc0_scratch1).readAt (Elt Ideal) R ((View.whole cc0_scratch1).writes (Elt Ideal) (View.whole cc0_scratch1).junk L) := rfl

/-- The columns, loaded back. -/
abbrev again (m : (ℓ : Loc nD τ sig) → Buf (Elt Ideal) ℓ) (c : Dev nD) (t : Fin cfg0.N) (f : (S0).ty.Contents (Elt Ideal))
    (L : List (View.Piece (Elt Ideal) (⟨3, ![8, 544, 512]⟩ : Shape) .f32)) (f' : (S1).ty.Contents (Elt Ideal))
    (L' : List (View.Piece (Elt Ideal) (⟨2, ![544, 512]⟩ : Shape) .f32)) : Vec Ideal S512x1536 .bf16 :=
  (ms0_15 t).view.readCov (Val := Elt Ideal) (cols m c t f L f' L')
    (Rect.unit (s := ⟨2, ![512, 1536]⟩) ![0, 0] ![512, 1536] inb_S512x1536_S512x1536_0_0).toLoadRect

/-- A part of the earlier sums, as it is loaded. -/
abbrev part18 (m : (ℓ : Loc nD τ sig) → Buf (Elt Ideal) ℓ) (c : Dev nD) (t : Fin cfg0.N) (o n : ℕ)
    (inb : ∀ k : Fin 2, (![0, o] : Fin 2 → ℕ) k + (![1, n] : Fin 2 → ℕ) k ≤ (⟨2, ![1, 1536]⟩ : Shape).size k) : (⟨2, ![1, n]⟩ : Shape).Idx → Elt Ideal .f32 :=
  View.ld (Val := Elt Ideal) (S := S1x1536) (e' := .f32) (before m c t).2.2.2.2.1 (Rect.unit (s := ⟨2, ![1, 1536]⟩) ![0, o] ![1, n] inb)
/-- The same at the first point. -/
abbrev none18 (t : Fin cfg0.N) (o n : ℕ)
    (inb : ∀ k : Fin 2, (![0, o] : Fin 2 → ℕ) k + (![1, n] : Fin 2 → ℕ) k ≤ (⟨2, ![1, 1536]⟩ : Shape).size k) : (⟨2, ![1, n]⟩ : Shape).Idx → Elt Ideal .f32 :=
  (ms0_18 t).view.readCov (Val := Elt Ideal) [⟨Rect.unit (s := ⟨2, ![1, 1536]⟩) ![0, 0] ![1, 1536] inb_S1x1536_S1x1536_0_0, k0_pay4 (F := Ideal)⟩]
    (Rect.unit (s := ⟨2, ![1, 1536]⟩) ![0, o] ![1, n] inb).toLoadRect

end Cert.Mix.Blocks
-- ==== Proof.MixOut.lean ====
/- The results of the backward pass that are read from what the body stores: the gradient of the input projection's columns and
   of its bias, of the block's input, and of the norm's scale. -/
module

public import proofs.«01_k».proof.Proof.MixCols

@[expose] public section

set_option maxRecDepth 16384
set_option maxHeartbeats 2000000

noncomputable section

namespace Cert.Mix.Blocks

open Idealize Idealize.ShloMosaic Cert.MixKernelIdeal Cert.MixKernelIdeal.Gen Cert.Lift Cert.Spec
open Cert.Payloads (Is2)
open Idealize.ShloMosaic.TcCoe Idealize.ShloMosaic.Tactic

variable {m : (ℓ : Loc nD τ sig) → Buf (Elt Ideal) ℓ} {c : Dev nD}

/-- The results read from the scratch buffers, at the first point of a device. Each value the body stores is named in turn. -/
theorem left_first (t : Fin cfg0.N) (h0 : t.val % 8 = 0) :
    (outsAt0 m c t.val t.isLt).1 = k0_pay141 (F := Ideal) (iblk m c 0 t) (k0_pay136 (again m c t S0.junk fill0 S1.junk fill1) (iblk m c 7 t))
      (k0_pay137 (iblk m c 1 t)) (k0_pay138 (iblk m c 1 t)) (k0_pay140 (iblk m c 6 t)) ∧
    (outsAt0 m c t.val t.isLt).2.1 = View.canon (cols m c t S0.junk fill0 S1.junk fill1) ∧
    (outsAt0 m c t.val t.isLt).2.2.2.1 = k0_pay139 (F := Ideal) (again m c t S0.junk fill0 S1.junk fill1) (iblk m c 7 t) (iblk m c 1 t) (k0_pay3 (F := Ideal)) ∧
    (outsAt0 m c t.val t.isLt).2.2.2.2.1 = View.canon (colSums m c t S0.junk fill0 S1.junk fill1
      (none18 t 0 512 inb_S1x1536_S1x512_0_0) (none18 t 512 512 inb_S1x1536_S1x512_0_512) (none18 t 1024 128 inb_S1x1536_S1x128_0_1024) (none18 t 1152 128 inb_S1x1536_S1x128_0_1152) (none18 t 1280 128 inb_S1x1536_S1x128_0_1280) (none18 t 1408 128 inb_S1x1536_S1x128_0_1408)
      [⟨Rect.unit (s := ⟨2, ![1, 1536]⟩) ![0, 0] ![1, 1536] inb_S1x1536_S1x1536_0_0, k0_pay4 (F := Ideal)⟩]) := by
  refine ⟨?_, ?_, ?_, ?_⟩
  all_goals
    rw [outsAt0_A m c t h0]; dsimp only; frame_open
    frame_out
    generalize hw : k0_pay35 (F := Ideal) _ = w
    obtain rfl : W0 m c t = w := hw
    generalize hw : k0_pay36 (F := Ideal) _ = w
    obtain rfl : W1 m c t S0.junk fill0 = w := hw
    generalize hw : k0_pay37 (F := Ideal) _ = w
    obtain rfl : W2 m c t S0.junk fill0 = w := hw
    generalize hw : k0_pay38 (F := Ideal) _ = w
    obtain rfl : W3 m c t S0.junk fill0 = w := hw
    generalize hw : k0_pay39 (F := Ideal) _ = w
    obtain rfl : W4 m c t S0.junk fill0 = w := hw
    generalize hw : k0_pay40 (F := Ideal) _ = w
    obtain rfl : W5 m c t S0.junk fill0 = w := hw
    generalize hw : k0_pay41 (F := Ideal) _ = w
    obtain rfl : W6 m c t S0.junk fill0 = w := hw
    generalize hw : k0_pay42 (F := Ideal) _ = w
    obtain rfl : W7 m c t S0.junk fill0 = w := hw
    generalize hw : k0_pay93 (F := Ideal) _ = w
    obtain rfl : Z0 m c t = w := hw
    generalize hw : k0_pay100 (F := Ideal) _ _ _ = w
    obtain rfl : Z1 m c t = w := hw
    generalize hw : k0_pay108 (F := Ideal) _ _ _ = w
    obtain rfl : Z2 m c t = w := hw
    generalize hw : k0_pay115 (F := Ideal) _ _ _ _ = w
    obtain rfl : Z3 m c t = w := hw
    generalize hw : k0_pay94 (F := Ideal) _ = w
    obtain rfl : E0 m c t = w := hw
    generalize hw : k0_pay101 (F := Ideal) _ _ = w
    obtain rfl : E1 m c t = w := hw
    generalize hw : k0_pay109 (F := Ideal) _ _ = w
    obtain rfl : E2 m c t = w := hw
    generalize hw : k0_pay116 (F := Ideal) _ _ _ = w
    obtain rfl : E3 m c t = w := hw
    generalize hw : k0_pay118 (F := Ideal) _ = w
    obtain rfl : SA m c t S1.junk fill1 = w := hw
    generalize hw : k0_pay119 (F := Ideal) _ _ = w
    obtain rfl : SB m c t S1.junk fill1 = w := hw
    generalize hw : k0_pay120 (F := Ideal) _ _ = w
    obtain rfl : SC m c t S1.junk fill1 = w := hw
    try simp (disch := decide) only [↓ View.readCov_skip, ↓ View.readCov_cons_toLoadRect]
    rfl

theorem left15_next (t : Fin cfg0.N) (h0 : ¬t.val % 8 = 0) :
    (outsAt0 m c t.val t.isLt).2.1 = View.canon (cols m c t (kept0 m c t) [] (kept1 m c t) []) := by
  rw [outsAt0_B m c t h0]; dsimp only; frame_open
  try simp (disch := decide) only [↓ View.readCov_skip, ↓ View.readCov_cons_toLoadRect]
  frame_out
  rfl

theorem left14_next (t : Fin cfg0.N) (h0 : ¬t.val % 8 = 0) :
    (outsAt0 m c t.val t.isLt).1 = k0_pay141 (F := Ideal) (iblk m c 0 t) (k0_pay136 (again m c t (kept0 m c t) [] (kept1 m c t) []) (iblk m c 7 t))
      (k0_pay137 (iblk m c 1 t)) (k0_pay138 (iblk m c 1 t)) (k0_pay140 (iblk m c 6 t)) := by
  rw [outsAt0_B m c t h0]; dsimp only; frame_open
  try simp (disch := decide) only [↓ View.readCov_skip, ↓ View.readCov_cons_toLoadRect]
  frame_out
  rfl

theorem left17_next (t : Fin cfg0.N) (h0 : ¬t.val % 8 = 0) :
    (outsAt0 m c t.val t.isLt).2.2.2.1 = k0_pay139 (F := Ideal) (again m c t (kept0 m c t) [] (kept1 m c t) []) (iblk m c 7 t) (iblk m c 1 t) (before m c t).2.2.2.1 := by
  rw [outsAt0_B m c t h0]; dsimp only; frame_open
  try simp (disch := decide) only [↓ View.readCov_skip, ↓ View.readCov_cons_toLoadRect]
  frame_out
  rfl

theorem left18_next (t : Fin cfg0.N) (h0 : ¬t.val % 8 = 0) :
    (outsAt0 m c t.val t.isLt).2.2.2.2.1 = View.canon (colSums m c t (kept0 m c t) [] (kept1 m c t) []
      (part18 m c t 0 512 inb_S1x1536_S1x512_0_0) (part18 m c t 512 512 inb_S1x1536_S1x512_0_512) (part18 m c t 1024 128 inb_S1x1536_S1x128_0_1024) (part18 m c t 1152 128 inb_S1x1536_S1x128_0_1152) (part18 m c t 1280 128 inb_S1x1536_S1x128_0_1280) (part18 m c t 1408 128 inb_S1x1536_S1x128_0_1408)
      []) := by
  rw [outsAt0_B m c t h0]; dsimp only; frame_open
  try simp (disch := decide) only [↓ View.readCov_skip, ↓ View.readCov_cons_toLoadRect]
  frame_out
  rfl

variable {p : Params} {T : Tokens} (h : Args m c p T)
include h

theorem out15 (t : Fin cfg0.N) : Is2 (outsAt0 m c t.val t.isLt).2.1 fun i => dz p T (tok t i) := by
  intro i j
  by_cases h0 : t.val % 8 = 0
  · rw [(left_first t h0).2.1, ← View.read_writes_junk_eq_canon (ms0_15 t).view]
    exact cols_val m c t _ _ _ _ h (start0_first t h0) (start1_first t h0) _ _ i j
  · rw [left15_next t h0, ← View.read_writes_junk_eq_canon (ms0_15 t).view]
    exact cols_val m c t _ _ _ _ h (start0_next h t h0) (start1_next h t h0) _ _ i j

/-- The columns as the input projection's gradient loads them. -/
theorem load15 (t : Fin cfg0.N) (f : (S0).ty.Contents (Elt Ideal)) (L : List (View.Piece (Elt Ideal) (⟨3, ![8, 544, 512]⟩ : Shape) .f32))
    (f' : (S1).ty.Contents (Elt Ideal)) (L' : List (View.Piece (Elt Ideal) (⟨2, ![544, 512]⟩ : Shape) .f32))
    (hc : ∀ (r : Fin 544), 512 ≤ r.val → ∀ j : Fin 512, S0.read (Elt Ideal) (S0.writes (Elt Ideal) f L) (ix3 0 r j) = ((Dv p T t r.val j : ℝ) : EReal))
    (hc' : ∀ (r : Fin 544), 512 ≤ r.val → ∀ j : Fin 512, S1.read (Elt Ideal) (S1.writes (Elt Ideal) f' L') (ix2 r j) = ((Dq p T t r.val j : ℝ) : EReal)) :
    Is2 (again m c t f L f' L') fun i => dz p T (tok t i) := fun i j =>
  (load2 (ms0_15 t).view _ inb_S512x1536_S512x1536_0_0 i j i j (Nat.zero_add _).symm (Nat.zero_add _).symm).trans (cols_val m c t _ _ _ _ h hc hc' _ _ i j)

theorem out14 (t : Fin cfg0.N) : Is2 (outsAt0 m c t.val t.isLt).1 fun i => dx p T (tok t i) := by
  have key : ∀ {Z : Vec Ideal S512x1536 .bf16}, Is2 Z (fun i => dz p T (tok t i)) → Is2 (k0_pay141 (F := Ideal) (iblk m c 0 t)
      (k0_pay136 Z (iblk m c 7 t)) (k0_pay137 (iblk m c 1 t)) (k0_pay138 (iblk m c 1 t)) (k0_pay140 (iblk m c 6 t))) fun i => dx p T (tok t i) :=
    fun hz => pay141 (read0 h t) (pay136 hz (read7 h t)) (pay137 (read1 h t)) (pay138 (read1 h t)) (pay140 (read6 h t))
  intro i j
  by_cases h0 : t.val % 8 = 0
  · rw [(left_first t h0).1]
    exact key (load15 h t _ _ _ _ (start0_first t h0) (start1_first t h0)) i j
  · rw [left14_next t h0]
    exact key (load15 h t _ _ _ _ (start0_next h t h0) (start1_next h t h0)) i j

/-- A point's part of the gradient of the norm's scale. -/
def sum17 (p : Params) (T : Tokens) (t : Fin cfg0.N) (j : Fin 1024) : ℝ := ∑ r, dxn p T (tok t r) j * nrm (T.x (tok t r)) j

theorem out17_first (t : Fin cfg0.N) (h0 : t.val % 8 = 0) (i : Fin 1) (j : Fin 1024) :
    (outsAt0 m c t.val t.isLt).2.2.2.1 (ix2 i j) = (0 : EReal) + ((sum17 p T t j : ℝ) : EReal) := by
  rw [(left_first t h0).2.2.1]
  exact (pay139 (load15 h t _ _ _ _ (start0_first t h0) (start1_first t h0)) (read7 h t) (read1 h t) _ i j).trans (congrArg (· + _) (zero3 i j))

theorem out17_next (t : Fin cfg0.N) (h0 : ¬t.val % 8 = 0) (i : Fin 1) (j : Fin 1024) :
    (outsAt0 m c t.val t.isLt).2.2.2.1 (ix2 i j) = ((before m c t).2.2.2.1 (ix2 i j) : EReal) + ((sum17 p T t j : ℝ) : EReal) := by
  rw [left17_next t h0]
  exact pay139 (load15 h t _ _ _ _ (start0_next h t h0) (start1_next h t h0)) (read7 h t) (read1 h t) _ i j

theorem out18_first (t : Fin cfg0.N) (h0 : t.val % 8 = 0) (i : Fin 1) (j : Fin 1536) :
    (outsAt0 m c t.val t.isLt).2.2.2.2.1 (ix2 i j) = (0 : EReal) + ((∑ r, dz p T (tok t r) j : ℝ) : EReal) := by
  rw [(left_first t h0).2.2.2, ← View.read_writes_junk_eq_canon (ms0_18 t).view]
  exact colSums_val (P := fun _ _ => 0) m c t _ _ _ _ h (start0_first t h0) (start1_first t h0) _ _ _
    (fun i j => (fill2 (ms0_18 t).view i j i ⟨j.val, by omega⟩ (Nat.zero_add _).symm (Nat.zero_add _).symm).trans (zero4 _ _))
    (fun i j => (fill2 (ms0_18 t).view i j i ⟨512 + j.val, by omega⟩ (Nat.zero_add _).symm rfl).trans (zero4 _ _))
    (fun i j => (fill2 (ms0_18 t).view i j i ⟨1024 + j.val, by omega⟩ (Nat.zero_add _).symm rfl).trans (zero4 _ _))
    (fun i j => (fill2 (ms0_18 t).view i j i ⟨1152 + j.val, by omega⟩ (Nat.zero_add _).symm rfl).trans (zero4 _ _))
    (fun i j => (fill2 (ms0_18 t).view i j i ⟨1280 + j.val, by omega⟩ (Nat.zero_add _).symm rfl).trans (zero4 _ _))
    (fun i j => (fill2 (ms0_18 t).view i j i ⟨1408 + j.val, by omega⟩ (Nat.zero_add _).symm rfl).trans (zero4 _ _)) i j

theorem out18_next (t : Fin cfg0.N) (h0 : ¬t.val % 8 = 0) (i : Fin 1) (j : Fin 1536) :
    (outsAt0 m c t.val t.isLt).2.2.2.2.1 (ix2 i j) =
      ((before m c t).2.2.2.2.1 (ix2 i j) : EReal) + ((∑ r, dz p T (tok t r) j : ℝ) : EReal) := by
  rw [left18_next t h0, ← View.read_writes_junk_eq_canon (ms0_18 t).view]
  exact colSums_val (P := fun i j => (before m c t).2.2.2.2.1 (ix2 i j)) m c t _ _ _ _ h (start0_next h t h0) (start1_next h t h0) _ _ _
    (fun i j => ld2 (e := .f32) _ _ i j i ⟨j.val, by omega⟩ (Nat.zero_add _).symm (Nat.zero_add _).symm)
    (fun i j => ld2 (e := .f32) _ _ i j i ⟨512 + j.val, by omega⟩ (Nat.zero_add _).symm rfl)
    (fun i j => ld2 (e := .f32) _ _ i j i ⟨1024 + j.val, by omega⟩ (Nat.zero_add _).symm rfl)
    (fun i j => ld2 (e := .f32) _ _ i j i ⟨1152 + j.val, by omega⟩ (Nat.zero_add _).symm rfl)
    (fun i j => ld2 (e := .f32) _ _ i j i ⟨1280 + j.val, by omega⟩ (Nat.zero_add _).symm rfl)
    (fun i j => ld2 (e := .f32) _ _ i j i ⟨1408 + j.val, by omega⟩ (Nat.zero_add _).symm rfl) i j

end Cert.Mix.Blocks
-- ==== Proof.MixTaps.lean ====
/- The gradient of the convolution's taps at a grid point: a row of the result for each tap, each the sum over the block's tokens
   of the gate's product with the gradient that many tokens later, added to what the row held. -/
module

public import proofs.«01_k».proof.Proof.MixCarry

@[expose] public section

set_option maxRecDepth 16384
set_option maxHeartbeats 4000000

noncomputable section

namespace Cert.Mix.Blocks

open Idealize Idealize.ShloMosaic Cert.MixKernelIdeal Cert.MixKernelIdeal.Gen Cert.Lift Cert.Spec
open Cert.Payloads (Is2)
open Idealize.ShloMosaic.TcCoe Idealize.ShloMosaic.Tactic

section rows
variable {sig : RefSig} {κ : Kind} {sp : Space} {A : View sig κ sp S32x512 .f32} {f X : A.ty.Contents (Elt Ideal)}
  {L : List (View.Piece (Elt Ideal) S32x512 .f32)} {B : Fin 32 → Fin 512 → EReal} {w : Fin 512 → Fin 512 → ℝ} {D : ℕ → Fin 512 → ℝ}
  {uV : Vec Ideal S512x512 .f32} {dV : Vec Ideal S1x512x512 .f32} {aV : Vec Ideal S1x512 .f32}

variable (A X B w D) in
/-- The first rows hold the sums, added to what they held before, and the others are as they were. -/
def Rows (n : ℕ) : Prop := ∀ (i : Fin 32) (j : Fin 512), A.read (Elt Ideal) X (ix2 i j) =
  if i.val < n then B i j + ((∑ r, w r j * D (30 - i.val + r.val) j : ℝ) : EReal) else B i j

theorem rows_zero (h : ∀ i j, A.read (Elt Ideal) X (ix2 i j) = B i j) : Rows A X B w D 0 := fun i j =>
  (h i j).trans (if_neg (Nat.not_lt_zero _)).symm

/-- One more row. -/
theorem rows_succ (n : ℕ) (hn : n < 32) (hu : Is2 uV w) (h : Rows A (A.writes (Elt Ideal) f L) B w D n)
    (hd : Is3 dV fun _ r c => D (30 - n + r.val) c) (ha : ∀ (i : Fin 1) (j : Fin 512), aV (ix2 i j) = B ⟨n, hn⟩ j)
    (inb : ∀ k : Fin 2, (![n, 0] : Fin 2 → ℕ) k + (![1, 512] : Fin 2 → ℕ) k ≤ S32x512.size k) :
    Rows A (A.writes (Elt Ideal) f (⟨Rect.unit (s := S32x512) ![n, 0] ![1, 512] inb, k0_pay47 (F := Ideal) uV dV aV⟩ :: L)) B w D (n + 1) := by
  intro i j
  by_cases e : i.val = n
  · subst e
    rw [if_pos (Nat.lt_succ_self _)]
    refine (store2_in A f inb _ L i j 0 j rfl (Nat.zero_add _).symm).trans ?_
    exact (pay47 hu hd aV 0 j).trans (congrArg (· + _) (ha 0 j))
  · refine (store2_out A f inb _ L i j (.inl (by omega))).trans ((h i j).trans ?_)
    by_cases l : i.val < n
    · rw [if_pos l, if_pos (by omega)]
    · rw [if_neg l, if_neg (by omega)]

/-- … when what the row held is loaded from among the rows stored so far. -/
theorem rows_cov (n : ℕ) (hn : n < 32) (hu : Is2 uV w) (h : Rows A (A.writes (Elt Ideal) A.junk L) B w D n)
    (hd : Is3 dV fun _ r c => D (30 - n + r.val) c)
    (inb inb' : ∀ k : Fin 2, (![n, 0] : Fin 2 → ℕ) k + (![1, 512] : Fin 2 → ℕ) k ≤ S32x512.size k) :
    Rows A (A.writes (Elt Ideal) A.junk (⟨Rect.unit (s := S32x512) ![n, 0] ![1, 512] inb, k0_pay47 (F := Ideal) uV dV
      (A.readCov (Val := Elt Ideal) L (Rect.unit (s := S32x512) ![n, 0] ![1, 512] inb').toLoadRect)⟩ :: L)) B w D (n + 1) :=
  rows_succ n hn hu h hd (fun i j => (load2 A _ inb' i j ⟨n, hn⟩ j (by show n = n + i.val; omega) (Nat.zero_add _).symm).trans
    ((h ⟨n, hn⟩ j).trans (if_neg (Nat.lt_irrefl _)))) inb

end rows

/-- A token's part of the gradient of a tap. -/
def tapAt (p : Params) (T : Tokens) (i : Fin 32) (j : Fin 512) (s : Fin 4096) : ℝ :=
  if i.val < 31 then u T s j * dvx p T (s.val + (30 - i.val)) j else 0

theorem rows_end {sig : RefSig} {κ : Kind} {sp : Space} {A : View sig κ sp S32x512 .f32} {X : A.ty.Contents (Elt Ideal)}
    {B : Fin 32 → Fin 512 → EReal} (p : Params) (T : Tokens) (t : Fin cfg0.N)
    (h : Rows A X B (fun r j => u T (tok t r) j) (Dv p T t) 31) (i : Fin 32) (j : Fin 512) :
    A.read (Elt Ideal) X (ix2 i j) = B i j + ((∑ r, tapAt p T i j (tok t r) : ℝ) : EReal) := by
  refine (h i j).trans ?_
  by_cases e : i.val < 31
  · rw [if_pos e]
    refine congrArg (fun x : ℝ => B i j + (x : EReal)) (Finset.sum_congr rfl fun r _ => ?_)
    rw [tapAt, if_pos e, Dv]
    exact congrArg (fun n => u T (tok t r) j * dvx p T n j) (by simp only [tok]; omega)
  · rw [if_neg e]
    simp [tapAt, e]

variable {m : (ℓ : Loc nD τ sig) → Buf (Elt Ideal) ℓ} {c : Dev nD} {p : Params} {T : Tokens} (h : Args m c p T)
include h

theorem val44 (t : Fin cfg0.N) : Is2 (k0_pay44 (F := Ideal) (iblk m c 2 t) (iblk m c 3 t)) fun r j => u T (tok t r) j :=
  pay44 (read2 h t) (read3 h t)

theorem out19_next (t : Fin cfg0.N) (h0 : ¬t.val % 8 = 0) (i : Fin 32) (j : Fin 512) :
    (outsAt0 m c t.val t.isLt).2.2.2.2.2.1 (ix2 i j) =
      ((before m c t).2.2.2.2.2.1 (ix2 i j) : EReal) + ((∑ r, tapAt p T i j (tok t r) : ℝ) : EReal) := by
  have C := copies_at m c t (kept0 m c t) [] h (start0_next h t h0)
  have hz : Is3 (W0 m c t) fun _ r j => Dv p T t (0 + r.val) j := fun x r j => (C.h0 x r j).trans (by simp only [Nat.zero_add])
  have hu := val44 h t
  rw [outsAt0_B m c t h0]; dsimp only; frame_open
  frame_out
  generalize hw : k0_pay35 (F := Ideal) _ = w
  obtain rfl : W0 m c t = w := hw
  generalize hw : k0_pay36 (F := Ideal) _ = w
  obtain rfl : W1 m c t (kept0 m c t) [] = w := hw
  generalize hw : k0_pay37 (F := Ideal) _ = w
  obtain rfl : W2 m c t (kept0 m c t) [] = w := hw
  generalize hw : k0_pay38 (F := Ideal) _ = w
  obtain rfl : W3 m c t (kept0 m c t) [] = w := hw
  generalize hw : k0_pay39 (F := Ideal) _ = w
  obtain rfl : W4 m c t (kept0 m c t) [] = w := hw
  generalize hw : k0_pay40 (F := Ideal) _ = w
  obtain rfl : W5 m c t (kept0 m c t) [] = w := hw
  generalize hw : k0_pay41 (F := Ideal) _ = w
  obtain rfl : W6 m c t (kept0 m c t) [] = w := hw
  generalize hw : k0_pay42 (F := Ideal) _ = w
  obtain rfl : W7 m c t (kept0 m c t) [] = w := hw
  try simp (disch := decide) only [↓ View.readCov_skip, ↓ View.readCov_cons_toLoadRect]
  refine rows_end (B := fun i j => (before m c t).2.2.2.2.2.1 (ix2 i j)) p T t ?_ i j
  iterate 31 refine rows_succ _ (by decide) hu ?_ ?_ (fun i j => ld2 _ _ i j _ j (by simp) (Nat.zero_add _).symm) _
  · exact rows_zero fun i j => congrFun ((hs0_19 t).read_unread _) _
  exact copy_cov _ C.h6 (by decide) _ _
  exact copy_cov _ C.h5 (by decide) _ _
  exact copy_cov _ C.h4 (by decide) _ _
  exact copy_cov _ C.h3 (by decide) _ _
  exact copy_cov _ C.h2 (by decide) _ _
  exact copy_cov _ C.h1 (by decide) _ _
  exact slots_load C.slots (by decide) (by decide) (by decide) _
  iterate 2
    exact copy_cov _ C.h7 (by decide) _ _
    exact copy_cov _ C.h6 (by decide) _ _
    exact copy_cov _ C.h5 (by decide) _ _
    exact copy_cov _ C.h4 (by decide) _ _
    exact copy_cov _ C.h3 (by decide) _ _
    exact copy_cov _ C.h2 (by decide) _ _
    exact copy_cov _ C.h1 (by decide) _ _
    exact slots_load C.slots (by decide) (by decide) (by decide) _
  exact copy_cov _ C.h7 (by decide) _ _
  exact copy_cov _ C.h6 (by decide) _ _
  exact copy_cov _ C.h5 (by decide) _ _
  exact copy_cov _ C.h4 (by decide) _ _
  exact copy_cov _ C.h3 (by decide) _ _
  exact copy_cov _ C.h2 (by decide) _ _
  exact copy_cov _ C.h1 (by decide) _ _
  exact hz

theorem out19_first (t : Fin cfg0.N) (h0 : t.val % 8 = 0) (i : Fin 32) (j : Fin 512) :
    (outsAt0 m c t.val t.isLt).2.2.2.2.2.1 (ix2 i j) = (0 : EReal) + ((∑ r, tapAt p T i j (tok t r) : ℝ) : EReal) := by
  have C := copies_at m c t S0.junk fill0 h (start0_first t h0)
  have hu := val44 h t
  rw [outsAt0_A m c t h0]; dsimp only; frame_open
  frame_out
  refine (congrFun (View.read_writes_junk_eq_canon (ms0_19 t).view _).symm _).trans (rows_end (B := fun _ _ => 0) p T t ?_ i j)
  iterate 31 refine rows_cov _ (by decide) hu ?_ ?_ _ _
  · exact rows_zero fun i j => (store2_in _ _ _ _ _ i j i j (Nat.zero_add _).symm (Nat.zero_add _).symm).trans (zero5 i j)
  all_goals
    generalize hw : k0_pay35 (F := Ideal) _ = w
    obtain rfl : W0 m c t = w := hw
    generalize hw : k0_pay36 (F := Ideal) _ = w
    obtain rfl : W1 m c t S0.junk fill0 = w := hw
    generalize hw : k0_pay37 (F := Ideal) _ = w
    obtain rfl : W2 m c t S0.junk fill0 = w := hw
    generalize hw : k0_pay38 (F := Ideal) _ = w
    obtain rfl : W3 m c t S0.junk fill0 = w := hw
    generalize hw : k0_pay39 (F := Ideal) _ = w
    obtain rfl : W4 m c t S0.junk fill0 = w := hw
    generalize hw : k0_pay40 (F := Ideal) _ = w
    obtain rfl : W5 m c t S0.junk fill0 = w := hw
    generalize hw : k0_pay41 (F := Ideal) _ = w
    obtain rfl : W6 m c t S0.junk fill0 = w := hw
    generalize hw : k0_pay42 (F := Ideal) _ = w
    obtain rfl : W7 m c t S0.junk fill0 = w := hw
    exact slots_load C.slots (by decide) (by decide) (by decide) _

end Cert.Mix.Blocks
-- ==== Proof.MixArrays.lean ====
/- The second kernel's eleven result arrays over real arguments: the blocks of the grid points put together, and the eight sums
   over tokens that the points carry from one to the next. -/
module

public import proofs.«01_k».proof.Proof.MixOut
public import proofs.«01_k».proof.Proof.MixTaps

@[expose] public section

set_option maxRecDepth 16384

noncomputable section

namespace Cert.Mix.Arrays

open Idealize.ShloMosaic Cert.MixKernelIdeal Cert.MixKernelIdeal.Gen Cert.Lift Cert.Spec Cert.Mix.Blocks
open Cert.Payloads (Is2)
open Idealize.ShloMosaic.TcCoe Idealize.ShloMosaic.Tactic

theorem index14 : ∀ t : Fin cfg0.N, win0_14.index t = ![7 - t.val, 0] := (by decide +kernel : ∀ t : Fin grid0.N, _)
theorem index15 : ∀ t : Fin cfg0.N, win0_15.index t = ![7 - t.val, 0] := (by decide +kernel : ∀ t : Fin grid0.N, _)
theorem index16 : ∀ t : Fin cfg0.N, win0_16.index t = ![7 - t.val, 0] := (by decide +kernel : ∀ t : Fin grid0.N, _)

/-- A real matrix is a function of its two indices. -/
theorem fun2 {a b : ℕ} {v : (⟨2, ![a, b]⟩ : Shape).Idx → EReal} {f : Fin a → Fin b → ℝ} (h : Is2 v f) :
    v = fun y => ((f (y 0) (y 1) : ℝ) : EReal) := by
  funext y
  rw [← h (y 0) (y 1)]
  congr 1
  funext k
  fin_cases k <;> rfl

theorem fun3 {a b d : ℕ} {v : (⟨3, ![a, b, d]⟩ : Shape).Idx → EReal} {f : Fin a → Fin b → Fin d → ℝ}
    (h : ∀ i j k, v (ix3 i j k) = ((f i j k : ℝ) : EReal)) : v = fun y => ((f (y 0) (y 1) (y 2) : ℝ) : EReal) := by
  funext y
  rw [← h (y 0) (y 1) (y 2)]
  congr 1
  funext k
  fin_cases k <;> rfl

/-- The sum over the grid's points, last block first, and the rows of each is the sum over all tokens. -/
theorem sum_tok (f : Fin 4096 → ℝ) : ∑ t : Fin 8, ∑ i : Fin 512, f (tok t i) = ∑ i, f i := by
  refine (Equiv.sum_comp Fin.revPerm fun t : Fin 8 => ∑ i : Fin 512, f (tok t i)).symm.trans ?_
  refine Fin.sum_mul_add_congr (f := f) fun t i h => congrArg f (Fin.ext ?_)
  have e : blkOf (Fin.revPerm t) = t.val := by
    show 7 - (8 - (t.val + 1)) = t.val
    omega
  exact congrArg (· + i.val) ((congrArg (512 * ·) e).trans (Nat.mul_comm _ _))

variable {m : (ℓ : Loc nD τ sig) → Buf (Elt Ideal) ℓ} {c : Dev nD} {p : Params} {T : Tokens} (h : Args m c p T)
include h

theorem arr14 : (dats m 0 c).arrAt 14 cfg0.N = fun y : S4096x1024.Idx => ((dx p T (y 0) (y 1) : ℝ) : EReal) := by
  refine (dats m 0 c).arrAt_eq_of_covers 14 _ (by decide +kernel) fun t hf y => ?_
  blk_simp
  rw [after0_14]
  refine (congrFun (fun2 (out14 h t)) y).trans ?_
  have e0 : (win0_14.blk t).view.emb y 0 = tok t (y 0) := by
    apply Fin.ext
    blk_simp [index14 t]
    simp [tok, blkOf, Nat.mul_comm]
  have e1 : (win0_14.blk t).view.emb y 1 = y 1 := by
    apply Fin.ext
    blk_simp [index14 t]
  rw [e0, e1]

theorem arr15 : (dats m 0 c).arrAt 15 cfg0.N = fun y : S4096x1536.Idx => ((dz p T (y 0) (y 1) : ℝ) : EReal) := by
  refine (dats m 0 c).arrAt_eq_of_covers 15 _ (by decide +kernel) fun t hf y => ?_
  blk_simp
  rw [after0_15]
  refine (congrFun (fun2 (out15 h t)) y).trans ?_
  have e0 : (win0_15.blk t).view.emb y 0 = tok t (y 0) := by
    apply Fin.ext
    blk_simp [index15 t]
    simp [tok, blkOf, Nat.mul_comm]
  have e1 : (win0_15.blk t).view.emb y 1 = y 1 := by
    apply Fin.ext
    blk_simp [index15 t]
  rw [e0, e1]

theorem arr16 : (dats m 0 c).arrAt 16 cfg0.N = fun y : S4096x1024.Idx => ((T.dh (y 0) (y 1) : ℝ) : EReal) := by
  refine (dats m 0 c).arrAt_eq_of_covers 16 _ (by decide +kernel) fun t hf y => ?_
  blk_simp
  rw [after0_16]
  refine (congrFun (fun2 (out16 h t)) y).trans ?_
  have e0 : (win0_16.blk t).view.emb y 0 = tok t (y 0) := by
    apply Fin.ext
    blk_simp [index16 t]
    simp [tok, blkOf, Nat.mul_comm]
  have e1 : (win0_16.blk t).view.emb y 1 = y 1 := by
    apply Fin.ext
    blk_simp [index16 t]
  rw [e0, e1]

omit h in
/-- A sum the points carry, after the last: the sum over all tokens. -/
theorem carried {ι : Type} (out : ∀ n, n < cfg0.N → ι → EReal) (g : ι → Fin 4096 → ℝ)
    (first : ∀ (t : Fin cfg0.N), t.val % 8 = 0 → ∀ q, out t.val t.isLt q = (0 : EReal) + ((∑ r, g q (tok t r) : ℝ) : EReal))
    (next : ∀ (t : Fin cfg0.N), ¬t.val % 8 = 0 → ∀ q, out t.val t.isLt q =
      out (t.val - 1) (Nat.lt_of_le_of_lt (Nat.sub_le _ _) t.isLt) q + ((∑ r, g q (tok t r) : ℝ) : EReal)) (q : ι) :
    out t0_7.val t0_7.isLt q = ((∑ i, g q i : ℝ) : EReal) := by
  have e := Pipeline.eq_sum_fin_of_reset_step_apply_last out 8 (fun _ => 0)
    (fun t q => ((∑ r, g q (tok t r) : ℝ) : EReal)) first next (le_of_eq N_0) t0_7 rfl q
  rw [e, zero_add, ← coe_sum]
  exact congrArg _ (sum_tok (g q))

theorem arr17 : (dats m 0 c).arrAt 17 cfg0.N = fun y : S1x1024.Idx => ((∑ t, nrm (T.x t) (y 1) * dxn p T t (y 1) : ℝ) : EReal) := by
  refine (dats m 0 c).arrAt_eq_of_after_last 17 t0_7 (by decide +kernel) _ fun y => ?_
  blk_simp
  rw [after0_17]
  refine congrFun (fun2 (f := fun i j => ∑ t, nrm (T.x t) j * dxn p T t j) fun i j => ?_) y
  have := carried (fun n h (q : Fin 1 × Fin 1024) => ((outsAt0 m c n h).2.2.2.1 (ix2 q.1 q.2) : EReal)) (fun q i => dxn p T i q.2 * nrm (T.x i) q.2)
    (fun t h0 q => out17_first h t h0 q.1 q.2) (fun t h0 q => out17_next h t h0 q.1 q.2) (i, j)
  exact this.trans (congrArg _ (Finset.sum_congr rfl fun t _ => mul_comm _ _))

theorem arr18 : (dats m 0 c).arrAt 18 cfg0.N = fun y : S1x1536.Idx => ((∑ t, dz p T t (y 1) : ℝ) : EReal) := by
  refine (dats m 0 c).arrAt_eq_of_after_last 18 t0_7 (by decide +kernel) _ fun y => ?_
  blk_simp
  rw [after0_18]
  refine congrFun (fun2 (f := fun i j => ∑ t, dz p T t j) fun i j => ?_) y
  have := carried (fun n h (q : Fin 1 × Fin 1536) => ((outsAt0 m c n h).2.2.2.2.1 (ix2 q.1 q.2) : EReal)) (fun q i => dz p T i q.2)
    (fun t h0 q => out18_first h t h0 q.1 q.2) (fun t h0 q => out18_next h t h0 q.1 q.2) (i, j)
  exact this

theorem arr19 : (dats m 0 c).arrAt 19 cfg0.N = fun y : S32x512.Idx => ((if hi : (y 0).val < 31 then dwdw p T ⟨(y 0).val, hi⟩ (y 1) else 0 : ℝ) : EReal) := by
  refine (dats m 0 c).arrAt_eq_of_after_last 19 t0_7 (by decide +kernel) _ fun y => ?_
  blk_simp
  rw [after0_19]
  refine congrFun (fun2 (f := fun i j => if hi : i.val < 31 then dwdw p T ⟨i.val, hi⟩ j else 0) fun i j => ?_) y
  have := carried (fun n h (q : Fin 32 × Fin 512) => ((outsAt0 m c n h).2.2.2.2.2.1 (ix2 q.1 q.2) : EReal)) (fun q i => tapAt p T q.1 q.2 i)
    (fun t h0 q => out19_first h t h0 q.1 q.2) (fun t h0 q => out19_next h t h0 q.1 q.2) (i, j)
  exact this.trans (congrArg _ (by by_cases hi : i.val < 31 <;> simp [tapAt, hi, dwdw]))

theorem arr20 : (dats m 0 c).arrAt 20 cfg0.N = fun y : S1x512.Idx => ((∑ t, dv p T t (y 1) : ℝ) : EReal) := by
  refine (dats m 0 c).arrAt_eq_of_after_last 20 t0_7 (by decide +kernel) _ fun y => ?_
  blk_simp
  rw [after0_20]
  refine congrFun (fun2 (f := fun i j => ∑ t, dv p T t j) fun i j => ?_) y
  have := carried (fun n h (q : Fin 1 × Fin 512) => ((outsAt0 m c n h).2.2.2.2.2.2.1 (ix2 q.1 q.2) : EReal)) (fun q i => dv p T i q.2)
    (fun t h0 q => out20_first h t h0 q.1 q.2) (fun t h0 q => out20_next h t h0 q.1 q.2) (i, j)
  exact this

theorem arr21 : (dats m 0 c).arrAt 21 cfg0.N = fun y : S1x512.Idx => ((∑ t, vh (T.v t) (y 1) * dln p T t (y 1) : ℝ) : EReal) := by
  refine (dats m 0 c).arrAt_eq_of_after_last 21 t0_7 (by decide +kernel) _ fun y => ?_
  blk_simp
  rw [after0_21]
  refine congrFun (fun2 (f := fun i j => ∑ t, vh (T.v t) j * dln p T t j) fun i j => ?_) y
  have := carried (fun n h (q : Fin 1 × Fin 512) => ((outsAt0 m c n h).2.2.2.2.2.2.2.1 (ix2 q.1 q.2) : EReal)) (fun q i => dln p T i q.2 * vh (T.v i) q.2)
    (fun t h0 q => out21_first h t h0 q.1 q.2) (fun t h0 q => out21_next h t h0 q.1 q.2) (i, j)
  exact this.trans (congrArg _ (Finset.sum_congr rfl fun t _ => mul_comm _ _))

theorem arr22 : (dats m 0 c).arrAt 22 cfg0.N = fun y : S1x512.Idx => ((∑ t, dln p T t (y 1) : ℝ) : EReal) := by
  refine (dats m 0 c).arrAt_eq_of_after_last 22 t0_7 (by decide +kernel) _ fun y => ?_
  blk_simp
  rw [after0_22]
  refine congrFun (fun2 (f := fun i j => ∑ t, dln p T t j) fun i j => ?_) y
  have := carried (fun n h (q : Fin 1 × Fin 512) => ((outsAt0 m c n h).2.2.2.2.2.2.2.2.1 (ix2 q.1 q.2) : EReal)) (fun q i => dln p T i q.2)
    (fun t h0 q => out22_first h t h0 q.1 q.2) (fun t h0 q => out22_next h t h0 q.1 q.2) (i, j)
  exact this

theorem arr24 : (dats m 0 c).arrAt 24 cfg0.N = fun y : S1x512.Idx => ((∑ t, ypre p T t (grp (y 1)) (sub (y 1)) * dy p T t (cr (y 1)) : ℝ) : EReal) := by
  refine (dats m 0 c).arrAt_eq_of_after_last 24 t0_7 (by decide +kernel) _ fun y => ?_
  blk_simp
  rw [after0_24]
  refine congrFun (fun2 (f := fun i j => ∑ t, ypre p T t (grp j) (sub j) * dy p T t (cr j)) fun i j => ?_) y
  have := carried (fun n h (q : Fin 1 × Fin 512) => ((outsAt0 m c n h).2.2.2.2.2.2.2.2.2.2.1 (ix2 q.1 q.2) : EReal)) (fun q i => dyp p T i (grp q.2) (sub q.2) * ypre p T i (grp q.2) (sub q.2))
    (fun t h0 q => out24_first h t h0 q.1 q.2) (fun t h0 q => out24_next h t h0 q.1 q.2) (i, j)
  exact this.trans (congrArg _ (Finset.sum_congr rfl fun t _ => by rw [mul_comm, dyp, lane_grp]))

theorem arr23 : (dats m 0 c).arrAt 23 cfg0.N =
    fun y : S4x128x128.Idx => ((∑ t, dyi p T t (y 0) (y 2) * T.m t (lane (y 0) (y 1)) : ℝ) : EReal) := by
  refine (dats m 0 c).arrAt_eq_of_after_last 23 t0_7 (by decide +kernel) _ fun y => ?_
  blk_simp
  rw [after0_23]
  refine congrFun (fun3 (f := fun k i j => ∑ t, dyi p T t k j * T.m t (lane k i)) fun k i j => ?_) y
  have := carried (fun n h (q : Fin 4 × Fin 128 × Fin 128) => ((outsAt0 m c n h).2.2.2.2.2.2.2.2.2.1 (ix3 q.1 q.2.1 q.2.2) : EReal))
    (fun q t => T.m t (lane q.1 q.2.1) * dyi p T t q.1 q.2.2)
    (fun t h0 q => out23_first h t h0 q.1 q.2.1 q.2.2) (fun t h0 q => out23_next h t h0 q.1 q.2.1 q.2.2) (k, i, j)
  exact this.trans (congrArg _ (Finset.sum_congr rfl fun t _ => mul_comm _ _))

end Cert.Mix.Arrays
-- ==== Proof.MixReference.lean ====
/- What the reference of the token-mixing backward pass computes, operation by operation, over real arguments: the same formulas
   as the kernel. The gradients are the reverse-mode derivatives of its forward lines. -/
module

public import proofs.«01_k».proof.Proof.MixRules
public import proofs.«01_k».proof.Proof.MixPool
public import proofs.«01_k».proof.Proof.Reference
public import proofs.«01_k».proof.Proof.Gen.MixReferenceIdeal.Read
public import Idealize.ShloMosaic.Lib.TwoAxisContraction

@[expose] public section

set_option maxRecDepth 16384

noncomputable section

namespace Cert.Mix.Reference

open Idealize.ShloMosaic Cert.MixReferenceIdeal Cert.MixReferenceIdeal.Read Cert.Lift Cert.Spec Cert.Mix
open Cert.Payloads (Is2)
open Cert.Reference (sg_rule)

variable {X0 X1 : Vec Ideal S4096x1024 .f32} {X2 X3 X4 : Vec Ideal S4096x512 .f32} {X5 : Vec Ideal S4096x512 .bf16}
  {X6 : Vec Ideal S1x1024 .f32} {X7 : Vec Ideal S1536x1024 .bf16} {X8 : Vec Ideal S32x512 .f32} {X9 X10 : Vec Ideal S1x512 .f32}
  {X11 : Vec Ideal S4x128x128 .bf16} {X12 : Vec Ideal S1x512 .f32} {X13 : Vec Ideal S1024x1024 .bf16}

theorem lane_zero (j : Fin 128) (hj : j.val < 512) : (⟨j.val, hj⟩ : Fin 512) = lane 0 j :=
  Fin.ext (show j.val = 128 * 0 + j.val by omega)

/-- A group of channels, and a channel within it. -/
def grp (j : Fin 512) : Fin 4 := ⟨j.val / 128, by omega⟩
def sub (j : Fin 512) : Fin 128 := ⟨j.val % 128, by omega⟩

theorem at_group (f : Fin 4 → Fin 128 → ℝ) (j : Fin 512) (g : Fin 4) (e : Fin 128) (he : j.val = 128 * g.val + e.val) :
    f g e = f (grp j) (sub j) := by
  have e1 : grp j = g := Fin.ext (show j.val / 128 = g.val by omega)
  have e2 : sub j = e := Fin.ext (show j.val % 128 = e.val by omega)
  rw [e1, e2]

/-- A comparison's bit, as a real number. -/
theorem bit_rule (P : Prop) [Decidable P] (b : BitVec 1) (hb : b = if P then 1#1 else 0#1) :
    FloatOps.uitofp (F := Ideal) FTy.f32 b = ((if P then 1 else 0 : ℝ) : EReal) := by
  subst hb
  show (((if P then 1#1 else 0#1 : BitVec 1).toNat : ℝ) : EReal) = _
  split <;> simp

theorem addi_ofNat (a b : ℕ) : IntOp.addi (BitVec.ofNat 32 a) (BitVec.ofNat 32 b) = BitVec.ofNat 32 (a + b) := by
  rw [IntOp.addi, BitVec.ofNat_add]

theorem eq_ofNat {a b : ℕ} (ha : a < 2 ^ 31) (hb : b < 2 ^ 31) :
    IntOp.cmpi .eq (BitVec.ofNat 32 a) (BitVec.ofNat 32 b) = if a = b then 1#1 else 0#1 := by
  have e : BitVec.ofNat 32 a = BitVec.ofNat 32 b ↔ a = b := by
    rw [← BitVec.toInt_inj, toInt_ofNat ha, toInt_ofNat hb, Nat.cast_inj]
  by_cases h : a = b
  · rw [if_pos h, h]
    simp [IntOp.cmpi]
  · rw [if_neg h]
    simp only [IntOp.cmpi, beq_eq_false_iff_ne.mpr (e.not.mpr h)]
    rfl

theorem sle_ofNat {a b : ℕ} (ha : a < 2 ^ 31) (hb : b < 2 ^ 31) :
    IntOp.cmpi .sle (BitVec.ofNat 32 a) (BitVec.ofNat 32 b) = if a ≤ b then 1#1 else 0#1 := by
  simp only [IntOp.cmpi, BitVec.sle, toInt_ofNat ha, toInt_ofNat hb, Nat.cast_le]
  split <;> simp [*]

theorem slt_ofNat {a b : ℕ} (ha : a < 2 ^ 31) (hb : b < 2 ^ 31) :
    IntOp.cmpi .slt (BitVec.ofNat 32 a) (BitVec.ofNat 32 b) = if a < b then 1#1 else 0#1 := by
  simp only [IntOp.cmpi, BitVec.slt, toInt_ofNat ha, toInt_ofNat hb, Nat.cast_lt]
  split <;> simp [*]

/-- The indicator of the token that a tap of the convolution meets. -/
theorem meets_rule {t k s : ℕ} (ht : t < 4096) (hk : k < 31) (hs : s < 4096) :
    FloatOps.uitofp (F := Ideal) FTy.f32 (IntOp.cmpi .eq (IntOp.addi (BitVec.ofNat 32 t) (BitVec.ofNat 32 k))
      (IntOp.addi (BitVec.ofNat 32 s) 30#32)) = ((if t + k = s + 30 then 1 else 0 : ℝ) : EReal) :=
  bit_rule _ _ (by rw [addi_ofNat, addi_ofNat, eq_ofNat (by omega) (by omega)])

/-- The indicator of the tokens in a trailing window. -/
theorem trails_rule {t s : ℕ} (w : ℕ) (ht : t < 4096) (hs : s < 4096) (hw : w < 17) :
    FloatOps.uitofp (F := Ideal) FTy.f32 (IntOp.andi (IntOp.cmpi .sle (BitVec.ofNat 32 s) (BitVec.ofNat 32 t))
      (IntOp.cmpi .slt (BitVec.ofNat 32 t) (IntOp.addi (BitVec.ofNat 32 s) (BitVec.ofNat 32 w)))) =
      ((if s ≤ t ∧ t < s + w then 1 else 0 : ℝ) : EReal) :=
  bit_rule _ _ (by
    rw [addi_ofNat, sle_ofNat (by omega) (by omega), slt_ofNat (by omega) (by omega)]
    by_cases h1 : s ≤ t <;> by_cases h2 : t < s + w <;> simp [h1, h2, IntOp.andi])

/-- The product that contracts taps and tokens, as a double sum. -/
theorem dot_taps (y : Vec Ideal S31x4096x512 .f32) (z : Vec Ideal S31x4096x4096 .f32) (c : Fin 512) (s : Fin 4096) :
    Host.dotGeneral (F := Ideal) (φ₁ := .f32) (φ₂ := .f32) dot_S31x4096x512_S31x4096x4096_S512x4096_01_01_2_2_n_n none y z (ix2 c s) =
      ∑ k : Fin 31, ∑ t : Fin 4096, y (ix3 k t c) * z (ix3 k t s) := by
  simp only [Host.dotGeneral]
  rw [Ideal.dotGeneral_apply, ValueIdx.sum_contr2 _ 31 4096 rfl rfl rfl]
  refine Finset.sum_congr rfl fun k _ => Finset.sum_congr rfl fun t _ => ?_
  have h0 := ValueIdx.contrEquiv2_symm_val0 dot_S31x4096x512_S31x4096x4096_S512x4096_01_01_2_2_n_n 31 4096 rfl rfl rfl (k, t)
  have h1 := ValueIdx.contrEquiv2_symm_val1 dot_S31x4096x512_S31x4096x4096_S512x4096_01_01_2_2_n_n 31 4096 rfl rfl rfl (k, t)
  refine congrArg₂ (· * ·) (congrArg y (funext fun a => Fin.ext ?_)) (congrArg z (funext fun a => Fin.ext ?_))
  · match a with
    | ⟨0, _⟩ => exact h0
    | ⟨1, _⟩ => exact h1
    | ⟨2, _⟩ => rfl
  · match a with
    | ⟨0, _⟩ => exact h0
    | ⟨1, _⟩ => exact h1
    | ⟨2, _⟩ => rfl

/-- The entries of the fourteen arguments are these real numbers. -/
structure Args (X0 X1 : Vec Ideal S4096x1024 .f32) (X2 X3 X4 : Vec Ideal S4096x512 .f32) (X5 : Vec Ideal S4096x512 .bf16)
    (X6 : Vec Ideal S1x1024 .f32) (X7 : Vec Ideal S1536x1024 .bf16) (X8 : Vec Ideal S32x512 .f32) (X9 X10 : Vec Ideal S1x512 .f32)
    (X11 : Vec Ideal S4x128x128 .bf16) (X12 : Vec Ideal S1x512 .f32) (X13 : Vec Ideal S1024x1024 .bf16)
    (p : Params) (T : Tokens) : Prop where
  a0 : Is2 X0 T.dh
  a1 : Is2 X1 T.x
  a2 : Is2 X2 T.a
  a3 : Is2 X3 T.gate
  a4 : Is2 X4 T.v
  a5 : Is2 X5 T.m
  a6 : Is2 X6 fun _ j => p.g j
  a7 : Is2 X7 p.win
  a8 : Is2 X8 p.wdw
  a9 : Is2 X9 fun _ j => p.lng j
  a10 : Is2 X10 fun _ j => p.lnb j
  a11 : Is3 X11 p.wp
  a12 : Is2 X12 fun _ j => p.sp j
  a13 : Is2 X13 p.wout

variable {p : Params} {T : Tokens} (h : Args X0 X1 X2 X3 X4 X5 X6 X7 X8 X9 X10 X11 X12 X13 p T)
include h

theorem rv9 : Is2 (val_main_v9 (F := Ideal) X4) fun i j => mu (T.v i) := by
  have ua4 := h.a4
  intro i j
  simp only [Is2] at ua4
  pointwise [val_main_v9, val_main_v7, val_main_v6, val_main_cst, val_main_v8, val_main_cst_0]
  simp only [ua4, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv11 : Is2 (val_main_v11 (F := Ideal) X4) fun i j => ctr (T.v i) j := by
  have ua4 := h.a4
  have uv9 := rv9 h
  intro i j
  simp only [Is2] at ua4 uv9
  pointwise [val_main_v11, val_main_v10]
  simp only [ua4, uv9, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv20 : Is2 (val_main_v20 (F := Ideal) X4) fun i j => ctr (T.v i) j := by
  have ua4 := h.a4
  have uv9 := rv9 h
  intro i j
  simp only [Is2] at ua4 uv9
  pointwise [val_main_v20, val_main_v19]
  simp only [ua4, uv9, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv22 : Is2 (val_main_v22 (F := Ideal) X4) fun i j => var5 (T.v i) := by
  have uv11 := rv11 h
  intro i j
  simp only [Is2] at uv11
  pointwise [val_main_v22, val_main_v18, val_main_v16, val_main_v15, val_main_v12, val_main_cst_2, val_main_v17, val_main_cst_3, val_main_v21, val_main_cst_4]
  simp only [uv11, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv23 : Is2 (val_main_v23 (F := Ideal) X4) fun i j => rs (T.v i) := by
  have uv22 := rv22 h
  intro i j
  simp only [Is2] at uv22
  pointwise [val_main_v23]
  simp only [uv22, ← EReal.coe_mul, ← EReal.coe_add, ← EReal.coe_sub, ← EReal.coe_neg, ← coe_sum, lit_zero, lit_1024, lit_eps, lit_half, lit_neg_half, lit_one, lit_two, lit_512, lit_eps5, div_1024, div_512, rsqrt_pos (var5_pos _), rs, zero_add]

theorem rv26 : Is2 (val_main_v26 (F := Ideal) X4) fun i j => -(1 / 2) * (rs (T.v i) / var5 (T.v i)) := by
  have uv23 := rv23 h
  have uv22 := rv22 h
  intro i j
  simp only [Is2] at uv23 uv22
  pointwise [val_main_v26, val_main_v25, val_main_cst_5, val_main_v24]
  simp only [uv23, uv22, ← EReal.coe_mul, ← EReal.coe_add, ← EReal.coe_sub, ← EReal.coe_neg, ← coe_sum, lit_zero, lit_1024, lit_eps, lit_half, lit_neg_half, lit_one, lit_two, lit_512, lit_eps5, div_1024, div_512, div_pos_coe _ (var5_pos _), zero_add]

theorem rv28 : Is2 (val_main_v28 (F := Ideal) X4) fun i j => vh (T.v i) j := by
  have uv20 := rv20 h
  have uv23 := rv23 h
  intro i j
  simp only [Is2] at uv20 uv23
  pointwise [val_main_v28, val_main_v27]
  simp only [uv20, uv23, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv34 : Is2 (val_main_v34 (F := Ideal) X4 X9 X10) fun i j => lnf (T.v i) p.lng p.lnb j := by
  have ua9 := h.a9
  have ua10 := h.a10
  have uv28 := rv28 h
  intro i j
  simp only [Is2] at ua9 ua10 uv28
  pointwise [val_main_v34, val_main_v31, val_main_v30, val_main_v29, val_main_v4, val_main_v33, val_main_v32, val_main_v5]
  simp only [ua9, ua10, uv28, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv35_2 : Is2 (val_main_v35_2 (F := Ideal) X4 X9 X10) fun i j => sg (lnf (T.v i) p.lng p.lnb j) := by
  have uv34 := rv34 h
  intro i j
  simp only [Is2] at uv34
  pointwise [val_main_v35_2, val_main_call0_v4, val_main_call0_cst_0, val_main_call0_v3, val_main_call0_v2, val_main_call0_cst, val_main_call0_v1, val_main_call0_v0]
  simp only [uv34, ← EReal.coe_mul, ← EReal.coe_add, ← EReal.coe_sub, ← EReal.coe_neg, ← coe_sum, lit_zero, lit_1024, lit_eps, lit_half, lit_neg_half, lit_one, lit_two, lit_512, lit_eps5, div_1024, div_512, sg_rule, zero_add]

theorem rv35_1 : Is2 (val_main_v35_1 (F := Ideal) X4 X9 X10) fun i j => sg (lnf (T.v i) p.lng p.lnb j) * (1 - sg (lnf (T.v i) p.lng p.lnb j)) := by
  have uv35_2 := rv35_2 h
  intro i j
  simp only [Is2] at uv35_2
  pointwise [val_main_v35_1, val_main_call0_v7, val_main_call0_v6, val_main_call0_cst_1]
  simp only [uv35_2, ← EReal.coe_mul, ← EReal.coe_add, ← EReal.coe_sub, ← EReal.coe_neg, ← coe_sum, lit_zero, lit_1024, lit_eps, lit_half, lit_neg_half, lit_one, lit_two, lit_512, lit_eps5, div_1024, div_512, ← EReal.coe_one, zero_add]

theorem rv224 : Is2 (val_main_v224 (F := Ideal) X0 X13) fun i j => dy p T i j := by
  have ua0 := h.a0
  have ua13 := h.a13
  intro i j
  simp only [Is2] at ua0 ua13
  pointwise [val_main_v224, val_main_v223, val_main_v3]
  simp only [ua0, ua13, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv226 : Is2 (val_main_v226 (F := Ideal) X0 X4 X9 X10 X13) fun i j => dln p T i j := by
  have uv224 := rv224 h
  have uv35_2 := rv35_2 h
  have uv34 := rv34 h
  have uv35_1 := rv35_1 h
  intro i j
  simp only [Is2] at uv224 uv35_2 uv34 uv35_1
  pointwise [val_main_v226, val_main_call1_v1, val_main_v225, val_main_call1_v2, val_main_call1_v0]
  simp only [uv224, uv35_2, uv34, uv35_1, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rw [dln, dsl, cl]
  congr 1
  ring

theorem rv234 : Is2 (val_main_v234 (F := Ideal) X0 X4 X9 X10 X13) fun i j => dln p T i j * p.lng j := by
  have ua9 := h.a9
  have uv226 := rv226 h
  intro i j
  simp only [Is2] at ua9 uv226
  pointwise [val_main_v234, val_main_v233, val_main_v29, val_main_v4]
  simp only [ua9, uv226, ← EReal.coe_mul, ← EReal.coe_add, ← EReal.coe_sub, ← EReal.coe_neg, ← coe_sum, lit_zero, lit_1024, lit_eps, lit_half, lit_neg_half, lit_one, lit_two, lit_512, lit_eps5, div_1024, div_512, zero_add]

theorem rv240 : Is2 (val_main_v240 (F := Ideal) X0 X4 X9 X10 X13) fun i j => dln p T i j * p.lng j * rs (T.v i) := by
  have uv234 := rv234 h
  have uv23 := rv23 h
  intro i j
  simp only [Is2] at uv234 uv23
  pointwise [val_main_v240, val_main_v239]
  simp only [uv234, uv23, ← EReal.coe_mul, ← EReal.coe_add, ← EReal.coe_sub, ← EReal.coe_neg, ← coe_sum, lit_zero, lit_1024, lit_eps, lit_half, lit_neg_half, lit_one, lit_two, lit_512, lit_eps5, div_1024, div_512, zero_add]

theorem rv248 : Is2 (val_main_v248 (F := Ideal) X0 X4 X9 X10 X13) fun i j => (∑ k, ctr (T.v i) k * (dln p T i k * p.lng k)) * (-(1 / 2) * (rs (T.v i) / var5 (T.v i))) / 512 := by
  have uv20 := rv20 h
  have uv234 := rv234 h
  have uv26 := rv26 h
  intro i j
  simp only [Is2] at uv20 uv234 uv26
  pointwise [val_main_v248, val_main_v247, val_main_v246, val_main_v241, val_main_v238, val_main_v237, val_main_v236, val_main_cst_34, val_main_v245, val_main_cst_36, val_main_cst_37]
  simp only [uv20, uv234, uv26, ← EReal.coe_mul, ← EReal.coe_add, ← EReal.coe_sub, ← EReal.coe_neg, ← coe_sum, lit_zero, lit_1024, lit_eps, lit_half, lit_neg_half, lit_one, lit_two, lit_512, lit_eps5, div_1024, div_512, Fin.sum_univ_one, zero_add]

theorem rv249 : Is2 (val_main_v249 (F := Ideal) X0 X4 X9 X10 X13) fun i j => (∑ k, ctr (T.v i) k * (dln p T i k * p.lng k)) * (-(1 / 2) * (rs (T.v i) / var5 (T.v i))) / 512 * (2 * ctr (T.v i) j) := by
  have uv248 := rv248 h
  have uv11 := rv11 h
  intro i j
  simp only [Is2] at uv248 uv11
  pointwise [val_main_v249, val_main_v14, val_main_v13, val_main_cst_1]
  simp only [uv248, uv11, ← EReal.coe_mul, ← EReal.coe_add, ← EReal.coe_sub, ← EReal.coe_neg, ← coe_sum, lit_zero, lit_1024, lit_eps, lit_half, lit_neg_half, lit_one, lit_two, lit_512, lit_eps5, div_1024, div_512, zero_add]

theorem rv258 : Is2 (val_main_v258 (F := Ideal) X0 X4 X9 X10 X13) fun i j => ((∑ k, -(dln p T i k * p.lng k * rs (T.v i))) + ∑ k, -((∑ l, ctr (T.v i) l * (dln p T i l * p.lng l)) * (-(1 / 2) * (rs (T.v i) / var5 (T.v i))) / 512 * (2 * ctr (T.v i) k))) / 512 := by
  have uv240 := rv240 h
  have uv249 := rv249 h
  intro i j
  simp only [Is2] at uv240 uv249
  pointwise [val_main_v258, val_main_v257, val_main_v256, val_main_v254, val_main_v244, val_main_v243, val_main_v242, val_main_cst_35, val_main_v252, val_main_v251, val_main_v250, val_main_cst_38, val_main_v255, val_main_cst_39, val_main_cst_40]
  simp only [uv240, uv249, ← EReal.coe_mul, ← EReal.coe_add, ← EReal.coe_sub, ← EReal.coe_neg, ← coe_sum, lit_zero, lit_1024, lit_eps, lit_half, lit_neg_half, lit_one, lit_two, lit_512, lit_eps5, div_1024, div_512, Fin.sum_univ_one, zero_add]

theorem rv259 : Is2 (val_main_v259 (F := Ideal) X0 X4 X9 X10 X13) fun i j => dv p T i j := by
  have uv240 := rv240 h
  have uv249 := rv249 h
  have uv258 := rv258 h
  intro i j
  simp only [Is2] at uv240 uv249 uv258
  pointwise [val_main_v259, val_main_v253]
  simp only [uv240, uv249, uv258, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  congr 1
  exact lnback_rule (T.v i) (fun c => dln p T i c * p.lng c) j _ rfl

theorem rv260 : Is2 (val_main_v260 (F := Ideal) X0 X4 X9 X10 X13) fun i j => ∑ t, dln p T t j := by
  have uv226 := rv226 h
  intro i j
  simp only [Is2] at uv226
  pointwise [val_main_v260, val_main_v229, val_main_v228, val_main_v227, val_main_cst_30, val_main_cst_31]
  simp only [uv226, ← EReal.coe_mul, ← EReal.coe_add, ← EReal.coe_sub, ← EReal.coe_neg, ← coe_sum, lit_zero, lit_1024, lit_eps, lit_half, lit_neg_half, lit_one, lit_two, lit_512, lit_eps5, div_1024, div_512, Fin.sum_univ_one, zero_add]

theorem rv261 : Is2 (val_main_v261 (F := Ideal) X0 X4 X9 X10 X13) fun i j => ∑ t, vh (T.v t) j * dln p T t j := by
  have uv28 := rv28 h
  have uv226 := rv226 h
  intro i j
  simp only [Is2] at uv28 uv226
  pointwise [val_main_v261, val_main_v235, val_main_v232, val_main_v231, val_main_v230, val_main_cst_32, val_main_cst_33]
  simp only [uv28, uv226, ← EReal.coe_mul, ← EReal.coe_add, ← EReal.coe_sub, ← EReal.coe_neg, ← coe_sum, lit_zero, lit_1024, lit_eps, lit_half, lit_neg_half, lit_one, lit_two, lit_512, lit_eps5, div_1024, div_512, Fin.sum_univ_one, zero_add]

theorem rv265 : Is2 (val_main_v265 (F := Ideal) X0 X4 X9 X10 X13) fun i j => ∑ t, dv p T t j := by
  have uv259 := rv259 h
  intro i j
  simp only [Is2] at uv259
  pointwise [val_main_v265, val_main_v264, val_main_v263, val_main_v262, val_main_cst_41, val_main_cst_42]
  simp only [uv259, ← EReal.coe_mul, ← EReal.coe_add, ← EReal.coe_sub, ← EReal.coe_neg, ← coe_sum, lit_zero, lit_1024, lit_eps, lit_half, lit_neg_half, lit_one, lit_two, lit_512, lit_eps5, div_1024, div_512, Fin.sum_univ_one, zero_add]

theorem rv66 : Is2 (val_main_v66 (F := Ideal) X3) fun i j => sg (T.gate i j) := by
  have ua3 := h.a3
  intro i j
  simp only [Is2] at ua3
  pointwise [val_main_v66, val_main_v65, val_main_cst_9, val_main_v64, val_main_v63, val_main_cst_8, val_main_v62, val_main_v61]
  simp only [ua3, ← EReal.coe_mul, ← EReal.coe_add, ← EReal.coe_sub, ← EReal.coe_neg, ← coe_sum, lit_zero, lit_1024, lit_eps, lit_half, lit_neg_half, lit_one, lit_two, lit_512, lit_eps5, div_1024, div_512, sg_rule, zero_add]

theorem rv69 : Is2 (val_main_v69 (F := Ideal) X3) fun i j => sg (T.gate i j) * (1 - sg (T.gate i j)) := by
  have uv66 := rv66 h
  intro i j
  simp only [Is2] at uv66
  pointwise [val_main_v69, val_main_v68, val_main_v67, val_main_cst_10]
  simp only [uv66, ← EReal.coe_mul, ← EReal.coe_add, ← EReal.coe_sub, ← EReal.coe_neg, ← coe_sum, lit_zero, lit_1024, lit_eps, lit_half, lit_neg_half, lit_one, lit_two, lit_512, lit_eps5, div_1024, div_512, ← EReal.coe_one, zero_add]

theorem rv70 : Is2 (val_main_v70 (F := Ideal) X2 X3) fun i j => u T i j := by
  have ua2 := h.a2
  have uv66 := rv66 h
  intro i j
  simp only [Is2] at ua2 uv66
  pointwise [val_main_v70]
  simp only [ua2, uv66, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv39 : Is2 (val_main_v39 (F := Ideal) X5 X11) fun i j => ypre p T i 0 j := by
  have ua5 := h.a5
  have ua11 := h.a11
  intro i j
  simp only [Is2, Is3] at ua5 ua11
  pointwise [val_main_v39, val_main_v36, val_main_v0, val_main_v38, val_main_v37, val_main_v2]
  simp only [ua5, ua11, ← EReal.coe_mul, ← EReal.coe_add, ← EReal.coe_sub, ← EReal.coe_neg, ← coe_sum, lit_zero, lit_1024, lit_eps, lit_half, lit_neg_half, lit_one, lit_two, lit_512, lit_eps5, div_1024, div_512, lane_zero, zero_add]
  rfl

theorem rv43 : Is2 (val_main_v43 (F := Ideal) X5 X11) fun i j => ypre p T i 1 j := by
  have ua5 := h.a5
  have ua11 := h.a11
  intro i j
  simp only [Is2, Is3] at ua5 ua11
  pointwise [val_main_v43, val_main_v40, val_main_v0, val_main_v42, val_main_v41, val_main_v2]
  simp only [ua5, ua11, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv47 : Is2 (val_main_v47 (F := Ideal) X5 X11) fun i j => ypre p T i 2 j := by
  have ua5 := h.a5
  have ua11 := h.a11
  intro i j
  simp only [Is2, Is3] at ua5 ua11
  pointwise [val_main_v47, val_main_v44, val_main_v0, val_main_v46, val_main_v45, val_main_v2]
  simp only [ua5, ua11, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv51 : Is2 (val_main_v51 (F := Ideal) X5 X11) fun i j => ypre p T i 3 j := by
  have ua5 := h.a5
  have ua11 := h.a11
  intro i j
  simp only [Is2, Is3] at ua5 ua11
  pointwise [val_main_v51, val_main_v48, val_main_v0, val_main_v50, val_main_v49, val_main_v2]
  simp only [ua5, ua11, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv279 : Is2 (val_main_v279 (F := Ideal) X0 X13) fun i j => dy p T i (cr j) := by
  have uv224 := rv224 h
  intro i j
  simp only [Is2] at uv224
  pointwise [val_main_v279]
  simp only [uv224, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv287 : Is2 (val_main_v287 (F := Ideal) X0 X12 X13) fun i j => dyi p T i 0 j := by
  have ua12 := h.a12
  have uv279 := rv279 h
  intro i j
  simp only [Is2] at ua12 uv279
  pointwise [val_main_v287, val_main_v284, val_main_v283, val_main_v54, val_main_v53]
  simp only [ua12, uv279, ← EReal.coe_mul, ← EReal.coe_add, ← EReal.coe_sub, ← EReal.coe_neg, ← coe_sum, lit_zero, lit_1024, lit_eps, lit_half, lit_neg_half, lit_one, lit_two, lit_512, lit_eps5, div_1024, div_512, lane_zero, zero_add]
  rfl

theorem rv288 : Is2 (val_main_v288 (F := Ideal) X0 X12 X13) fun i j => dyi p T i 1 j := by
  have ua12 := h.a12
  have uv279 := rv279 h
  intro i j
  simp only [Is2] at ua12 uv279
  pointwise [val_main_v288, val_main_v284, val_main_v283, val_main_v54, val_main_v53]
  simp only [ua12, uv279, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv289 : Is2 (val_main_v289 (F := Ideal) X0 X12 X13) fun i j => dyi p T i 2 j := by
  have ua12 := h.a12
  have uv279 := rv279 h
  intro i j
  simp only [Is2] at ua12 uv279
  pointwise [val_main_v289, val_main_v284, val_main_v283, val_main_v54, val_main_v53]
  simp only [ua12, uv279, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv290 : Is2 (val_main_v290 (F := Ideal) X0 X12 X13) fun i j => dyi p T i 3 j := by
  have ua12 := h.a12
  have uv279 := rv279 h
  intro i j
  simp only [Is2] at ua12 uv279
  pointwise [val_main_v290, val_main_v284, val_main_v283, val_main_v54, val_main_v53]
  simp only [ua12, uv279, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv315 : Is2 (val_main_v315 (F := Ideal) X0 X11 X12 X13) fun i j => dm p T i 0 j := by
  have ua11 := h.a11
  have uv287 := rv287 h
  intro i j
  simp only [Is2, Is3] at ua11 uv287
  pointwise [val_main_v315, val_main_v38, val_main_v37, val_main_v2]
  simp only [ua11, uv287, ← EReal.coe_mul, ← EReal.coe_add, ← EReal.coe_sub, ← EReal.coe_neg, ← coe_sum, lit_zero, lit_1024, lit_eps, lit_half, lit_neg_half, lit_one, lit_two, lit_512, lit_eps5, div_1024, div_512, lane_zero, zero_add]
  rfl

theorem rv307 : Is2 (val_main_v307 (F := Ideal) X0 X11 X12 X13) fun i j => dm p T i 1 j := by
  have ua11 := h.a11
  have uv288 := rv288 h
  intro i j
  simp only [Is2, Is3] at ua11 uv288
  pointwise [val_main_v307, val_main_v42, val_main_v41, val_main_v2]
  simp only [ua11, uv288, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv299 : Is2 (val_main_v299 (F := Ideal) X0 X11 X12 X13) fun i j => dm p T i 2 j := by
  have ua11 := h.a11
  have uv289 := rv289 h
  intro i j
  simp only [Is2, Is3] at ua11 uv289
  pointwise [val_main_v299, val_main_v46, val_main_v45, val_main_v2]
  simp only [ua11, uv289, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv293 : Is2 (val_main_v293 (F := Ideal) X0 X11 X12 X13) fun i j => dm p T i 3 j := by
  have ua11 := h.a11
  have uv290 := rv290 h
  intro i j
  simp only [Is2, Is3] at ua11 uv290
  pointwise [val_main_v293, val_main_v50, val_main_v49, val_main_v2]
  simp only [ua11, uv290, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv314 : Is2 (val_main_v314 (F := Ideal) X0 X5 X12 X13) fun i j => ∑ t, dyi p T t 0 j * T.m t (lane 0 i) := by
  have ua5 := h.a5
  have uv287 := rv287 h
  intro i j
  simp only [Is2] at ua5 uv287
  pointwise [val_main_v314, val_main_v313, val_main_v36, val_main_v0]
  simp only [ua5, uv287, ← EReal.coe_mul, ← EReal.coe_add, ← EReal.coe_sub, ← EReal.coe_neg, ← coe_sum, lit_zero, lit_1024, lit_eps, lit_half, lit_neg_half, lit_one, lit_two, lit_512, lit_eps5, div_1024, div_512, lane_zero, zero_add]

theorem rv306 : Is2 (val_main_v306 (F := Ideal) X0 X5 X12 X13) fun i j => ∑ t, dyi p T t 1 j * T.m t (lane 1 i) := by
  have ua5 := h.a5
  have uv288 := rv288 h
  intro i j
  simp only [Is2] at ua5 uv288
  pointwise [val_main_v306, val_main_v305, val_main_v40, val_main_v0]
  simp only [ua5, uv288, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv298 : Is2 (val_main_v298 (F := Ideal) X0 X5 X12 X13) fun i j => ∑ t, dyi p T t 2 j * T.m t (lane 2 i) := by
  have ua5 := h.a5
  have uv289 := rv289 h
  intro i j
  simp only [Is2] at ua5 uv289
  pointwise [val_main_v298, val_main_v297, val_main_v44, val_main_v0]
  simp only [ua5, uv289, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv292 : Is2 (val_main_v292 (F := Ideal) X0 X5 X12 X13) fun i j => ∑ t, dyi p T t 3 j * T.m t (lane 3 i) := by
  have ua5 := h.a5
  have uv290 := rv290 h
  intro i j
  simp only [Is2] at ua5 uv290
  pointwise [val_main_v292, val_main_v291, val_main_v48, val_main_v0]
  simp only [ua5, uv290, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv207 : Is2 (val_main_v207 (F := Ideal) X1) fun i j => ms (T.x i) := by
  have ua1 := h.a1
  intro i j
  simp only [Is2] at ua1
  pointwise [val_main_v207, val_main_v205, val_main_v203, val_main_v202, val_main_v201, val_main_cst_26, val_main_v204, val_main_cst_27, val_main_v206, val_main_cst_28]
  simp only [ua1, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv208 : Is2 (val_main_v208 (F := Ideal) X1) fun i j => rr (T.x i) := by
  have uv207 := rv207 h
  intro i j
  simp only [Is2] at uv207
  pointwise [val_main_v208]
  simp only [uv207, ← EReal.coe_mul, ← EReal.coe_add, ← EReal.coe_sub, ← EReal.coe_neg, ← coe_sum, lit_zero, lit_1024, lit_eps, lit_half, lit_neg_half, lit_one, lit_two, lit_512, lit_eps5, div_1024, div_512, rsqrt_pos (ms_pos _), rr, zero_add]

theorem rv211 : Is2 (val_main_v211 (F := Ideal) X1) fun i j => -(1 / 2) * (rr (T.x i) / ms (T.x i)) := by
  have uv208 := rv208 h
  have uv207 := rv207 h
  intro i j
  simp only [Is2] at uv208 uv207
  pointwise [val_main_v211, val_main_v210, val_main_cst_29, val_main_v209]
  simp only [uv208, uv207, ← EReal.coe_mul, ← EReal.coe_add, ← EReal.coe_sub, ← EReal.coe_neg, ← coe_sum, lit_zero, lit_1024, lit_eps, lit_half, lit_neg_half, lit_one, lit_two, lit_512, lit_eps5, div_1024, div_512, div_pos_coe _ (ms_pos _), zero_add]

theorem rv213 : Is2 (val_main_v213 (F := Ideal) X1) fun i j => nrm (T.x i) j := by
  have ua1 := h.a1
  have uv208 := rv208 h
  intro i j
  simp only [Is2] at ua1 uv208
  pointwise [val_main_v213, val_main_v212]
  simp only [ua1, uv208, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv85 : Is3 (val_main_v85 (F := Ideal) ) fun k i j => if i.val + k.val = j.val + 30 then 1 else 0 := by
  intro k i j
  pointwise [val_main_v85, val_main_v84, val_main_v82, val_main_v78, val_main_v76, val_main_v75, val_main_v74, val_main_v73, val_main_v77, val_main_v72, val_main_v71, val_main_v83, val_main_v81, val_main_v80, val_main_v79, val_main_c]
  exact meets_rule i.isLt k.isLt j.isLt

theorem rv88 : Is3 (val_main_v88 (F := Ideal) X2 X3) fun k i j => ∑ s, (if i.val + k.val = s.val + 30 then 1 else 0) * u T s j := by
  have uv85 := rv85 h
  have uv70 := rv70 h
  intro k i j
  simp only [Is2, Is3] at uv85 uv70
  pointwise [val_main_v88]
  simp only [uv85, uv70, ← EReal.coe_mul, ← EReal.coe_add, ← EReal.coe_sub, ← EReal.coe_neg, ← coe_sum, lit_zero, lit_1024, lit_eps, lit_half, lit_neg_half, lit_one, lit_two, lit_512, lit_eps5, div_1024, div_512, zero_add]

theorem rv268 : Is3 (val_main_v268 (F := Ideal) X0 X4 X8 X9 X10 X13) fun k i j => p.wdw (tap k) j * dv p T i j := by
  have ua8 := h.a8
  have uv259 := rv259 h
  intro k i j
  simp only [Is2] at ua8 uv259
  pointwise [val_main_v268, val_main_v267, val_main_v87, val_main_v86, val_main_v266]
  simp only [ua8, uv259, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv273 : Is2 (val_main_v273 (F := Ideal) X0 X4 X8 X9 X10 X13) fun i j => du p T i j := by
  have uv268 := rv268 h
  have uv85 := rv85 h
  intro i j
  simp only [Is3] at uv268 uv85
  pointwise [val_main_v273]
  rw [val_main_v272, dot_taps]
  simp only [uv268, uv85, ← EReal.coe_mul, ← coe_sum]
  congr 1
  exact conv_rule (fun k => p.wdw (tap k) j) (fun t => dv p T t j) i

theorem rv277 : Is2 (val_main_v277 (F := Ideal) X0 X3 X4 X8 X9 X10 X13) fun i j => da p T i j := by
  have uv273 := rv273 h
  have uv66 := rv66 h
  intro i j
  simp only [Is2] at uv273 uv66
  pointwise [val_main_v277]
  simp only [uv273, uv66, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv278 : Is2 (val_main_v278 (F := Ideal) X0 X2 X3 X4 X8 X9 X10 X13) fun i j => dgate p T i j := by
  have ua2 := h.a2
  have uv273 := rv273 h
  have uv69 := rv69 h
  intro i j
  simp only [Is2] at ua2 uv273 uv69
  pointwise [val_main_v278, val_main_v276]
  simp only [ua2, uv273, uv69, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rw [dgate]
  congr 1
  ring

theorem rv274 : Is2 (val_main_v274 (F := Ideal) X0 X2 X3 X4 X9 X10 X13) fun i j => dwdw p T i j := by
  have uv259 := rv259 h
  have uv88 := rv88 h
  intro i j
  simp only [Is2, Is3] at uv259 uv88
  pointwise [val_main_v274, val_main_v271, val_main_v270, val_main_v269, val_main_v266, val_main_cst_43, val_main_cst_44]
  simp only [uv259, uv88, ← EReal.coe_mul, ← EReal.coe_add, ← EReal.coe_sub, ← EReal.coe_neg, ← coe_sum, lit_zero, lit_1024, lit_eps, lit_half, lit_neg_half, lit_one, lit_two, lit_512, lit_eps5, div_1024, div_512, Fin.sum_univ_one, zero_add]
  congr 1
  exact tap_rule (fun s => u T s j) (fun t => dv p T t j) i

theorem rv275 : Is2 (val_main_v275 (F := Ideal) X0 X2 X3 X4 X9 X10 X13) fun i j => if hi : i.val < 31 then dwdw p T ⟨i.val, hi⟩ j else 0 := by
  have uv274 := rv274 h
  intro i j
  simp only [Is2] at uv274
  pointwise [val_main_v275, val_main_cst_45]
  simp only [uv274, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  split <;> rfl

theorem rv52 : Is2 (val_main_v52 (F := Ideal) X5 X11) fun i j => ypre p T i (grp j) (sub j) := by
  have uv39 := rv39 h
  have uv43 := rv43 h
  have uv47 := rv47 h
  have uv51 := rv51 h
  intro i j
  simp only [Is2] at uv39 uv43 uv47 uv51
  pointwise [val_main_v52]
  rcases (by omega : j.val < 128 ∨ (128 ≤ j.val ∧ j.val < 256) ∨ (256 ≤ j.val ∧ j.val < 384) ∨ 384 ≤ j.val) with hj | hj | hj | hj <;>
    simp (disch := omega) only [dif_neg, dif_pos, uv39, uv43, uv47, uv51]
  · exact congrArg _ (at_group (ypre p T i) j 0 ⟨j.val, hj⟩ (by show j.val = 128 * 0 + j.val; omega))
  · exact congrArg _ (at_group (ypre p T i) j 1 ⟨j.val - 128, by omega⟩ (by show j.val = 128 * 1 + (j.val - 128); omega))
  · exact congrArg _ (at_group (ypre p T i) j 2 ⟨j.val - 128 - 128, by omega⟩ (by show j.val = 128 * 2 + (j.val - 128 - 128); omega))
  · exact congrArg _ (at_group (ypre p T i) j 3 ⟨j.val - 128 - 128 - 128, by omega⟩ (by show j.val = 128 * 3 + (j.val - 128 - 128 - 128); omega))

theorem rv286 : Is2 (val_main_v286 (F := Ideal) X0 X5 X11 X13) fun i j => ∑ t, ypre p T t (grp j) (sub j) * dy p T t (cr j) := by
  have uv52 := rv52 h
  have uv279 := rv279 h
  intro i j
  simp only [Is2] at uv52 uv279
  pointwise [val_main_v286, val_main_v285, val_main_v282, val_main_v281, val_main_v280, val_main_cst_46, val_main_cst_47]
  simp only [uv52, uv279, ← EReal.coe_mul, ← EReal.coe_add, ← EReal.coe_sub, ← EReal.coe_neg, ← coe_sum, lit_zero, lit_1024, lit_eps, lit_half, lit_neg_half, lit_one, lit_two, lit_512, lit_eps5, div_1024, div_512, Fin.sum_univ_one, zero_add]

theorem rv321 : Is2 (val_main_v321 (F := Ideal) X0 X11 X12 X13) fun i j => dm p T i 0 j := by
  have uv293 := rv293 h
  have uv299 := rv299 h
  have uv307 := rv307 h
  have uv315 := rv315 h
  intro i j
  simp only [Is2] at uv293 uv299 uv307 uv315
  pointwise [val_main_v321, val_main_v320, val_main_v312, val_main_v304, val_main_v296, val_main_cst_49, val_main_v303, val_main_cst_51, val_main_v311, val_main_cst_53, val_main_v319, val_main_cst_55]
  simp (disch := omega) only [false_and, dite_false, dif_neg, dif_pos, zero_add, add_zero, uv315, uv307, uv299, uv293]

theorem rv322 : Is2 (val_main_v322 (F := Ideal) X0 X11 X12 X13) fun i j => dm p T i 1 j := by
  have uv293 := rv293 h
  have uv299 := rv299 h
  have uv307 := rv307 h
  have uv315 := rv315 h
  intro i j
  simp only [Is2] at uv293 uv299 uv307 uv315
  pointwise [val_main_v322, val_main_v320, val_main_v312, val_main_v304, val_main_v296, val_main_cst_49, val_main_v303, val_main_cst_51, val_main_v311, val_main_cst_53, val_main_v319, val_main_cst_55]
  simp (disch := omega) only [false_and, dite_false, dif_neg, dif_pos, zero_add, add_zero, uv315, uv307, uv299, uv293]

theorem rv323 : Is2 (val_main_v323 (F := Ideal) X0 X11 X12 X13) fun i j => dm p T i 2 j := by
  have uv293 := rv293 h
  have uv299 := rv299 h
  have uv307 := rv307 h
  have uv315 := rv315 h
  intro i j
  simp only [Is2] at uv293 uv299 uv307 uv315
  pointwise [val_main_v323, val_main_v320, val_main_v312, val_main_v304, val_main_v296, val_main_cst_49, val_main_v303, val_main_cst_51, val_main_v311, val_main_cst_53, val_main_v319, val_main_cst_55]
  simp (disch := omega) only [false_and, dite_false, dif_neg, dif_pos, zero_add, add_zero, uv315, uv307, uv299, uv293]

theorem rv324 : Is2 (val_main_v324 (F := Ideal) X0 X11 X12 X13) fun i j => dm p T i 3 j := by
  have uv293 := rv293 h
  have uv299 := rv299 h
  have uv307 := rv307 h
  have uv315 := rv315 h
  intro i j
  simp only [Is2] at uv293 uv299 uv307 uv315
  pointwise [val_main_v324, val_main_v320, val_main_v312, val_main_v304, val_main_v296, val_main_cst_49, val_main_v303, val_main_cst_51, val_main_v311, val_main_cst_53, val_main_v319, val_main_cst_55]
  simp (disch := omega) only [false_and, dite_false, dif_neg, dif_pos, zero_add, add_zero, uv315, uv307, uv299, uv293]

theorem rv318 : Is3 (val_main_v318 (F := Ideal) X0 X5 X12 X13) fun k i j => ∑ t, dyi p T t k j * T.m t (lane k i) := by
  have uv292 := rv292 h
  have uv298 := rv298 h
  have uv306 := rv306 h
  have uv314 := rv314 h
  intro k i j
  simp only [Is2] at uv292 uv298 uv306 uv314
  pointwise [val_main_v318, val_main_v310, val_main_v302, val_main_v295, val_main_v294, val_main_cst_48, val_main_v301, val_main_v300, val_main_cst_50, val_main_v309, val_main_v308, val_main_cst_52, val_main_v317, val_main_v316, val_main_cst_54]
  have hk : k = 0 ∨ k = 1 ∨ k = 2 ∨ k = 3 := by omega
  rcases hk with rfl | rfl | rfl | rfl <;>
    simp (disch := decide) only [dif_neg, dif_pos, zero_add, add_zero, uv314, uv306, uv298, uv292]

theorem rv112 : Is2 (val_main_v112 (F := Ideal) ) fun i j => if j.val ≤ i.val ∧ i.val < j.val + 2 ^ ((0 : Fin 4).val + 1) then 1 else 0 := by
  intro i j
  pointwise [val_main_v112, val_main_v111, val_main_v103, val_main_v101, val_main_v100, val_main_v97, val_main_v102, val_main_v99, val_main_v110, val_main_v108, val_main_v104, val_main_v109, val_main_v107, val_main_v106, val_main_v105, val_main_c_13]
  exact trails_rule 2 i.isLt j.isLt (by norm_num)

theorem rv118 : Is2 (val_main_v118 (F := Ideal) ) fun i j => cnt 0 i.val := by
  intro i j
  pointwise [val_main_v118, val_main_v117, val_main_v116, val_main_v114, val_main_v97, val_main_v113, val_main_c_14, val_main_v115, val_main_c_15]
  exact congrArg (fun r : ℝ => (r : EReal)) (cnt_rule 0 i.isLt)

theorem rv137 : Is2 (val_main_v137 (F := Ideal) ) fun i j => if j.val ≤ i.val ∧ i.val < j.val + 2 ^ ((1 : Fin 4).val + 1) then 1 else 0 := by
  intro i j
  pointwise [val_main_v137, val_main_v136, val_main_v128, val_main_v126, val_main_v125, val_main_v97, val_main_v127, val_main_v124, val_main_v135, val_main_v133, val_main_v129, val_main_v134, val_main_v132, val_main_v131, val_main_v130, val_main_c_16]
  exact trails_rule 4 i.isLt j.isLt (by norm_num)

theorem rv143 : Is2 (val_main_v143 (F := Ideal) ) fun i j => cnt 1 i.val := by
  intro i j
  pointwise [val_main_v143, val_main_v142, val_main_v141, val_main_v139, val_main_v97, val_main_v138, val_main_c_17, val_main_v140, val_main_c_18]
  exact congrArg (fun r : ℝ => (r : EReal)) (cnt_rule 1 i.isLt)

theorem rv162 : Is2 (val_main_v162 (F := Ideal) ) fun i j => if j.val ≤ i.val ∧ i.val < j.val + 2 ^ ((2 : Fin 4).val + 1) then 1 else 0 := by
  intro i j
  pointwise [val_main_v162, val_main_v161, val_main_v153, val_main_v151, val_main_v150, val_main_v97, val_main_v152, val_main_v149, val_main_v160, val_main_v158, val_main_v154, val_main_v159, val_main_v157, val_main_v156, val_main_v155, val_main_c_19]
  exact trails_rule 8 i.isLt j.isLt (by norm_num)

theorem rv168 : Is2 (val_main_v168 (F := Ideal) ) fun i j => cnt 2 i.val := by
  intro i j
  pointwise [val_main_v168, val_main_v167, val_main_v166, val_main_v164, val_main_v97, val_main_v163, val_main_c_20, val_main_v165, val_main_c_21]
  exact congrArg (fun r : ℝ => (r : EReal)) (cnt_rule 2 i.isLt)

theorem rv187 : Is2 (val_main_v187 (F := Ideal) ) fun i j => if j.val ≤ i.val ∧ i.val < j.val + 2 ^ ((3 : Fin 4).val + 1) then 1 else 0 := by
  intro i j
  pointwise [val_main_v187, val_main_v186, val_main_v178, val_main_v176, val_main_v175, val_main_v97, val_main_v177, val_main_v174, val_main_v185, val_main_v183, val_main_v179, val_main_v184, val_main_v182, val_main_v181, val_main_v180, val_main_c_22]
  exact trails_rule 16 i.isLt j.isLt (by norm_num)

theorem rv193 : Is2 (val_main_v193 (F := Ideal) ) fun i j => cnt 3 i.val := by
  intro i j
  pointwise [val_main_v193, val_main_v192, val_main_v191, val_main_v189, val_main_v97, val_main_v188, val_main_c_23, val_main_v190, val_main_c_24]
  exact congrArg (fun r : ℝ => (r : EReal)) (cnt_rule 3 i.isLt)

theorem rv353 : Is2 (val_main_v353 (F := Ideal) X0 X11 X12 X13) fun i j => dp p T i 0 j := by
  have uv321 := rv321 h
  have uv118 := rv118 h
  have uv112 := rv112 h
  intro i j
  simp only [Is2] at uv321 uv118 uv112
  pointwise [val_main_v353, val_main_v348, val_main_v352, val_main_v351, val_main_v350, val_main_v349]
  simp only [uv321, uv118, uv112, ← EReal.coe_mul, ← EReal.coe_add, ← EReal.coe_sub, ← EReal.coe_neg, ← coe_sum, lit_zero, lit_1024, lit_eps, lit_half, lit_neg_half, lit_one, lit_two, lit_512, lit_eps5, div_1024, div_512, div_pos_coe _ (cnt_pos _ _), zero_add]
  congr 1
  rw [dp, sub_eq_neg_add]
  exact congrArg _ (window_rule (fun s => dm p T s 0 j / cnt 0 s.val) _ i)

theorem rv345 : Is2 (val_main_v345 (F := Ideal) X0 X11 X12 X13) fun i j => dp p T i 1 j := by
  have uv322 := rv322 h
  have uv143 := rv143 h
  have uv137 := rv137 h
  intro i j
  simp only [Is2] at uv322 uv143 uv137
  pointwise [val_main_v345, val_main_v340, val_main_v344, val_main_v343, val_main_v342, val_main_v341]
  simp only [uv322, uv143, uv137, ← EReal.coe_mul, ← EReal.coe_add, ← EReal.coe_sub, ← EReal.coe_neg, ← coe_sum, lit_zero, lit_1024, lit_eps, lit_half, lit_neg_half, lit_one, lit_two, lit_512, lit_eps5, div_1024, div_512, div_pos_coe _ (cnt_pos _ _), zero_add]
  congr 1
  rw [dp, sub_eq_neg_add]
  exact congrArg _ (window_rule (fun s => dm p T s 1 j / cnt 1 s.val) _ i)

theorem rv337 : Is2 (val_main_v337 (F := Ideal) X0 X11 X12 X13) fun i j => dp p T i 2 j := by
  have uv323 := rv323 h
  have uv168 := rv168 h
  have uv162 := rv162 h
  intro i j
  simp only [Is2] at uv323 uv168 uv162
  pointwise [val_main_v337, val_main_v332, val_main_v336, val_main_v335, val_main_v334, val_main_v333]
  simp only [uv323, uv168, uv162, ← EReal.coe_mul, ← EReal.coe_add, ← EReal.coe_sub, ← EReal.coe_neg, ← coe_sum, lit_zero, lit_1024, lit_eps, lit_half, lit_neg_half, lit_one, lit_two, lit_512, lit_eps5, div_1024, div_512, div_pos_coe _ (cnt_pos _ _), zero_add]
  congr 1
  rw [dp, sub_eq_neg_add]
  exact congrArg _ (window_rule (fun s => dm p T s 2 j / cnt 2 s.val) _ i)

theorem rv330 : Is2 (val_main_v330 (F := Ideal) X0 X11 X12 X13) fun i j => dp p T i 3 j := by
  have uv324 := rv324 h
  have uv193 := rv193 h
  have uv187 := rv187 h
  intro i j
  simp only [Is2] at uv324 uv193 uv187
  pointwise [val_main_v330, val_main_v325, val_main_v329, val_main_v328, val_main_v327, val_main_v326]
  simp only [uv324, uv193, uv187, ← EReal.coe_mul, ← EReal.coe_add, ← EReal.coe_sub, ← EReal.coe_neg, ← coe_sum, lit_zero, lit_1024, lit_eps, lit_half, lit_neg_half, lit_one, lit_two, lit_512, lit_eps5, div_1024, div_512, div_pos_coe _ (cnt_pos _ _), zero_add]
  congr 1
  rw [dp, sub_eq_neg_add]
  exact congrArg _ (window_rule (fun s => dm p T s 3 j / cnt 3 s.val) _ i)

theorem rv355 : Is2 (val_main_v355 (F := Ideal) X0 X11 X12 X13) fun i j => dp p T i (grp j) (sub j) := by
  have uv330 := rv330 h
  have uv337 := rv337 h
  have uv345 := rv345 h
  have uv353 := rv353 h
  intro i j
  simp only [Is2] at uv330 uv337 uv345 uv353
  pointwise [val_main_v355, val_main_v347, val_main_v339, val_main_v331, val_main_cst_56, val_main_v338, val_main_cst_57, val_main_v346, val_main_cst_58, val_main_v354, val_main_cst_59]
  rcases (by omega : j.val < 128 ∨ (128 ≤ j.val ∧ j.val < 256) ∨ (256 ≤ j.val ∧ j.val < 384) ∨ 384 ≤ j.val) with hj | hj | hj | hj <;>
    simp (disch := omega) only [dif_neg, dif_pos, zero_add, add_zero, uv353, uv345, uv337, uv330]
  · exact congrArg _ (at_group (dp p T i) j 0 ⟨j.val, hj⟩ (by show j.val = 128 * 0 + j.val; omega))
  · exact congrArg _ (at_group (dp p T i) j 1 ⟨j.val - 128, by omega⟩ (by show j.val = 128 * 1 + (j.val - 128); omega))
  · exact congrArg _ (at_group (dp p T i) j 2 ⟨j.val - 256, by omega⟩ (by show j.val = 128 * 2 + (j.val - 256); omega))
  · exact congrArg _ (at_group (dp p T i) j 3 ⟨j.val - 384, by omega⟩ (by show j.val = 128 * 3 + (j.val - 384); omega))

theorem rv356 : Is2 (val_main_v356 (F := Ideal) X0 X2 X3 X4 X8 X9 X10 X11 X12 X13) fun i j => dz p T i j := by
  have uv277 := rv277 h
  have uv278 := rv278 h
  have uv355 := rv355 h
  intro i j
  simp only [Is2] at uv277 uv278 uv355
  pointwise [val_main_v356]
  simp only [uv277, uv278, uv355, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rcases (by omega : j.val < 512 ∨ (512 ≤ j.val ∧ j.val < 1024) ∨ 1024 ≤ j.val) with hj | hj | hj <;>
    simp (disch := omega) only [dif_neg, dif_pos, dz] <;> rfl

theorem rv360 : Is2 (val_main_v360 (F := Ideal) X0 X2 X3 X4 X8 X9 X10 X11 X12 X13) fun i j => ∑ t, dz p T t j := by
  have uv356 := rv356 h
  intro i j
  simp only [Is2] at uv356
  pointwise [val_main_v360, val_main_v359, val_main_v358, val_main_v357, val_main_cst_60, val_main_cst_61]
  simp only [uv356, ← EReal.coe_mul, ← EReal.coe_add, ← EReal.coe_sub, ← EReal.coe_neg, ← coe_sum, lit_zero, lit_1024, lit_eps, lit_half, lit_neg_half, lit_one, lit_two, lit_512, lit_eps5, div_1024, div_512, Fin.sum_univ_one, zero_add]

theorem rv361 : Is2 (val_main_v361 (F := Ideal) X0 X2 X3 X4 X7 X8 X9 X10 X11 X12 X13) fun i j => dxn p T i j := by
  have ua7 := h.a7
  have uv356 := rv356 h
  intro i j
  simp only [Is2] at ua7 uv356
  pointwise [val_main_v361, val_main_v217, val_main_v1]
  simp only [ua7, uv356, ← EReal.coe_mul, ← EReal.coe_add, ← EReal.coe_sub, ← EReal.coe_neg, ← coe_sum, lit_zero, lit_1024, lit_eps, lit_half, lit_neg_half, lit_one, lit_two, lit_512, lit_eps5, div_1024, div_512, zero_add]
  rfl

theorem rv382 : Is2 (val_main_v382 (F := Ideal) X0 X1 X2 X3 X4 X7 X8 X9 X10 X11 X12 X13) fun i j => ∑ t, nrm (T.x t) j * dxn p T t j := by
  have uv213 := rv213 h
  have uv361 := rv361 h
  intro i j
  simp only [Is2] at uv213 uv361
  pointwise [val_main_v382, val_main_v367, val_main_v364, val_main_v363, val_main_v362, val_main_cst_62, val_main_cst_63]
  simp only [uv213, uv361, ← EReal.coe_mul, ← EReal.coe_add, ← EReal.coe_sub, ← EReal.coe_neg, ← coe_sum, lit_zero, lit_1024, lit_eps, lit_half, lit_neg_half, lit_one, lit_two, lit_512, lit_eps5, div_1024, div_512, Fin.sum_univ_one, zero_add]

theorem rv383 : Is2 (val_main_v383 (F := Ideal) X0 X1 X2 X3 X4 X6 X7 X8 X9 X10 X11 X12 X13) fun i j => dx p T i j := by
  have ua0 := h.a0
  have ua1 := h.a1
  have ua6 := h.a6
  have uv361 := rv361 h
  have uv208 := rv208 h
  have uv211 := rv211 h
  intro i j
  simp only [Is2] at ua0 ua1 ua6 uv361 uv208 uv211
  pointwise [val_main_v383, val_main_v381, val_main_v379, val_main_v372, val_main_v366, val_main_v365, val_main_v214, val_main_v200, val_main_v371, val_main_v378, val_main_v377, val_main_v376, val_main_v375, val_main_v373, val_main_v370, val_main_v369, val_main_v368, val_main_cst_64, val_main_v374, val_main_cst_65, val_main_cst_66, val_main_v380]
  simp only [ua0, ua1, ua6, uv361, uv208, uv211, ← EReal.coe_mul, ← EReal.coe_add, ← EReal.coe_sub, ← EReal.coe_neg, ← coe_sum, lit_zero, lit_1024, lit_eps, lit_half, lit_neg_half, lit_one, lit_two, lit_512, lit_eps5, div_1024, div_512, Fin.sum_univ_one, zero_add]
  rw [dx, ← Cert.Reference.back_rule]

theorem rv384 : Is2 (val_main_v384 (F := Ideal) X0 X2 X3 X4 X8 X9 X10 X11 X12 X13) fun i j => dz p T i j := by
  have uv356 := rv356 h
  intro i j
  simp only [Is2] at uv356
  pointwise [val_main_v384]
  simp only [uv356, ← EReal.coe_mul, ← EReal.coe_add, ← EReal.coe_sub, ← EReal.coe_neg, ← coe_sum, lit_zero, lit_1024, lit_eps, lit_half, lit_neg_half, lit_one, lit_two, lit_512, lit_eps5, div_1024, div_512, zero_add]

theorem rv385 : Is2 (val_main_v385 (F := Ideal) X0) fun i j => T.dh i j := by
  have ua0 := h.a0
  intro i j
  simp only [Is2] at ua0
  pointwise [val_main_v385]
  simp only [ua0, ← EReal.coe_mul, ← EReal.coe_add, ← EReal.coe_sub, ← EReal.coe_neg, ← coe_sum, lit_zero, lit_1024, lit_eps, lit_half, lit_neg_half, lit_one, lit_two, lit_512, lit_eps5, div_1024, div_512, zero_add]

end Cert.Mix.Reference
-- ==== Proof.MixFinite.lean ====
/- Finite arguments of the second program are real numbers: what its precondition says of the arrays. -/
module

public import proofs.«01_k».proof.Defs
public import proofs.«01_k».proof.Proof.Finite
public import proofs.«01_k».proof.Proof.MixArgs

@[expose] public section

noncomputable section

namespace Cert.Mix.Finite

open Idealize.ShloMosaic Cert.MixKernelIdeal Cert.MixKernelIdeal.Gen Cert.Lift Cert.Spec Cert.Mix.Blocks
open Cert.Payloads (Is2)
open Cert.Finite (mat is2 real_of_cmp)
open Idealize.ShloMosaic.TcCoe

instance facts : Cert.Pre_mix_finite.Facts where
  bcast_S_S4096x1024 := by decide
  bcast_S_S4096x512 := by decide
  bitsLt_bf16_f32 := by decide
  bcast_S_S1x1024 := by decide
  bcast_S_S1536x1024 := by decide
  bcast_S_S32x512 := by decide
  bcast_S_S1x512 := by decide
  bcast_S_S4x128x128 := by decide
  bcast_S_S1024x1024 := by decide

/-- Every entry of an array that passes the test is a real number. -/
theorem entry {S : Shape} (X : FVec Ideal S .f32) (hb : Cert.Pre_mix_finite.S_.BroadcastsInDim S (![] : Fin 0 → Fin S.rank))
    (h : cmpf .olt (Host.absf X) (broadcastInDim S ![] hb (constant (F := Ideal) Cert.Pre_mix_finite.S_ .f32 0x7F800000#32)) =
      fun _ => 1#1) (i : S.Idx) : (X i : EReal) = ((EReal.toReal (X i) : ℝ) : EReal) := by
  have e : Ideal.cmp .olt (max (X i : EReal) (-(X i : EReal))) (Ideal.ofBits .f32 2139095040#32) = 1#1 := congrFun h i
  rw [lit_top] at e
  exact real_of_cmp e

variable (m : (ℓ : Loc nD τ sig) → Buf (Elt Ideal) ℓ) (c : Dev nD)

/-- The real entries of an array of three indices. -/
def cube {a b d : ℕ} (v : (⟨3, ![a, b, d]⟩ : Shape).Idx → EReal) (i : Fin a) (j : Fin b) (k : Fin d) : ℝ := EReal.toReal (v (ix3 i j k))

/-- The block's parameters, read off the arguments. -/
def params : Params where
  g := mat (m ((c : Thread nD τ).loc main_arg6)) 0
  win := mat (m ((c : Thread nD τ).loc main_arg7))
  wdw := mat (m ((c : Thread nD τ).loc main_arg8))
  lng := mat (m ((c : Thread nD τ).loc main_arg9)) 0
  lnb := mat (m ((c : Thread nD τ).loc main_arg10)) 0
  wp := cube (m ((c : Thread nD τ).loc main_arg11))
  sp := mat (m ((c : Thread nD τ).loc main_arg12)) 0
  wout := mat (m ((c : Thread nD τ).loc main_arg13))

/-- What is read of the tokens. -/
def tokens : Tokens where
  dh := mat (m ((c : Thread nD τ).loc main_arg0))
  x := mat (m ((c : Thread nD τ).loc main_arg1))
  a := mat (m ((c : Thread nD τ).loc main_arg2))
  gate := mat (m ((c : Thread nD τ).loc main_arg3))
  v := mat (m ((c : Thread nD τ).loc main_arg4))
  m := mat (m ((c : Thread nD τ).loc main_arg5))

/-- A row whose entries are real numbers. -/
theorem row {b : ℕ} {v : (⟨2, ![1, b]⟩ : Shape).Idx → EReal} (h : ∀ i, v i = ((EReal.toReal (v i) : ℝ) : EReal)) :
    Is2 v fun _ j => mat v 0 j := by
  intro i j
  obtain rfl := Subsingleton.elim i 0
  exact h _

theorem args (h : Cert.Pre_MixKernelIdeal_mix_finite m) : Args m c (params m c) (tokens m c) := by
  obtain ⟨h0, h1, h2, h3, h4, h5, h6, h7, h8, h9, h10, h11, h12, h13⟩ := h c
  exact ⟨is2 (entry _ _ h0), is2 (entry _ _ h1), is2 (entry _ _ h2), is2 (entry _ _ h3), is2 (entry _ _ h4), is2 (entry _ _ h5),
    row (entry _ _ h6), is2 (entry _ _ h7), is2 (entry _ _ h8), row (entry _ _ h9), row (entry _ _ h10),
    fun i j k => entry _ _ h11 (ix3 i j k), row (entry _ _ h12), is2 (entry _ _ h13)⟩

end Cert.Mix.Finite
-- ==== Proof.lean ====
module

public import proofs.«01_k».proof.Defs
public import proofs.«01_k».proof.Proof.Gen.MixKernel.Frame
public import proofs.«01_k».proof.Proof.Gen.MixKernelIdeal.Value
public import proofs.«01_k».proof.Proof.Gen.MixReferenceIdeal.Read
public import proofs.«01_k».proof.Proof.Gen.MixReferenceIdeal.Run
public import proofs.«01_k».proof.Proof.Gen.Kernel.Frame
public import proofs.«01_k».proof.Proof.Gen.KernelIdeal.Value
public import proofs.«01_k».proof.Proof.Arrays
public import proofs.«01_k».proof.Proof.Reference
public import proofs.«01_k».proof.Proof.Finite
public import proofs.«01_k».proof.Proof.MixArrays
public import proofs.«01_k».proof.Proof.MixReference
public import proofs.«01_k».proof.Proof.MixFinite

@[expose] public section

set_option maxRecDepth 16384

noncomputable section

namespace Cert.Proof

open Idealize.ShloMosaic Idealize.SL.Sem Cert.Lift Cert.Spec Cert.Payloads

theorem frame_kernel : Cert.quiescent_Kernel := fun m ρ _ => Cert.Kernel.Gen.frame m ρ

theorem frame_ideal : Cert.quiescent_KernelIdeal := fun m ρ _ => Cert.KernelIdeal.Gen.frame m ρ

/-- The reference leaves its arguments as they were; it declares no semaphore. -/
theorem frame_reference : Cert.quiescent_ReferenceIdeal := fun m ρ _ =>
  (θ_run Cert.ReferenceIdeal.defs _ _).mono (fun r h => ⟨fun c => (h c).2.2.2.2.2.2.2.2.2,
      Idealize.ShloMosaic.sem_eq_zero_of_no_sems (by decide) r.2⟩)
    (Cert.ReferenceIdeal.Value.run (F := Ideal) m ρ)

section
open Cert.ReferenceIdeal Cert.ReferenceIdeal.Read
open Idealize.ShloMosaic.TcCoe

/-- A real matrix is a function of its two indices. -/
theorem fun2 {a b : ℕ} {v : (⟨2, ![a, b]⟩ : Shape).Idx → EReal} {f : Fin a → Fin b → ℝ} (h : Is2 v f) :
    v = fun y => ((f (y 0) (y 1) : ℝ) : EReal) := funext (Arrays.at2 h)

theorem fun3 {a b d : ℕ} {v : (⟨3, ![a, b, d]⟩ : Shape).Idx → EReal} {f : Fin a → Fin b → Fin d → ℝ}
    (h : ∀ i j k, v (ix3 i j k) = ((f i j k : ℝ) : EReal)) : v = fun y => ((f (y 0) (y 1) (y 2) : ℝ) : EReal) := by
  funext y
  rw [← h (y 0) (y 1) (y 2)]
  congr 1
  funext k
  fin_cases k <;> rfl

variable {m : (ℓ : Loc nD τ sig) → Buf (Elt Ideal) ℓ} {p : Params} {x t : Fin 4096 → Fin 1024 → ℝ}

/-- The reference's arguments on one device. -/
abbrev RefArgs (m : (ℓ : Loc nD τ sig) → Buf (Elt Ideal) ℓ) (c : Dev nD) (p : Params) (x t : Fin 4096 → Fin 1024 → ℝ) : Prop :=
  Reference.Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) p x t
end

theorem algebraic : Cert.algebraic_KernelIdeal_ReferenceIdeal_pre_finite := by
  intro m g m' g' hpre hagree
  refine ⟨_, _, _, _, _, _, _, _, _, Cert.KernelIdeal.Value.run_blocks m g, ?_⟩
  refine (θ_run Cert.ReferenceIdeal.defs _ _).mono (fun r h c => ?_) (Cert.ReferenceIdeal.Value.run (F := Ideal) m' g')
  have hk := Finite.args m c hpre
  have hr : RefArgs m' c (Finite.params m c) (Finite.mat (m ((c.tc : Thread _ _).loc Cert.KernelIdeal.main_arg0)))
      (Finite.mat (m ((c.tc : Thread _ _).loc Cert.KernelIdeal.main_arg1))) := by
    obtain ⟨e0, e1, e2, e3, e4, e5, e6⟩ := hagree c
    exact ⟨e0 ▸ hk.a0, e1 ▸ hk.a1, e2 ▸ hk.a2, e3 ▸ hk.a3, e4 ▸ hk.a4, e5 ▸ hk.a5, e6 ▸ hk.a6⟩
  obtain ⟨q0, q1, q2, q3, q4, q5, q6, q7, q8, qa⟩ := h c
  refine ⟨?_, ?_, ?_, ?_, ?_, ?_, ?_, ?_, ?_, qa⟩
  · exact q0.trans ((Cert.ReferenceIdeal.Read.val_main_v123_eq _).trans ((fun2 (Reference.rv123 hr)).trans (Arrays.arr7 hk).symm))
  · exact q1.trans ((Cert.ReferenceIdeal.Read.val_main_v124_eq _).trans ((fun2 (Reference.rv124 hr)).trans (Arrays.arr8 hk).symm))
  · exact q2.trans ((Cert.ReferenceIdeal.Read.val_main_v127_eq _).trans ((fun3 (Reference.rv127 hr)).trans (Arrays.arr9 hk).symm))
  · exact q3.trans ((Cert.ReferenceIdeal.Read.val_main_v130_eq _).trans ((fun3 (Reference.rv130 hr)).trans (Arrays.arr10 hk).symm))
  · exact q4.trans ((Cert.ReferenceIdeal.Read.val_main_v133_eq _).trans ((fun3 (Reference.rv133 hr)).trans (Arrays.arr11 hk).symm))
  · exact q5.trans ((Cert.ReferenceIdeal.Read.val_main_v134_eq _).trans ((fun2 (Reference.rv134 hr)).trans (Arrays.arr12 hk).symm))
  · exact q6.trans ((Cert.ReferenceIdeal.Read.val_main_v135_eq _).trans ((fun2 (Reference.rv135 hr)).trans (Arrays.arr13 hk).symm))
  · exact q7.trans ((Cert.ReferenceIdeal.Read.val_main_v94_eq _).trans ((fun2 (Reference.rv94 hr)).trans (Arrays.arr14 hk).symm))
  · exact q8.trans ((Cert.ReferenceIdeal.Read.val_main_v122_eq _).trans ((fun2 (Reference.rv122 hr)).trans (Arrays.arr15 hk).symm))

theorem frame_mix_kernel : Cert.quiescent_MixKernel := fun m ρ _ => Cert.MixKernel.Gen.frame m ρ

theorem frame_mix_ideal : Cert.quiescent_MixKernelIdeal := fun m ρ _ => Cert.MixKernelIdeal.Gen.frame m ρ

/-- The second reference leaves its arguments as they were; it declares no semaphore. -/
theorem frame_mix_reference : Cert.quiescent_MixReferenceIdeal := fun m ρ _ =>
  (θ_run Cert.MixReferenceIdeal.defs _ _).mono (fun r h => ⟨fun c => (h c).2.2.2.2.2.2.2.2.2.2.2,
      Idealize.ShloMosaic.sem_eq_zero_of_no_sems (by decide) r.2⟩)
    (Cert.MixReferenceIdeal.Value.run (F := Ideal) m ρ)

section
open Cert.MixReferenceIdeal
open Idealize.ShloMosaic.TcCoe

/-- The second reference's arguments on one device. -/
abbrev MixRefArgs (m : (ℓ : Loc nD τ sig) → Buf (Elt Ideal) ℓ) (c : Dev nD) (p : Cert.Mix.Params) (T : Cert.Mix.Tokens) : Prop :=
  Mix.Reference.Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) p T
end

theorem algebraic_mix : Cert.algebraic_MixKernelIdeal_MixReferenceIdeal_pre_mix_finite := by
  intro m g m' g' hpre hagree
  refine ⟨_, _, _, _, _, _, _, _, _, _, _, Cert.MixKernelIdeal.Value.run_blocks m g, ?_⟩
  refine (θ_run Cert.MixReferenceIdeal.defs _ _).mono (fun r h c => ?_) (Cert.MixReferenceIdeal.Value.run (F := Ideal) m' g')
  have hk := Mix.Finite.args m c hpre
  have hr : MixRefArgs m' c (Mix.Finite.params m c) (Mix.Finite.tokens m c) := by
    obtain ⟨e0, e1, e2, e3, e4, e5, e6, e7, e8, e9, e10, e11, e12, e13⟩ := hagree c
    exact ⟨e0 ▸ hk.a0, e1 ▸ hk.a1, e2 ▸ hk.a2, e3 ▸ hk.a3, e4 ▸ hk.a4, e5 ▸ hk.a5, e6 ▸ hk.a6,
      e7 ▸ hk.a7, e8 ▸ hk.a8, e9 ▸ hk.a9, e10 ▸ hk.a10, e11 ▸ hk.a11, e12 ▸ hk.a12, e13 ▸ hk.a13⟩
  obtain ⟨q0, q1, q2, q3, q4, q5, q6, q7, q8, q9, q10, qa⟩ := h c
  refine ⟨?_, ?_, ?_, ?_, ?_, ?_, ?_, ?_, ?_, ?_, ?_, qa⟩
  · exact q0.trans ((Cert.MixReferenceIdeal.Read.val_main_v383_eq _).trans
      ((fun2 (Mix.Reference.rv383 hr)).trans (Mix.Arrays.arr14 hk).symm))
  · exact q1.trans ((Cert.MixReferenceIdeal.Read.val_main_v384_eq _).trans
      ((fun2 (Mix.Reference.rv384 hr)).trans (Mix.Arrays.arr15 hk).symm))
  · exact q2.trans ((Cert.MixReferenceIdeal.Read.val_main_v385_eq _).trans
      ((fun2 (Mix.Reference.rv385 hr)).trans (Mix.Arrays.arr16 hk).symm))
  · exact q3.trans ((Cert.MixReferenceIdeal.Read.val_main_v382_eq _).trans
      ((fun2 (Mix.Reference.rv382 hr)).trans (Mix.Arrays.arr17 hk).symm))
  · exact q4.trans ((Cert.MixReferenceIdeal.Read.val_main_v360_eq _).trans
      ((fun2 (Mix.Reference.rv360 hr)).trans (Mix.Arrays.arr18 hk).symm))
  · exact q5.trans ((Cert.MixReferenceIdeal.Read.val_main_v275_eq _).trans
      ((fun2 (Mix.Reference.rv275 hr)).trans (Mix.Arrays.arr19 hk).symm))
  · exact q6.trans ((Cert.MixReferenceIdeal.Read.val_main_v265_eq _).trans
      ((fun2 (Mix.Reference.rv265 hr)).trans (Mix.Arrays.arr20 hk).symm))
  · exact q7.trans ((Cert.MixReferenceIdeal.Read.val_main_v261_eq _).trans
      ((fun2 (Mix.Reference.rv261 hr)).trans (Mix.Arrays.arr21 hk).symm))
  · exact q8.trans ((Cert.MixReferenceIdeal.Read.val_main_v260_eq _).trans
      ((fun2 (Mix.Reference.rv260 hr)).trans (Mix.Arrays.arr22 hk).symm))
  · exact q9.trans ((Cert.MixReferenceIdeal.Read.val_main_v318_eq _).trans
      ((fun3 (Mix.Reference.rv318 hr)).trans (Mix.Arrays.arr23 hk).symm))
  · exact q10.trans ((Cert.MixReferenceIdeal.Read.val_main_v286_eq _).trans
      ((fun2 (Mix.Reference.rv286 hr)).trans (Mix.Arrays.arr24 hk).symm))

theorem claim : Cert.Claim :=
  ⟨Cert.Kernel.Gen.facts, Cert.KernelIdeal.Gen.facts, Cert.ReferenceIdeal.Gen.facts, Cert.MixKernel.Gen.facts, Cert.MixKernelIdeal.Gen.facts,
    Cert.MixReferenceIdeal.Gen.facts, Finite.facts, Mix.Finite.facts, frame_kernel, frame_ideal,
    fun m ρ _ => frame_ideal m ρ trivial, frame_reference, fun m ρ _ => frame_reference m ρ trivial, frame_mix_kernel, frame_mix_ideal,
    fun m ρ _ => frame_mix_ideal m ρ trivial, frame_mix_reference, fun m ρ _ => frame_mix_reference m ρ trivial, trivial, algebraic,
    trivial, algebraic_mix⟩

end Cert.Proof

end
